-- ==== Defs.lean ====
def Pre_Kernel [hPre_tiles_in_order : Cert.Pre_tiles_in_order.Facts] (m : (ℓ : Loc Cert.Kernel.nD Cert.Kernel.τ Cert.Kernel.sig) → Buf (Elt Bits) ℓ) : Prop :=
  ∀ c : Dev Cert.Kernel.nD,
    (Cert.Pre_tiles_in_order.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_Reference (m : (ℓ : Loc Cert.Reference.nD Cert.Reference.τ Cert.Reference.sig) → Buf (Elt Bits) ℓ) : Prop :=
  True

def Pre_Reference_tiles_in_order [hPre_tiles_in_order : Cert.Pre_tiles_in_order.Facts] (m : (ℓ : Loc Cert.Reference.nD Cert.Reference.τ Cert.Reference.sig) → Buf (Elt Bits) ℓ) : Prop :=
  ∀ c : Dev Cert.Reference.nD,
    (Cert.Pre_tiles_in_order.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4)) (m ((c.tc : Thread Cert.Reference.nD Cert.Reference.τ).loc Cert.Reference.main_arg5))) = (fun _ => 1#1)

def Pre_Combine [hPre_rows_named : Cert.Pre_rows_named.Facts] (m : (ℓ : Loc Cert.Combine.nD Cert.Combine.τ Cert.Combine.sig) → Buf (Elt Bits) ℓ) : Prop :=
  ∀ c : Dev Cert.Combine.nD,
    (Cert.Pre_rows_named.fn (F := Bits) (m ((c.tc : Thread Cert.Combine.nD Cert.Combine.τ).loc Cert.Combine.main_arg0)) (m ((c.tc : Thread Cert.Combine.nD Cert.Combine.τ).loc Cert.Combine.main_arg1)) (m ((c.tc : Thread Cert.Combine.nD Cert.Combine.τ).loc Cert.Combine.main_arg2)) (m ((c.tc : Thread Cert.Combine.nD Cert.Combine.τ).loc Cert.Combine.main_arg3))) = (fun _ => 1#1)

def Pre_CombineReference (m : (ℓ : Loc Cert.CombineReference.nD Cert.CombineReference.τ Cert.CombineReference.sig) → Buf (Elt Bits) ℓ) : Prop :=
  True

def Pre_CombineReference_rows_named [hPre_rows_named : Cert.Pre_rows_named.Facts] (m : (ℓ : Loc Cert.CombineReference.nD Cert.CombineReference.τ Cert.CombineReference.sig) → Buf (Elt Bits) ℓ) : Prop :=
  ∀ c : Dev Cert.CombineReference.nD,
    (Cert.Pre_rows_named.fn (F := Bits) (m ((c.tc : Thread Cert.CombineReference.nD Cert.CombineReference.τ).loc Cert.CombineReference.main_arg0)) (m ((c.tc : Thread Cert.CombineReference.nD Cert.CombineReference.τ).loc Cert.CombineReference.main_arg1)) (m ((c.tc : Thread Cert.CombineReference.nD Cert.CombineReference.τ).loc Cert.CombineReference.main_arg2)) (m ((c.tc : Thread Cert.CombineReference.nD Cert.CombineReference.τ).loc Cert.CombineReference.main_arg3))) = (fun _ => 1#1)

def Pre_CombineIdeal [hPre_rows_named : Cert.Pre_rows_named.Facts] (m : (ℓ : Loc Cert.CombineIdeal.nD Cert.CombineIdeal.τ Cert.CombineIdeal.sig) → Buf (Elt Ideal) ℓ) : Prop :=
  ∀ c : Dev Cert.CombineIdeal.nD,
    (Cert.Pre_rows_named.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3))) = (fun _ => 1#1)

def Pre_CombineReferenceIdeal (m : (ℓ : Loc Cert.CombineReferenceIdeal.nD Cert.CombineReferenceIdeal.τ Cert.CombineReferenceIdeal.sig) → Buf (Elt Ideal) ℓ) : Prop :=
  True

def Pre_CombineReferenceIdeal_rows_named [hPre_rows_named : Cert.Pre_rows_named.Facts] (m : (ℓ : Loc Cert.CombineReferenceIdeal.nD Cert.CombineReferenceIdeal.τ Cert.CombineReferenceIdeal.sig) → Buf (Elt Ideal) ℓ) : Prop :=
  ∀ c : Dev Cert.CombineReferenceIdeal.nD,
    (Cert.Pre_rows_named.fn (F := Ideal) (m ((c.tc : Thread Cert.CombineReferenceIdeal.nD Cert.CombineReferenceIdeal.τ).loc Cert.CombineReferenceIdeal.main_arg0)) (m ((c.tc : Thread Cert.CombineReferenceIdeal.nD Cert.CombineReferenceIdeal.τ).loc Cert.CombineReferenceIdeal.main_arg1)) (m ((c.tc : Thread Cert.CombineReferenceIdeal.nD Cert.CombineReferenceIdeal.τ).loc Cert.CombineReferenceIdeal.main_arg2)) (m ((c.tc : Thread Cert.CombineReferenceIdeal.nD Cert.CombineReferenceIdeal.τ).loc Cert.CombineReferenceIdeal.main_arg3))) = (fun _ => 1#1)

def Pre_Dispatch [hPre_slots_apart : Cert.Pre_slots_apart.Facts] (m : (ℓ : Loc Cert.Dispatch.nD Cert.Dispatch.τ Cert.Dispatch.sig) → Buf (Elt Bits) ℓ) : Prop :=
  ∀ c : Dev Cert.Dispatch.nD,
    (Cert.Pre_slots_apart.fn (F := Bits) (m ((c.tc : Thread Cert.Dispatch.nD Cert.Dispatch.τ).loc Cert.Dispatch.main_arg0)) (m ((c.tc : Thread Cert.Dispatch.nD Cert.Dispatch.τ).loc Cert.Dispatch.main_arg1)) (m ((c.tc : Thread Cert.Dispatch.nD Cert.Dispatch.τ).loc Cert.Dispatch.main_arg2))) = (fun _ => 1#1)

def Pre_DispatchReference (m : (ℓ : Loc Cert.DispatchReference.nD Cert.DispatchReference.τ Cert.DispatchReference.sig) → Buf (Elt Bits) ℓ) : Prop :=
  True

def Pre_DispatchReference_slots_apart [hPre_slots_apart : Cert.Pre_slots_apart.Facts] (m : (ℓ : Loc Cert.DispatchReference.nD Cert.DispatchReference.τ Cert.DispatchReference.sig) → Buf (Elt Bits) ℓ) : Prop :=
  ∀ c : Dev Cert.DispatchReference.nD,
    (Cert.Pre_slots_apart.fn (F := Bits) (m ((c.tc : Thread Cert.DispatchReference.nD Cert.DispatchReference.τ).loc Cert.DispatchReference.main_arg0)) (m ((c.tc : Thread Cert.DispatchReference.nD Cert.DispatchReference.τ).loc Cert.DispatchReference.main_arg1)) (m ((c.tc : Thread Cert.DispatchReference.nD Cert.DispatchReference.τ).loc Cert.DispatchReference.main_arg2))) = (fun _ => 1#1)

def Pre_DispatchIdeal [hPre_slots_apart : Cert.Pre_slots_apart.Facts] (m : (ℓ : Loc Cert.DispatchIdeal.nD Cert.DispatchIdeal.τ Cert.DispatchIdeal.sig) → Buf (Elt Ideal) ℓ) : Prop :=
  ∀ c : Dev Cert.DispatchIdeal.nD,
    (Cert.Pre_slots_apart.fn (F := Ideal) (m ((c.tc : Thread Cert.DispatchIdeal.nD Cert.DispatchIdeal.τ).loc Cert.DispatchIdeal.main_arg0)) (m ((c.tc : Thread Cert.DispatchIdeal.nD Cert.DispatchIdeal.τ).loc Cert.DispatchIdeal.main_arg1)) (m ((c.tc : Thread Cert.DispatchIdeal.nD Cert.DispatchIdeal.τ).loc Cert.DispatchIdeal.main_arg2))) = (fun _ => 1#1)

def Pre_DispatchReferenceIdeal (m : (ℓ : Loc Cert.DispatchReferenceIdeal.nD Cert.DispatchReferenceIdeal.τ Cert.DispatchReferenceIdeal.sig) → Buf (Elt Ideal) ℓ) : Prop :=
  True

def Pre_DispatchReferenceIdeal_slots_apart [hPre_slots_apart : Cert.Pre_slots_apart.Facts] (m : (ℓ : Loc Cert.DispatchReferenceIdeal.nD Cert.DispatchReferenceIdeal.τ Cert.DispatchReferenceIdeal.sig) → Buf (Elt Ideal) ℓ) : Prop :=
  ∀ c : Dev Cert.DispatchReferenceIdeal.nD,
    (Cert.Pre_slots_apart.fn (F := Ideal) (m ((c.tc : Thread Cert.DispatchReferenceIdeal.nD Cert.DispatchReferenceIdeal.τ).loc Cert.DispatchReferenceIdeal.main_arg0)) (m ((c.tc : Thread Cert.DispatchReferenceIdeal.nD Cert.DispatchReferenceIdeal.τ).loc Cert.DispatchReferenceIdeal.main_arg1)) (m ((c.tc : Thread Cert.DispatchReferenceIdeal.nD Cert.DispatchReferenceIdeal.τ).loc Cert.DispatchReferenceIdeal.main_arg2))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_Kernel [hKernel : Cert.Kernel.Facts] [hPre_tiles_in_order : Cert.Pre_tiles_in_order.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def quiescent_Reference_pre_tiles_in_order [hReference : Cert.Reference.Facts] [hPre_tiles_in_order : Cert.Pre_tiles_in_order.Facts] : Prop :=
  ∀ (m : (ℓ : Loc Cert.Reference.nD Cert.Reference.τ Cert.Reference.sig) → Buf (Elt Bits) ℓ) (g : Dev Cert.Reference.nD → PrngReg), Pre_Reference_tiles_in_order m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def quiescent_Combine [hCombine : Cert.Combine.Facts] [hPre_rows_named : Cert.Pre_rows_named.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3))
      ∧ r.2.sem = fun _ => 0)

def quiescent_CombineReference [hCombineReference : Cert.CombineReference.Facts] : Prop :=
  ∀ (m : (ℓ : Loc Cert.CombineReference.nD Cert.CombineReference.τ Cert.CombineReference.sig) → Buf (Elt Bits) ℓ) (g : Dev Cert.CombineReference.nD → PrngReg), Pre_CombineReference m →
    θ_run (Cert.CombineReference.defs (F := Bits)) (onTc (τ := Cert.CombineReference.τ) (Cert.CombineReference.main (F := Bits))) ⟨m, fun _ => 0, g⟩ (fun r => (∀ c : Dev Cert.CombineReference.nD,
      r.2.mem ((c.tc : Thread Cert.CombineReference.nD Cert.CombineReference.τ).loc Cert.CombineReference.main_arg0) = m ((c.tc : Thread Cert.CombineReference.nD Cert.CombineReference.τ).loc Cert.CombineReference.main_arg0)
      ∧ r.2.mem ((c.tc : Thread Cert.CombineReference.nD Cert.CombineReference.τ).loc Cert.CombineReference.main_arg1) = m ((c.tc : Thread Cert.CombineReference.nD Cert.CombineReference.τ).loc Cert.CombineReference.main_arg1)
      ∧ r.2.mem ((c.tc : Thread Cert.CombineReference.nD Cert.CombineReference.τ).loc Cert.CombineReference.main_arg2) = m ((c.tc : Thread Cert.CombineReference.nD Cert.CombineReference.τ).loc Cert.CombineReference.main_arg2)
      ∧ r.2.mem ((c.tc : Thread Cert.CombineReference.nD Cert.CombineReference.τ).loc Cert.CombineReference.main_arg3) = m ((c.tc : Thread Cert.CombineReference.nD Cert.CombineReference.τ).loc Cert.CombineReference.main_arg3))
      ∧ r.2.sem = fun _ => 0)

def quiescent_CombineReference_pre_rows_named [hCombineReference : Cert.CombineReference.Facts] [hPre_rows_named : Cert.Pre_rows_named.Facts] : Prop :=
  ∀ (m : (ℓ : Loc Cert.CombineReference.nD Cert.CombineReference.τ Cert.CombineReference.sig) → Buf (Elt Bits) ℓ) (g : Dev Cert.CombineReference.nD → PrngReg), Pre_CombineReference_rows_named m →
    θ_run (Cert.CombineReference.defs (F := Bits)) (onTc (τ := Cert.CombineReference.τ) (Cert.CombineReference.main (F := Bits))) ⟨m, fun _ => 0, g⟩ (fun r => (∀ c : Dev Cert.CombineReference.nD,
      r.2.mem ((c.tc : Thread Cert.CombineReference.nD Cert.CombineReference.τ).loc Cert.CombineReference.main_arg0) = m ((c.tc : Thread Cert.CombineReference.nD Cert.CombineReference.τ).loc Cert.CombineReference.main_arg0)
      ∧ r.2.mem ((c.tc : Thread Cert.CombineReference.nD Cert.CombineReference.τ).loc Cert.CombineReference.main_arg1) = m ((c.tc : Thread Cert.CombineReference.nD Cert.CombineReference.τ).loc Cert.CombineReference.main_arg1)
      ∧ r.2.mem ((c.tc : Thread Cert.CombineReference.nD Cert.CombineReference.τ).loc Cert.CombineReference.main_arg2) = m ((c.tc : Thread Cert.CombineReference.nD Cert.CombineReference.τ).loc Cert.CombineReference.main_arg2)
      ∧ r.2.mem ((c.tc : Thread Cert.CombineReference.nD Cert.CombineReference.τ).loc Cert.CombineReference.main_arg3) = m ((c.tc : Thread Cert.CombineReference.nD Cert.CombineReference.τ).loc Cert.CombineReference.main_arg3))
      ∧ r.2.sem = fun _ => 0)

def quiescent_CombineIdeal [hCombineIdeal : Cert.CombineIdeal.Facts] [hPre_rows_named : Cert.Pre_rows_named.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3))
      ∧ r.2.sem = fun _ => 0)

def quiescent_CombineReferenceIdeal_pre_rows_named [hCombineReferenceIdeal : Cert.CombineReferenceIdeal.Facts] [hPre_rows_named : Cert.Pre_rows_named.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal_rows_named m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3))
      ∧ r.2.sem = fun _ => 0)

def quiescent_Dispatch [hDispatch : Cert.Dispatch.Facts] [hPre_slots_apart : Cert.Pre_slots_apart.Facts] : Prop :=
  ∀ (m : (ℓ : Loc Cert.Dispatch.nD Cert.Dispatch.τ Cert.Dispatch.sig) → Buf (Elt Bits) ℓ) (g : Dev Cert.Dispatch.nD → PrngReg), Pre_Dispatch m →
    θ_run (Cert.Dispatch.defs (F := Bits)) (onTc (τ := Cert.Dispatch.τ) (Cert.Dispatch.main (F := Bits))) ⟨m, fun _ => 0, g⟩ (fun r => (∀ c : Dev Cert.Dispatch.nD,
      r.2.mem ((c.tc : Thread Cert.Dispatch.nD Cert.Dispatch.τ).loc Cert.Dispatch.main_arg0) = m ((c.tc : Thread Cert.Dispatch.nD Cert.Dispatch.τ).loc Cert.Dispatch.main_arg0)
      ∧ r.2.mem ((c.tc : Thread Cert.Dispatch.nD Cert.Dispatch.τ).loc Cert.Dispatch.main_arg1) = m ((c.tc : Thread Cert.Dispatch.nD Cert.Dispatch.τ).loc Cert.Dispatch.main_arg1)
      ∧ r.2.mem ((c.tc : Thread Cert.Dispatch.nD Cert.Dispatch.τ).loc Cert.Dispatch.main_arg2) = m ((c.tc : Thread Cert.Dispatch.nD Cert.Dispatch.τ).loc Cert.Dispatch.main_arg2))
      ∧ r.2.sem = fun _ => 0)

def quiescent_DispatchReference [hDispatchReference : Cert.DispatchReference.Facts] : Prop :=
  ∀ (m : (ℓ : Loc Cert.DispatchReference.nD Cert.DispatchReference.τ Cert.DispatchReference.sig) → Buf (Elt Bits) ℓ) (g : Dev Cert.DispatchReference.nD → PrngReg), Pre_DispatchReference m →
    θ_run (Cert.DispatchReference.defs (F := Bits)) (onTc (τ := Cert.DispatchReference.τ) (Cert.DispatchReference.main (F := Bits))) ⟨m, fun _ => 0, g⟩ (fun r => (∀ c : Dev Cert.DispatchReference.nD,
      r.2.mem ((c.tc : Thread Cert.DispatchReference.nD Cert.DispatchReference.τ).loc Cert.DispatchReference.main_arg0) = m ((c.tc : Thread Cert.DispatchReference.nD Cert.DispatchReference.τ).loc Cert.DispatchReference.main_arg0)
      ∧ r.2.mem ((c.tc : Thread Cert.DispatchReference.nD Cert.DispatchReference.τ).loc Cert.DispatchReference.main_arg1) = m ((c.tc : Thread Cert.DispatchReference.nD Cert.DispatchReference.τ).loc Cert.DispatchReference.main_arg1)
      ∧ r.2.mem ((c.tc : Thread Cert.DispatchReference.nD Cert.DispatchReference.τ).loc Cert.DispatchReference.main_arg2) = m ((c.tc : Thread Cert.DispatchReference.nD Cert.DispatchReference.τ).loc Cert.DispatchReference.main_arg2))
      ∧ r.2.sem = fun _ => 0)

def quiescent_DispatchReference_pre_slots_apart [hDispatchReference : Cert.DispatchReference.Facts] [hPre_slots_apart : Cert.Pre_slots_apart.Facts] : Prop :=
  ∀ (m : (ℓ : Loc Cert.DispatchReference.nD Cert.DispatchReference.τ Cert.DispatchReference.sig) → Buf (Elt Bits) ℓ) (g : Dev Cert.DispatchReference.nD → PrngReg), Pre_DispatchReference_slots_apart m →
    θ_run (Cert.DispatchReference.defs (F := Bits)) (onTc (τ := Cert.DispatchReference.τ) (Cert.DispatchReference.main (F := Bits))) ⟨m, fun _ => 0, g⟩ (fun r => (∀ c : Dev Cert.DispatchReference.nD,
      r.2.mem ((c.tc : Thread Cert.DispatchReference.nD Cert.DispatchReference.τ).loc Cert.DispatchReference.main_arg0) = m ((c.tc : Thread Cert.DispatchReference.nD Cert.DispatchReference.τ).loc Cert.DispatchReference.main_arg0)
      ∧ r.2.mem ((c.tc : Thread Cert.DispatchReference.nD Cert.DispatchReference.τ).loc Cert.DispatchReference.main_arg1) = m ((c.tc : Thread Cert.DispatchReference.nD Cert.DispatchReference.τ).loc Cert.DispatchReference.main_arg1)
      ∧ r.2.mem ((c.tc : Thread Cert.DispatchReference.nD Cert.DispatchReference.τ).loc Cert.DispatchReference.main_arg2) = m ((c.tc : Thread Cert.DispatchReference.nD Cert.DispatchReference.τ).loc Cert.DispatchReference.main_arg2))
      ∧ r.2.sem = fun _ => 0)

def quiescent_DispatchIdeal [hDispatchIdeal : Cert.DispatchIdeal.Facts] [hPre_slots_apart : Cert.Pre_slots_apart.Facts] : Prop :=
  ∀ (m : (ℓ : Loc Cert.DispatchIdeal.nD Cert.DispatchIdeal.τ Cert.DispatchIdeal.sig) → Buf (Elt Ideal) ℓ) (g : Dev Cert.DispatchIdeal.nD → PrngReg), Pre_DispatchIdeal m →
    θ_run (Cert.DispatchIdeal.defs (F := Ideal)) (onTc (τ := Cert.DispatchIdeal.τ) (Cert.DispatchIdeal.main (F := Ideal))) ⟨m, fun _ => 0, g⟩ (fun r => (∀ c : Dev Cert.DispatchIdeal.nD,
      r.2.mem ((c.tc : Thread Cert.DispatchIdeal.nD Cert.DispatchIdeal.τ).loc Cert.DispatchIdeal.main_arg0) = m ((c.tc : Thread Cert.DispatchIdeal.nD Cert.DispatchIdeal.τ).loc Cert.DispatchIdeal.main_arg0)
      ∧ r.2.mem ((c.tc : Thread Cert.DispatchIdeal.nD Cert.DispatchIdeal.τ).loc Cert.DispatchIdeal.main_arg1) = m ((c.tc : Thread Cert.DispatchIdeal.nD Cert.DispatchIdeal.τ).loc Cert.DispatchIdeal.main_arg1)
      ∧ r.2.mem ((c.tc : Thread Cert.DispatchIdeal.nD Cert.DispatchIdeal.τ).loc Cert.DispatchIdeal.main_arg2) = m ((c.tc : Thread Cert.DispatchIdeal.nD Cert.DispatchIdeal.τ).loc Cert.DispatchIdeal.main_arg2))
      ∧ r.2.sem = fun _ => 0)

def quiescent_DispatchReferenceIdeal [hDispatchReferenceIdeal : Cert.DispatchReferenceIdeal.Facts] : Prop :=
  ∀ (m : (ℓ : Loc Cert.DispatchReferenceIdeal.nD Cert.DispatchReferenceIdeal.τ Cert.DispatchReferenceIdeal.sig) → Buf (Elt Ideal) ℓ) (g : Dev Cert.DispatchReferenceIdeal.nD → PrngReg), Pre_DispatchReferenceIdeal m →
    θ_run (Cert.DispatchReferenceIdeal.defs (F := Ideal)) (onTc (τ := Cert.DispatchReferenceIdeal.τ) (Cert.DispatchReferenceIdeal.main (F := Ideal))) ⟨m, fun _ => 0, g⟩ (fun r => (∀ c : Dev Cert.DispatchReferenceIdeal.nD,
      r.2.mem ((c.tc : Thread Cert.DispatchReferenceIdeal.nD Cert.DispatchReferenceIdeal.τ).loc Cert.DispatchReferenceIdeal.main_arg0) = m ((c.tc : Thread Cert.DispatchReferenceIdeal.nD Cert.DispatchReferenceIdeal.τ).loc Cert.DispatchReferenceIdeal.main_arg0)
      ∧ r.2.mem ((c.tc : Thread Cert.DispatchReferenceIdeal.nD Cert.DispatchReferenceIdeal.τ).loc Cert.DispatchReferenceIdeal.main_arg1) = m ((c.tc : Thread Cert.DispatchReferenceIdeal.nD Cert.DispatchReferenceIdeal.τ).loc Cert.DispatchReferenceIdeal.main_arg1)
      ∧ r.2.mem ((c.tc : Thread Cert.DispatchReferenceIdeal.nD Cert.DispatchReferenceIdeal.τ).loc Cert.DispatchReferenceIdeal.main_arg2) = m ((c.tc : Thread Cert.DispatchReferenceIdeal.nD Cert.DispatchReferenceIdeal.τ).loc Cert.DispatchReferenceIdeal.main_arg2))
      ∧ r.2.sem = fun _ => 0)

def quiescent_DispatchReferenceIdeal_pre_slots_apart [hDispatchReferenceIdeal : Cert.DispatchReferenceIdeal.Facts] [hPre_slots_apart : Cert.Pre_slots_apart.Facts] : Prop :=
  ∀ (m : (ℓ : Loc Cert.DispatchReferenceIdeal.nD Cert.DispatchReferenceIdeal.τ Cert.DispatchReferenceIdeal.sig) → Buf (Elt Ideal) ℓ) (g : Dev Cert.DispatchReferenceIdeal.nD → PrngReg), Pre_DispatchReferenceIdeal_slots_apart m →
    θ_run (Cert.DispatchReferenceIdeal.defs (F := Ideal)) (onTc (τ := Cert.DispatchReferenceIdeal.τ) (Cert.DispatchReferenceIdeal.main (F := Ideal))) ⟨m, fun _ => 0, g⟩ (fun r => (∀ c : Dev Cert.DispatchReferenceIdeal.nD,
      r.2.mem ((c.tc : Thread Cert.DispatchReferenceIdeal.nD Cert.DispatchReferenceIdeal.τ).loc Cert.DispatchReferenceIdeal.main_arg0) = m ((c.tc : Thread Cert.DispatchReferenceIdeal.nD Cert.DispatchReferenceIdeal.τ).loc Cert.DispatchReferenceIdeal.main_arg0)
      ∧ r.2.mem ((c.tc : Thread Cert.DispatchReferenceIdeal.nD Cert.DispatchReferenceIdeal.τ).loc Cert.DispatchReferenceIdeal.main_arg1) = m ((c.tc : Thread Cert.DispatchReferenceIdeal.nD Cert.DispatchReferenceIdeal.τ).loc Cert.DispatchReferenceIdeal.main_arg1)
      ∧ r.2.mem ((c.tc : Thread Cert.DispatchReferenceIdeal.nD Cert.DispatchReferenceIdeal.τ).loc Cert.DispatchReferenceIdeal.main_arg2) = m ((c.tc : Thread Cert.DispatchReferenceIdeal.nD Cert.DispatchReferenceIdeal.τ).loc Cert.DispatchReferenceIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5))
      ∧ r.2.sem = fun _ => 0)

def bitexact_Kernel_Reference [hKernel : Cert.Kernel.Facts] [hReference : Cert.Reference.Facts] [hPre_tiles_in_order : Cert.Pre_tiles_in_order.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)
      ∧ m' ((c.tc : Thread Cert.Reference.nD Cert.Reference.τ).loc Cert.Reference.main_arg4) = m ((c.tc : Thread Cert.Kernel.nD Cert.Kernel.τ).loc Cert.Kernel.main_arg4)
      ∧ m' ((c.tc : Thread Cert.Reference.nD Cert.Reference.τ).loc Cert.Reference.main_arg5) = m ((c.tc : Thread Cert.Kernel.nD Cert.Kernel.τ).loc Cert.Kernel.main_arg5)) →
    ∃ (v0 : (c : Dev Cert.Kernel.nD) → Buf (Elt Bits) ((c.tc : Thread Cert.Kernel.nD Cert.Kernel.τ).loc Cert.Kernel.main_v28)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v28) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4)
          ∧ r.2.mem ((c.tc : Thread Cert.Kernel.nD Cert.Kernel.τ).loc Cert.Kernel.main_arg5) = m ((c.tc : Thread Cert.Kernel.nD Cert.Kernel.τ).loc Cert.Kernel.main_arg5))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v41) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4)
          ∧ r.2.mem ((c.tc : Thread Cert.Reference.nD Cert.Reference.τ).loc Cert.Reference.main_arg5) = m' ((c.tc : Thread Cert.Reference.nD Cert.Reference.τ).loc Cert.Reference.main_arg5))

def bitexact_Combine_CombineReference [hCombine : Cert.Combine.Facts] [hCombineReference : Cert.CombineReference.Facts] [hPre_rows_named : Cert.Pre_rows_named.Facts] : Prop :=
  ∀ (m : (ℓ : Loc Cert.Combine.nD Cert.Combine.τ Cert.Combine.sig) → Buf (Elt Bits) ℓ) (g : Dev Cert.Combine.nD → PrngReg)
    (m' : (ℓ : Loc Cert.CombineReference.nD Cert.CombineReference.τ Cert.CombineReference.sig) → Buf (Elt Bits) ℓ) (g' : Dev Cert.CombineReference.nD → PrngReg), Pre_Combine m →
    (∀ c : Dev Cert.Combine.nD,
      m' ((c.tc : Thread Cert.CombineReference.nD Cert.CombineReference.τ).loc Cert.CombineReference.main_arg0) = m ((c.tc : Thread Cert.Combine.nD Cert.Combine.τ).loc Cert.Combine.main_arg0)
      ∧ m' ((c.tc : Thread Cert.CombineReference.nD Cert.CombineReference.τ).loc Cert.CombineReference.main_arg1) = m ((c.tc : Thread Cert.Combine.nD Cert.Combine.τ).loc Cert.Combine.main_arg1)
      ∧ m' ((c.tc : Thread Cert.CombineReference.nD Cert.CombineReference.τ).loc Cert.CombineReference.main_arg2) = m ((c.tc : Thread Cert.Combine.nD Cert.Combine.τ).loc Cert.Combine.main_arg2)
      ∧ m' ((c.tc : Thread Cert.CombineReference.nD Cert.CombineReference.τ).loc Cert.CombineReference.main_arg3) = m ((c.tc : Thread Cert.Combine.nD Cert.Combine.τ).loc Cert.Combine.main_arg3)) →
    ∃ (v0 : (c : Dev Cert.Combine.nD) → Buf (Elt Bits) ((c.tc : Thread Cert.Combine.nD Cert.Combine.τ).loc Cert.Combine.main_v8)),
      θ_run (Cert.Combine.defs (F := Bits)) (onTc (τ := Cert.Combine.τ) (Cert.Combine.main (F := Bits))) ⟨m, fun _ => 0, g⟩ (fun r => ∀ c : Dev Cert.Combine.nD,
          r.2.mem ((c.tc : Thread Cert.Combine.nD Cert.Combine.τ).loc Cert.Combine.main_v8) = v0 c
          ∧ r.2.mem ((c.tc : Thread Cert.Combine.nD Cert.Combine.τ).loc Cert.Combine.main_arg0) = m ((c.tc : Thread Cert.Combine.nD Cert.Combine.τ).loc Cert.Combine.main_arg0)
          ∧ r.2.mem ((c.tc : Thread Cert.Combine.nD Cert.Combine.τ).loc Cert.Combine.main_arg1) = m ((c.tc : Thread Cert.Combine.nD Cert.Combine.τ).loc Cert.Combine.main_arg1)
          ∧ r.2.mem ((c.tc : Thread Cert.Combine.nD Cert.Combine.τ).loc Cert.Combine.main_arg2) = m ((c.tc : Thread Cert.Combine.nD Cert.Combine.τ).loc Cert.Combine.main_arg2)
          ∧ r.2.mem ((c.tc : Thread Cert.Combine.nD Cert.Combine.τ).loc Cert.Combine.main_arg3) = m ((c.tc : Thread Cert.Combine.nD Cert.Combine.τ).loc Cert.Combine.main_arg3))
      ∧ θ_run (Cert.CombineReference.defs (F := Bits)) (onTc (τ := Cert.CombineReference.τ) (Cert.CombineReference.main (F := Bits))) ⟨m', fun _ => 0, g'⟩ (fun r => ∀ c : Dev Cert.CombineReference.nD,
          r.2.mem ((c.tc : Thread Cert.CombineReference.nD Cert.CombineReference.τ).loc Cert.CombineReference.main_v37) = v0 c
          ∧ r.2.mem ((c.tc : Thread Cert.CombineReference.nD Cert.CombineReference.τ).loc Cert.CombineReference.main_arg0) = m' ((c.tc : Thread Cert.CombineReference.nD Cert.CombineReference.τ).loc Cert.CombineReference.main_arg0)
          ∧ r.2.mem ((c.tc : Thread Cert.CombineReference.nD Cert.CombineReference.τ).loc Cert.CombineReference.main_arg1) = m' ((c.tc : Thread Cert.CombineReference.nD Cert.CombineReference.τ).loc Cert.CombineReference.main_arg1)
          ∧ r.2.mem ((c.tc : Thread Cert.CombineReference.nD Cert.CombineReference.τ).loc Cert.CombineReference.main_arg2) = m' ((c.tc : Thread Cert.CombineReference.nD Cert.CombineReference.τ).loc Cert.CombineReference.main_arg2)
          ∧ r.2.mem ((c.tc : Thread Cert.CombineReference.nD Cert.CombineReference.τ).loc Cert.CombineReference.main_arg3) = m' ((c.tc : Thread Cert.CombineReference.nD Cert.CombineReference.τ).loc Cert.CombineReference.main_arg3))

def preserves_Combine_CombineIdeal : Prop :=
  True

def algebraic_CombineIdeal_CombineReferenceIdeal [hCombineIdeal : Cert.CombineIdeal.Facts] [hCombineReferenceIdeal : Cert.CombineReferenceIdeal.Facts] [hPre_rows_named : Cert.Pre_rows_named.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)
      ∧ m' ((c.tc : Thread Cert.CombineReferenceIdeal.nD Cert.CombineReferenceIdeal.τ).loc Cert.CombineReferenceIdeal.main_arg3) = m ((c.tc : Thread Cert.CombineIdeal.nD Cert.CombineIdeal.τ).loc Cert.CombineIdeal.main_arg3)) →
    ∃ (v0 : (c : Dev Cert.CombineIdeal.nD) → Buf (Elt Ideal) ((c.tc : Thread Cert.CombineIdeal.nD Cert.CombineIdeal.τ).loc Cert.CombineIdeal.main_v8)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v8) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v37) = v0 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3))

def bitexact_Dispatch_DispatchReference [hDispatch : Cert.Dispatch.Facts] [hDispatchReference : Cert.DispatchReference.Facts] [hPre_slots_apart : Cert.Pre_slots_apart.Facts] : Prop :=
  ∀ (m : (ℓ : Loc Cert.Dispatch.nD Cert.Dispatch.τ Cert.Dispatch.sig) → Buf (Elt Bits) ℓ) (g : Dev Cert.Dispatch.nD → PrngReg)
    (m' : (ℓ : Loc Cert.DispatchReference.nD Cert.DispatchReference.τ Cert.DispatchReference.sig) → Buf (Elt Bits) ℓ) (g' : Dev Cert.DispatchReference.nD → PrngReg), Pre_Dispatch m →
    (∀ c : Dev Cert.Dispatch.nD,
      m' ((c.tc : Thread Cert.DispatchReference.nD Cert.DispatchReference.τ).loc Cert.DispatchReference.main_arg0) = m ((c.tc : Thread Cert.Dispatch.nD Cert.Dispatch.τ).loc Cert.Dispatch.main_arg0)
      ∧ m' ((c.tc : Thread Cert.DispatchReference.nD Cert.DispatchReference.τ).loc Cert.DispatchReference.main_arg1) = m ((c.tc : Thread Cert.Dispatch.nD Cert.Dispatch.τ).loc Cert.Dispatch.main_arg1)
      ∧ m' ((c.tc : Thread Cert.DispatchReference.nD Cert.DispatchReference.τ).loc Cert.DispatchReference.main_arg2) = m ((c.tc : Thread Cert.Dispatch.nD Cert.Dispatch.τ).loc Cert.Dispatch.main_arg2)) →
    ∃ (v0 : (c : Dev Cert.Dispatch.nD) → Buf (Elt Bits) ((c.tc : Thread Cert.Dispatch.nD Cert.Dispatch.τ).loc Cert.Dispatch.main_v0)),
      θ_run (Cert.Dispatch.defs (F := Bits)) (onTc (τ := Cert.Dispatch.τ) (Cert.Dispatch.main (F := Bits))) ⟨m, fun _ => 0, g⟩ (fun r => ∀ c : Dev Cert.Dispatch.nD,
          r.2.mem ((c.tc : Thread Cert.Dispatch.nD Cert.Dispatch.τ).loc Cert.Dispatch.main_v0) = v0 c
          ∧ r.2.mem ((c.tc : Thread Cert.Dispatch.nD Cert.Dispatch.τ).loc Cert.Dispatch.main_arg0) = m ((c.tc : Thread Cert.Dispatch.nD Cert.Dispatch.τ).loc Cert.Dispatch.main_arg0)
          ∧ r.2.mem ((c.tc : Thread Cert.Dispatch.nD Cert.Dispatch.τ).loc Cert.Dispatch.main_arg1) = m ((c.tc : Thread Cert.Dispatch.nD Cert.Dispatch.τ).loc Cert.Dispatch.main_arg1)
          ∧ r.2.mem ((c.tc : Thread Cert.Dispatch.nD Cert.Dispatch.τ).loc Cert.Dispatch.main_arg2) = m ((c.tc : Thread Cert.Dispatch.nD Cert.Dispatch.τ).loc Cert.Dispatch.main_arg2))
      ∧ θ_run (Cert.DispatchReference.defs (F := Bits)) (onTc (τ := Cert.DispatchReference.τ) (Cert.DispatchReference.main (F := Bits))) ⟨m', fun _ => 0, g'⟩ (fun r => ∀ c : Dev Cert.DispatchReference.nD,
          r.2.mem ((c.tc : Thread Cert.DispatchReference.nD Cert.DispatchReference.τ).loc Cert.DispatchReference.main_v7) = v0 c
          ∧ r.2.mem ((c.tc : Thread Cert.DispatchReference.nD Cert.DispatchReference.τ).loc Cert.DispatchReference.main_arg0) = m' ((c.tc : Thread Cert.DispatchReference.nD Cert.DispatchReference.τ).loc Cert.DispatchReference.main_arg0)
          ∧ r.2.mem ((c.tc : Thread Cert.DispatchReference.nD Cert.DispatchReference.τ).loc Cert.DispatchReference.main_arg1) = m' ((c.tc : Thread Cert.DispatchReference.nD Cert.DispatchReference.τ).loc Cert.DispatchReference.main_arg1)
          ∧ r.2.mem ((c.tc : Thread Cert.DispatchReference.nD Cert.DispatchReference.τ).loc Cert.DispatchReference.main_arg2) = m' ((c.tc : Thread Cert.DispatchReference.nD Cert.DispatchReference.τ).loc Cert.DispatchReference.main_arg2))

def preserves_Dispatch_DispatchIdeal : Prop :=
  True

def algebraic_DispatchIdeal_DispatchReferenceIdeal [hDispatchIdeal : Cert.DispatchIdeal.Facts] [hDispatchReferenceIdeal : Cert.DispatchReferenceIdeal.Facts] [hPre_slots_apart : Cert.Pre_slots_apart.Facts] : Prop :=
  ∀ (m : (ℓ : Loc Cert.DispatchIdeal.nD Cert.DispatchIdeal.τ Cert.DispatchIdeal.sig) → Buf (Elt Ideal) ℓ) (g : Dev Cert.DispatchIdeal.nD → PrngReg)
    (m' : (ℓ : Loc Cert.DispatchReferenceIdeal.nD Cert.DispatchReferenceIdeal.τ Cert.DispatchReferenceIdeal.sig) → Buf (Elt Ideal) ℓ) (g' : Dev Cert.DispatchReferenceIdeal.nD → PrngReg), Pre_DispatchIdeal m →
    (∀ c : Dev Cert.DispatchIdeal.nD,
      m' ((c.tc : Thread Cert.DispatchReferenceIdeal.nD Cert.DispatchReferenceIdeal.τ).loc Cert.DispatchReferenceIdeal.main_arg0) = m ((c.tc : Thread Cert.DispatchIdeal.nD Cert.DispatchIdeal.τ).loc Cert.DispatchIdeal.main_arg0)
      ∧ m' ((c.tc : Thread Cert.DispatchReferenceIdeal.nD Cert.DispatchReferenceIdeal.τ).loc Cert.DispatchReferenceIdeal.main_arg1) = m ((c.tc : Thread Cert.DispatchIdeal.nD Cert.DispatchIdeal.τ).loc Cert.DispatchIdeal.main_arg1)
      ∧ m' ((c.tc : Thread Cert.DispatchReferenceIdeal.nD Cert.DispatchReferenceIdeal.τ).loc Cert.DispatchReferenceIdeal.main_arg2) = m ((c.tc : Thread Cert.DispatchIdeal.nD Cert.DispatchIdeal.τ).loc Cert.DispatchIdeal.main_arg2)) →
    ∃ (v0 : (c : Dev Cert.DispatchIdeal.nD) → Buf (Elt Ideal) ((c.tc : Thread Cert.DispatchIdeal.nD Cert.DispatchIdeal.τ).loc Cert.DispatchIdeal.main_v0)),
      θ_run (Cert.DispatchIdeal.defs (F := Ideal)) (onTc (τ := Cert.DispatchIdeal.τ) (Cert.DispatchIdeal.main (F := Ideal))) ⟨m, fun _ => 0, g⟩ (fun r => ∀ c : Dev Cert.DispatchIdeal.nD,
          r.2.mem ((c.tc : Thread Cert.DispatchIdeal.nD Cert.DispatchIdeal.τ).loc Cert.DispatchIdeal.main_v0) = v0 c
          ∧ r.2.mem ((c.tc : Thread Cert.DispatchIdeal.nD Cert.DispatchIdeal.τ).loc Cert.DispatchIdeal.main_arg0) = m ((c.tc : Thread Cert.DispatchIdeal.nD Cert.DispatchIdeal.τ).loc Cert.DispatchIdeal.main_arg0)
          ∧ r.2.mem ((c.tc : Thread Cert.DispatchIdeal.nD Cert.DispatchIdeal.τ).loc Cert.DispatchIdeal.main_arg1) = m ((c.tc : Thread Cert.DispatchIdeal.nD Cert.DispatchIdeal.τ).loc Cert.DispatchIdeal.main_arg1)
          ∧ r.2.mem ((c.tc : Thread Cert.DispatchIdeal.nD Cert.DispatchIdeal.τ).loc Cert.DispatchIdeal.main_arg2) = m ((c.tc : Thread Cert.DispatchIdeal.nD Cert.DispatchIdeal.τ).loc Cert.DispatchIdeal.main_arg2))
      ∧ θ_run (Cert.DispatchReferenceIdeal.defs (F := Ideal)) (onTc (τ := Cert.DispatchReferenceIdeal.τ) (Cert.DispatchReferenceIdeal.main (F := Ideal))) ⟨m', fun _ => 0, g'⟩ (fun r => ∀ c : Dev Cert.DispatchReferenceIdeal.nD,
          r.2.mem ((c.tc : Thread Cert.DispatchReferenceIdeal.nD Cert.DispatchReferenceIdeal.τ).loc Cert.DispatchReferenceIdeal.main_v7) = v0 c
          ∧ r.2.mem ((c.tc : Thread Cert.DispatchReferenceIdeal.nD Cert.DispatchReferenceIdeal.τ).loc Cert.DispatchReferenceIdeal.main_arg0) = m' ((c.tc : Thread Cert.DispatchReferenceIdeal.nD Cert.DispatchReferenceIdeal.τ).loc Cert.DispatchReferenceIdeal.main_arg0)
          ∧ r.2.mem ((c.tc : Thread Cert.DispatchReferenceIdeal.nD Cert.DispatchReferenceIdeal.τ).loc Cert.DispatchReferenceIdeal.main_arg1) = m' ((c.tc : Thread Cert.DispatchReferenceIdeal.nD Cert.DispatchReferenceIdeal.τ).loc Cert.DispatchReferenceIdeal.main_arg1)
          ∧ r.2.mem ((c.tc : Thread Cert.DispatchReferenceIdeal.nD Cert.DispatchReferenceIdeal.τ).loc Cert.DispatchReferenceIdeal.main_arg2) = m' ((c.tc : Thread Cert.DispatchReferenceIdeal.nD Cert.DispatchReferenceIdeal.τ).loc Cert.DispatchReferenceIdeal.main_arg2))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)) →
    ∃ (v0 : (c : Dev Cert.ProjIdeal.nD) → Buf (Elt Ideal) ((c.tc : Thread Cert.ProjIdeal.nD Cert.ProjIdeal.τ).loc Cert.ProjIdeal.main_v105_2)) (v1 : (c : Dev Cert.ProjIdeal.nD) → Buf (Elt Ideal) ((c.tc : Thread Cert.ProjIdeal.nD Cert.ProjIdeal.τ).loc Cert.ProjIdeal.main_v105_3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v105_2) = v0 c
          ∧ r.2.mem ((c.tc : Thread Cert.ProjIdeal.nD Cert.ProjIdeal.τ).loc Cert.ProjIdeal.main_v105_3) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v21) = v0 c
          ∧ r.2.mem ((c.tc : Thread Cert.ProjReferenceIdeal.nD Cert.ProjReferenceIdeal.τ).loc Cert.ProjReferenceIdeal.main_v22) = v1 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5))

def Claim : Prop :=
  ∃ (hKernel : Cert.Kernel.Facts) (hReference : Cert.Reference.Facts) (hCombine : Cert.Combine.Facts) (hCombineReference : Cert.CombineReference.Facts) (hCombineIdeal : Cert.CombineIdeal.Facts) (hCombineReferenceIdeal : Cert.CombineReferenceIdeal.Facts) (hDispatch : Cert.Dispatch.Facts) (hDispatchReference : Cert.DispatchReference.Facts) (hDispatchIdeal : Cert.DispatchIdeal.Facts) (hDispatchReferenceIdeal : Cert.DispatchReferenceIdeal.Facts) (hProj : Cert.Proj.Facts) (hProjIdeal : Cert.ProjIdeal.Facts) (hProjReferenceIdeal : Cert.ProjReferenceIdeal.Facts) (hPre_tiles_in_order : Cert.Pre_tiles_in_order.Facts) (hPre_rows_named : Cert.Pre_rows_named.Facts) (hPre_slots_apart : Cert.Pre_slots_apart.Facts),
    quiescent_Kernel (hKernel := hKernel) (hPre_tiles_in_order := hPre_tiles_in_order)
    ∧ quiescent_Reference (hReference := hReference)
    ∧ quiescent_Reference_pre_tiles_in_order (hReference := hReference) (hPre_tiles_in_order := hPre_tiles_in_order)
    ∧ quiescent_Combine (hCombine := hCombine) (hPre_rows_named := hPre_rows_named)
    ∧ quiescent_CombineReference (hCombineReference := hCombineReference)
    ∧ quiescent_CombineReference_pre_rows_named (hCombineReference := hCombineReference) (hPre_rows_named := hPre_rows_named)
    ∧ quiescent_CombineIdeal (hCombineIdeal := hCombineIdeal) (hPre_rows_named := hPre_rows_named)
    ∧ quiescent_CombineReferenceIdeal (hCombineReferenceIdeal := hCombineReferenceIdeal)
    ∧ quiescent_CombineReferenceIdeal_pre_rows_named (hCombineReferenceIdeal := hCombineReferenceIdeal) (hPre_rows_named := hPre_rows_named)
    ∧ quiescent_Dispatch (hDispatch := hDispatch) (hPre_slots_apart := hPre_slots_apart)
    ∧ quiescent_DispatchReference (hDispatchReference := hDispatchReference)
    ∧ quiescent_DispatchReference_pre_slots_apart (hDispatchReference := hDispatchReference) (hPre_slots_apart := hPre_slots_apart)
    ∧ quiescent_DispatchIdeal (hDispatchIdeal := hDispatchIdeal) (hPre_slots_apart := hPre_slots_apart)
    ∧ quiescent_DispatchReferenceIdeal (hDispatchReferenceIdeal := hDispatchReferenceIdeal)
    ∧ quiescent_DispatchReferenceIdeal_pre_slots_apart (hDispatchReferenceIdeal := hDispatchReferenceIdeal) (hPre_slots_apart := hPre_slots_apart)
    ∧ quiescent_Proj (hProj := hProj)
    ∧ quiescent_ProjIdeal (hProjIdeal := hProjIdeal)
    ∧ quiescent_ProjReferenceIdeal (hProjReferenceIdeal := hProjReferenceIdeal)
    ∧ bitexact_Kernel_Reference (hKernel := hKernel) (hReference := hReference) (hPre_tiles_in_order := hPre_tiles_in_order)
    ∧ bitexact_Combine_CombineReference (hCombine := hCombine) (hCombineReference := hCombineReference) (hPre_rows_named := hPre_rows_named)
    ∧ preserves_Combine_CombineIdeal
    ∧ algebraic_CombineIdeal_CombineReferenceIdeal (hCombineIdeal := hCombineIdeal) (hCombineReferenceIdeal := hCombineReferenceIdeal) (hPre_rows_named := hPre_rows_named)
    ∧ bitexact_Dispatch_DispatchReference (hDispatch := hDispatch) (hDispatchReference := hDispatchReference) (hPre_slots_apart := hPre_slots_apart)
    ∧ preserves_Dispatch_DispatchIdeal
    ∧ algebraic_DispatchIdeal_DispatchReferenceIdeal (hDispatchIdeal := hDispatchIdeal) (hDispatchReferenceIdeal := hDispatchReferenceIdeal) (hPre_slots_apart := hPre_slots_apart)
    ∧ preserves_Proj_ProjIdeal
    ∧ algebraic_ProjIdeal_ProjReferenceIdeal (hProjIdeal := hProjIdeal) (hProjReferenceIdeal := hProjReferenceIdeal)
-- ==== Pre_rows_named.lean ====
abbrev S32768 : Shape := ⟨1, ![32768]⟩
abbrev S16384x1024 : Shape := ⟨2, ![16384, 1024]⟩
abbrev S2x16384 : Shape := ⟨2, ![2, 16384]⟩
abbrev S49152x512 : Shape := ⟨2, ![49152, 512]⟩
abbrev S_ : Shape := ⟨0, ![]⟩

class Facts : Prop where
  bcast_S_S32768 : S_.BroadcastsInDim S32768 (![] : Fin 0 → Fin S32768.rank)
  reducesTo_S32768_S_d0 : S32768.ReducesTo [0] S_
  h_S_ : 0 < S_.numel

variable [Facts]

def fn {F : FTy → Type} [FloatOps F] (main_arg0 : IVec S32768 32) (main_arg1 : FVec F S16384x1024 .f32) (main_arg2 : FVec F S2x16384 .f32) (main_arg3 : IVec S49152x512 32) : IVec S_ 1 :=
  let main_c : IVec S_ 32 := constantI S_ 32 0#32
  let main_v0 : IVec S32768 32 := broadcastInDim S32768 ![] bcast_S_S32768 main_c
  let main_v1 : IVec S32768 1 := cmpi .sge main_arg0 main_v0
  let main_c_0 : IVec S_ 32 := constantI S_ 32 49152#32
  let main_v2 : IVec S32768 32 := broadcastInDim S32768 ![] bcast_S_S32768 main_c_0
  let main_v3 : IVec S32768 1 := cmpi .slt main_arg0 main_v2
  let main_v4 : IVec S32768 1 := andi main_v1 main_v3
  let main_c_1 : IVec S_ 1 := constantI S_ 1 1#1
  let main_v5 : IVec S_ 1 := (fun x v => Host.reduce IntOp.andi x v reducesTo_S32768_S_d0 h_S_) main_v4 main_c_1
  main_v5
-- ==== Pre_slots_apart.lean ====
abbrev S32768 : Shape := ⟨1, ![32768]⟩
abbrev S16384x512 : Shape := ⟨2, ![16384, 512]⟩
abbrev S49152x512 : Shape := ⟨2, ![49152, 512]⟩
abbrev S_ : Shape := ⟨0, ![]⟩
abbrev S49152 : Shape := ⟨1, ![49152]⟩
abbrev S32768x1 : Shape := ⟨2, ![32768, 1]⟩

class Facts : Prop where
  bcast_S_S32768 : S_.BroadcastsInDim S32768 (![] : Fin 0 → Fin S32768.rank)
  reducesTo_S32768_S_d0 : S32768.ReducesTo [0] S_
  h_S_ : 0 < S_.numel
  bcast_S_S49152 : S_.BroadcastsInDim S49152 (![] : Fin 0 → Fin S49152.rank)
  bcast_S32768_S32768x1_0 : S32768.BroadcastsInDim S32768x1 (![0] : Fin 1 → Fin S32768x1.rank)
  reducesTo_S49152_S_d0 : S49152.ReducesTo [0] S_
  scatter_S49152_S32768x1_S32768_n_0_0_1_wf : ScatterDims.WF S49152 S32768x1 S32768 [] [0] [0] 1

variable [Facts]

def scatter_S49152_S32768x1_S32768_n_0_0_1 : ScatterDims S49152 S32768x1 S32768 where
  updateWindowDims := []
  insertedWindowDims := [0]
  scatterDimsToOperandDims := [0]
  indexVectorDim := 1
  wf := scatter_S49152_S32768x1_S32768_n_0_0_1_wf
def fn_part1 {F : FTy → Type} [FloatOps F] (main_v5 : IVec S_ 1) (main_v14 : IVec S49152 32) (main_v15 : IVec S49152 32) : IVec S_ 1 :=
  let main_v16 : IVec S49152 1 := cmpi .sle main_v14 main_v15
  let main_c_7 : IVec S_ 1 := constantI S_ 1 1#1
  let main_v17 : IVec S_ 1 := (fun x v => Host.reduce IntOp.andi x v reducesTo_S49152_S_d0 h_S_) main_v16 main_c_7
  let main_v18 : IVec S_ 1 := andi main_v5 main_v17
  main_v18

def fn {F : FTy → Type} [FloatOps F] (main_arg0 : IVec S32768 32) (main_arg1 : IVec S16384x512 32) (main_arg2 : IVec S49152x512 32) : IVec S_ 1 :=
  let main_c : IVec S_ 32 := constantI S_ 32 0#32
  let main_v0 : IVec S32768 32 := broadcastInDim S32768 ![] bcast_S_S32768 main_c
  let main_v1 : IVec S32768 1 := cmpi .sge main_arg0 main_v0
  let main_c_0 : IVec S_ 32 := constantI S_ 32 49152#32
  let main_v2 : IVec S32768 32 := broadcastInDim S32768 ![] bcast_S_S32768 main_c_0
  let main_v3 : IVec S32768 1 := cmpi .slt main_arg0 main_v2
  let main_v4 : IVec S32768 1 := andi main_v1 main_v3
  let main_c_1 : IVec S_ 1 := constantI S_ 1 1#1
  let main_v5 : IVec S_ 1 := (fun x v => Host.reduce IntOp.andi x v reducesTo_S32768_S_d0 h_S_) main_v4 main_c_1
  let main_c_2 : IVec S_ 32 := constantI S_ 32 0#32
  let main_v6 : IVec S49152 32 := broadcastInDim S49152 ![] bcast_S_S49152 main_c_2
  let main_c_3 : IVec S_ 32 := constantI S_ 32 0#32
  let main_v7 : IVec S32768 32 := broadcastInDim S32768 ![] bcast_S_S32768 main_c_3
  let main_v8 : IVec S32768 1 := cmpi .slt main_arg0 main_v7
  let main_c_4 : IVec S_ 32 := constantI S_ 32 49152#32
  let main_v9 : IVec S32768 32 := broadcastInDim S32768 ![] bcast_S_S32768 main_c_4
  let main_v10 : IVec S32768 32 := addi main_arg0 main_v9
  let main_v11 : IVec S32768 32 := select main_v8 main_v10 main_arg0
  let main_v12 : IVec S32768x1 32 := broadcastInDim S32768x1 ![0] bcast_S32768_S32768x1_0 main_v11
  let main_c_5 : IVec S_ 32 := constantI S_ 32 1#32
  let main_v13 : IVec S32768 32 := broadcastInDim S32768 ![] bcast_S_S32768 main_c_5
  let main_v14 : IVec S49152 32 := (fun x i u => Host.scatter scatter_S49152_S32768x1_S32768_n_0_0_1 IntOp.addi x i u) main_v6 main_v12 main_v13
  let main_c_6 : IVec S_ 32 := constantI S_ 32 1#32
  let main_v15 : IVec S49152 32 := broadcastInDim S49152 ![] bcast_S_S49152 main_c_6
  fn_part1 (F := F) main_v5 main_v14 main_v15
-- ==== Pre_tiles_in_order.lean ====
abbrev S96 : Shape := ⟨1, ![96]⟩
abbrev S49152x512 : Shape := ⟨2, ![49152, 512]⟩
abbrev S32x1024x256 : Shape := ⟨3, ![32, 1024, 256]⟩
abbrev S32x256x1024 : Shape := ⟨3, ![32, 256, 1024]⟩
abbrev S_ : Shape := ⟨0, ![]⟩
abbrev S95 : Shape := ⟨1, ![95]⟩
abbrev S1 : Shape := ⟨1, ![1]⟩

class Facts : Prop where
  bcast_S_S96 : S_.BroadcastsInDim S96 (![] : Fin 0 → Fin S96.rank)
  reducesTo_S96_S_d0 : S96.ReducesTo [0] S_
  h_S_ : 0 < S_.numel
  slices_S96_S95_0 : S96.Slices ![0] S95
  slices_S96_S95_1 : S96.Slices ![1] S95
  reducesTo_S95_S_d0 : S95.ReducesTo [0] S_
  slices_S96_S1_0 : S96.Slices ![0] S1
  shapeCasts_S1_S_ : S1.ShapeCasts S_

variable [Facts]

def fn_part1 {F : FTy → Type} [FloatOps F] (main_arg1 : IVec S96 32) (main_v5 : IVec S_ 1) (main_v9 : IVec S_ 1) (main_v15 : IVec S_ 1) (main_v16 : IVec S95 32) : IVec S_ 1 :=
  let main_v17 : IVec S95 32 := (extractStridedSlice S95 ![1] · slices_S96_S95_1) main_arg1
  let main_v18 : IVec S95 1 := cmpi .sge main_v16 main_v17
  let main_c_6 : IVec S_ 1 := constantI S_ 1 1#1
  let main_v19 : IVec S_ 1 := (fun x v => Host.reduce IntOp.andi x v reducesTo_S95_S_d0 h_S_) main_v18 main_c_6
  let main_v20 : IVec S_ 1 := andi main_v5 main_v9
  let main_v21 : IVec S_ 1 := andi main_v20 main_v15
  let main_v22 : IVec S_ 1 := andi main_v21 main_v19
  let main_v23 : IVec S1 32 := (extractStridedSlice S1 ![0] · slices_S96_S1_0) main_arg1
  let main_v24 : IVec S_ 32 := shapeCast S_ main_v23 shapeCasts_S1_S_
  let main_c_7 : IVec S_ 32 := constantI S_ 32 1#32
  let main_v25 : IVec S_ 1 := cmpi .eq main_v24 main_c_7
  let main_v26 : IVec S_ 1 := andi main_v22 main_v25
  main_v26

def fn {F : FTy → Type} [FloatOps F] (main_arg0 : IVec S96 32) (main_arg1 : IVec S96 32) (main_arg2 : IVec S49152x512 32) (main_arg3 : FVec F S32x1024x256 .f32) (main_arg4 : FVec F S32x1024x256 .f32) (main_arg5 : FVec F S32x256x1024 .f32) : IVec S_ 1 :=
  let main_c : IVec S_ 32 := constantI S_ 32 0#32
  let main_v0 : IVec S96 32 := broadcastInDim S96 ![] bcast_S_S96 main_c
  let main_v1 : IVec S96 1 := cmpi .sge main_arg0 main_v0
  let main_c_0 : IVec S_ 32 := constantI S_ 32 32#32
  let main_v2 : IVec S96 32 := broadcastInDim S96 ![] bcast_S_S96 main_c_0
  let main_v3 : IVec S96 1 := cmpi .slt main_arg0 main_v2
  let main_v4 : IVec S96 1 := andi main_v1 main_v3
  let main_c_1 : IVec S_ 1 := constantI S_ 1 1#1
  let main_v5 : IVec S_ 1 := (fun x v => Host.reduce IntOp.andi x v reducesTo_S96_S_d0 h_S_) main_v4 main_c_1
  let main_v6 : IVec S95 32 := (extractStridedSlice S95 ![0] · slices_S96_S95_0) main_arg0
  let main_v7 : IVec S95 32 := (extractStridedSlice S95 ![1] · slices_S96_S95_1) main_arg0
  let main_v8 : IVec S95 1 := cmpi .sle main_v6 main_v7
  let main_c_2 : IVec S_ 1 := constantI S_ 1 1#1
  let main_v9 : IVec S_ 1 := (fun x v => Host.reduce IntOp.andi x v reducesTo_S95_S_d0 h_S_) main_v8 main_c_2
  let main_c_3 : IVec S_ 32 := constantI S_ 32 0#32
  let main_v10 : IVec S96 32 := broadcastInDim S96 ![] bcast_S_S96 main_c_3
  let main_v11 : IVec S96 1 := cmpi .eq main_arg1 main_v10
  let main_c_4 : IVec S_ 32 := constantI S_ 32 1#32
  let main_v12 : IVec S96 32 := broadcastInDim S96 ![] bcast_S_S96 main_c_4
  let main_v13 : IVec S96 1 := cmpi .eq main_arg1 main_v12
  let main_v14 : IVec S96 1 := ori main_v11 main_v13
  let main_c_5 : IVec S_ 1 := constantI S_ 1 1#1
  let main_v15 : IVec S_ 1 := (fun x v => Host.reduce IntOp.andi x v reducesTo_S96_S_d0 h_S_) main_v14 main_c_5
  let main_v16 : IVec S95 32 := (extractStridedSlice S95 ![0] · slices_S96_S95_0) main_arg1
  fn_part1 (F := F) main_arg1 main_v5 main_v9 main_v15 main_v16
-- ==== Kernel.lean ====
abbrev S96 : Shape := ⟨1, ![96]⟩
abbrev S49152x512 : Shape := ⟨2, ![49152, 512]⟩
abbrev S32x1024x256 : Shape := ⟨3, ![32, 1024, 256]⟩
abbrev S32x256x1024 : Shape := ⟨3, ![32, 256, 1024]⟩
abbrev S_ : Shape := ⟨0, ![]⟩
abbrev S1 : Shape := ⟨1, ![1]⟩
abbrev S1x96 : Shape := ⟨2, ![1, 96]⟩
abbrev S96x1 : Shape := ⟨2, ![96, 1]⟩
abbrev S96x96 : Shape := ⟨2, ![96, 96]⟩
abbrev S512x512 : Shape := ⟨2, ![512, 512]⟩
abbrev S1024x256 : Shape := ⟨2, ![1024, 256]⟩
abbrev S256x1024 : Shape := ⟨2, ![256, 1024]⟩
abbrev S2x1024x256 : Shape := ⟨3, ![2, 1024, 256]⟩
abbrev S2x256x1024 : Shape := ⟨3, ![2, 256, 1024]⟩
abbrev S2 : Shape := ⟨1, ![2]⟩
abbrev S1x1024x256 : Shape := ⟨3, ![1, 1024, 256]⟩
abbrev S1x256x1024 : Shape := ⟨3, ![1, 256, 1024]⟩
abbrev S512x1024 : Shape := ⟨2, ![512, 1024]⟩
abbrev S512x256 : Shape := ⟨2, ![512, 256]⟩

abbrev nBuf : Space → Nat
  | .hbm => 47
  | .vmem => 10
  | .smem => 5
  | _ => 0

abbrev bufTy : (tb : Table) → Fin (tcTables nBuf tb) → BufTy
  | .hbm, ⟨0, _⟩ => ⟨S96, .i32⟩
  | .hbm, ⟨1, _⟩ => ⟨S49152x512, .i32⟩
  | .hbm, ⟨2, _⟩ => ⟨S32x1024x256, .f32⟩
  | .hbm, ⟨3, _⟩ => ⟨S32x1024x256, .f32⟩
  | .hbm, ⟨4, _⟩ => ⟨S32x256x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S96, .i32⟩
  | .hbm, ⟨9, _⟩ => ⟨S96, .i1⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S96, .i32⟩
  | .hbm, ⟨21, _⟩ => ⟨S1x96, .i32⟩
  | .hbm, ⟨22, _⟩ => ⟨S96x1, .i32⟩
  | .hbm, ⟨23, _⟩ => ⟨S96x96, .i32⟩
  | .hbm, ⟨24, _⟩ => ⟨S96x96, .i32⟩
  | .hbm, ⟨25, _⟩ => ⟨S96x96, .i1⟩
  | .hbm, ⟨26, _⟩ => ⟨S1x96, .i32⟩
  | .hbm, ⟨27, _⟩ => ⟨S_, .i32⟩
  | .hbm, ⟨28, _⟩ => ⟨S1x96, .i32⟩
  | .hbm, ⟨29, _⟩ => ⟨S1x96, .i1⟩
  | .hbm, ⟨30, _⟩ => ⟨S96x96, .i1⟩
  | .hbm, ⟨31, _⟩ => ⟨S96x96, .i1⟩
  | .hbm, ⟨32, _⟩ => ⟨S1x96, .i32⟩
  | .hbm, ⟨33, _⟩ => ⟨S_, .i32⟩
  | .hbm, ⟨34, _⟩ => ⟨S_, .i32⟩
  | .hbm, ⟨35, _⟩ => ⟨S96x96, .i32⟩
  | .hbm, ⟨36, _⟩ => ⟨S96x96, .i32⟩
  | .hbm, ⟨37, _⟩ => ⟨S96x96, .i32⟩
  | .hbm, ⟨38, _⟩ => ⟨S_, .i32⟩
  | .hbm, ⟨39, _⟩ => ⟨S96, .i32⟩
  | .hbm, ⟨40, _⟩ => ⟨S_, .i32⟩
  | .hbm, ⟨41, _⟩ => ⟨S96, .i32⟩
  | .hbm, ⟨42, _⟩ => ⟨S96, .i1⟩
  | .hbm, ⟨43, _⟩ => ⟨S_, .i32⟩
  | .hbm, ⟨44, _⟩ => ⟨S_, .i32⟩
  | .hbm, ⟨45, _⟩ => ⟨S96, .i32⟩
  | .hbm, ⟨46, _⟩ => ⟨S49152x512, .i32⟩
  | .local _ .vmem, ⟨0, _⟩ => ⟨S512x512, .i32⟩
  | .local _ .vmem, ⟨1, _⟩ => ⟨S512x512, .i32⟩
  | .local _ .vmem, ⟨2, _⟩ => ⟨S512x512, .i32⟩
  | .local _ .vmem, ⟨3, _⟩ => ⟨S512x512, .i32⟩
  | .local _ .vmem, ⟨4, _⟩ => ⟨S1024x256, .bf16⟩
  | .local _ .vmem, ⟨5, _⟩ => ⟨S1024x256, .bf16⟩
  | .local _ .vmem, ⟨6, _⟩ => ⟨S256x1024, .bf16⟩
  | .local _ .vmem, ⟨7, _⟩ => ⟨S2x1024x256, .f32⟩
  | .local _ .vmem, ⟨8, _⟩ => ⟨S2x1024x256, .f32⟩
  | .local _ .vmem, ⟨9, _⟩ => ⟨S2x256x1024, .f32⟩
  | .local _ .smem, ⟨0, _⟩ => ⟨S96, .i32⟩
  | .local _ .smem, ⟨1, _⟩ => ⟨S96, .i32⟩
  | .local _ .smem, ⟨2, _⟩ => ⟨S1, .i32⟩
  | .local _ .smem, ⟨3, _⟩ => ⟨S96, .i32⟩
  | .local _ .smem, ⟨4, _⟩ => ⟨S1, .i32⟩
  | _, _ => ⟨S96, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨4, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_c : Ref sig .tc := ⟨.hbm, 5, rfl⟩
abbrev main_v0 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_5 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_c_7 : Ref sig .tc := ⟨.hbm, 40, rfl⟩
abbrev main_v25 : Ref sig .tc := ⟨.hbm, 41, rfl⟩
abbrev main_v26 : Ref sig .tc := ⟨.hbm, 42, rfl⟩
abbrev main_c_8 : Ref sig .tc := ⟨.hbm, 43, rfl⟩
abbrev main_call2_v0 : Ref sig .tc := ⟨.hbm, 44, rfl⟩
abbrev main_call2_v1 : Ref sig .tc := ⟨.hbm, 45, rfl⟩
abbrev main_v28 : Ref sig .tc := ⟨.hbm, 46, rfl⟩
abbrev main_v11 : Ref sig .tc := ⟨.smem, 0, rfl⟩
abbrev main_arg1 : Ref sig .tc := ⟨.smem, 1, rfl⟩
abbrev main_v1 : Ref sig .tc := ⟨.smem, 2, rfl⟩
abbrev main_v27 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.smem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [BitOps F]

abbrev grid0 : Pipeline.Grid := ⟨1, ![96], ![false]⟩

abbrev pre0 : Pipeline.Prefetch sig := ⟨4, ![main_v11.idx, main_arg1.idx, main_v1.idx, main_v27.idx], fun | 0 => main_v11.names | 1 => main_arg1.names | 2 => main_v1.names | 3 => main_v27.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (v25 : BitVec 32) : Fin 3 → Nat :=
  let c0_i32_14 : BitVec 32 := 0#32
  let c0_i32_15 : BitVec 32 := 0#32
  ![v25.toNat, 0, 0]

def k0_off2 (v25 : BitVec 32) : Fin 3 → Nat :=
  let c0_i32_26 : BitVec 32 := 0#32
  let c0_i32_27 : BitVec 32 := 0#32
  ![v25.toNat, 0, 0]

def k0_chk1 (i : grid0.Coords) (v25 : BitVec 32) : Prop :=
  (∀ (k0_h1 : k0_cond1 i = 1#1), ∀ a, (k0_off1 v25) a + S1x1024x256.size a ≤ S32x1024x256.size a) ∧
  (∀ (k0_h1 : k0_cond1 i = 1#1), ∀ a, (k0_off2 v25) a + S1x256x1024.size a ≤ S32x256x1024.size a)
theorem k0_off1_inb : ∀ (i : grid0.Coords) (v25 : BitVec 32) (k0_hw1 : k0_chk1 i v25), ∀ (k0_h1 : k0_cond1 i = 1#1), ∀ a, (k0_off1 v25) a + S1x1024x256.size a ≤ S32x1024x256.size a := fun i v25 k0_hw1 k0_h1 => k0_hw1.1 k0_h1
theorem k0_off2_inb : ∀ (i : grid0.Coords) (v25 : BitVec 32) (k0_hw1 : k0_chk1 i v25), ∀ (k0_h1 : k0_cond1 i = 1#1), ∀ a, (k0_off2 v25) a + S1x256x1024.size a ≤ S32x256x1024.size a := fun i v25 k0_hw1 k0_h1 => k0_hw1.2 k0_h1

def k0_off3 (i : grid0.Coords) : Fin 1 → Nat :=
  let arg0 : BitVec 32 := BitVec.ofNat 32 (i 0).val
  let v4 : Index := Scalar.indexCast arg0
  ![v4.toNat]
def k0_off4 (i : grid0.Coords) : Fin 1 → Nat :=
  let arg0 : BitVec 32 := BitVec.ofNat 32 (i 0).val
  let c1_i32 : BitVec 32 := 1#32
  let v6 : BitVec 32 := Scalar.subi arg0 c1_i32
  let c0_i32_2 : BitVec 32 := 0#32
  let v7 : BitVec 32 := Scalar.maxsi v6 c0_i32_2
  let v8 : Index := Scalar.indexCast v7
  ![v8.toNat]
def k0_off5 (i : grid0.Coords) : Fin 1 → Nat :=
  let arg0 : BitVec 32 := BitVec.ofNat 32 (i 0).val
  let v25 : Index := Scalar.indexCast arg0
  ![v25.toNat]
def k0_off6 (v24 : BitVec 32) : Fin 1 → Nat :=
  ![v24.toNat]
def k0_cond2 (i : grid0.Coords) (v5 : BitVec 32) (v9 : BitVec 32) : BitVec 1 :=
  let arg0 : BitVec 32 := BitVec.ofNat 32 (i 0).val
  let c0_i32_1 : BitVec 32 := 0#32
  let v3 : BitVec 1 := Scalar.cmpi .eq arg0 c0_i32_1
  let v10 : BitVec 1 := Scalar.cmpi .ne v5 v9
  let v11 : BitVec 1 := Scalar.ori v3 v10
  let v12 : BitVec 32 := Scalar.extui v11
  let c0_i32_3 : BitVec 32 := 0#32
  let v13 : BitVec 1 := Scalar.cmpi .ne v12 c0_i32_3
  v13

def k0_off7 (v24 : BitVec 32) : Fin 3 → Nat :=
  let c0_i32_8 : BitVec 32 := 0#32
  let c0_i32_9 : BitVec 32 := 0#32
  ![v24.toNat, 0, 0]
def k0_off8 (v26 : BitVec 32) : Fin 3 → Nat :=
  let c0_i32_10 : BitVec 32 := 0#32
  let c0_i32_11 : BitVec 32 := 0#32
  ![v26.toNat, 0, 0]

def k0_off9 (v24 : BitVec 32) : Fin 1 → Nat :=
  ![v24.toNat]
def k0_off10 (v24 : BitVec 32) : Fin 3 → Nat :=
  let c0_i32_12 : BitVec 32 := 0#32
  let c0_i32_13 : BitVec 32 := 0#32
  ![v24.toNat, 0, 0]
def k0_off11 (v24 : BitVec 32) : Fin 3 → Nat :=
  let c0_i32_16 : BitVec 32 := 0#32
  let c0_i32_17 : BitVec 32 := 0#32
  ![v24.toNat, 0, 0]
def k0_off12 (v26 : BitVec 32) : Fin 3 → Nat :=
  let c0_i32_18 : BitVec 32 := 0#32
  let c0_i32_19 : BitVec 32 := 0#32
  ![v26.toNat, 0, 0]

def k0_chk3 (i : grid0.Coords) (v5 : BitVec 32) (v9 : BitVec 32) (v26 : BitVec 32) : Prop :=
  (∀ (k0_h2 : k0_cond2 i v5 v9 = 1#1), ∀ a, (k0_off8 v26) a + S1x1024x256.size a ≤ S32x1024x256.size a) ∧
  (∀ (k0_h2 : k0_cond2 i v5 v9 = 1#1), ∀ a, (k0_off12 v26) a + S1x256x1024.size a ≤ S32x256x1024.size a)
theorem k0_off8_inb : ∀ (i : grid0.Coords) (v5 : BitVec 32) (v9 : BitVec 32) (v26 : BitVec 32) (k0_hw3 : k0_chk3 i v5 v9 v26), ∀ (k0_h2 : k0_cond2 i v5 v9 = 1#1), ∀ a, (k0_off8 v26) a + S1x1024x256.size a ≤ S32x1024x256.size a := fun i v5 v9 v26 k0_hw3 k0_h2 => k0_hw3.1 k0_h2
theorem k0_off12_inb : ∀ (i : grid0.Coords) (v5 : BitVec 32) (v9 : BitVec 32) (v26 : BitVec 32) (k0_hw3 : k0_chk3 i v5 v9 v26), ∀ (k0_h2 : k0_cond2 i v5 v9 = 1#1), ∀ a, (k0_off12 v26) a + S1x256x1024.size a ≤ S32x256x1024.size a := fun i v5 v9 v26 k0_hw3 k0_h2 => k0_hw3.2 k0_h2

def k0_off13 (v24 : BitVec 32) : Fin 3 → Nat :=
  let v45 : Index := Scalar.indexCast v24
  let c0_20 : Index := 0#32
  let c0_21 : Index := 0#32
  ![v45.toNat, 0, 0]
def k0_off14 (v24 : BitVec 32) : Fin 3 → Nat :=
  let v59 : Index := Scalar.indexCast v24
  let c0_28 : Index := 0#32
  let c0_29 : Index := 0#32
  ![v59.toNat, 0, 0]

def k0_chk2 (i : grid0.Coords) (v5 : BitVec 32) (v9 : BitVec 32) (v24 : BitVec 32) : Prop :=
  (∀ (k0_h2 : k0_cond2 i v5 v9 = 1#1), ∀ a, (k0_off6 v24) a + S1.size a ≤ S2.size a) ∧
  (∀ (k0_h2 : k0_cond2 i v5 v9 = 1#1), ∀ a, (k0_off7 v24) a + S1x1024x256.size a ≤ S2x1024x256.size a) ∧
  (∀ (k0_h2 : k0_cond2 i v5 v9 = 1#1), ∀ a, (k0_off9 v24) a + S1.size a ≤ S2.size a) ∧
  (∀ (k0_h2 : k0_cond2 i v5 v9 = 1#1), ∀ a, (k0_off10 v24) a + S1x1024x256.size a ≤ S2x1024x256.size a) ∧
  (∀ (k0_h2 : k0_cond2 i v5 v9 = 1#1), ∀ a, (k0_off11 v24) a + S1x256x1024.size a ≤ S2x256x1024.size a) ∧
  (∀ (k0_h2 : k0_cond2 i v5 v9 = 1#1), ∀ a, (k0_off13 v24) a + S1x1024x256.size a ≤ S2x1024x256.size a) ∧
  (∀ (k0_h2 : k0_cond2 i v5 v9 = 1#1), ∀ a, (k0_off14 v24) a + S1x256x1024.size a ≤ S2x256x1024.size a)
theorem k0_off6_inb : ∀ (i : grid0.Coords) (v5 : BitVec 32) (v9 : BitVec 32) (v24 : BitVec 32) (k0_hw2 : k0_chk2 i v5 v9 v24), ∀ (k0_h2 : k0_cond2 i v5 v9 = 1#1), ∀ a, (k0_off6 v24) a + S1.size a ≤ S2.size a := fun i v5 v9 v24 k0_hw2 k0_h2 => k0_hw2.1 k0_h2
theorem k0_off7_inb : ∀ (i : grid0.Coords) (v5 : BitVec 32) (v9 : BitVec 32) (v24 : BitVec 32) (k0_hw2 : k0_chk2 i v5 v9 v24), ∀ (k0_h2 : k0_cond2 i v5 v9 = 1#1), ∀ a, (k0_off7 v24) a + S1x1024x256.size a ≤ S2x1024x256.size a := fun i v5 v9 v24 k0_hw2 k0_h2 => k0_hw2.2.1 k0_h2
theorem k0_off9_inb : ∀ (i : grid0.Coords) (v5 : BitVec 32) (v9 : BitVec 32) (v24 : BitVec 32) (k0_hw2 : k0_chk2 i v5 v9 v24), ∀ (k0_h2 : k0_cond2 i v5 v9 = 1#1), ∀ a, (k0_off9 v24) a + S1.size a ≤ S2.size a := fun i v5 v9 v24 k0_hw2 k0_h2 => k0_hw2.2.2.1 k0_h2
theorem k0_off10_inb : ∀ (i : grid0.Coords) (v5 : BitVec 32) (v9 : BitVec 32) (v24 : BitVec 32) (k0_hw2 : k0_chk2 i v5 v9 v24), ∀ (k0_h2 : k0_cond2 i v5 v9 = 1#1), ∀ a, (k0_off10 v24) a + S1x1024x256.size a ≤ S2x1024x256.size a := fun i v5 v9 v24 k0_hw2 k0_h2 => k0_hw2.2.2.2.1 k0_h2
theorem k0_off11_inb : ∀ (i : grid0.Coords) (v5 : BitVec 32) (v9 : BitVec 32) (v24 : BitVec 32) (k0_hw2 : k0_chk2 i v5 v9 v24), ∀ (k0_h2 : k0_cond2 i v5 v9 = 1#1), ∀ a, (k0_off11 v24) a + S1x256x1024.size a ≤ S2x256x1024.size a := fun i v5 v9 v24 k0_hw2 k0_h2 => k0_hw2.2.2.2.2.1 k0_h2
theorem k0_off13_inb : ∀ (i : grid0.Coords) (v5 : BitVec 32) (v9 : BitVec 32) (v24 : BitVec 32) (k0_hw2 : k0_chk2 i v5 v9 v24), ∀ (k0_h2 : k0_cond2 i v5 v9 = 1#1), ∀ a, (k0_off13 v24) a + S1x1024x256.size a ≤ S2x1024x256.size a := fun i v5 v9 v24 k0_hw2 k0_h2 => k0_hw2.2.2.2.2.2.1 k0_h2
theorem k0_off14_inb : ∀ (i : grid0.Coords) (v5 : BitVec 32) (v9 : BitVec 32) (v24 : BitVec 32) (k0_hw2 : k0_chk2 i v5 v9 v24), ∀ (k0_h2 : k0_cond2 i v5 v9 = 1#1), ∀ a, (k0_off14 v24) a + S1x256x1024.size a ≤ S2x256x1024.size a := fun i v5 v9 v24 k0_hw2 k0_h2 => k0_hw2.2.2.2.2.2.2 k0_h2

def k0_off15 (i : grid0.Coords) : Fin 1 → Nat :=
  let arg0 : BitVec 32 := BitVec.ofNat 32 (i 0).val
  let v68 : Index := Scalar.indexCast arg0
  ![v68.toNat]
def k0_off16 (i : grid0.Coords) : Fin 1 → Nat :=
  let arg0 : BitVec 32 := BitVec.ofNat 32 (i 0).val
  let v73 : Index := Scalar.indexCast arg0
  ![v73.toNat]
def k0_off17 (v24 : BitVec 32) : Fin 1 → Nat :=
  let c1_i32_36 : BitVec 32 := 1#32
  let v75 : BitVec 32 := Scalar.subi c1_i32_36 v24
  ![v75.toNat]
def k0_cond3 (v69 : BitVec 32) : BitVec 1 :=
  let c0_i32_34 : BitVec 32 := 0#32
  let v70 : BitVec 1 := Scalar.cmpi .sge v69 c0_i32_34
  let v71 : BitVec 32 := Scalar.extui v70
  let c0_i32_35 : BitVec 32 := 0#32
  let v72 : BitVec 1 := Scalar.cmpi .ne v71 c0_i32_35
  v72

def k0_off18 (v24 : BitVec 32) : Fin 3 → Nat :=
  let c1_i32_36 : BitVec 32 := 1#32
  let v75 : BitVec 32 := Scalar.subi c1_i32_36 v24
  let c0_i32_37 : BitVec 32 := 0#32
  let c0_i32_38 : BitVec 32 := 0#32
  ![v75.toNat, 0, 0]
def k0_off19 (v74 : BitVec 32) : Fin 3 → Nat :=
  let c0_i32_39 : BitVec 32 := 0#32
  let c0_i32_40 : BitVec 32 := 0#32
  ![v74.toNat, 0, 0]

def k0_off20 (v24 : BitVec 32) : Fin 1 → Nat :=
  let c1_i32_36 : BitVec 32 := 1#32
  let v75 : BitVec 32 := Scalar.subi c1_i32_36 v24
  ![v75.toNat]
def k0_off21 (v24 : BitVec 32) : Fin 3 → Nat :=
  let c1_i32_36 : BitVec 32 := 1#32
  let v75 : BitVec 32 := Scalar.subi c1_i32_36 v24
  let c0_i32_41 : BitVec 32 := 0#32
  let c0_i32_42 : BitVec 32 := 0#32
  ![v75.toNat, 0, 0]
def k0_off22 (v24 : BitVec 32) : Fin 3 → Nat :=
  let c1_i32_36 : BitVec 32 := 1#32
  let v75 : BitVec 32 := Scalar.subi c1_i32_36 v24
  let c0_i32_45 : BitVec 32 := 0#32
  let c0_i32_46 : BitVec 32 := 0#32
  ![v75.toNat, 0, 0]

def k0_chk4 (i : grid0.Coords) (v5 : BitVec 32) (v9 : BitVec 32) (v24 : BitVec 32) (v69 : BitVec 32) : Prop :=
  (∀ (k0_h2 : k0_cond2 i v5 v9 = 1#1), ∀ (k0_h3 : k0_cond3 v69 = 1#1), ∀ a, (k0_off17 v24) a + S1.size a ≤ S2.size a) ∧
  (∀ (k0_h2 : k0_cond2 i v5 v9 = 1#1), ∀ (k0_h3 : k0_cond3 v69 = 1#1), ∀ a, (k0_off18 v24) a + S1x1024x256.size a ≤ S2x1024x256.size a) ∧
  (∀ (k0_h2 : k0_cond2 i v5 v9 = 1#1), ∀ (k0_h3 : k0_cond3 v69 = 1#1), ∀ a, (k0_off20 v24) a + S1.size a ≤ S2.size a) ∧
  (∀ (k0_h2 : k0_cond2 i v5 v9 = 1#1), ∀ (k0_h3 : k0_cond3 v69 = 1#1), ∀ a, (k0_off21 v24) a + S1x1024x256.size a ≤ S2x1024x256.size a) ∧
  (∀ (k0_h2 : k0_cond2 i v5 v9 = 1#1), ∀ (k0_h3 : k0_cond3 v69 = 1#1), ∀ a, (k0_off22 v24) a + S1x256x1024.size a ≤ S2x256x1024.size a)
theorem k0_off17_inb : ∀ (i : grid0.Coords) (v5 : BitVec 32) (v9 : BitVec 32) (v24 : BitVec 32) (v69 : BitVec 32) (k0_hw4 : k0_chk4 i v5 v9 v24 v69), ∀ (k0_h2 : k0_cond2 i v5 v9 = 1#1), ∀ (k0_h3 : k0_cond3 v69 = 1#1), ∀ a, (k0_off17 v24) a + S1.size a ≤ S2.size a := fun i v5 v9 v24 v69 k0_hw4 k0_h2 k0_h3 => k0_hw4.1 k0_h2 k0_h3
theorem k0_off18_inb : ∀ (i : grid0.Coords) (v5 : BitVec 32) (v9 : BitVec 32) (v24 : BitVec 32) (v69 : BitVec 32) (k0_hw4 : k0_chk4 i v5 v9 v24 v69), ∀ (k0_h2 : k0_cond2 i v5 v9 = 1#1), ∀ (k0_h3 : k0_cond3 v69 = 1#1), ∀ a, (k0_off18 v24) a + S1x1024x256.size a ≤ S2x1024x256.size a := fun i v5 v9 v24 v69 k0_hw4 k0_h2 k0_h3 => k0_hw4.2.1 k0_h2 k0_h3
theorem k0_off20_inb : ∀ (i : grid0.Coords) (v5 : BitVec 32) (v9 : BitVec 32) (v24 : BitVec 32) (v69 : BitVec 32) (k0_hw4 : k0_chk4 i v5 v9 v24 v69), ∀ (k0_h2 : k0_cond2 i v5 v9 = 1#1), ∀ (k0_h3 : k0_cond3 v69 = 1#1), ∀ a, (k0_off20 v24) a + S1.size a ≤ S2.size a := fun i v5 v9 v24 v69 k0_hw4 k0_h2 k0_h3 => k0_hw4.2.2.1 k0_h2 k0_h3
theorem k0_off21_inb : ∀ (i : grid0.Coords) (v5 : BitVec 32) (v9 : BitVec 32) (v24 : BitVec 32) (v69 : BitVec 32) (k0_hw4 : k0_chk4 i v5 v9 v24 v69), ∀ (k0_h2 : k0_cond2 i v5 v9 = 1#1), ∀ (k0_h3 : k0_cond3 v69 = 1#1), ∀ a, (k0_off21 v24) a + S1x1024x256.size a ≤ S2x1024x256.size a := fun i v5 v9 v24 v69 k0_hw4 k0_h2 k0_h3 => k0_hw4.2.2.2.1 k0_h2 k0_h3
theorem k0_off22_inb : ∀ (i : grid0.Coords) (v5 : BitVec 32) (v9 : BitVec 32) (v24 : BitVec 32) (v69 : BitVec 32) (k0_hw4 : k0_chk4 i v5 v9 v24 v69), ∀ (k0_h2 : k0_cond2 i v5 v9 = 1#1), ∀ (k0_h3 : k0_cond3 v69 = 1#1), ∀ a, (k0_off22 v24) a + S1x256x1024.size a ≤ S2x256x1024.size a := fun i v5 v9 v24 v69 k0_hw4 k0_h2 k0_h3 => k0_hw4.2.2.2.2 k0_h2 k0_h3

def k0_off23 (v74 : BitVec 32) : Fin 3 → Nat :=
  let c0_i32_47 : BitVec 32 := 0#32
  let c0_i32_48 : BitVec 32 := 0#32
  ![v74.toNat, 0, 0]

def k0_chk5 (i : grid0.Coords) (v5 : BitVec 32) (v9 : BitVec 32) (v69 : BitVec 32) (v74 : BitVec 32) : Prop :=
  (∀ (k0_h2 : k0_cond2 i v5 v9 = 1#1), ∀ (k0_h3 : k0_cond3 v69 = 1#1), ∀ a, (k0_off19 v74) a + S1x1024x256.size a ≤ S32x1024x256.size a) ∧
  (∀ (k0_h2 : k0_cond2 i v5 v9 = 1#1), ∀ (k0_h3 : k0_cond3 v69 = 1#1), ∀ a, (k0_off23 v74) a + S1x256x1024.size a ≤ S32x256x1024.size a)
theorem k0_off19_inb : ∀ (i : grid0.Coords) (v5 : BitVec 32) (v9 : BitVec 32) (v69 : BitVec 32) (v74 : BitVec 32) (k0_hw5 : k0_chk5 i v5 v9 v69 v74), ∀ (k0_h2 : k0_cond2 i v5 v9 = 1#1), ∀ (k0_h3 : k0_cond3 v69 = 1#1), ∀ a, (k0_off19 v74) a + S1x1024x256.size a ≤ S32x1024x256.size a := fun i v5 v9 v69 v74 k0_hw5 k0_h2 k0_h3 => k0_hw5.1 k0_h2 k0_h3
theorem k0_off23_inb : ∀ (i : grid0.Coords) (v5 : BitVec 32) (v9 : BitVec 32) (v69 : BitVec 32) (v74 : BitVec 32) (k0_hw5 : k0_chk5 i v5 v9 v69 v74), ∀ (k0_h2 : k0_cond2 i v5 v9 = 1#1), ∀ (k0_h3 : k0_cond3 v69 = 1#1), ∀ a, (k0_off23 v74) a + S1x256x1024.size a ≤ S32x256x1024.size a := fun i v5 v9 v69 v74 k0_hw5 k0_h2 k0_h3 => k0_hw5.2 k0_h2 k0_h3

def k0_off24 (i : grid0.Coords) : Fin 1 → Nat :=
  let arg0 : BitVec 32 := BitVec.ofNat 32 (i 0).val
  let v14 : Index := Scalar.indexCast arg0
  ![v14.toNat]
def k0_off25 (i : grid0.Coords) : Fin 1 → Nat :=
  let arg0 : BitVec 32 := BitVec.ofNat 32 (i 0).val
  let v19 : Index := Scalar.indexCast arg0
  ![v19.toNat]
def k0_cond4 (v15 : BitVec 32) : BitVec 1 :=
  let c0_i32_4 : BitVec 32 := 0#32
  let v16 : BitVec 1 := Scalar.cmpi .sgt v15 c0_i32_4
  let v17 : BitVec 32 := Scalar.extui v16
  let c0_i32_5 : BitVec 32 := 0#32
  let v18 : BitVec 1 := Scalar.cmpi .ne v17 c0_i32_5
  v18

def k0_cond5 (v20 : BitVec 32) : BitVec 1 :=
  let c0_i32_6 : BitVec 32 := 0#32
  let v21 : BitVec 1 := Scalar.cmpi .eq v20 c0_i32_6
  let v22 : BitVec 32 := Scalar.extui v21
  let c0_i32_7 : BitVec 32 := 0#32
  let v23 : BitVec 1 := Scalar.cmpi .ne v22 c0_i32_7
  v23

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S96 : Shape := ⟨1, ![96]⟩
abbrev S49152x512 : Shape := ⟨2, ![49152, 512]⟩
abbrev S32x1024x256 : Shape := ⟨3, ![32, 1024, 256]⟩
abbrev S32x256x1024 : Shape := ⟨3, ![32, 256, 1024]⟩
abbrev S49152x512x2 : Shape := ⟨3, ![49152, 512, 2]⟩
abbrev S49152x512x1 : Shape := ⟨3, ![49152, 512, 1]⟩
abbrev S49152x1024 : Shape := ⟨2, ![49152, 1024]⟩
abbrev S96x512x1024 : Shape := ⟨3, ![96, 512, 1024]⟩
abbrev S_ : Shape := ⟨0, ![]⟩
abbrev S96x1 : Shape := ⟨2, ![96, 1]⟩
abbrev S96x1024x256 : Shape := ⟨3, ![96, 1024, 256]⟩
abbrev S96x256x1024 : Shape := ⟨3, ![96, 256, 1024]⟩
abbrev S1x512x1024 : Shape := ⟨3, ![1, 512, 1024]⟩
abbrev S512x1024 : Shape := ⟨2, ![512, 1024]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩
abbrev S96x1x1 : Shape := ⟨3, ![96, 1, 1]⟩

abbrev nBuf : Space → Nat
  | .hbm => 59
  | .vmem => 5
  | .smem => 0
  | _ => 0

abbrev bufTy : (tb : Table) → Fin (tcTables nBuf tb) → BufTy
  | .hbm, ⟨0, _⟩ => ⟨S96, .i32⟩
  | .hbm, ⟨1, _⟩ => ⟨S96, .i32⟩
  | .hbm, ⟨2, _⟩ => ⟨S49152x512, .i32⟩
  | .hbm, ⟨3, _⟩ => ⟨S32x1024x256, .f32⟩
  | .hbm, ⟨4, _⟩ => ⟨S32x1024x256, .f32⟩
  | .hbm, ⟨5, _⟩ => ⟨S32x256x1024, .f32⟩
  | .hbm, ⟨6, _⟩ => ⟨S49152x512x2, .bf16⟩
  | .hbm, ⟨7, _⟩ => ⟨S49152x512x1, .bf16⟩
  | .hbm, ⟨8, _⟩ => ⟨S49152x512, .bf16⟩
  | .hbm, ⟨9, _⟩ => ⟨S49152x512x1, .bf16⟩
  | .hbm, ⟨10, _⟩ => ⟨S49152x512, .bf16⟩
  | .hbm, ⟨11, _⟩ => ⟨S49152x1024, .bf16⟩
  | .hbm, ⟨12, _⟩ => ⟨S49152x1024, .f32⟩
  | .hbm, ⟨13, _⟩ => ⟨S96x512x1024, .f32⟩
  | .hbm, ⟨14, _⟩ => ⟨S_, .i32⟩
  | .hbm, ⟨15, _⟩ => ⟨S96, .i32⟩
  | .hbm, ⟨16, _⟩ => ⟨S96, .i1⟩
  | .hbm, ⟨17, _⟩ => ⟨S_, .i32⟩
  | .hbm, ⟨18, _⟩ => ⟨S96, .i32⟩
  | .hbm, ⟨19, _⟩ => ⟨S96, .i32⟩
  | .hbm, ⟨20, _⟩ => ⟨S96, .i32⟩
  | .hbm, ⟨21, _⟩ => ⟨S96x1, .i32⟩
  | .hbm, ⟨22, _⟩ => ⟨S96x1024x256, .f32⟩
  | .hbm, ⟨23, _⟩ => ⟨S_, .i32⟩
  | .hbm, ⟨24, _⟩ => ⟨S96, .i32⟩
  | .hbm, ⟨25, _⟩ => ⟨S96, .i1⟩
  | .hbm, ⟨26, _⟩ => ⟨S_, .i32⟩
  | .hbm, ⟨27, _⟩ => ⟨S96, .i32⟩
  | .hbm, ⟨28, _⟩ => ⟨S96, .i32⟩
  | .hbm, ⟨29, _⟩ => ⟨S96, .i32⟩
  | .hbm, ⟨30, _⟩ => ⟨S96x1, .i32⟩
  | .hbm, ⟨31, _⟩ => ⟨S96x1024x256, .f32⟩
  | .hbm, ⟨32, _⟩ => ⟨S_, .i32⟩
  | .hbm, ⟨33, _⟩ => ⟨S96, .i32⟩
  | .hbm, ⟨34, _⟩ => ⟨S96, .i1⟩
  | .hbm, ⟨35, _⟩ => ⟨S_, .i32⟩
  | .hbm, ⟨36, _⟩ => ⟨S96, .i32⟩
  | .hbm, ⟨37, _⟩ => ⟨S96, .i32⟩
  | .hbm, ⟨38, _⟩ => ⟨S96, .i32⟩
  | .hbm, ⟨39, _⟩ => ⟨S96x1, .i32⟩
  | .hbm, ⟨40, _⟩ => ⟨S96x256x1024, .f32⟩
  | .hbm, ⟨41, _⟩ => ⟨S96x512x1024, .f32⟩
  | .hbm, ⟨42, _⟩ => ⟨S96x1x1, .i32⟩
  | .hbm, ⟨43, _⟩ => ⟨S_, .i32⟩
  | .hbm, ⟨44, _⟩ => ⟨S96x1x1, .i32⟩
  | .hbm, ⟨45, _⟩ => ⟨S96x1x1, .i1⟩
  | .hbm, ⟨46, _⟩ => ⟨S_, .f32⟩
  | .hbm, ⟨47, _⟩ => ⟨S_, .f32⟩
  | .hbm, ⟨48, _⟩ => ⟨S96x512x1024, .i1⟩
  | .hbm, ⟨49, _⟩ => ⟨S96x512x1024, .f32⟩
  | .hbm, ⟨50, _⟩ => ⟨S96x512x1024, .f32⟩
  | .hbm, ⟨51, _⟩ => ⟨S96x512x1024, .bf16⟩
  | .hbm, ⟨52, _⟩ => ⟨S49152x1024, .bf16⟩
  | .hbm, ⟨53, _⟩ => ⟨S49152x512, .bf16⟩
  | .hbm, ⟨54, _⟩ => ⟨S49152x512, .bf16⟩
  | .hbm, ⟨55, _⟩ => ⟨S49152x512x1, .bf16⟩
  | .hbm, ⟨56, _⟩ => ⟨S49152x512x1, .bf16⟩
  | .hbm, ⟨57, _⟩ => ⟨S49152x512x2, .bf16⟩
  | .hbm, ⟨58, _⟩ => ⟨S49152x512, .i32⟩
  | .local _ .vmem, ⟨0, _⟩ => ⟨S96x512x1024, .f32⟩
  | .local _ .vmem, ⟨1, _⟩ => ⟨S96x1024x256, .f32⟩
  | .local _ .vmem, ⟨2, _⟩ => ⟨S96x1024x256, .f32⟩
  | .local _ .vmem, ⟨3, _⟩ => ⟨S96x256x1024, .f32⟩
  | .local _ .vmem, ⟨4, _⟩ => ⟨S96x512x1024, .f32⟩
  | _, _ => ⟨S96, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_3 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_5 : Ref sig .tc := ⟨.hbm, 43, rfl⟩
abbrev main_v31 : Ref sig .tc := ⟨.hbm, 44, rfl⟩
abbrev main_v32 : Ref sig .tc := ⟨.hbm, 45, rfl⟩
abbrev main_cst : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [BitOps F]

abbrev grid0 : Pipeline.Grid := .none

@[reducible] def k0_t1_loop : Scf.Loop 32 :=
  let c0_i32 : BitVec 32 := 0#32
  let c96_i32 : BitVec 32 := 96#32
  let v0 : BitVec 32 := Scalar.addi c0_i32 c96_i32
  let c1_i32 : BitVec 32 := 1#32
  ⟨c0_i32, v0, c1_i32⟩
def k0_off1 (k0_t1 : Fin k0_t1_loop.trips) : Fin 3 → Nat :=
  let c0_i32 : BitVec 32 := 0#32
  let c1_i32 : BitVec 32 := 1#32
  let arg5 : BitVec 32 := Scf.iv c0_i32 c1_i32 k0_t1
  let v1 : Index := Scalar.indexCast arg5
  let c0 : Index := 0#32
  let c0_1 : Index := 0#32
  ![v1.toNat, 0, 0]
def k0_off2 (k0_t1 : Fin k0_t1_loop.trips) : Fin 3 → Nat :=
  let c0_i32 : BitVec 32 := 0#32
  let c1_i32 : BitVec 32 := 1#32
  let arg5 : BitVec 32 := Scf.iv c0_i32 c1_i32 k0_t1
  let v5 : Index := Scalar.indexCast arg5
  let c0_2 : Index := 0#32
  let c0_3 : Index := 0#32
  ![v5.toNat, 0, 0]
def k0_off3 (k0_t1 : Fin k0_t1_loop.trips) : Fin 3 → Nat :=
  let c0_i32 : BitVec 32 := 0#32
  let c1_i32 : BitVec 32 := 1#32
  let arg5 : BitVec 32 := Scf.iv c0_i32 c1_i32 k0_t1
  let v25 : Index := Scalar.indexCast arg5
  let c0_10 : Index := 0#32
  let c0_11 : Index := 0#32
  ![v25.toNat, 0, 0]
abbrev stage0_0 : Fin 1 → Memref sig .tc .vmem S96x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S96x512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Combine.lean ====
abbrev S32768 : Shape := ⟨1, ![32768]⟩
abbrev S16384x1024 : Shape := ⟨2, ![16384, 1024]⟩
abbrev S2x16384 : Shape := ⟨2, ![2, 16384]⟩
abbrev S49152x512 : Shape := ⟨2, ![49152, 512]⟩
abbrev S1x16384 : Shape := ⟨2, ![1, 16384]⟩
abbrev S16384 : Shape := ⟨1, ![16384]⟩
abbrev S16384x1 : Shape := ⟨2, ![16384, 1]⟩
abbrev S16384x128 : Shape := ⟨2, ![16384, 128]⟩
abbrev S1024x1024 : Shape := ⟨2, ![1024, 1024]⟩
abbrev S1024x128 : Shape := ⟨2, ![1024, 128]⟩
abbrev S2x2x1024x512 : Shape := ⟨4, ![2, 2, 1024, 512]⟩
abbrev S2 : Shape := ⟨1, ![2]⟩
abbrev S1 : Shape := ⟨1, ![1]⟩
abbrev S_ : Shape := ⟨0, ![]⟩
abbrev S1x1x1024x512 : Shape := ⟨4, ![1, 1, 1024, 512]⟩
abbrev S1024x512 : Shape := ⟨2, ![1024, 512]⟩
abbrev S1x512 : Shape := ⟨2, ![1, 512]⟩

abbrev nBuf : Space → Nat
  | .hbm => 12
  | .vmem => 9
  | .smem => 1
  | _ => 0

abbrev bufTy : (tb : Table) → Fin (tcTables nBuf tb) → BufTy
  | .hbm, ⟨0, _⟩ => ⟨S16384x1024, .f32⟩
  | .hbm, ⟨1, _⟩ => ⟨S2x16384, .f32⟩
  | .hbm, ⟨2, _⟩ => ⟨S49152x512, .i32⟩
  | .hbm, ⟨3, _⟩ => ⟨S1x16384, .f32⟩
  | .hbm, ⟨4, _⟩ => ⟨S16384, .f32⟩
  | .hbm, ⟨5, _⟩ => ⟨S16384x1, .f32⟩
  | .hbm, ⟨6, _⟩ => ⟨S16384x128, .f32⟩
  | .hbm, ⟨7, _⟩ => ⟨S1x16384, .f32⟩
  | .hbm, ⟨8, _⟩ => ⟨S16384, .f32⟩
  | .hbm, ⟨9, _⟩ => ⟨S16384x1, .f32⟩
  | .hbm, ⟨10, _⟩ => ⟨S16384x128, .f32⟩
  | .hbm, ⟨11, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x1024, .f32⟩
  | .local _ .vmem, ⟨7, _⟩ => ⟨S1024x1024, .f32⟩
  | .local _ .vmem, ⟨8, _⟩ => ⟨S2x2x1024x512, .i32⟩
  | .local _ .smem, ⟨0, _⟩ => ⟨S32768, .i32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32_3 : BitVec 32 := 0#32
  let v10 : BitVec 1 := Scalar.cmpi .eq arg0 c0_i32_3
  let v11 : BitVec 32 := Scalar.extui v10
  let c0_i32_4 : BitVec 32 := 0#32
  let v12 : BitVec 1 := Scalar.cmpi .ne v11 c0_i32_4
  v12

@[reducible] def k0_t1_loop : Scf.Loop 32 :=
  let c0_i32_22 : BitVec 32 := 0#32
  let c1024_i32_23 : BitVec 32 := 1024#32
  let v42 : BitVec 32 := Scalar.addi c0_i32_22 c1024_i32_23
  let c1_i32_24 : BitVec 32 := 1#32
  ⟨c0_i32_22, v42, c1_i32_24⟩
def k0_off1 (k0_t1 : Fin k0_t1_loop.trips) : Fin 1 → Nat :=
  let c0_i32_26 : BitVec 32 := 0#32
  let c0_i32_22 : BitVec 32 := 0#32
  let c1_i32_24 : BitVec 32 := 1#32
  let arg9 : BitVec 32 := Scf.iv c0_i32_22 c1_i32_24 k0_t1
  let v43 : BitVec 32 := Scalar.addi c0_i32_26 arg9
  let v44 : Index := Scalar.indexCast v43
  ![v44.toNat]
def k0_off2 (k0_t1 : Fin k0_t1_loop.trips) : Fin 2 → Nat :=
  let c0_i32_22 : BitVec 32 := 0#32
  let c1_i32_24 : BitVec 32 := 1#32
  let arg9 : BitVec 32 := Scf.iv c0_i32_22 c1_i32_24 k0_t1
  let c0_i32_32 : BitVec 32 := 0#32
  ![arg9.toNat, 0]
def k0_off3 (v45 : BitVec 32) : Fin 2 → Nat :=
  let c0_i32_33 : BitVec 32 := 0#32
  ![v45.toNat, 0]

def k0_chk1 (i : grid0.Coords) (v45 : BitVec 32) : Prop :=
  (∀ (k0_h1 : k0_cond1 i = 1#1), ∀ a, (k0_off3 v45) a + S1x512.size a ≤ S49152x512.size a)
theorem k0_off3_inb : ∀ (i : grid0.Coords) (v45 : BitVec 32) (k0_hw1 : k0_chk1 i v45), ∀ (k0_h1 : k0_cond1 i = 1#1), ∀ a, (k0_off3 v45) a + S1x512.size a ≤ S49152x512.size a := fun i v45 k0_hw1 k0_h1 => k0_hw1 k0_h1

def k0_off4 (k0_t1 : Fin k0_t1_loop.trips) : Fin 1 → Nat :=
  let c16384_i32 : BitVec 32 := 16384#32
  let c0_i32_22 : BitVec 32 := 0#32
  let c1_i32_24 : BitVec 32 := 1#32
  let arg9 : BitVec 32 := Scf.iv c0_i32_22 c1_i32_24 k0_t1
  let v52 : BitVec 32 := Scalar.addi c16384_i32 arg9
  let v53 : Index := Scalar.indexCast v52
  ![v53.toNat]
def k0_off5 (k0_t1 : Fin k0_t1_loop.trips) : Fin 2 → Nat :=
  let c0_i32_22 : BitVec 32 := 0#32
  let c1_i32_24 : BitVec 32 := 1#32
  let arg9 : BitVec 32 := Scf.iv c0_i32_22 c1_i32_24 k0_t1
  let c0_i32_39 : BitVec 32 := 0#32
  ![arg9.toNat, 0]
def k0_off6 (v54 : BitVec 32) : Fin 2 → Nat :=
  let c0_i32_40 : BitVec 32 := 0#32
  ![v54.toNat, 0]

def k0_chk2 (i : grid0.Coords) (v54 : BitVec 32) : Prop :=
  (∀ (k0_h1 : k0_cond1 i = 1#1), ∀ a, (k0_off6 v54) a + S1x512.size a ≤ S49152x512.size a)
theorem k0_off6_inb : ∀ (i : grid0.Coords) (v54 : BitVec 32) (k0_hw2 : k0_chk2 i v54), ∀ (k0_h1 : k0_cond1 i = 1#1), ∀ a, (k0_off6 v54) a + S1x512.size a ≤ S49152x512.size a := fun i v54 k0_hw2 k0_h1 => k0_hw2 k0_h1

def k0_cond2 (i : grid0.Coords) : BitVec 1 :=
  let arg0 : BitVec 32 := BitVec.ofNat 32 (i 0).val
  let c1_i32_5 : BitVec 32 := 1#32
  let v13 : BitVec 32 := Scalar.addi arg0 c1_i32_5
  let c16_i32 : BitVec 32 := 16#32
  let v14 : BitVec 1 := Scalar.cmpi .slt v13 c16_i32
  let v15 : BitVec 32 := Scalar.extui v14
  let c0_i32_6 : BitVec 32 := 0#32
  let v16 : BitVec 1 := Scalar.cmpi .ne v15 c0_i32_6
  v16

@[reducible] def k0_t2_loop : Scf.Loop 32 :=
  let c0_i32_24 : BitVec 32 := 0#32
  let c1024_i32_25 : BitVec 32 := 1024#32
  let v44 : BitVec 32 := Scalar.addi c0_i32_24 c1024_i32_25
  let c1_i32_26 : BitVec 32 := 1#32
  ⟨c0_i32_24, v44, c1_i32_26⟩
def k0_off7 (i : grid0.Coords) (k0_t2 : Fin k0_t2_loop.trips) : Fin 1 → Nat :=
  let c0_i32_29 : BitVec 32 := 0#32
  let arg0 : BitVec 32 := BitVec.ofNat 32 (i 0).val
  let c1_i32_22 : BitVec 32 := 1#32
  let v42 : BitVec 32 := Scalar.addi arg0 c1_i32_22
  let c1024_i32_28 : BitVec 32 := 1024#32
  let v45 : BitVec 32 := Scalar.muli v42 c1024_i32_28
  let v46 : BitVec 32 := Scalar.addi c0_i32_29 v45
  let c0_i32_24 : BitVec 32 := 0#32
  let c1_i32_26 : BitVec 32 := 1#32
  let arg9 : BitVec 32 := Scf.iv c0_i32_24 c1_i32_26 k0_t2
  let v47 : BitVec 32 := Scalar.addi v46 arg9
  let v48 : Index := Scalar.indexCast v47
  ![v48.toNat]
def k0_off8 (i : grid0.Coords) : Fin 1 → Nat :=
  let c1_i32_23 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v43 : BitVec 32 := Scalar.subi c1_i32_23 v9
  ![v43.toNat]
def k0_off9 (i : grid0.Coords) : Fin 4 → Nat :=
  let c1_i32_23 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v43 : BitVec 32 := Scalar.subi c1_i32_23 v9
  let c0_i32_30 : BitVec 32 := 0#32
  let c0_i32_31 : BitVec 32 := 0#32
  let c0_i32_32 : BitVec 32 := 0#32
  ![v43.toNat, 0, 0, 0]
def k0_off10 (k0_t2 : Fin k0_t2_loop.trips) : Fin 2 → Nat :=
  let c0_i32_24 : BitVec 32 := 0#32
  let c1_i32_26 : BitVec 32 := 1#32
  let arg9 : BitVec 32 := Scf.iv c0_i32_24 c1_i32_26 k0_t2
  let c0_i32_33 : BitVec 32 := 0#32
  ![arg9.toNat, 0]
def k0_off11 (v49 : BitVec 32) : Fin 2 → Nat :=
  let c0_i32_34 : BitVec 32 := 0#32
  ![v49.toNat, 0]

def k0_chk3 (i : grid0.Coords) (v49 : BitVec 32) : Prop :=
  (∀ (k0_h2 : k0_cond2 i = 1#1), ∀ a, (k0_off11 v49) a + S1x512.size a ≤ S49152x512.size a)
theorem k0_off11_inb : ∀ (i : grid0.Coords) (v49 : BitVec 32) (k0_hw3 : k0_chk3 i v49), ∀ (k0_h2 : k0_cond2 i = 1#1), ∀ a, (k0_off11 v49) a + S1x512.size a ≤ S49152x512.size a := fun i v49 k0_hw3 k0_h2 => k0_hw3 k0_h2

def k0_off12 (i : grid0.Coords) (k0_t2 : Fin k0_t2_loop.trips) : Fin 1 → Nat :=
  let c16384_i32 : BitVec 32 := 16384#32
  let arg0 : BitVec 32 := BitVec.ofNat 32 (i 0).val
  let c1_i32_22 : BitVec 32 := 1#32
  let v42 : BitVec 32 := Scalar.addi arg0 c1_i32_22
  let c1024_i32_35 : BitVec 32 := 1024#32
  let v56 : BitVec 32 := Scalar.muli v42 c1024_i32_35
  let v57 : BitVec 32 := Scalar.addi c16384_i32 v56
  let c0_i32_24 : BitVec 32 := 0#32
  let c1_i32_26 : BitVec 32 := 1#32
  let arg9 : BitVec 32 := Scf.iv c0_i32_24 c1_i32_26 k0_t2
  let v58 : BitVec 32 := Scalar.addi v57 arg9
  let v59 : Index := Scalar.indexCast v58
  ![v59.toNat]
def k0_off13 (i : grid0.Coords) : Fin 1 → Nat :=
  let c1_i32_23 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v43 : BitVec 32 := Scalar.subi c1_i32_23 v9
  ![v43.toNat]
def k0_off14 (i : grid0.Coords) : Fin 4 → Nat :=
  let c1_i32_23 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v43 : BitVec 32 := Scalar.subi c1_i32_23 v9
  let c1_i32_36 : BitVec 32 := 1#32
  let c0_i32_37 : BitVec 32 := 0#32
  let c0_i32_38 : BitVec 32 := 0#32
  ![v43.toNat, 1, 0, 0]
def k0_off15 (k0_t2 : Fin k0_t2_loop.trips) : Fin 2 → Nat :=
  let c0_i32_24 : BitVec 32 := 0#32
  let c1_i32_26 : BitVec 32 := 1#32
  let arg9 : BitVec 32 := Scf.iv c0_i32_24 c1_i32_26 k0_t2
  let c0_i32_39 : BitVec 32 := 0#32
  ![arg9.toNat, 0]
def k0_off16 (v60 : BitVec 32) : Fin 2 → Nat :=
  let c0_i32_40 : BitVec 32 := 0#32
  ![v60.toNat, 0]

def k0_chk4 (i : grid0.Coords) (v60 : BitVec 32) : Prop :=
  (∀ (k0_h2 : k0_cond2 i = 1#1), ∀ a, (k0_off16 v60) a + S1x512.size a ≤ S49152x512.size a)
theorem k0_off16_inb : ∀ (i : grid0.Coords) (v60 : BitVec 32) (k0_hw4 : k0_chk4 i v60), ∀ (k0_h2 : k0_cond2 i = 1#1), ∀ a, (k0_off16 v60) a + S1x512.size a ≤ S49152x512.size a := fun i v60 k0_hw4 k0_h2 => k0_hw4 k0_h2

@[reducible] def k0_t3_loop : Scf.Loop 32 :=
  let c0_i32_7 : BitVec 32 := 0#32
  let c1024_i32 : BitVec 32 := 1024#32
  let v17 : BitVec 32 := Scalar.addi c0_i32_7 c1024_i32
  let c1_i32_8 : BitVec 32 := 1#32
  ⟨c0_i32_7, v17, c1_i32_8⟩
def k0_off17 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off18 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_22 : BitVec 32 := 0#32
  let c0_i32_23 : BitVec 32 := 0#32
  let c0_i32_24 : BitVec 32 := 0#32
  ![v9.toNat, 0, 0, 0]
def k0_off19 (k0_t3 : Fin k0_t3_loop.trips) : Fin 2 → Nat :=
  let c0_i32_7 : BitVec 32 := 0#32
  let c1_i32_8 : BitVec 32 := 1#32
  let arg9 : BitVec 32 := Scf.iv c0_i32_7 c1_i32_8 k0_t3
  let c0_i32_25 : BitVec 32 := 0#32
  ![arg9.toNat, 0]
def k0_off20 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_28 : BitVec 32 := 1#32
  let c0_i32_29 : BitVec 32 := 0#32
  let c0_i32_30 : BitVec 32 := 0#32
  ![v9.toNat, 1, 0, 0]
def k0_off21 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v22 : Index := Scalar.indexCast v9
  let c0_13 : Index := 0#32
  let c0_14 : Index := 0#32
  let c0_15 : Index := 0#32
  ![v22.toNat, 0, 0, 0]
def k0_off22 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v33 : Index := Scalar.indexCast v9
  let c1 : Index := 1#32
  let c0_18 : Index := 0#32
  let c0_19 : Index := 0#32
  ![v33.toNat, 1, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CombineReference.lean ====
abbrev S32768 : Shape := ⟨1, ![32768]⟩
abbrev S16384x1024 : Shape := ⟨2, ![16384, 1024]⟩
abbrev S2x16384 : Shape := ⟨2, ![2, 16384]⟩
abbrev S49152x512 : Shape := ⟨2, ![49152, 512]⟩
abbrev S49152x512x2 : Shape := ⟨3, ![49152, 512, 2]⟩
abbrev S49152x512x1 : Shape := ⟨3, ![49152, 512, 1]⟩
abbrev S49152x1024 : Shape := ⟨2, ![49152, 1024]⟩
abbrev S1x16384 : Shape := ⟨2, ![1, 16384]⟩
abbrev S16384 : Shape := ⟨1, ![16384]⟩
abbrev S16384x1 : Shape := ⟨2, ![16384, 1]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S32768, .i32⟩
  | .hbm, ⟨1, _⟩ => ⟨S16384x1024, .f32⟩
  | .hbm, ⟨2, _⟩ => ⟨S2x16384, .f32⟩
  | .hbm, ⟨3, _⟩ => ⟨S49152x512, .i32⟩
  | .hbm, ⟨4, _⟩ => ⟨S49152x512x2, .bf16⟩
  | .hbm, ⟨5, _⟩ => ⟨S49152x512x1, .bf16⟩
  | .hbm, ⟨6, _⟩ => ⟨S49152x512, .bf16⟩
  | .hbm, ⟨7, _⟩ => ⟨S49152x512x1, .bf16⟩
  | .hbm, ⟨8, _⟩ => ⟨S49152x512, .bf16⟩
  | .hbm, ⟨9, _⟩ => ⟨S49152x1024, .bf16⟩
  | .hbm, ⟨10, _⟩ => ⟨S49152x1024, .f32⟩
  | .hbm, ⟨11, _⟩ => ⟨S2x16384, .i32⟩
  | .hbm, ⟨12, _⟩ => ⟨S1x16384, .i32⟩
  | .hbm, ⟨13, _⟩ => ⟨S16384, .i32⟩
  | .hbm, ⟨14, _⟩ => ⟨S1x16384, .i32⟩
  | .hbm, ⟨15, _⟩ => ⟨S16384, .i32⟩
  | .hbm, ⟨16, _⟩ => ⟨S1x16384, .f32⟩
  | .hbm, ⟨17, _⟩ => ⟨S16384, .f32⟩
  | .hbm, ⟨18, _⟩ => ⟨S16384x1, .f32⟩
  | .hbm, ⟨19, _⟩ => ⟨S_, .i32⟩
  | .hbm, ⟨20, _⟩ => ⟨S16384, .i32⟩
  | .hbm, ⟨21, _⟩ => ⟨S16384, .i1⟩
  | .hbm, ⟨22, _⟩ => ⟨S_, .i32⟩
  | .hbm, ⟨23, _⟩ => ⟨S16384, .i32⟩
  | .hbm, ⟨24, _⟩ => ⟨S16384, .i32⟩
  | .hbm, ⟨25, _⟩ => ⟨S16384, .i32⟩
  | .hbm, ⟨26, _⟩ => ⟨S16384x1, .i32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S1x16384, .f32⟩
  | .hbm, ⟨32, _⟩ => ⟨S16384, .f32⟩
  | .hbm, ⟨33, _⟩ => ⟨S16384x1, .f32⟩
  | .hbm, ⟨34, _⟩ => ⟨S_, .i32⟩
  | .hbm, ⟨35, _⟩ => ⟨S16384, .i32⟩
  | .hbm, ⟨36, _⟩ => ⟨S16384, .i1⟩
  | .hbm, ⟨37, _⟩ => ⟨S_, .i32⟩
  | .hbm, ⟨38, _⟩ => ⟨S16384, .i32⟩
  | .hbm, ⟨39, _⟩ => ⟨S16384, .i32⟩
  | .hbm, ⟨40, _⟩ => ⟨S16384, .i32⟩
  | .hbm, ⟨41, _⟩ => ⟨S16384x1, .i32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | _, _ => ⟨S32768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c : Ref sig .tc := ⟨.hbm, 19, rfl⟩
abbrev main_v15 : Ref sig .tc := ⟨.hbm, 20, rfl⟩
abbrev main_v16 : Ref sig .tc := ⟨.hbm, 21, rfl⟩
abbrev main_c_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_c_1 : Ref sig .tc := ⟨.hbm, 34, rfl⟩
abbrev main_v28 : Ref sig .tc := ⟨.hbm, 35, rfl⟩
abbrev main_v29 : Ref sig .tc := ⟨.hbm, 36, rfl⟩
abbrev main_c_2 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩

abbrev nD : Nat := 1
abbrev τ : Topo := Topo.v7x

variable {F : FTy → Type} [FloatOps F]
-- ==== Dispatch.lean ====
abbrev S32768 : Shape := ⟨1, ![32768]⟩
abbrev S16384x512 : Shape := ⟨2, ![16384, 512]⟩
abbrev S49152x512 : Shape := ⟨2, ![49152, 512]⟩
abbrev S1024x512 : Shape := ⟨2, ![1024, 512]⟩
abbrev S_ : Shape := ⟨0, ![]⟩
abbrev S1 : Shape := ⟨1, ![1]⟩
abbrev S1x512 : Shape := ⟨2, ![1, 512]⟩

abbrev nBuf : Space → Nat
  | .hbm => 3
  | .vmem => 2
  | .smem => 1
  | _ => 0

abbrev bufTy : (tb : Table) → Fin (tcTables nBuf tb) → BufTy
  | .hbm, ⟨0, _⟩ => ⟨S16384x512, .i32⟩
  | .hbm, ⟨1, _⟩ => ⟨S49152x512, .i32⟩
  | .hbm, ⟨2, _⟩ => ⟨S49152x512, .i32⟩
  | .local _ .vmem, ⟨0, _⟩ => ⟨S1024x512, .i32⟩
  | .local _ .vmem, ⟨1, _⟩ => ⟨S1024x512, .i32⟩
  | .local _ .smem, ⟨0, _⟩ => ⟨S32768, .i32⟩
  | _, _ => ⟨S16384x512, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c1024_i32_0 : BitVec 32 := 1024#32
  let v1 : BitVec 32 := Scalar.addi c0_i32 c1024_i32_0
  let c1_i32 : BitVec 32 := 1#32
  ⟨c0_i32, v1, c1_i32⟩
def k0_off1 (i : grid0.Coords) (k0_t1 : Fin k0_t1_loop.trips) : Fin 1 → Nat :=
  let c0_i32_6 : BitVec 32 := 0#32
  let arg0 : BitVec 32 := BitVec.ofNat 32 (i 0).val
  let c1024_i32 : BitVec 32 := 1024#32
  let v0 : BitVec 32 := Scalar.muli arg0 c1024_i32
  let v3 : BitVec 32 := Scalar.addi c0_i32_6 v0
  let c0_i32 : BitVec 32 := 0#32
  let c1_i32 : BitVec 32 := 1#32
  let arg6 : BitVec 32 := Scf.iv c0_i32 c1_i32 k0_t1
  let v4 : BitVec 32 := Scalar.addi v3 arg6
  let v5 : Index := Scalar.indexCast v4
  ![v5.toNat]
def k0_off2 (v6 : BitVec 32) : Fin 2 → Nat :=
  let c0_i32_7 : BitVec 32 := 0#32
  ![v6.toNat, 0]

def k0_chk1 (v6 : BitVec 32) : Prop :=
  (∀ a, (k0_off2 v6) a + S1x512.size a ≤ S49152x512.size a)
theorem k0_off2_inb : ∀ (v6 : BitVec 32) (k0_hw1 : k0_chk1 v6), ∀ a, (k0_off2 v6) a + S1x512.size a ≤ S49152x512.size a := fun v6 k0_hw1 => k0_hw1

def k0_off3 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_8 : BitVec 32 := 0#32
  ![arg6.toNat, 0]
def k0_off4 (i : grid0.Coords) (k0_t1 : Fin k0_t1_loop.trips) : Fin 1 → Nat :=
  let c16384_i32 : BitVec 32 := 16384#32
  let arg0 : BitVec 32 := BitVec.ofNat 32 (i 0).val
  let c1024_i32 : BitVec 32 := 1024#32
  let v0 : BitVec 32 := Scalar.muli arg0 c1024_i32
  let v9 : BitVec 32 := Scalar.addi c16384_i32 v0
  let c0_i32 : BitVec 32 := 0#32
  let c1_i32 : BitVec 32 := 1#32
  let arg6 : BitVec 32 := Scf.iv c0_i32 c1_i32 k0_t1
  let v10 : BitVec 32 := Scalar.addi v9 arg6
  let v11 : Index := Scalar.indexCast v10
  ![v11.toNat]
def k0_off5 (v12 : BitVec 32) : Fin 2 → Nat :=
  let c0_i32_9 : BitVec 32 := 0#32
  ![v12.toNat, 0]

def k0_chk2 (v12 : BitVec 32) : Prop :=
  (∀ a, (k0_off5 v12) a + S1x512.size a ≤ S49152x512.size a)
theorem k0_off5_inb : ∀ (v12 : BitVec 32) (k0_hw2 : k0_chk2 v12), ∀ a, (k0_off5 v12) a + S1x512.size a ≤ S49152x512.size a := fun v12 k0_hw2 => k0_hw2

def k0_off6 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_10 : BitVec 32 := 0#32
  ![arg6.toNat, 0]
@[reducible] def k0_t2_loop : Scf.Loop 32 :=
  let c0_i32_2 : BitVec 32 := 0#32
  let c1024_i32_3 : BitVec 32 := 1024#32
  let v2 : BitVec 32 := Scalar.addi c0_i32_2 c1024_i32_3
  let c1_i32_4 : BitVec 32 := 1#32
  ⟨c0_i32_2, v2, c1_i32_4⟩
def k0_off7 (k0_t2 : Fin k0_t2_loop.trips) : Fin 2 → Nat :=
  let c0_i32_2 : BitVec 32 := 0#32
  let c1_i32_4 : BitVec 32 := 1#32
  let arg6 : BitVec 32 := Scf.iv c0_i32_2 c1_i32_4 k0_t2
  let c0_i32_8 : BitVec 32 := 0#32
  ![arg6.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== DispatchReference.lean ====
abbrev S32768 : Shape := ⟨1, ![32768]⟩
abbrev S16384x512 : Shape := ⟨2, ![16384, 512]⟩
abbrev S49152x512 : Shape := ⟨2, ![49152, 512]⟩
abbrev S32768x512 : Shape := ⟨2, ![32768, 512]⟩
abbrev S_ : Shape := ⟨0, ![]⟩
abbrev S32768x1 : Shape := ⟨2, ![32768, 1]⟩

abbrev nBuf : Space → Nat
  | .hbm => 13
  | .vmem => 0
  | .smem => 0
  | _ => 0

abbrev bufTy : (tb : Table) → Fin (tcTables nBuf tb) → BufTy
  | .hbm, ⟨0, _⟩ => ⟨S32768, .i32⟩
  | .hbm, ⟨1, _⟩ => ⟨S16384x512, .i32⟩
  | .hbm, ⟨2, _⟩ => ⟨S49152x512, .i32⟩
  | .hbm, ⟨3, _⟩ => ⟨S32768x512, .i32⟩
  | .hbm, ⟨4, _⟩ => ⟨S_, .i32⟩
  | .hbm, ⟨5, _⟩ => ⟨S32768, .i32⟩
  | .hbm, ⟨6, _⟩ => ⟨S32768, .i1⟩
  | .hbm, ⟨7, _⟩ => ⟨S_, .i32⟩
  | .hbm, ⟨8, _⟩ => ⟨S32768, .i32⟩
  | .hbm, ⟨9, _⟩ => ⟨S32768, .i32⟩
  | .hbm, ⟨10, _⟩ => ⟨S32768, .i32⟩
  | .hbm, ⟨11, _⟩ => ⟨S32768x1, .i32⟩
  | .hbm, ⟨12, _⟩ => ⟨S49152x512, .i32⟩
  | _, _ => ⟨S32768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Proj.lean ====
abbrev S2x8192x1024 : Shape := ⟨3, ![2, 8192, 1024]⟩
abbrev S1024 : Shape := ⟨1, ![1024]⟩
abbrev S1024x4104 : Shape := ⟨2, ![1024, 4104]⟩
abbrev S8 : Shape := ⟨1, ![8]⟩
abbrev S64 : Shape := ⟨1, ![64]⟩
abbrev S16384x1024 : Shape := ⟨2, ![16384, 1024]⟩
abbrev S1024x1536 : Shape := ⟨2, ![1024, 1536]⟩
abbrev S1024x512 : Shape := ⟨2, ![1024, 512]⟩
abbrev S1024x2048 : Shape := ⟨2, ![1024, 2048]⟩
abbrev S1024x8 : Shape := ⟨2, ![1024, 8]⟩
abbrev S1024x8x16 : Shape := ⟨3, ![1024, 8, 16]⟩
abbrev S1024x128 : Shape := ⟨2, ![1024, 128]⟩
abbrev S8x16 : Shape := ⟨2, ![8, 16]⟩
abbrev S128 : Shape := ⟨1, ![128]⟩
abbrev S1x128 : Shape := ⟨2, ![1, 128]⟩
abbrev S1x64 : Shape := ⟨2, ![1, 64]⟩
abbrev S8x64 : Shape := ⟨2, ![8, 64]⟩
abbrev S512 : Shape := ⟨1, ![512]⟩
abbrev S_ : Shape := ⟨0, ![]⟩
abbrev S1x512 : Shape := ⟨2, ![1, 512]⟩
abbrev S512x1 : Shape := ⟨2, ![512, 1]⟩
abbrev S512x512 : Shape := ⟨2, ![512, 512]⟩
abbrev S1x1024 : Shape := ⟨2, ![1, 1024]⟩
abbrev S8x1024 : Shape := ⟨2, ![8, 1024]⟩
abbrev S2048 : Shape := ⟨1, ![2048]⟩
abbrev S1x2048 : Shape := ⟨2, ![1, 2048]⟩
abbrev S128x1 : Shape := ⟨2, ![128, 1]⟩
abbrev S128x2048 : Shape := ⟨2, ![128, 2048]⟩
abbrev S16384x512 : Shape := ⟨2, ![16384, 512]⟩
abbrev S32x8x128 : Shape := ⟨3, ![32, 8, 128]⟩
abbrev S512x1024 : Shape := ⟨2, ![512, 1024]⟩
abbrev S1x8x128 : Shape := ⟨3, ![1, 8, 128]⟩
abbrev S8x128 : Shape := ⟨2, ![8, 128]⟩
abbrev S512x2048 : Shape := ⟨2, ![512, 2048]⟩
abbrev S512x128 : Shape := ⟨2, ![512, 128]⟩
abbrev S512x384 : Shape := ⟨2, ![512, 384]⟩

abbrev nBuf : Space → Nat
  | .hbm => 218
  | .vmem => 24
  | .smem => 0
  | _ => 0

abbrev hbmTy0_0 (i : Nat) : BufTy := match i % 128 with
  | 0 => ⟨S2x8192x1024, .f32⟩
  | 1 => ⟨S1024, .f32⟩
  | 2 => ⟨S1024x4104, .f32⟩
  | 3 => ⟨S8, .f32⟩
  | 4 => ⟨S64, .f32⟩
  | 5 => ⟨S64, .f32⟩
  | 6 => ⟨S16384x1024, .f32⟩
  | 7 => ⟨S1024x1536, .f32⟩
  | 8 => ⟨S1024x512, .f32⟩
  | 9 => ⟨S1024x2048, .f32⟩
  | 10 => ⟨S1024x2048, .bf16⟩
  | 11 => ⟨S1024x8, .f32⟩
  | 12 => ⟨S1024x8x16, .f32⟩
  | 13 => ⟨S1024x128, .f32⟩
  | 14 => ⟨S1024x128, .bf16⟩
  | 15 => ⟨S8x16, .f32⟩
  | 16 => ⟨S128, .f32⟩
  | 17 => ⟨S1x128, .f32⟩
  | 18 => ⟨S1x64, .f32⟩
  | 19 => ⟨S8x64, .f32⟩
  | 20 => ⟨S512, .f32⟩
  | 21 => ⟨S_, .f32⟩
  | 22 => ⟨S512, .f32⟩
  | 23 => ⟨S512, .f32⟩
  | 24 => ⟨S1x512, .f32⟩
  | 25 => ⟨S1x64, .f32⟩
  | 26 => ⟨S8x64, .f32⟩
  | 27 => ⟨S512, .f32⟩
  | 28 => ⟨S1x512, .f32⟩
  | 29 => ⟨S512, .i32⟩
  | 30 => ⟨S_, .i32⟩
  | 31 => ⟨S_, .i32⟩
  | 32 => ⟨S512, .i32⟩
  | 33 => ⟨S512, .i32⟩
  | 34 => ⟨S512, .i32⟩
  | 35 => ⟨S_, .i32⟩
  | 36 => ⟨S512, .i32⟩
  | 37 => ⟨S512, .i1⟩
  | 38 => ⟨S512, .i32⟩
  | 39 => ⟨S512, .i32⟩
  | 40 => ⟨S_, .i32⟩
  | 41 => ⟨S512, .i32⟩
  | 42 => ⟨S512, .i1⟩
  | 43 => ⟨S512, .i1⟩
  | 44 => ⟨S_, .i32⟩
  | 45 => ⟨S512, .i32⟩
  | 46 => ⟨S512, .i32⟩
  | 47 => ⟨S512, .i32⟩
  | 48 => ⟨S512x1, .i32⟩
  | 49 => ⟨S1x512, .i32⟩
  | 50 => ⟨S512x512, .i32⟩
  | 51 => ⟨S512x512, .i32⟩
  | 52 => ⟨S512x512, .i1⟩
  | 53 => ⟨S_, .f32⟩
  | 54 => ⟨S_, .f32⟩
  | 55 => ⟨S512x512, .f32⟩
  | 56 => ⟨S512x512, .f32⟩
  | 57 => ⟨S512x512, .f32⟩
  | 58 => ⟨S512x512, .bf16⟩
  | 59 => ⟨S64, .f32⟩
  | 60 => ⟨S_, .f32⟩
  | 61 => ⟨S_, .f32⟩
  | 62 => ⟨S_, .f32⟩
  | 63 => ⟨S_, .f32⟩
  | 64 => ⟨S64, .f32⟩
  | 65 => ⟨S_, .f32⟩
  | 66 => ⟨S_, .f32⟩
  | 67 => ⟨S_, .f32⟩
  | 68 => ⟨S1x128, .f32⟩
  | 69 => ⟨S1024, .i32⟩
  | 70 => ⟨S_, .i32⟩
  | 71 => ⟨S_, .i32⟩
  | 72 => ⟨S_, .i32⟩
  | 73 => ⟨S_, .i1⟩
  | 74 => ⟨S_, .i32⟩
  | 75 => ⟨S_, .i32⟩
  | 76 => ⟨S1024, .i32⟩
  | 77 => ⟨S1024, .i32⟩
  | 78 => ⟨S_, .i32⟩
  | 79 => ⟨S1024, .i32⟩
  | 80 => ⟨S1024, .i1⟩
  | 81 => ⟨S_, .i32⟩
  | 82 => ⟨S1024, .i32⟩
  | 83 => ⟨S1024, .i1⟩
  | 84 => ⟨S_, .i32⟩
  | 85 => ⟨S_, .i1⟩
  | 86 => ⟨S1024, .i1⟩
  | 87 => ⟨S1024, .i1⟩
  | 88 => ⟨S1024, .i1⟩
  | 89 => ⟨S1024, .i32⟩
  | 90 => ⟨S1024, .i32⟩
  | 91 => ⟨S1024, .i32⟩
  | 92 => ⟨S_, .i32⟩
  | 93 => ⟨S1024, .i32⟩
  | 94 => ⟨S1024, .i1⟩
  | 95 => ⟨S_, .i32⟩
  | 96 => ⟨S1024, .i32⟩
  | 97 => ⟨S1024, .i1⟩
  | 98 => ⟨S1024, .i1⟩
  | 99 => ⟨S_, .i32⟩
  | 100 => ⟨S1024, .i32⟩
  | 101 => ⟨S1024, .i1⟩
  | 102 => ⟨S_, .i32⟩
  | 103 => ⟨S1024, .i32⟩
  | 104 => ⟨S1024, .i1⟩
  | 105 => ⟨S1024, .i1⟩
  | 106 => ⟨S_, .i32⟩
  | 107 => ⟨S1024, .i32⟩
  | 108 => ⟨S1024, .i1⟩
  | 109 => ⟨S_, .i1⟩
  | 110 => ⟨S1024, .i1⟩
  | 111 => ⟨S1x1024, .i1⟩
  | 112 => ⟨S1x1024, .i1⟩
  | 113 => ⟨S1x1024, .i1⟩
  | 114 => ⟨S1x1024, .i1⟩
  | 115 => ⟨S1x1024, .i1⟩
  | 116 => ⟨S1x1024, .i1⟩
  | 117 => ⟨S1x1024, .i1⟩
  | 118 => ⟨S1x1024, .i1⟩
  | 119 => ⟨S8x1024, .i1⟩
  | 120 => ⟨S8x1024, .f32⟩
  | 121 => ⟨S128, .i32⟩
  | 122 => ⟨S_, .i32⟩
  | 123 => ⟨S_, .i32⟩
  | 124 => ⟨S128, .i32⟩
  | 125 => ⟨S128, .i32⟩
  | 126 => ⟨S128, .i32⟩
  | 127 => ⟨S_, .i32⟩
  | _ => ⟨S2x8192x1024, .f32⟩

abbrev hbmTy0_1 (i : Nat) : BufTy := match i % 128 with
  | 0 => ⟨S128, .i32⟩
  | 1 => ⟨S128, .i1⟩
  | 2 => ⟨S128, .i32⟩
  | 3 => ⟨S128, .i32⟩
  | 4 => ⟨S_, .i32⟩
  | 5 => ⟨S128, .i32⟩
  | 6 => ⟨S128, .i1⟩
  | 7 => ⟨S128, .i1⟩
  | 8 => ⟨S_, .i32⟩
  | 9 => ⟨S128, .i32⟩
  | 10 => ⟨S128, .i32⟩
  | 11 => ⟨S128, .i32⟩
  | 12 => ⟨S_, .i32⟩
  | 13 => ⟨S_, .i32⟩
  | 14 => ⟨S_, .i32⟩
  | 15 => ⟨S_, .i1⟩
  | 16 => ⟨S_, .i32⟩
  | 17 => ⟨S_, .i32⟩
  | 18 => ⟨S128, .i32⟩
  | 19 => ⟨S128, .i32⟩
  | 20 => ⟨S_, .i32⟩
  | 21 => ⟨S128, .i32⟩
  | 22 => ⟨S128, .i1⟩
  | 23 => ⟨S_, .i32⟩
  | 24 => ⟨S128, .i32⟩
  | 25 => ⟨S128, .i1⟩
  | 26 => ⟨S_, .i32⟩
  | 27 => ⟨S_, .i1⟩
  | 28 => ⟨S128, .i1⟩
  | 29 => ⟨S128, .i1⟩
  | 30 => ⟨S128, .i1⟩
  | 31 => ⟨S128, .i32⟩
  | 32 => ⟨S128, .i32⟩
  | 33 => ⟨S128, .i32⟩
  | 34 => ⟨S_, .i32⟩
  | 35 => ⟨S128, .i32⟩
  | 36 => ⟨S128, .i1⟩
  | 37 => ⟨S_, .i32⟩
  | 38 => ⟨S128, .i32⟩
  | 39 => ⟨S128, .i32⟩
  | 40 => ⟨S_, .i32⟩
  | 41 => ⟨S128, .i32⟩
  | 42 => ⟨S128, .i32⟩
  | 43 => ⟨S128, .i32⟩
  | 44 => ⟨S_, .i32⟩
  | 45 => ⟨S128, .i32⟩
  | 46 => ⟨S128, .i32⟩
  | 47 => ⟨S_, .i32⟩
  | 48 => ⟨S128, .i32⟩
  | 49 => ⟨S128, .i32⟩
  | 50 => ⟨S_, .i32⟩
  | 51 => ⟨S128, .i32⟩
  | 52 => ⟨S128, .i32⟩
  | 53 => ⟨S128, .i32⟩
  | 54 => ⟨S_, .i32⟩
  | 55 => ⟨S128, .i32⟩
  | 56 => ⟨S128, .i32⟩
  | 57 => ⟨S128, .i32⟩
  | 58 => ⟨S2048, .i32⟩
  | 59 => ⟨S1x2048, .i32⟩
  | 60 => ⟨S128x1, .i32⟩
  | 61 => ⟨S128x2048, .i32⟩
  | 62 => ⟨S128x2048, .i32⟩
  | 63 => ⟨S128x2048, .i1⟩
  | 64 => ⟨S_, .i32⟩
  | 65 => ⟨S128, .i32⟩
  | 66 => ⟨S128, .i1⟩
  | 67 => ⟨S128x1, .i1⟩
  | 68 => ⟨S128x2048, .i1⟩
  | 69 => ⟨S128x2048, .i1⟩
  | 70 => ⟨S128x2048, .bf16⟩
  | 71 => ⟨S1x1024, .f32⟩
  | 72 => ⟨S512, .i32⟩
  | 73 => ⟨S512x1, .i32⟩
  | 74 => ⟨S512, .i32⟩
  | 75 => ⟨S1x512, .i32⟩
  | 76 => ⟨S512x512, .i32⟩
  | 77 => ⟨S512x512, .i32⟩
  | 78 => ⟨S512x512, .i1⟩
  | 79 => ⟨S_, .f32⟩
  | 80 => ⟨S_, .f32⟩
  | 81 => ⟨S512x512, .f32⟩
  | 82 => ⟨S512x512, .f32⟩
  | 83 => ⟨S512x512, .f32⟩
  | 84 => ⟨S512x512, .bf16⟩
  | 85 => ⟨S16384x1024, .bf16⟩
  | 86 => ⟨S16384x1024, .bf16⟩
  | 87 => ⟨S16384x1024, .bf16⟩
  | 88 => ⟨S16384x512, .f32⟩
  | 89 => ⟨S32x8x128, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1024x128, .bf16⟩
  | .local _ .vmem, ⟨5, _⟩ => ⟨S1x128, .f32⟩
  | .local _ .vmem, ⟨6, _⟩ => ⟨S1x512, .f32⟩
  | .local _ .vmem, ⟨7, _⟩ => ⟨S1x512, .f32⟩
  | .local _ .vmem, ⟨8, _⟩ => ⟨S512x512, .bf16⟩
  | .local _ .vmem, ⟨9, _⟩ => ⟨S512x512, .bf16⟩
  | .local _ .vmem, ⟨10, _⟩ => ⟨S128x2048, .bf16⟩
  | .local _ .vmem, ⟨11, _⟩ => ⟨S8x1024, .f32⟩
  | .local _ .vmem, ⟨12, _⟩ => ⟨S1x128, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x512, .f32⟩
  | .local _ .vmem, ⟨20, _⟩ => ⟨S512x512, .f32⟩
  | .local _ .vmem, ⟨21, _⟩ => ⟨S1x8x128, .f32⟩
  | .local _ .vmem, ⟨22, _⟩ => ⟨S1x8x128, .f32⟩
  | .local _ .vmem, ⟨23, _⟩ => ⟨S8x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_c : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_0 : Ref sig .tc := ⟨.hbm, 44, rfl⟩
abbrev main_call0_v12 : Ref sig .tc := ⟨.hbm, 45, rfl⟩
abbrev main_call0_v13 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_0 : Ref sig .tc := ⟨.hbm, 53, rfl⟩
abbrev main_cst_1 : Ref sig .tc := ⟨.hbm, 54, rfl⟩
abbrev main_call1_v0 : Ref sig .tc := ⟨.hbm, 55, rfl⟩
abbrev main_call1_v1 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_2 : Ref sig .tc := ⟨.hbm, 60, rfl⟩
abbrev main_v32 : Ref sig .tc := ⟨.hbm, 61, rfl⟩
abbrev main_cst_3 : Ref sig .tc := ⟨.hbm, 62, rfl⟩
abbrev main_v33 : Ref sig .tc := ⟨.hbm, 63, rfl⟩
abbrev main_v34 : Ref sig .tc := ⟨.hbm, 64, rfl⟩
abbrev main_cst_4 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_c_5 : Ref sig .tc := ⟨.hbm, 70, rfl⟩
abbrev main_call2_v0 : Ref sig .tc := ⟨.hbm, 71, rfl⟩
abbrev main_call2_c : Ref sig .tc := ⟨.hbm, 72, rfl⟩
abbrev main_call2_v1 : Ref sig .tc := ⟨.hbm, 73, rfl⟩
abbrev main_call2_c_0 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_c_1 : Ref sig .tc := ⟨.hbm, 78, rfl⟩
abbrev main_call2_v5 : Ref sig .tc := ⟨.hbm, 79, rfl⟩
abbrev main_call2_v6 : Ref sig .tc := ⟨.hbm, 80, rfl⟩
abbrev main_call2_c_2 : Ref sig .tc := ⟨.hbm, 81, rfl⟩
abbrev main_call2_v7 : Ref sig .tc := ⟨.hbm, 82, rfl⟩
abbrev main_call2_v8 : Ref sig .tc := ⟨.hbm, 83, rfl⟩
abbrev main_call2_c_3 : Ref sig .tc := ⟨.hbm, 84, rfl⟩
abbrev main_call2_v9 : Ref sig .tc := ⟨.hbm, 85, rfl⟩
abbrev main_call2_v10 : Ref sig .tc := ⟨.hbm, 86, rfl⟩
abbrev main_call2_v11 : Ref sig .tc := ⟨.hbm, 87, rfl⟩
abbrev main_call2_v12 : Ref sig .tc := ⟨.hbm, 88, rfl⟩
abbrev main_call2_v13 : Ref sig .tc := ⟨.hbm, 89, rfl⟩
abbrev main_call2_v14 : Ref sig .tc := ⟨.hbm, 90, rfl⟩
abbrev main_v39 : Ref sig .tc := ⟨.hbm, 91, rfl⟩
abbrev main_c_6 : Ref sig .tc := ⟨.hbm, 92, rfl⟩
abbrev main_v40 : Ref sig .tc := ⟨.hbm, 93, rfl⟩
abbrev main_v41 : Ref sig .tc := ⟨.hbm, 94, rfl⟩
abbrev main_c_7 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_c_8 : Ref sig .tc := ⟨.hbm, 99, rfl⟩
abbrev main_v45 : Ref sig .tc := ⟨.hbm, 100, rfl⟩
abbrev main_v46 : Ref sig .tc := ⟨.hbm, 101, rfl⟩
abbrev main_c_9 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_c_10 : Ref sig .tc := ⟨.hbm, 106, rfl⟩
abbrev main_v50 : Ref sig .tc := ⟨.hbm, 107, rfl⟩
abbrev main_v51 : Ref sig .tc := ⟨.hbm, 108, rfl⟩
abbrev main_c_11 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_c_12 : Ref sig .tc := ⟨.hbm, 122, rfl⟩
abbrev main_call3_v0 : Ref sig .tc := ⟨.hbm, 123, rfl⟩
abbrev main_call3_v1 : Ref sig .tc := ⟨.hbm, 124, rfl⟩
abbrev main_call3_v2 : Ref sig .tc := ⟨.hbm, 125, rfl⟩
abbrev main_call3_v3 : Ref sig .tc := ⟨.hbm, 126, rfl⟩
abbrev main_call3_v4 : Ref sig .tc := ⟨.hbm, 127, rfl⟩
abbrev main_call3_v5 : Ref sig .tc := ⟨.hbm, 128, rfl⟩
abbrev main_call3_v6 : Ref sig .tc := ⟨.hbm, 129, rfl⟩
abbrev main_call3_v7 : Ref sig .tc := ⟨.hbm, 130, rfl⟩
abbrev main_call3_v8 : Ref sig .tc := ⟨.hbm, 131, rfl⟩
abbrev main_call3_c : Ref sig .tc := ⟨.hbm, 132, rfl⟩
abbrev main_call3_v9 : Ref sig .tc := ⟨.hbm, 133, rfl⟩
abbrev main_call3_v10 : Ref sig .tc := ⟨.hbm, 134, rfl⟩
abbrev main_call3_v11 : Ref sig .tc := ⟨.hbm, 135, rfl⟩
abbrev main_call3_c_0 : Ref sig .tc := ⟨.hbm, 136, rfl⟩
abbrev main_call3_v12 : Ref sig .tc := ⟨.hbm, 137, rfl⟩
abbrev main_call3_v13 : Ref sig .tc := ⟨.hbm, 138, rfl⟩
abbrev main_v64 : Ref sig .tc := ⟨.hbm, 139, rfl⟩
abbrev main_c_13 : Ref sig .tc := ⟨.hbm, 140, rfl⟩
abbrev main_call4_v0 : Ref sig .tc := ⟨.hbm, 141, rfl⟩
abbrev main_call4_c : Ref sig .tc := ⟨.hbm, 142, rfl⟩
abbrev main_call4_v1 : Ref sig .tc := ⟨.hbm, 143, rfl⟩
abbrev main_call4_c_0 : Ref sig .tc := ⟨.hbm, 144, rfl⟩
abbrev main_call4_v2 : Ref sig .tc := ⟨.hbm, 145, rfl⟩
abbrev main_call4_v3 : Ref sig .tc := ⟨.hbm, 146, rfl⟩
abbrev main_call4_v4 : Ref sig .tc := ⟨.hbm, 147, rfl⟩
abbrev main_call4_c_1 : Ref sig .tc := ⟨.hbm, 148, rfl⟩
abbrev main_call4_v5 : Ref sig .tc := ⟨.hbm, 149, rfl⟩
abbrev main_call4_v6 : Ref sig .tc := ⟨.hbm, 150, rfl⟩
abbrev main_call4_c_2 : Ref sig .tc := ⟨.hbm, 151, rfl⟩
abbrev main_call4_v7 : Ref sig .tc := ⟨.hbm, 152, rfl⟩
abbrev main_call4_v8 : Ref sig .tc := ⟨.hbm, 153, rfl⟩
abbrev main_call4_c_3 : Ref sig .tc := ⟨.hbm, 154, rfl⟩
abbrev main_call4_v9 : Ref sig .tc := ⟨.hbm, 155, rfl⟩
abbrev main_call4_v10 : Ref sig .tc := ⟨.hbm, 156, rfl⟩
abbrev main_call4_v11 : Ref sig .tc := ⟨.hbm, 157, rfl⟩
abbrev main_call4_v12 : Ref sig .tc := ⟨.hbm, 158, rfl⟩
abbrev main_call4_v13 : Ref sig .tc := ⟨.hbm, 159, rfl⟩
abbrev main_call4_v14 : Ref sig .tc := ⟨.hbm, 160, rfl⟩
abbrev main_v65 : Ref sig .tc := ⟨.hbm, 161, rfl⟩
abbrev main_c_14 : Ref sig .tc := ⟨.hbm, 162, rfl⟩
abbrev main_v66 : Ref sig .tc := ⟨.hbm, 163, rfl⟩
abbrev main_v67 : Ref sig .tc := ⟨.hbm, 164, rfl⟩
abbrev main_c_15 : Ref sig .tc := ⟨.hbm, 165, rfl⟩
abbrev main_v68 : Ref sig .tc := ⟨.hbm, 166, rfl⟩
abbrev main_v69 : Ref sig .tc := ⟨.hbm, 167, rfl⟩
abbrev main_c_16 : Ref sig .tc := ⟨.hbm, 168, rfl⟩
abbrev main_v70 : Ref sig .tc := ⟨.hbm, 169, rfl⟩
abbrev main_v71 : Ref sig .tc := ⟨.hbm, 170, rfl⟩
abbrev main_v72 : Ref sig .tc := ⟨.hbm, 171, rfl⟩
abbrev main_c_17 : Ref sig .tc := ⟨.hbm, 172, rfl⟩
abbrev main_v73 : Ref sig .tc := ⟨.hbm, 173, rfl⟩
abbrev main_v74 : Ref sig .tc := ⟨.hbm, 174, rfl⟩
abbrev main_c_18 : Ref sig .tc := ⟨.hbm, 175, rfl⟩
abbrev main_v75 : Ref sig .tc := ⟨.hbm, 176, rfl⟩
abbrev main_v76 : Ref sig .tc := ⟨.hbm, 177, rfl⟩
abbrev main_c_19 : Ref sig .tc := ⟨.hbm, 178, rfl⟩
abbrev main_v77 : Ref sig .tc := ⟨.hbm, 179, rfl⟩
abbrev main_v78 : Ref sig .tc := ⟨.hbm, 180, rfl⟩
abbrev main_v79 : Ref sig .tc := ⟨.hbm, 181, rfl⟩
abbrev main_c_20 : Ref sig .tc := ⟨.hbm, 182, rfl⟩
abbrev main_v80 : Ref sig .tc := ⟨.hbm, 183, rfl⟩
abbrev main_v81 : Ref sig .tc := ⟨.hbm, 184, rfl⟩
abbrev main_v82 : Ref sig .tc := ⟨.hbm, 185, rfl⟩
abbrev main_v83 : Ref sig .tc := ⟨.hbm, 186, rfl⟩
abbrev main_v84 : Ref sig .tc := ⟨.hbm, 187, rfl⟩
abbrev main_v85 : Ref sig .tc := ⟨.hbm, 188, rfl⟩
abbrev main_v86 : Ref sig .tc := ⟨.hbm, 189, rfl⟩
abbrev main_v87 : Ref sig .tc := ⟨.hbm, 190, rfl⟩
abbrev main_v88 : Ref sig .tc := ⟨.hbm, 191, rfl⟩
abbrev main_c_21 : Ref sig .tc := ⟨.hbm, 192, rfl⟩
abbrev main_v89 : Ref sig .tc := ⟨.hbm, 193, rfl⟩
abbrev main_v90 : Ref sig .tc := ⟨.hbm, 194, rfl⟩
abbrev main_v91 : Ref sig .tc := ⟨.hbm, 195, rfl⟩
abbrev main_v92 : Ref sig .tc := ⟨.hbm, 196, rfl⟩
abbrev main_v93 : Ref sig .tc := ⟨.hbm, 197, rfl⟩
abbrev main_v94 : Ref sig .tc := ⟨.hbm, 198, rfl⟩
abbrev main_v95 : Ref sig .tc := ⟨.hbm, 199, rfl⟩
abbrev main_v96 : Ref sig .tc := ⟨.hbm, 200, rfl⟩
abbrev main_v97 : Ref sig .tc := ⟨.hbm, 201, rfl⟩
abbrev main_v98 : Ref sig .tc := ⟨.hbm, 202, rfl⟩
abbrev main_v99 : Ref sig .tc := ⟨.hbm, 203, rfl⟩
abbrev main_v100 : Ref sig .tc := ⟨.hbm, 204, rfl⟩
abbrev main_v101 : Ref sig .tc := ⟨.hbm, 205, rfl⟩
abbrev main_v102 : Ref sig .tc := ⟨.hbm, 206, rfl⟩
abbrev main_cst_22 : Ref sig .tc := ⟨.hbm, 207, rfl⟩
abbrev main_cst_23 : Ref sig .tc := ⟨.hbm, 208, rfl⟩
abbrev main_call6_v0 : Ref sig .tc := ⟨.hbm, 209, rfl⟩
abbrev main_call6_v1 : Ref sig .tc := ⟨.hbm, 210, rfl⟩
abbrev main_v103 : Ref sig .tc := ⟨.hbm, 211, rfl⟩
abbrev main_v104 : Ref sig .tc := ⟨.hbm, 212, rfl⟩
abbrev main_v105_0 : Ref sig .tc := ⟨.hbm, 213, rfl⟩
abbrev main_v105_1 : Ref sig .tc := ⟨.hbm, 214, rfl⟩
abbrev main_v105_2 : Ref sig .tc := ⟨.hbm, 215, rfl⟩
abbrev main_v105_3 : Ref sig .tc := ⟨.hbm, 216, rfl⟩
abbrev main_v105_4 : Ref sig .tc := ⟨.hbm, 217, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x8x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ProjReferenceIdeal.lean ====
abbrev S2x8192x1024 : Shape := ⟨3, ![2, 8192, 1024]⟩
abbrev S1024 : Shape := ⟨1, ![1024]⟩
abbrev S1024x4104 : Shape := ⟨2, ![1024, 4104]⟩
abbrev S8 : Shape := ⟨1, ![8]⟩
abbrev S64 : Shape := ⟨1, ![64]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S16384x1024 : Shape := ⟨2, ![16384, 1024]⟩
abbrev S16384x4104 : Shape := ⟨2, ![16384, 4104]⟩
abbrev S16384x512 : Shape := ⟨2, ![16384, 512]⟩
abbrev S16384x8x64 : Shape := ⟨3, ![16384, 8, 64]⟩
abbrev S16384x8x1 : Shape := ⟨3, ![16384, 8, 1]⟩
abbrev S16384x8x63 : Shape := ⟨3, ![16384, 8, 63]⟩
abbrev S16384x8x128 : Shape := ⟨3, ![16384, 8, 128]⟩

abbrev nBuf : Space → Nat
  | .hbm => 34
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x4104, .f32⟩
  | .hbm, ⟨3, _⟩ => ⟨S8, .f32⟩
  | .hbm, ⟨4, _⟩ => ⟨S64, .f32⟩
  | .hbm, ⟨5, _⟩ => ⟨S64, .f32⟩
  | .hbm, ⟨6, _⟩ => ⟨S2x8192x1024, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x1024, .f32⟩
  | .hbm, ⟨18, _⟩ => ⟨S2x8192x1024, .f32⟩
  | .hbm, ⟨19, _⟩ => ⟨S1x1x1024, .f32⟩
  | .hbm, ⟨20, _⟩ => ⟨S2x8192x1024, .f32⟩
  | .hbm, ⟨21, _⟩ => ⟨S2x8192x1024, .f32⟩
  | .hbm, ⟨22, _⟩ => ⟨S16384x1024, .f32⟩
  | .hbm, ⟨23, _⟩ => ⟨S16384x4104, .f32⟩
  | .hbm, ⟨24, _⟩ => ⟨S16384x512, .f32⟩
  | .hbm, ⟨25, _⟩ => ⟨S16384x8x64, .f32⟩
  | .hbm, ⟨26, _⟩ => ⟨S_, .f32⟩
  | .hbm, ⟨27, _⟩ => ⟨S16384x8x1, .f32⟩
  | .hbm, ⟨28, _⟩ => ⟨S_, .f32⟩
  | .hbm, ⟨29, _⟩ => ⟨S16384x8x63, .f32⟩
  | .hbm, ⟨30, _⟩ => ⟨S16384x8x128, .f32⟩
  | .hbm, ⟨31, _⟩ => ⟨S16384x1024, .f32⟩
  | .hbm, ⟨32, _⟩ => ⟨S16384x1024, .bf16⟩
  | .hbm, ⟨33, _⟩ => ⟨S16384x512, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== Proof.Common.lean ====
/-
  The experts' call: its operands, the three copies that fill one slot of the weights' buffers, and what they deliver.
-/
module

public import proofs.«01_k».proof.Proof.Gen.Kernel.Launch
public import proofs.«01_k».proof.Proof.Gen.Kernel.Skeleton
public import Idealize.ShloMosaic.Lib.Pipeline.FrameBody
public import Idealize.ShloMosaic.Lib.Pipeline.Value
public import Idealize.ShloMosaic.Lib.VecWindow
public import Idealize.ShloMosaic.Lib.MixedBatch
public import Idealize.ShloMosaic.Lib.Ring
public import Idealize.ShloMosaic.Lib.Tactic
public import Idealize.ShloMosaic.Lib.WordCmp

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

/-- The tables: each tile's expert, each tile's validity, the number of valid tiles, the next expert to fetch. -/
abbrev mTe : Memref sig .tc .smem S96 .i32 := Memref.whole main_v11
abbrev mTv : Memref sig .tc .smem S96 .i32 := Memref.whole main_arg1
abbrev mNv : Memref sig .tc .smem S1 .i32 := Memref.whole main_v1
abbrev mNx : Memref sig .tc .smem S96 .i32 := Memref.whole main_v27
/-- The experts' weights, left in HBM. -/
abbrev mWg : Memref sig .tc .hbm S32x1024x256 .f32 := Memref.whole main_arg3
abbrev mWu : Memref sig .tc .hbm S32x1024x256 .f32 := Memref.whole main_arg4
abbrev mWd : Memref sig .tc .hbm S32x256x1024 .f32 := Memref.whole main_arg5
/-- The scratch buffers: the current expert's weights at bf16, the two slots of f32 weights, the slot's number. -/
abbrev bWg : Memref sig .tc .vmem S1024x256 .bf16 := Memref.whole cc0_scratch0
abbrev bWu : Memref sig .tc .vmem S1024x256 .bf16 := Memref.whole cc0_scratch1
abbrev bWd : Memref sig .tc .vmem S256x1024 .bf16 := Memref.whole cc0_scratch2
abbrev fWg : Memref sig .tc .vmem S2x1024x256 .f32 := Memref.whole cc0_scratch3
abbrev fWu : Memref sig .tc .vmem S2x1024x256 .f32 := Memref.whole cc0_scratch4
abbrev fWd : Memref sig .tc .vmem S2x256x1024 .f32 := Memref.whole cc0_scratch5
abbrev mSl : Memref sig .tc .smem S1 .i32 := Memref.whole cc0_scratch6

/-- A memref's buffer, and the buffer held whole. -/
abbrev MBuf (c : Dev nD) {sp : Space} {S : Shape} {e : EltTy} (M : Memref sig .tc sp S e) : Type := Buf (Elt F) (M.view.loc (c : Thread nD τ))
abbrev mPt (c : Dev nD) {sp : Space} {S : Shape} {e : EltTy} (M : Memref sig .tc sp S e) (f : MBuf (F := F) c M) : sProp 𝕄 :=
  M.view.loc (c : Thread nD τ) ↦{fullShare} f
abbrev mPtR (c : Dev nD) {sp : Space} {S : Shape} {e : EltTy} (M : Memref sig .tc sp S e) (f : MBuf (F := F) c M) : sProp 𝕄 :=
  M.view.loc (c : Thread nD τ) ↦{fullShare.right} f

/-- Expert `o 0`'s matrix in a weights' array, and slot `o 0` of a buffer of two. -/
abbrev exA (M : Memref sig .tc .hbm S32x1024x256 .f32) (o : Fin 3 → ℕ) (h : ∀ a, o a + S1x1024x256.size a ≤ S32x1024x256.size a) :
    Memref sig .tc .hbm S1024x256 .f32 :=
  (M.slice (Rect.unit (s := S32x1024x256) o S1x1024x256.size h) (fun _ => rfl)).squeeze S1024x256 squeezes_S1x1024x256_S1024x256
abbrev exB (M : Memref sig .tc .hbm S32x256x1024 .f32) (o : Fin 3 → ℕ) (h : ∀ a, o a + S1x256x1024.size a ≤ S32x256x1024.size a) :
    Memref sig .tc .hbm S256x1024 .f32 :=
  (M.slice (Rect.unit (s := S32x256x1024) o S1x256x1024.size h) (fun _ => rfl)).squeeze S256x1024 squeezes_S1x256x1024_S256x1024
abbrev slA (M : Memref sig .tc .vmem S2x1024x256 .f32) (o : Fin 3 → ℕ) (h : ∀ a, o a + S1x1024x256.size a ≤ S2x1024x256.size a) :
    Memref sig .tc .vmem S1024x256 .f32 :=
  (M.slice (Rect.unit (s := S2x1024x256) o S1x1024x256.size h) (fun _ => rfl)).squeeze S1024x256 squeezes_S1x1024x256_S1024x256
abbrev slB (M : Memref sig .tc .vmem S2x256x1024 .f32) (o : Fin 3 → ℕ) (h : ∀ a, o a + S1x256x1024.size a ≤ S2x256x1024.size a) :
    Memref sig .tc .vmem S256x1024 .f32 :=
  (M.slice (Rect.unit (s := S2x256x1024) o S1x256x1024.size h) (fun _ => rfl)).squeeze S256x1024 squeezes_S1x256x1024_S256x1024

theorem inbEA (e : BitVec 32) (he : e.toNat < 32) : ∀ a, (![e.toNat, 0, 0] : Fin 3 → ℕ) a + S1x1024x256.size a ≤ S32x1024x256.size a := by
  intro a; fin_cases a <;> simp [S1x1024x256, S32x1024x256] <;> omega
theorem inbEB (e : BitVec 32) (he : e.toNat < 32) : ∀ a, (![e.toNat, 0, 0] : Fin 3 → ℕ) a + S1x256x1024.size a ≤ S32x256x1024.size a := by
  intro a; fin_cases a <;> simp [S1x256x1024, S32x256x1024] <;> omega
theorem inbSA (s : ℕ) (hs : s < 2) : ∀ a, (![s, 0, 0] : Fin 3 → ℕ) a + S1x1024x256.size a ≤ S2x1024x256.size a := by
  intro a; fin_cases a <;> simp [S1x1024x256, S2x1024x256] <;> omega
theorem inbSB (s : ℕ) (hs : s < 2) : ∀ a, (![s, 0, 0] : Fin 3 → ℕ) a + S1x256x1024.size a ≤ S2x256x1024.size a := by
  intro a; fin_cases a <;> simp [S1x256x1024, S2x256x1024] <;> omega

/-- The buffer of two slots with slot `s` written with expert `e`'s matrix. -/
abbrev landA (c : Dev nD) (rs : Memref sig .tc .hbm S32x1024x256 .f32) (e : BitVec 32) (he : e.toNat < 32)
    (rd : Memref sig .tc .vmem S2x1024x256 .f32) (s : ℕ) (hs : s < 2)
    (fs : MBuf (F := F) c rs) (fd : MBuf (F := F) c rd) : MBuf (F := F) c rd :=
  View.write (Elt F) (slA rd ![s, 0, 0] (inbSA s hs)).view fd (ReadAs.same.apply ((exA rs ![e.toNat, 0, 0] (inbEA e he)).view.read (Elt F) fs)) Finset.univ
abbrev landB (c : Dev nD) (rs : Memref sig .tc .hbm S32x256x1024 .f32) (e : BitVec 32) (he : e.toNat < 32)
    (rd : Memref sig .tc .vmem S2x256x1024 .f32) (s : ℕ) (hs : s < 2)
    (fs : MBuf (F := F) c rs) (fd : MBuf (F := F) c rd) : MBuf (F := F) c rd :=
  View.write (Elt F) (slB rd ![s, 0, 0] (inbSB s hs)).view fd (ReadAs.same.apply ((exB rs ![e.toNat, 0, 0] (inbEB e he)).view.read (Elt F) fs)) Finset.univ

/-- A copy's delivery: the buffer of two slots whole, the slot written with the expert's matrix, and the matrix's own
    elements of the weights back. -/
abbrev dlvA (c : Dev nD) (rs : Memref sig .tc .hbm S32x1024x256 .f32) (e : BitVec 32) (he : e.toNat < 32)
    (rd : Memref sig .tc .vmem S2x1024x256 .f32) (s : ℕ) (hs : s < 2)
    (fs : MBuf (F := F) c rs) (fd : MBuf (F := F) c rd) : sProp 𝕄 :=
  iprop((rd.view.loc (c : Thread nD τ) ↦{fullShare} landA c rs e he rd s hs fs fd)
    ∗ (rs.view.loc (c : Thread nD τ) ↦[(exA rs ![e.toNat, 0, 0] (inbEA e he)).view.set]{fullShare} fs))
abbrev dlvB (c : Dev nD) (rs : Memref sig .tc .hbm S32x256x1024 .f32) (e : BitVec 32) (he : e.toNat < 32)
    (rd : Memref sig .tc .vmem S2x256x1024 .f32) (s : ℕ) (hs : s < 2)
    (fs : MBuf (F := F) c rs) (fd : MBuf (F := F) c rd) : sProp 𝕄 :=
  iprop((rd.view.loc (c : Thread nD τ) ↦{fullShare} landB c rs e he rd s hs fs fd)
    ∗ (rs.view.loc (c : Thread nD τ) ↦[(exB rs ![e.toNat, 0, 0] (inbEB e he)).view.set]{fullShare} fs))

/-- The three copies of expert `e` into slot `s`, in the order they are started. -/
def deliv (c : Dev nD) (e : BitVec 32) (he : e.toNat < 32) (s : ℕ) (hs : s < 2)
    (wg : MBuf (F := F) c mWg) (wu : MBuf (F := F) c mWu) (wd : MBuf (F := F) c mWd)
    (dg : MBuf (F := F) c fWg) (du : MBuf (F := F) c fWu) (dd : MBuf (F := F) c fWd) : Fin 3 → sProp 𝕄
  | 0 => dlvA c mWg e he fWg s hs wg dg
  | 1 => dlvA c mWu e he fWu s hs wu du
  | 2 => dlvB c mWd e he fWd s hs wd dd
instance deliv_storable (c : Dev nD) (e : BitVec 32) (he : e.toNat < 32) (s : ℕ) (hs : s < 2)
    (wg : MBuf (F := F) c mWg) (wu : MBuf (F := F) c mWu) (wd : MBuf (F := F) c mWd)
    (dg : MBuf (F := F) c fWg) (du : MBuf (F := F) c fWu) (dd : MBuf (F := F) c fWd) (t : Fin 3) :
    Storable (upEmb : UEmb _ 𝕄) (deliv c e he s hs wg wu wd dg du dd t) := by
  fin_cases t <;> simp only [deliv] <;> infer_instance

/-- The amount of one copy, and the two cells. -/
abbrev amt : ℕ := (slA fWg ![0, 0, 0] (inbSA 0 (by decide))).view.dmaCredit
abbrev q0 : SemLoc sig := SemLoc.dma 4
abbrev q1 : SemLoc sig := SemLoc.dma 5

/-- The word a table's element holds. -/
abbrev word (c : Dev nD) (M : Memref sig .tc .smem S96 .i32) (f : MBuf (F := F) c M) (o : Fin 1 → ℕ) (h : ∀ a, o a + S1.size a ≤ S96.size a) : BitVec 32 :=
  View.readAt (Elt F) M.view (Rect.unit (s := S96) o S1.size h).toLoadRect f (Shape.Idx.first (numel1_S1.symm ▸ Nat.one_pos))

/-- The weights' buffers and cells at rest: everything held whole, both cells at zero. -/
def home (c : Dev nD) (wg : MBuf (F := F) c mWg) (wu : MBuf (F := F) c mWu) (wd : MBuf (F := F) c mWd) : sProp 𝕄 :=
  iprop((∃ f, mPt c fWg f) ∗ (∃ f, mPt c fWu f) ∗ (∃ f, mPt c fWd f)
    ∗ semVal ((c : Thread nD τ), q0) 0 ∗ semVal ((c : Thread nD τ), q1) 0
    ∗ mPt c mWg wg ∗ mPt c mWu wu ∗ mPt c mWd wd)
/-- Three copies of expert `e` in flight into slot `s` on cell `q`; the other cell at zero and the rest of the weights held. -/
def fly (c : Dev nD) (wg : MBuf (F := F) c mWg) (wu : MBuf (F := F) c mWu) (wd : MBuf (F := F) c mWd)
    (q q' : SemLoc sig) (s : ℕ) (hs : s < 2) (e : BitVec 32) (he : e.toNat < 32) : sProp 𝕄 :=
  iprop((∃ dg du dd, Transfers.Batch (Lvl := ℕ) (countersEmb (U := Pipeline.UD sig nD τ)) (c : Thread nD τ) q () amt (deliv c e he s hs wg wu wd dg du dd) 3 0)
    ∗ semVal ((c : Thread nD τ), q') 0
    ∗ (mWg.view.loc (c : Thread nD τ) ↦[Finset.univ \ (exA mWg ![e.toNat, 0, 0] (inbEA e he)).view.set]{fullShare} wg)
    ∗ (mWu.view.loc (c : Thread nD τ) ↦[Finset.univ \ (exA mWu ![e.toNat, 0, 0] (inbEA e he)).view.set]{fullShare} wu)
    ∗ (mWd.view.loc (c : Thread nD τ) ↦[Finset.univ \ (exB mWd ![e.toNat, 0, 0] (inbEB e he)).view.set]{fullShare} wd))
/-- In flight into slot 0 or slot 1 when `e` names an expert, at rest otherwise. -/
def next0 (c : Dev nD) (wg : MBuf (F := F) c mWg) (wu : MBuf (F := F) c mWu) (wd : MBuf (F := F) c mWd) (e : BitVec 32) : sProp 𝕄 :=
  if he : e.toNat < 32 then fly c wg wu wd q0 q1 0 (by decide) e he else home c wg wu wd
def next1 (c : Dev nD) (wg : MBuf (F := F) c mWg) (wu : MBuf (F := F) c mWu) (wd : MBuf (F := F) c mWd) (e : BitVec 32) : sProp 𝕄 :=
  if he : e.toNat < 32 then fly c wg wu wd q1 q0 1 (by decide) e he else home c wg wu wd

/-- An expert's matrix, rounded to bf16. -/
def castA (c : Dev nD) (M : Memref sig .tc .hbm S32x1024x256 .f32) (w : MBuf (F := F) c M) (e : BitVec 32) (he : e.toNat < 32) : FVec F S1024x256 .bf16 :=
  truncf .bf16 ((exA M ![e.toNat, 0, 0] (inbEA e he)).view.read (Elt F) w) bitsLt_bf16_f32
def castB (c : Dev nD) (M : Memref sig .tc .hbm S32x256x1024 .f32) (w : MBuf (F := F) c M) (e : BitVec 32) (he : e.toNat < 32) : FVec F S256x1024 .bf16 :=
  truncf .bf16 ((exB M ![e.toNat, 0, 0] (inbEB e he)).view.read (Elt F) w) bitsLt_bf16_f32

/-- The output block's contents at a point: the computed rows if the tile is valid, packed zeros if not. -/
def outV (w : BitVec 32) (x : Vec F S512x512 .i32) (G0 G1 : FVec F S1024x256 .bf16) (G2 : FVec F S256x1024 .bf16) : IVec S512x512 32 :=
  if k0_cond4 w = 1#1 then k0_pay3 x G0 G1 G2 else k0_pay4 (F := F)

theorem pay5_land (M : Memref sig .tc .vmem S2x1024x256 .f32) (o : Fin 3 → ℕ) (h h') (fd : M.view.ty.Contents (Elt F)) (p : FVec F S1024x256 .f32) :
    k0_pay5 (M.view.readAt (Elt F) (Rect.unit (s := S2x1024x256) o S1x1024x256.size h).toLoadRect
      (View.write (Elt F) (slA M o h').view fd p Finset.univ)) = truncf .bf16 p bitsLt_bf16_f32 := by
  have e := Memref.read_squeeze_slice M (Rect.unit (s := S2x1024x256) o S1x1024x256.size h) (fun _ => rfl) squeezes_S1x1024x256_S1024x256
    shapeCasts_S1x1024x256_S1024x256 (View.write (Elt F) (slA M o h').view fd p Finset.univ)
  show shapeCast _ (truncf .bf16 (shapeCast _ _ _) _) _ = _
  rw [shapeCast_self, ← e]
  exact congrArg (fun q => truncf .bf16 q bitsLt_bf16_f32) (View.read_write_univ _ _)
theorem pay16_land (M : Memref sig .tc .vmem S2x1024x256 .f32) (o : Fin 3 → ℕ) (h h') (fd : M.view.ty.Contents (Elt F)) (p : FVec F S1024x256 .f32) :
    k0_pay1 (k0_pay6 (M.view.readAt (Elt F) (Rect.unit (s := S2x1024x256) o S1x1024x256.size h).toLoadRect
      (View.write (Elt F) (slA M o h').view fd p Finset.univ))) = truncf .bf16 p bitsLt_bf16_f32 := pay5_land M o h h' fd p
theorem pay2_land (M : Memref sig .tc .vmem S2x256x1024 .f32) (o : Fin 3 → ℕ) (h h') (fd : M.view.ty.Contents (Elt F)) (p : FVec F S256x1024 .f32) :
    k0_pay2 (M.view.readAt (Elt F) (Rect.unit (s := S2x256x1024) o S1x256x1024.size h).toLoadRect
      (View.write (Elt F) (slB M o h').view fd p Finset.univ)) = truncf .bf16 p bitsLt_bf16_f32 := by
  have e := Memref.read_squeeze_slice M (Rect.unit (s := S2x256x1024) o S1x256x1024.size h) (fun _ => rfl) squeezes_S1x256x1024_S256x1024
    shapeCasts_S1x256x1024_S256x1024 (View.write (Elt F) (slB M o h').view fd p Finset.univ)
  show shapeCast _ (truncf .bf16 (shapeCast _ _ _) _) _ = _
  rw [shapeCast_self, ← e]
  exact congrArg (fun q => truncf .bf16 q bitsLt_bf16_f32) (View.read_write_univ _ _)

theorem congrArg₃' {α β γ δ : Type} (f : α → β → γ → δ) {a a' : α} {b b' : β} {d d' : γ} (h : a = a') (h' : b = b') (h'' : d = d') :
    f a b d = f a' b' d' := by subst h h' h''; rfl

/-- A scratch buffer held whole is owned through its memref at what it reads. -/
theorem owns_of_pt (c : Dev nD) (b : Ref sig .tc) (f : MBuf (F := F) c (Memref.whole b)) (X)
    (h : (Memref.whole b).view.read (Elt F) f = X) :
    (mPt c (Memref.whole b) f : sProp 𝕄) ⊢ owns (c : Thread nD τ) (Memref.whole b) fullShare X := by
  rw [owns_whole]; subst h; exact .rfl

/-- The slot's word, written last. -/
theorem slot_of_pt (c : Dev nD) (f : MBuf (F := F) c mSl) (w : BitVec 32) (L) :
    (mPt c mSl (mSl.view.writes (Elt F) f (⟨Rect.unit ![0] S1.size inb_S1_S1_0, fun _ => w⟩ :: L)) : sProp 𝕄) ⊢ mPt c mSl (fun _ => w) := by
  have h := View.read_writes_full (Val := Elt F) mSl.view f inb_S1_S1_0 (fun _ => w) L
  have h' : mSl.view.writes (Elt F) f (⟨Rect.unit ![0] S1.size inb_S1_S1_0, fun _ => w⟩ :: L) = (fun _ => w) := h
  rw [h']

theorem pt_of_slot (c : Dev nD) (w : BitVec 32) :
    (mPt c mSl (fun _ => w) : sProp 𝕄) ⊢ mPt c mSl (mSl.view.writes (Elt F) (fun _ => w) [⟨Rect.unit ![0] S1.size inb_S1_S1_0, fun _ => w⟩]) := by
  have h := View.read_writes_full (Val := Elt F) mSl.view (fun _ => w) inb_S1_S1_0 (fun _ => w) []
  have h' : mSl.view.writes (Elt F) (fun _ => w) [⟨Rect.unit ![0] S1.size inb_S1_S1_0, fun _ => w⟩] = (fun _ => w) := h
  rw [h']

end Cert.Kernel.Hand

end
-- ==== Proof.Words.lean ====
/-
  The words the body reads from the tables, and what its conditions and checks say of them.
-/
module

public import proofs.«01_k».proof.Proof.Common

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

/-- The index of a table's element `n`. -/
def ix96 (n : ℕ) : S96.Idx := fun a => ⟨n % 96, by fin_cases a; exact Nat.mod_lt _ (by decide)⟩
/-- A table's element `n`. -/
def at96 (f : S96.Idx → BitVec 32) (n : ℕ) : BitVec 32 := f (ix96 n)

theorem idx96_eq (x y : S96.Idx) (h : (x 0).val = (y 0).val) : x = y := by
  funext a; fin_cases a; exact Fin.ext h

theorem word_te (c : Dev nD) (f : MBuf (F := F) c mTe) (o : Fin 1 → ℕ) (h) (n : ℕ) (ho : o = ![n]) (hn : n < 96) : word c mTe f o h = at96 f n := by
  subst ho
  show f _ = f _
  exact congrArg f (idx96_eq _ _ (by show n + 1 * 0 = n % 96; omega))
theorem word_tv (c : Dev nD) (f : MBuf (F := F) c mTv) (o : Fin 1 → ℕ) (h) (n : ℕ) (ho : o = ![n]) (hn : n < 96) : word c mTv f o h = at96 f n := by
  subst ho
  show f _ = f _
  exact congrArg f (idx96_eq _ _ (by show n + 1 * 0 = n % 96; omega))
theorem word_nx (c : Dev nD) (f : MBuf (F := F) c mNx) (o : Fin 1 → ℕ) (h) (n : ℕ) (ho : o = ![n]) (hn : n < 96) : word c mNx f o h = at96 f n := by
  subst ho
  show f _ = f _
  exact congrArg f (idx96_eq _ _ (by show n + 1 * 0 = n % 96; omega))

theorem ofNat_toNat (n : ℕ) (h : n < 96) : (BitVec.ofNat 32 n).toNat = n := by
  rw [BitVec.toNat_ofNat]; omega

/-- The point's number. -/
abbrev pt (i : grid0.Coords) : ℕ := (i 0).val
theorem pt_lt (i : grid0.Coords) : pt i < 96 := (i 0).isLt

theorem off3_eq (i : grid0.Coords) : k0_off3 i = ![pt i] := by
  have h : ∀ n : Fin 96, (Scalar.indexCast (BitVec.ofNat 32 n.val)).toNat = n.val := by decide
  unfold k0_off3; exact congrArg (fun x => ![x]) (h ⟨_, pt_lt i⟩)
theorem off5_eq (i : grid0.Coords) : k0_off5 i = ![pt i] := off3_eq i
theorem off15_eq (i : grid0.Coords) : k0_off15 i = ![pt i] := off3_eq i
theorem off16_eq (i : grid0.Coords) : k0_off16 i = ![pt i] := off3_eq i
theorem off24_eq (i : grid0.Coords) : k0_off24 i = ![pt i] := off3_eq i
theorem off25_eq (i : grid0.Coords) : k0_off25 i = ![pt i] := off3_eq i
theorem off4_eq (i : grid0.Coords) : k0_off4 i = ![pt i - 1] := by
  have h : ∀ n : Fin 96, (Scalar.indexCast (Scalar.maxsi (Scalar.subi (BitVec.ofNat 32 n.val) 1#32) 0#32)).toNat = n.val - 1 := by decide
  unfold k0_off4; exact congrArg (fun x => ![x]) (h ⟨_, pt_lt i⟩)

theorem cond1_zero (i : grid0.Coords) (h : pt i = 0) : k0_cond1 i = 1#1 := by
  unfold k0_cond1; rw [show (i 0).val = 0 from h]; decide
theorem cond1_pos (i : grid0.Coords) (h : pt i ≠ 0) : ¬ k0_cond1 i = 1#1 := by
  have hh : ∀ n : Fin 96, n.val ≠ 0 → ¬ (Scalar.cmpi .ne (Scalar.extui (Scalar.cmpi .eq (BitVec.ofNat 32 n.val) 0#32) : BitVec 32) 0#32) = 1#1 := by decide
  exact hh ⟨_, pt_lt i⟩ h
theorem cond2_zero (i : grid0.Coords) (h : pt i = 0) (v w : BitVec 32) : k0_cond2 i v w = 1#1 := by
  unfold k0_cond2; rw [show (i 0).val = 0 from h]
  have : ∀ b : BitVec 1, Scalar.cmpi .ne (Scalar.extui (Scalar.ori (Scalar.cmpi .eq (BitVec.ofNat 32 0) 0#32) b) : BitVec 32) 0#32 = 1#1 := by decide
  exact this _
theorem cmpi_ne_of_ne {v w : BitVec 32} (h : v ≠ w) : Scalar.cmpi .ne v w = 1#1 := by
  show BitVec.ofBool (v != w) = 1#1
  rw [bne_iff_ne.mpr h]; rfl
theorem cond2_ne (i : grid0.Coords) (v w : BitVec 32) (h : v ≠ w) : k0_cond2 i v w = 1#1 := by
  unfold k0_cond2
  rw [cmpi_ne_of_ne h]
  have : ∀ b : BitVec 1, Scalar.cmpi .ne (Scalar.extui (Scalar.ori b 1#1) : BitVec 32) 0#32 = 1#1 := by decide
  exact this _
theorem cond2_same (i : grid0.Coords) (h : pt i ≠ 0) (v : BitVec 32) : ¬ k0_cond2 i v v = 1#1 := by
  unfold k0_cond2
  rw [show Scalar.cmpi .ne v v = 0#1 by simp [Scalar.cmpi, IntOp.cmpi]]
  have hh : ∀ n : Fin 96, n.val ≠ 0 → ¬ (Scalar.cmpi .ne (Scalar.extui (Scalar.ori (Scalar.cmpi .eq (BitVec.ofNat 32 n.val) 0#32) 0#1) : BitVec 32) 0#32) = 1#1 := by decide
  exact hh ⟨_, pt_lt i⟩ h
theorem cond3_lt (v : BitVec 32) (h : v.toNat < 32) : k0_cond3 v = 1#1 := by
  have hh : ∀ n : Fin 32, k0_cond3 (BitVec.ofNat 32 n.val) = 1#1 := by decide
  have e : v = BitVec.ofNat 32 v.toNat := by simp
  rw [e]; exact hh ⟨_, h⟩
theorem cond3_neg : ¬ k0_cond3 4294967295#32 = 1#1 := by decide

theorem chk1_of (i : grid0.Coords) (e : BitVec 32) (he : e.toNat < 32) : k0_chk1 i e := ⟨fun _ => inbEA e he, fun _ => inbEB e he⟩
theorem chk3_of (i : grid0.Coords) (v w e : BitVec 32) (he : e.toNat < 32) : k0_chk3 i v w e := ⟨fun _ => inbEA e he, fun _ => inbEB e he⟩
theorem chk5_of (i : grid0.Coords) (v w u e : BitVec 32) (he : e.toNat < 32) : k0_chk5 i v w u e := ⟨fun _ _ => inbEA e he, fun _ _ => inbEB e he⟩
theorem chk2_0 (i : grid0.Coords) (v w : BitVec 32) : k0_chk2 i v w 0#32 :=
  ⟨fun _ => by decide, fun _ => by decide, fun _ => by decide, fun _ => by decide, fun _ => by decide, fun _ => by decide, fun _ => by decide⟩
theorem chk2_1 (i : grid0.Coords) (v w : BitVec 32) : k0_chk2 i v w 1#32 :=
  ⟨fun _ => by decide, fun _ => by decide, fun _ => by decide, fun _ => by decide, fun _ => by decide, fun _ => by decide, fun _ => by decide⟩
theorem chk4_0 (i : grid0.Coords) (v w u : BitVec 32) : k0_chk4 i v w 0#32 u :=
  ⟨fun _ _ => by decide, fun _ _ => by decide, fun _ _ => by decide, fun _ _ => by decide, fun _ _ => by decide⟩
theorem chk4_1 (i : grid0.Coords) (v w u : BitVec 32) : k0_chk4 i v w 1#32 u :=
  ⟨fun _ _ => by decide, fun _ _ => by decide, fun _ _ => by decide, fun _ _ => by decide, fun _ _ => by decide⟩
theorem cond45 (v : BitVec 32) (h : v = 0#32 ∨ v = 1#32) :
    (k0_cond4 v = 1#1 ∧ ¬ k0_cond5 v = 1#1) ∨ (¬ k0_cond4 v = 1#1 ∧ k0_cond5 v = 1#1) := by
  rcases h with rfl | rfl
  · right; decide
  · left; decide

/-- What the body needs of the tables: every word in range, validity 0 or 1, the next expert to fetch the next tile's
    where it changes, the same as before where it does not, and none after the last. -/
structure Tabs (te tv nx : S96.Idx → BitVec 32) : Prop where
  e_lt : ∀ n, n < 96 → (at96 te n).toNat < 32
  tv01 : ∀ n, n < 96 → at96 tv n = 0#32 ∨ at96 tv n = 1#32
  nx_new : ∀ n, n + 1 < 96 → at96 te (n + 1) ≠ at96 te n → at96 nx n = at96 te (n + 1)
  nx_same : ∀ n, n + 1 < 96 → at96 te (n + 1) = at96 te n → at96 nx (n + 1) = at96 nx n
  nx_last : at96 nx 95 = 4294967295#32
  nx_range : ∀ n, n < 96 → at96 nx n = 4294967295#32 ∨ (at96 nx n).toNat < 32

end Cert.Kernel.Hand

end
-- ==== Proof.RunFirst.lean ====
/-
  The first point: it starts the first expert's three copies and waits for them, and starts the next expert's.
-/
module

public import proofs.«01_k».proof.Proof.Common

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

theorem run_first (c : Dev nD) (i : grid0.Coords) (arg5 : Memref sig .tc .vmem S512x512 .i32) (harg5 : arg5.IsWhole)
    (arg9 : Memref sig .tc .vmem S512x512 .i32) (harg9 : arg9.IsWhole)
    (te : MBuf (F := F) c mTe) (tv : MBuf (F := F) c mTv) (nx : MBuf (F := F) c mNx)
    (wg : MBuf (F := F) c mWg) (wu : MBuf (F := F) c mWu) (wd : MBuf (F := F) c mWd)
    (f5 : MBuf (F := F) c arg5)
    (h1 : k0_cond1 i = 1#1)
    (he0 : (word c mTe te ![0] inb_S96_S1_0).toNat < 32)
    (hc1 : k0_chk1 i (word c mTe te ![0] inb_S96_S1_0))
    (h2 : k0_cond2 i (word c mTe te (k0_off3 i) (k0_off3_inb i)) (word c mTe te (k0_off4 i) (k0_off4_inb i)) = 1#1)
    (hc2 : k0_chk2 i (word c mTe te (k0_off3 i) (k0_off3_inb i)) (word c mTe te (k0_off4 i) (k0_off4_inb i)) 0#32)
    (hc3 : k0_chk3 i (word c mTe te (k0_off3 i) (k0_off3_inb i)) (word c mTe te (k0_off4 i) (k0_off4_inb i)) (word c mTe te (k0_off5 i) (k0_off5_inb i)))
    (hc4 : k0_chk4 i (word c mTe te (k0_off3 i) (k0_off3_inb i)) (word c mTe te (k0_off4 i) (k0_off4_inb i)) 0#32 (word c mNx nx (k0_off15 i) (k0_off15_inb i)))
    (hn : (k0_cond3 (word c mNx nx (k0_off15 i) (k0_off15_inb i)) = 1#1 ∧ (word c mNx nx (k0_off16 i) (k0_off16_inb i)).toNat < 32)
      ∨ (¬ k0_cond3 (word c mNx nx (k0_off15 i) (k0_off15_inb i)) = 1#1 ∧ ¬ (word c mNx nx (k0_off16 i) (k0_off16_inb i)).toNat < 32))
    (hc5 : k0_cond3 (word c mNx nx (k0_off15 i) (k0_off15_inb i)) = 1#1 → k0_chk5 i (word c mTe te (k0_off3 i) (k0_off3_inb i)) (word c mTe te (k0_off4 i) (k0_off4_inb i)) (word c mNx nx (k0_off15 i) (k0_off15_inb i)) (word c mNx nx (k0_off16 i) (k0_off16_inb i)))
    (h45 : (k0_cond4 (word c mTv tv (k0_off24 i) (k0_off24_inb i)) = 1#1 ∧ ¬ k0_cond5 (word c mTv tv (k0_off25 i) (k0_off25_inb i)) = 1#1)
      ∨ (¬ k0_cond4 (word c mTv tv (k0_off24 i) (k0_off24_inb i)) = 1#1 ∧ k0_cond5 (word c mTv tv (k0_off25 i) (k0_off25_inb i)) = 1#1))
    (W : Waits sig Unit) (K : PUnit → sProp 𝕄) :
    iprop(mPtR c mTe te ∗ mPtR c mTv tv ∗ mPtR c mNx nx
      ∗ (arg5.view.loc (c : Thread nD τ) ↦[arg5.view.set]{fullShare} f5)
      ∗ (∃ f, (arg9.view.loc (c : Thread nD τ) ↦[arg9.view.set]{fullShare} f))
      ∗ (∃ f, mPt c bWg f) ∗ (∃ f, mPt c bWu f) ∗ (∃ f, mPt c bWd f)
      ∗ (∃ f, mPt c mSl f) ∗ home c wg wu wd
      ∗ owes (c : Thread nD τ) 0 W
      ∗ (iprop(mPtR c mTe te ∗ mPtR c mTv tv ∗ mPtR c mNx nx
          ∗ (arg5.view.loc (c : Thread nD τ) ↦[arg5.view.set]{fullShare} f5)
          ∗ owns (c : Thread nD τ) arg9 fullShare (outV (word c mTv tv (k0_off24 i) (k0_off24_inb i)) (arg5.view.read (Elt F) f5) (castA c mWg wg (word c mTe te ![0] inb_S96_S1_0) he0) (castA c mWu wu (word c mTe te ![0] inb_S96_S1_0) he0) (castB c mWd wd (word c mTe te ![0] inb_S96_S1_0) he0))
          ∗ owns (c : Thread nD τ) bWg fullShare (castA c mWg wg (word c mTe te ![0] inb_S96_S1_0) he0) ∗ owns (c : Thread nD τ) bWu fullShare (castA c mWu wu (word c mTe te ![0] inb_S96_S1_0) he0) ∗ owns (c : Thread nD τ) bWd fullShare (castB c mWd wd (word c mTe te ![0] inb_S96_S1_0) he0)
          ∗ mPt c mSl (fun _ => (1#32 : BitVec 32)) ∗ next1 c wg wu wd (word c mNx nx (k0_off16 i) (k0_off16_inb i))
          ∗ (∃ W', owes (c : Thread nD τ) 0 W')) -∗ K ⟨⟩))
    ⊢ wp frame (wpE (defs₀ (F := F)) Variants.none c none) Set.univ
        (cc0_experts i mTe (Memref.isWhole_whole _) mTv (Memref.isWhole_whole _) mNv (Memref.isWhole_whole _) mNx (Memref.isWhole_whole _)
          arg5 harg5 mWg (Memref.isWhole_whole _) mWu (Memref.isWhole_whole _) mWd (Memref.isWhole_whole _) arg9 harg9
          bWg (Memref.isWhole_whole _) bWu (Memref.isWhole_whole _) bWd (Memref.isWhole_whole _)
          fWg (Memref.isWhole_whole _) fWu (Memref.isWhole_whole _) fWd (Memref.isWhole_whole _) mSl (Memref.isWhole_whole _) cc0_scratch7) K := by
  simp only [cc0_experts_eq_skeleton]; unfold cc0_experts_skel
  unfold home
  iintro ⟨HTe, HTv, HNx, H5, ⟨%f9, H9⟩, ⟨%g0, Hb0⟩, ⟨%g1, Hb1⟩, ⟨%g2, Hb2⟩, ⟨%s0, Hs⟩, ⟨⟨%d0, Hd0⟩, ⟨%d1, Hd1⟩, ⟨%d2, Hd2⟩, Hq0, Hq1, Hwg, Hwu, Hwd⟩, HW, Hk⟩
  imod (Transfers.batch_alloc' (Lvl := ℕ) (countersEmb (U := Pipeline.UD sig nD τ)) (c : Thread nD τ) () amt
      (deliv c _ he0 0 (by decide) wg wu wd d0 d1 d2) (sm := q0) (E := Set.univ)) $$ Hq0 with HB
  rcases hn with ⟨h3, hn2⟩ | ⟨h3, hn2⟩
  · have hc5' := hc5 h3
    imod (Transfers.batch_alloc' (Lvl := ℕ) (countersEmb (U := Pipeline.UD sig nD τ)) (c : Thread nD τ) () amt
        (deliv c _ hn2 1 (by decide) wg wu wd (landA c mWg _ he0 fWg 0 (by decide) wg d0) (landA c mWu _ he0 fWu 0 (by decide) wu d1) (landB c mWd _ he0 fWd 0 (by decide) wd d2)) (sm := q1) (E := Set.univ)) $$ Hq1 with HC
    unfold deliv
    rcases h45 with ⟨h4, h5⟩ | ⟨h4, h5⟩
    · sl_exec
      sl_step
      iapply Hk
      isplitl [HTe]; · iexact HTe
      isplitl [HTv]; · iexact HTv
      isplitl [HNx]; · iexact HNx
      isplitl [H5]; · iexact H5
      isplitl [H9]
      · unfold owns; iexists _; isplitr; swap; · iexact H9
        ipureintro
        refine (View.read_writes_full _ _ _ _ _).trans ?_
        unfold outV; rw [if_pos h4]
        rw [View.readAt_full]
        refine congrArg₃' (fun a b d => k0_pay3 _ a b d) ?_ ?_ ?_
        · refine (View.readCov_full _ _ _ _ _).trans ?_
          exact (pay5_land _ _ _ _ _ _)
        · refine (View.readCov_full _ _ _ _ _).trans ?_
          exact (pay16_land _ _ _ _ _ _)
        · refine (View.readCov_full _ _ _ _ _).trans ?_
          exact (pay2_land _ _ _ _ _ _)
      isplitl [Hb0]
      · iapply (owns_of_pt c cc0_scratch0 _ _ ?_) $$ Hb0
        refine (View.read_writes_full _ _ _ _ _).trans ?_
        exact pay5_land _ _ _ _ _ _
      isplitl [Hb1]
      · iapply (owns_of_pt c cc0_scratch1 _ _ ?_) $$ Hb1
        refine (View.read_writes_full _ _ _ _ _).trans ?_
        exact pay16_land _ _ _ _ _ _
      isplitl [Hb2]
      · iapply (owns_of_pt c cc0_scratch2 _ _ ?_) $$ Hb2
        refine (View.read_writes_full _ _ _ _ _).trans ?_
        exact pay2_land _ _ _ _ _ _
      isplitl [Hs]
      · iapply (slot_of_pt c _ _ _) $$ Hs
      isplitr [HW]
      · unfold next1; rw [dif_pos hn2]; unfold fly
        isplitl [HC]; · iexists _, _, _; iexact HC
        isplitl [HB]; · iexact HB
        isplitl [Hwg]; · iexact Hwg
        isplitl [Hwu]; · iexact Hwu
        iexact Hwd
      iexists _; iexact HW
    · sl_exec
      sl_step
      iapply Hk
      isplitl [HTe]; · iexact HTe
      isplitl [HTv]; · iexact HTv
      isplitl [HNx]; · iexact HNx
      isplitl [H5]; · iexact H5
      isplitl [H9]
      · unfold owns; iexists _; isplitr; swap; · iexact H9
        ipureintro
        refine (View.read_writes_full _ _ _ _ _).trans ?_
        unfold outV; rw [if_neg h4]
      isplitl [Hb0]
      · iapply (owns_of_pt c cc0_scratch0 _ _ ?_) $$ Hb0
        refine (View.read_writes_full _ _ _ _ _).trans ?_
        exact pay5_land _ _ _ _ _ _
      isplitl [Hb1]
      · iapply (owns_of_pt c cc0_scratch1 _ _ ?_) $$ Hb1
        refine (View.read_writes_full _ _ _ _ _).trans ?_
        exact pay16_land _ _ _ _ _ _
      isplitl [Hb2]
      · iapply (owns_of_pt c cc0_scratch2 _ _ ?_) $$ Hb2
        refine (View.read_writes_full _ _ _ _ _).trans ?_
        exact pay2_land _ _ _ _ _ _
      isplitl [Hs]
      · iapply (slot_of_pt c _ _ _) $$ Hs
      isplitr [HW]
      · unfold next1; rw [dif_pos hn2]; unfold fly
        isplitl [HC]; · iexists _, _, _; iexact HC
        isplitl [HB]; · iexact HB
        isplitl [Hwg]; · iexact Hwg
        isplitl [Hwu]; · iexact Hwu
        iexact Hwd
      iexists _; iexact HW
  · unfold deliv
    rcases h45 with ⟨h4, h5⟩ | ⟨h4, h5⟩
    · sl_exec
      sl_step
      iapply Hk
      isplitl [HTe]; · iexact HTe
      isplitl [HTv]; · iexact HTv
      isplitl [HNx]; · iexact HNx
      isplitl [H5]; · iexact H5
      isplitl [H9]
      · unfold owns; iexists _; isplitr; swap; · iexact H9
        ipureintro
        refine (View.read_writes_full _ _ _ _ _).trans ?_
        unfold outV; rw [if_pos h4]
        rw [View.readAt_full]
        refine congrArg₃' (fun a b d => k0_pay3 _ a b d) ?_ ?_ ?_
        · refine (View.readCov_full _ _ _ _ _).trans ?_
          exact (pay5_land _ _ _ _ _ _)
        · refine (View.readCov_full _ _ _ _ _).trans ?_
          exact (pay16_land _ _ _ _ _ _)
        · refine (View.readCov_full _ _ _ _ _).trans ?_
          exact (pay2_land _ _ _ _ _ _)
      isplitl [Hb0]
      · iapply (owns_of_pt c cc0_scratch0 _ _ ?_) $$ Hb0
        refine (View.read_writes_full _ _ _ _ _).trans ?_
        exact pay5_land _ _ _ _ _ _
      isplitl [Hb1]
      · iapply (owns_of_pt c cc0_scratch1 _ _ ?_) $$ Hb1
        refine (View.read_writes_full _ _ _ _ _).trans ?_
        exact pay16_land _ _ _ _ _ _
      isplitl [Hb2]
      · iapply (owns_of_pt c cc0_scratch2 _ _ ?_) $$ Hb2
        refine (View.read_writes_full _ _ _ _ _).trans ?_
        exact pay2_land _ _ _ _ _ _
      isplitl [Hs]
      · iapply (slot_of_pt c _ _ _) $$ Hs
      isplitr [HW]
      · unfold next1; rw [dif_neg hn2]; unfold home
        isplitl [HB_dst0]; · iexists _; iexact HB_dst0
        isplitl [HB_dst1]; · iexists _; iexact HB_dst1
        isplitl [HB_dst2]; · iexists _; iexact HB_dst2
        isplitl [HB]; · iexact HB
        isplitl [Hq1]; · iexact Hq1
        isplitl [Hwg]; · iexact Hwg
        isplitl [Hwu]; · iexact Hwu
        iexact Hwd
      iexists _; iexact HW
    · sl_exec
      sl_step
      iapply Hk
      isplitl [HTe]; · iexact HTe
      isplitl [HTv]; · iexact HTv
      isplitl [HNx]; · iexact HNx
      isplitl [H5]; · iexact H5
      isplitl [H9]
      · unfold owns; iexists _; isplitr; swap; · iexact H9
        ipureintro
        refine (View.read_writes_full _ _ _ _ _).trans ?_
        unfold outV; rw [if_neg h4]
      isplitl [Hb0]
      · iapply (owns_of_pt c cc0_scratch0 _ _ ?_) $$ Hb0
        refine (View.read_writes_full _ _ _ _ _).trans ?_
        exact pay5_land _ _ _ _ _ _
      isplitl [Hb1]
      · iapply (owns_of_pt c cc0_scratch1 _ _ ?_) $$ Hb1
        refine (View.read_writes_full _ _ _ _ _).trans ?_
        exact pay16_land _ _ _ _ _ _
      isplitl [Hb2]
      · iapply (owns_of_pt c cc0_scratch2 _ _ ?_) $$ Hb2
        refine (View.read_writes_full _ _ _ _ _).trans ?_
        exact pay2_land _ _ _ _ _ _
      isplitl [Hs]
      · iapply (slot_of_pt c _ _ _) $$ Hs
      isplitr [HW]
      · unfold next1; rw [dif_neg hn2]; unfold home
        isplitl [HB_dst0]; · iexists _; iexact HB_dst0
        isplitl [HB_dst1]; · iexists _; iexact HB_dst1
        isplitl [HB_dst2]; · iexists _; iexact HB_dst2
        isplitl [HB]; · iexact HB
        isplitl [Hq1]; · iexact Hq1
        isplitl [Hwg]; · iexact Hwg
        isplitl [Hwu]; · iexact Hwu
        iexact Hwd
      iexists _; iexact HW

end Cert.Kernel.Hand

end
-- ==== Proof.RunZero.lean ====
/-
  A point where the expert changes, its weights arriving in slot 0.
-/
module

public import proofs.«01_k».proof.Proof.Common

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

theorem run_zero (c : Dev nD) (i : grid0.Coords) (arg5 : Memref sig .tc .vmem S512x512 .i32) (harg5 : arg5.IsWhole)
    (arg9 : Memref sig .tc .vmem S512x512 .i32) (harg9 : arg9.IsWhole)
    (te : MBuf (F := F) c mTe) (tv : MBuf (F := F) c mTv) (nx : MBuf (F := F) c mNx)
    (wg : MBuf (F := F) c mWg) (wu : MBuf (F := F) c mWu) (wd : MBuf (F := F) c mWd)
    (f5 : MBuf (F := F) c arg5)
    (h1 : ¬ k0_cond1 i = 1#1)
    (e : BitVec 32) (he0 : e.toNat < 32)
    (h2 : k0_cond2 i (word c mTe te (k0_off3 i) (k0_off3_inb i)) (word c mTe te (k0_off4 i) (k0_off4_inb i)) = 1#1)
    (hc2 : k0_chk2 i (word c mTe te (k0_off3 i) (k0_off3_inb i)) (word c mTe te (k0_off4 i) (k0_off4_inb i)) 0#32)
    (hc3 : k0_chk3 i (word c mTe te (k0_off3 i) (k0_off3_inb i)) (word c mTe te (k0_off4 i) (k0_off4_inb i)) (word c mTe te (k0_off5 i) (k0_off5_inb i)))
    (hc4 : k0_chk4 i (word c mTe te (k0_off3 i) (k0_off3_inb i)) (word c mTe te (k0_off4 i) (k0_off4_inb i)) 0#32 (word c mNx nx (k0_off15 i) (k0_off15_inb i)))
    (hn : (k0_cond3 (word c mNx nx (k0_off15 i) (k0_off15_inb i)) = 1#1 ∧ (word c mNx nx (k0_off16 i) (k0_off16_inb i)).toNat < 32)
      ∨ (¬ k0_cond3 (word c mNx nx (k0_off15 i) (k0_off15_inb i)) = 1#1 ∧ ¬ (word c mNx nx (k0_off16 i) (k0_off16_inb i)).toNat < 32))
    (hc5 : k0_cond3 (word c mNx nx (k0_off15 i) (k0_off15_inb i)) = 1#1 → k0_chk5 i (word c mTe te (k0_off3 i) (k0_off3_inb i)) (word c mTe te (k0_off4 i) (k0_off4_inb i)) (word c mNx nx (k0_off15 i) (k0_off15_inb i)) (word c mNx nx (k0_off16 i) (k0_off16_inb i)))
    (h45 : (k0_cond4 (word c mTv tv (k0_off24 i) (k0_off24_inb i)) = 1#1 ∧ ¬ k0_cond5 (word c mTv tv (k0_off25 i) (k0_off25_inb i)) = 1#1)
      ∨ (¬ k0_cond4 (word c mTv tv (k0_off24 i) (k0_off24_inb i)) = 1#1 ∧ k0_cond5 (word c mTv tv (k0_off25 i) (k0_off25_inb i)) = 1#1))
    (W : Waits sig Unit) (K : PUnit → sProp 𝕄) :
    iprop(mPtR c mTe te ∗ mPtR c mTv tv ∗ mPtR c mNx nx
      ∗ (arg5.view.loc (c : Thread nD τ) ↦[arg5.view.set]{fullShare} f5)
      ∗ (∃ f, (arg9.view.loc (c : Thread nD τ) ↦[arg9.view.set]{fullShare} f))
      ∗ (∃ f, mPt c bWg f) ∗ (∃ f, mPt c bWu f) ∗ (∃ f, mPt c bWd f)
      ∗ mPt c mSl (fun _ => (0#32 : BitVec 32)) ∗ fly c wg wu wd q0 q1 0 (by decide) e he0
      ∗ owes (c : Thread nD τ) 0 W
      ∗ (iprop(mPtR c mTe te ∗ mPtR c mTv tv ∗ mPtR c mNx nx
          ∗ (arg5.view.loc (c : Thread nD τ) ↦[arg5.view.set]{fullShare} f5)
          ∗ owns (c : Thread nD τ) arg9 fullShare (outV (word c mTv tv (k0_off24 i) (k0_off24_inb i)) (arg5.view.read (Elt F) f5) (castA c mWg wg e he0) (castA c mWu wu e he0) (castB c mWd wd e he0))
          ∗ owns (c : Thread nD τ) bWg fullShare (castA c mWg wg e he0) ∗ owns (c : Thread nD τ) bWu fullShare (castA c mWu wu e he0) ∗ owns (c : Thread nD τ) bWd fullShare (castB c mWd wd e he0)
          ∗ mPt c mSl (fun _ => (1#32 : BitVec 32)) ∗ next1 c wg wu wd (word c mNx nx (k0_off16 i) (k0_off16_inb i))
          ∗ (∃ W', owes (c : Thread nD τ) 0 W')) -∗ K ⟨⟩))
    ⊢ wp frame (wpE (defs₀ (F := F)) Variants.none c none) Set.univ
        (cc0_experts i mTe (Memref.isWhole_whole _) mTv (Memref.isWhole_whole _) mNv (Memref.isWhole_whole _) mNx (Memref.isWhole_whole _)
          arg5 harg5 mWg (Memref.isWhole_whole _) mWu (Memref.isWhole_whole _) mWd (Memref.isWhole_whole _) arg9 harg9
          bWg (Memref.isWhole_whole _) bWu (Memref.isWhole_whole _) bWd (Memref.isWhole_whole _)
          fWg (Memref.isWhole_whole _) fWu (Memref.isWhole_whole _) fWd (Memref.isWhole_whole _) mSl (Memref.isWhole_whole _) cc0_scratch7) K := by
  simp only [cc0_experts_eq_skeleton]; unfold cc0_experts_skel
  unfold fly
  iintro ⟨HTe, HTv, HNx, H5, ⟨%f9, H9⟩, ⟨%g0, Hb0⟩, ⟨%g1, Hb1⟩, ⟨%g2, Hb2⟩, Hs, ⟨⟨%d0, %d1, %d2, HB⟩, Hq1, Hwg, Hwu, Hwd⟩, HW, Hk⟩
  ihave Hs := (pt_of_slot c 0#32) $$ Hs
  rcases hn with ⟨h3, hn2⟩ | ⟨h3, hn2⟩
  · have hc5' := hc5 h3
    imod (Transfers.batch_alloc' (Lvl := ℕ) (countersEmb (U := Pipeline.UD sig nD τ)) (c : Thread nD τ) () amt
        (deliv c _ hn2 1 (by decide) wg wu wd (landA c mWg _ he0 fWg 0 (by decide) wg d0) (landA c mWu _ he0 fWu 0 (by decide) wu d1) (landB c mWd _ he0 fWd 0 (by decide) wd d2)) (sm := q1) (E := Set.univ)) $$ Hq1 with HC
    unfold deliv
    rcases h45 with ⟨h4, h5⟩ | ⟨h4, h5⟩
    · sl_exec
      sl_step
      iapply Hk
      isplitl [HTe]; · iexact HTe
      isplitl [HTv]; · iexact HTv
      isplitl [HNx]; · iexact HNx
      isplitl [H5]; · iexact H5
      isplitl [H9]
      · unfold owns; iexists _; isplitr; swap; · iexact H9
        ipureintro
        refine (View.read_writes_full _ _ _ _ _).trans ?_
        unfold outV; rw [if_pos h4]
        rw [View.readAt_full]
        refine congrArg₃' (fun a b d => k0_pay3 _ a b d) ?_ ?_ ?_
        · refine (View.readCov_full _ _ _ _ _).trans ?_
          exact (pay5_land _ _ _ _ _ _)
        · refine (View.readCov_full _ _ _ _ _).trans ?_
          exact (pay16_land _ _ _ _ _ _)
        · refine (View.readCov_full _ _ _ _ _).trans ?_
          exact (pay2_land _ _ _ _ _ _)
      isplitl [Hb0]
      · iapply (owns_of_pt c cc0_scratch0 _ _ ?_) $$ Hb0
        refine (View.read_writes_full _ _ _ _ _).trans ?_
        exact pay5_land _ _ _ _ _ _
      isplitl [Hb1]
      · iapply (owns_of_pt c cc0_scratch1 _ _ ?_) $$ Hb1
        refine (View.read_writes_full _ _ _ _ _).trans ?_
        exact pay16_land _ _ _ _ _ _
      isplitl [Hb2]
      · iapply (owns_of_pt c cc0_scratch2 _ _ ?_) $$ Hb2
        refine (View.read_writes_full _ _ _ _ _).trans ?_
        exact pay2_land _ _ _ _ _ _
      isplitl [Hs]
      · iapply (slot_of_pt c _ _ _) $$ Hs
      isplitr [HW]
      · unfold next1; rw [dif_pos hn2]; unfold fly
        isplitl [HC]; · iexists _, _, _; iexact HC
        isplitl [HB]; · iexact HB
        isplitl [Hwg]; · iexact Hwg
        isplitl [Hwu]; · iexact Hwu
        iexact Hwd
      iexists _; iexact HW
    · sl_exec
      sl_step
      iapply Hk
      isplitl [HTe]; · iexact HTe
      isplitl [HTv]; · iexact HTv
      isplitl [HNx]; · iexact HNx
      isplitl [H5]; · iexact H5
      isplitl [H9]
      · unfold owns; iexists _; isplitr; swap; · iexact H9
        ipureintro
        refine (View.read_writes_full _ _ _ _ _).trans ?_
        unfold outV; rw [if_neg h4]
      isplitl [Hb0]
      · iapply (owns_of_pt c cc0_scratch0 _ _ ?_) $$ Hb0
        refine (View.read_writes_full _ _ _ _ _).trans ?_
        exact pay5_land _ _ _ _ _ _
      isplitl [Hb1]
      · iapply (owns_of_pt c cc0_scratch1 _ _ ?_) $$ Hb1
        refine (View.read_writes_full _ _ _ _ _).trans ?_
        exact pay16_land _ _ _ _ _ _
      isplitl [Hb2]
      · iapply (owns_of_pt c cc0_scratch2 _ _ ?_) $$ Hb2
        refine (View.read_writes_full _ _ _ _ _).trans ?_
        exact pay2_land _ _ _ _ _ _
      isplitl [Hs]
      · iapply (slot_of_pt c _ _ _) $$ Hs
      isplitr [HW]
      · unfold next1; rw [dif_pos hn2]; unfold fly
        isplitl [HC]; · iexists _, _, _; iexact HC
        isplitl [HB]; · iexact HB
        isplitl [Hwg]; · iexact Hwg
        isplitl [Hwu]; · iexact Hwu
        iexact Hwd
      iexists _; iexact HW
  · unfold deliv
    rcases h45 with ⟨h4, h5⟩ | ⟨h4, h5⟩
    · sl_exec
      sl_step
      iapply Hk
      isplitl [HTe]; · iexact HTe
      isplitl [HTv]; · iexact HTv
      isplitl [HNx]; · iexact HNx
      isplitl [H5]; · iexact H5
      isplitl [H9]
      · unfold owns; iexists _; isplitr; swap; · iexact H9
        ipureintro
        refine (View.read_writes_full _ _ _ _ _).trans ?_
        unfold outV; rw [if_pos h4]
        rw [View.readAt_full]
        refine congrArg₃' (fun a b d => k0_pay3 _ a b d) ?_ ?_ ?_
        · refine (View.readCov_full _ _ _ _ _).trans ?_
          exact (pay5_land _ _ _ _ _ _)
        · refine (View.readCov_full _ _ _ _ _).trans ?_
          exact (pay16_land _ _ _ _ _ _)
        · refine (View.readCov_full _ _ _ _ _).trans ?_
          exact (pay2_land _ _ _ _ _ _)
      isplitl [Hb0]
      · iapply (owns_of_pt c cc0_scratch0 _ _ ?_) $$ Hb0
        refine (View.read_writes_full _ _ _ _ _).trans ?_
        exact pay5_land _ _ _ _ _ _
      isplitl [Hb1]
      · iapply (owns_of_pt c cc0_scratch1 _ _ ?_) $$ Hb1
        refine (View.read_writes_full _ _ _ _ _).trans ?_
        exact pay16_land _ _ _ _ _ _
      isplitl [Hb2]
      · iapply (owns_of_pt c cc0_scratch2 _ _ ?_) $$ Hb2
        refine (View.read_writes_full _ _ _ _ _).trans ?_
        exact pay2_land _ _ _ _ _ _
      isplitl [Hs]
      · iapply (slot_of_pt c _ _ _) $$ Hs
      isplitr [HW]
      · unfold next1; rw [dif_neg hn2]; unfold home
        isplitl [HB_dst0]; · iexists _; iexact HB_dst0
        isplitl [HB_dst1]; · iexists _; iexact HB_dst1
        isplitl [HB_dst2]; · iexists _; iexact HB_dst2
        isplitl [HB]; · iexact HB
        isplitl [Hq1]; · iexact Hq1
        isplitl [Hwg]; · iexact Hwg
        isplitl [Hwu]; · iexact Hwu
        iexact Hwd
      iexists _; iexact HW
    · sl_exec
      sl_step
      iapply Hk
      isplitl [HTe]; · iexact HTe
      isplitl [HTv]; · iexact HTv
      isplitl [HNx]; · iexact HNx
      isplitl [H5]; · iexact H5
      isplitl [H9]
      · unfold owns; iexists _; isplitr; swap; · iexact H9
        ipureintro
        refine (View.read_writes_full _ _ _ _ _).trans ?_
        unfold outV; rw [if_neg h4]
      isplitl [Hb0]
      · iapply (owns_of_pt c cc0_scratch0 _ _ ?_) $$ Hb0
        refine (View.read_writes_full _ _ _ _ _).trans ?_
        exact pay5_land _ _ _ _ _ _
      isplitl [Hb1]
      · iapply (owns_of_pt c cc0_scratch1 _ _ ?_) $$ Hb1
        refine (View.read_writes_full _ _ _ _ _).trans ?_
        exact pay16_land _ _ _ _ _ _
      isplitl [Hb2]
      · iapply (owns_of_pt c cc0_scratch2 _ _ ?_) $$ Hb2
        refine (View.read_writes_full _ _ _ _ _).trans ?_
        exact pay2_land _ _ _ _ _ _
      isplitl [Hs]
      · iapply (slot_of_pt c _ _ _) $$ Hs
      isplitr [HW]
      · unfold next1; rw [dif_neg hn2]; unfold home
        isplitl [HB_dst0]; · iexists _; iexact HB_dst0
        isplitl [HB_dst1]; · iexists _; iexact HB_dst1
        isplitl [HB_dst2]; · iexists _; iexact HB_dst2
        isplitl [HB]; · iexact HB
        isplitl [Hq1]; · iexact Hq1
        isplitl [Hwg]; · iexact Hwg
        isplitl [Hwu]; · iexact Hwu
        iexact Hwd
      iexists _; iexact HW

end Cert.Kernel.Hand

end
-- ==== Proof.RunOne.lean ====
/-
  A point where the expert changes, its weights arriving in slot 1.
-/
module

public import proofs.«01_k».proof.Proof.Common

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

theorem run_one (c : Dev nD) (i : grid0.Coords) (arg5 : Memref sig .tc .vmem S512x512 .i32) (harg5 : arg5.IsWhole)
    (arg9 : Memref sig .tc .vmem S512x512 .i32) (harg9 : arg9.IsWhole)
    (te : MBuf (F := F) c mTe) (tv : MBuf (F := F) c mTv) (nx : MBuf (F := F) c mNx)
    (wg : MBuf (F := F) c mWg) (wu : MBuf (F := F) c mWu) (wd : MBuf (F := F) c mWd)
    (f5 : MBuf (F := F) c arg5)
    (h1 : ¬ k0_cond1 i = 1#1)
    (e : BitVec 32) (he0 : e.toNat < 32)
    (h2 : k0_cond2 i (word c mTe te (k0_off3 i) (k0_off3_inb i)) (word c mTe te (k0_off4 i) (k0_off4_inb i)) = 1#1)
    (hc2 : k0_chk2 i (word c mTe te (k0_off3 i) (k0_off3_inb i)) (word c mTe te (k0_off4 i) (k0_off4_inb i)) 1#32)
    (hc3 : k0_chk3 i (word c mTe te (k0_off3 i) (k0_off3_inb i)) (word c mTe te (k0_off4 i) (k0_off4_inb i)) (word c mTe te (k0_off5 i) (k0_off5_inb i)))
    (hc4 : k0_chk4 i (word c mTe te (k0_off3 i) (k0_off3_inb i)) (word c mTe te (k0_off4 i) (k0_off4_inb i)) 1#32 (word c mNx nx (k0_off15 i) (k0_off15_inb i)))
    (hn : (k0_cond3 (word c mNx nx (k0_off15 i) (k0_off15_inb i)) = 1#1 ∧ (word c mNx nx (k0_off16 i) (k0_off16_inb i)).toNat < 32)
      ∨ (¬ k0_cond3 (word c mNx nx (k0_off15 i) (k0_off15_inb i)) = 1#1 ∧ ¬ (word c mNx nx (k0_off16 i) (k0_off16_inb i)).toNat < 32))
    (hc5 : k0_cond3 (word c mNx nx (k0_off15 i) (k0_off15_inb i)) = 1#1 → k0_chk5 i (word c mTe te (k0_off3 i) (k0_off3_inb i)) (word c mTe te (k0_off4 i) (k0_off4_inb i)) (word c mNx nx (k0_off15 i) (k0_off15_inb i)) (word c mNx nx (k0_off16 i) (k0_off16_inb i)))
    (h45 : (k0_cond4 (word c mTv tv (k0_off24 i) (k0_off24_inb i)) = 1#1 ∧ ¬ k0_cond5 (word c mTv tv (k0_off25 i) (k0_off25_inb i)) = 1#1)
      ∨ (¬ k0_cond4 (word c mTv tv (k0_off24 i) (k0_off24_inb i)) = 1#1 ∧ k0_cond5 (word c mTv tv (k0_off25 i) (k0_off25_inb i)) = 1#1))
    (W : Waits sig Unit) (K : PUnit → sProp 𝕄) :
    iprop(mPtR c mTe te ∗ mPtR c mTv tv ∗ mPtR c mNx nx
      ∗ (arg5.view.loc (c : Thread nD τ) ↦[arg5.view.set]{fullShare} f5)
      ∗ (∃ f, (arg9.view.loc (c : Thread nD τ) ↦[arg9.view.set]{fullShare} f))
      ∗ (∃ f, mPt c bWg f) ∗ (∃ f, mPt c bWu f) ∗ (∃ f, mPt c bWd f)
      ∗ mPt c mSl (fun _ => (1#32 : BitVec 32)) ∗ fly c wg wu wd q1 q0 1 (by decide) e he0
      ∗ owes (c : Thread nD τ) 0 W
      ∗ (iprop(mPtR c mTe te ∗ mPtR c mTv tv ∗ mPtR c mNx nx
          ∗ (arg5.view.loc (c : Thread nD τ) ↦[arg5.view.set]{fullShare} f5)
          ∗ owns (c : Thread nD τ) arg9 fullShare (outV (word c mTv tv (k0_off24 i) (k0_off24_inb i)) (arg5.view.read (Elt F) f5) (castA c mWg wg e he0) (castA c mWu wu e he0) (castB c mWd wd e he0))
          ∗ owns (c : Thread nD τ) bWg fullShare (castA c mWg wg e he0) ∗ owns (c : Thread nD τ) bWu fullShare (castA c mWu wu e he0) ∗ owns (c : Thread nD τ) bWd fullShare (castB c mWd wd e he0)
          ∗ mPt c mSl (fun _ => (0#32 : BitVec 32)) ∗ next0 c wg wu wd (word c mNx nx (k0_off16 i) (k0_off16_inb i))
          ∗ (∃ W', owes (c : Thread nD τ) 0 W')) -∗ K ⟨⟩))
    ⊢ wp frame (wpE (defs₀ (F := F)) Variants.none c none) Set.univ
        (cc0_experts i mTe (Memref.isWhole_whole _) mTv (Memref.isWhole_whole _) mNv (Memref.isWhole_whole _) mNx (Memref.isWhole_whole _)
          arg5 harg5 mWg (Memref.isWhole_whole _) mWu (Memref.isWhole_whole _) mWd (Memref.isWhole_whole _) arg9 harg9
          bWg (Memref.isWhole_whole _) bWu (Memref.isWhole_whole _) bWd (Memref.isWhole_whole _)
          fWg (Memref.isWhole_whole _) fWu (Memref.isWhole_whole _) fWd (Memref.isWhole_whole _) mSl (Memref.isWhole_whole _) cc0_scratch7) K := by
  simp only [cc0_experts_eq_skeleton]; unfold cc0_experts_skel
  unfold fly
  iintro ⟨HTe, HTv, HNx, H5, ⟨%f9, H9⟩, ⟨%g0, Hb0⟩, ⟨%g1, Hb1⟩, ⟨%g2, Hb2⟩, Hs, ⟨⟨%d0, %d1, %d2, HB⟩, Hq0, Hwg, Hwu, Hwd⟩, HW, Hk⟩
  ihave Hs := (pt_of_slot c 1#32) $$ Hs
  rcases hn with ⟨h3, hn2⟩ | ⟨h3, hn2⟩
  · have hc5' := hc5 h3
    imod (Transfers.batch_alloc' (Lvl := ℕ) (countersEmb (U := Pipeline.UD sig nD τ)) (c : Thread nD τ) () amt
        (deliv c _ hn2 0 (by decide) wg wu wd (landA c mWg _ he0 fWg 1 (by decide) wg d0) (landA c mWu _ he0 fWu 1 (by decide) wu d1) (landB c mWd _ he0 fWd 1 (by decide) wd d2)) (sm := q0) (E := Set.univ)) $$ Hq0 with HC
    unfold deliv
    rcases h45 with ⟨h4, h5⟩ | ⟨h4, h5⟩
    · sl_exec
      sl_step
      iapply Hk
      isplitl [HTe]; · iexact HTe
      isplitl [HTv]; · iexact HTv
      isplitl [HNx]; · iexact HNx
      isplitl [H5]; · iexact H5
      isplitl [H9]
      · unfold owns; iexists _; isplitr; swap; · iexact H9
        ipureintro
        refine (View.read_writes_full _ _ _ _ _).trans ?_
        unfold outV; rw [if_pos h4]
        rw [View.readAt_full]
        refine congrArg₃' (fun a b d => k0_pay3 _ a b d) ?_ ?_ ?_
        · refine (View.readCov_full _ _ _ _ _).trans ?_
          exact (pay5_land _ _ _ _ _ _)
        · refine (View.readCov_full _ _ _ _ _).trans ?_
          exact (pay16_land _ _ _ _ _ _)
        · refine (View.readCov_full _ _ _ _ _).trans ?_
          exact (pay2_land _ _ _ _ _ _)
      isplitl [Hb0]
      · iapply (owns_of_pt c cc0_scratch0 _ _ ?_) $$ Hb0
        refine (View.read_writes_full _ _ _ _ _).trans ?_
        exact pay5_land _ _ _ _ _ _
      isplitl [Hb1]
      · iapply (owns_of_pt c cc0_scratch1 _ _ ?_) $$ Hb1
        refine (View.read_writes_full _ _ _ _ _).trans ?_
        exact pay16_land _ _ _ _ _ _
      isplitl [Hb2]
      · iapply (owns_of_pt c cc0_scratch2 _ _ ?_) $$ Hb2
        refine (View.read_writes_full _ _ _ _ _).trans ?_
        exact pay2_land _ _ _ _ _ _
      isplitl [Hs]
      · iapply (slot_of_pt c _ _ _) $$ Hs
      isplitr [HW]
      · unfold next0; rw [dif_pos hn2]; unfold fly
        isplitl [HC]; · iexists _, _, _; iexact HC
        isplitl [HB]; · iexact HB
        isplitl [Hwg]; · iexact Hwg
        isplitl [Hwu]; · iexact Hwu
        iexact Hwd
      iexists _; iexact HW
    · sl_exec
      sl_step
      iapply Hk
      isplitl [HTe]; · iexact HTe
      isplitl [HTv]; · iexact HTv
      isplitl [HNx]; · iexact HNx
      isplitl [H5]; · iexact H5
      isplitl [H9]
      · unfold owns; iexists _; isplitr; swap; · iexact H9
        ipureintro
        refine (View.read_writes_full _ _ _ _ _).trans ?_
        unfold outV; rw [if_neg h4]
      isplitl [Hb0]
      · iapply (owns_of_pt c cc0_scratch0 _ _ ?_) $$ Hb0
        refine (View.read_writes_full _ _ _ _ _).trans ?_
        exact pay5_land _ _ _ _ _ _
      isplitl [Hb1]
      · iapply (owns_of_pt c cc0_scratch1 _ _ ?_) $$ Hb1
        refine (View.read_writes_full _ _ _ _ _).trans ?_
        exact pay16_land _ _ _ _ _ _
      isplitl [Hb2]
      · iapply (owns_of_pt c cc0_scratch2 _ _ ?_) $$ Hb2
        refine (View.read_writes_full _ _ _ _ _).trans ?_
        exact pay2_land _ _ _ _ _ _
      isplitl [Hs]
      · iapply (slot_of_pt c _ _ _) $$ Hs
      isplitr [HW]
      · unfold next0; rw [dif_pos hn2]; unfold fly
        isplitl [HC]; · iexists _, _, _; iexact HC
        isplitl [HB]; · iexact HB
        isplitl [Hwg]; · iexact Hwg
        isplitl [Hwu]; · iexact Hwu
        iexact Hwd
      iexists _; iexact HW
  · unfold deliv
    rcases h45 with ⟨h4, h5⟩ | ⟨h4, h5⟩
    · sl_exec
      sl_step
      iapply Hk
      isplitl [HTe]; · iexact HTe
      isplitl [HTv]; · iexact HTv
      isplitl [HNx]; · iexact HNx
      isplitl [H5]; · iexact H5
      isplitl [H9]
      · unfold owns; iexists _; isplitr; swap; · iexact H9
        ipureintro
        refine (View.read_writes_full _ _ _ _ _).trans ?_
        unfold outV; rw [if_pos h4]
        rw [View.readAt_full]
        refine congrArg₃' (fun a b d => k0_pay3 _ a b d) ?_ ?_ ?_
        · refine (View.readCov_full _ _ _ _ _).trans ?_
          exact (pay5_land _ _ _ _ _ _)
        · refine (View.readCov_full _ _ _ _ _).trans ?_
          exact (pay16_land _ _ _ _ _ _)
        · refine (View.readCov_full _ _ _ _ _).trans ?_
          exact (pay2_land _ _ _ _ _ _)
      isplitl [Hb0]
      · iapply (owns_of_pt c cc0_scratch0 _ _ ?_) $$ Hb0
        refine (View.read_writes_full _ _ _ _ _).trans ?_
        exact pay5_land _ _ _ _ _ _
      isplitl [Hb1]
      · iapply (owns_of_pt c cc0_scratch1 _ _ ?_) $$ Hb1
        refine (View.read_writes_full _ _ _ _ _).trans ?_
        exact pay16_land _ _ _ _ _ _
      isplitl [Hb2]
      · iapply (owns_of_pt c cc0_scratch2 _ _ ?_) $$ Hb2
        refine (View.read_writes_full _ _ _ _ _).trans ?_
        exact pay2_land _ _ _ _ _ _
      isplitl [Hs]
      · iapply (slot_of_pt c _ _ _) $$ Hs
      isplitr [HW]
      · unfold next0; rw [dif_neg hn2]; unfold home
        isplitl [HB_dst0]; · iexists _; iexact HB_dst0
        isplitl [HB_dst1]; · iexists _; iexact HB_dst1
        isplitl [HB_dst2]; · iexists _; iexact HB_dst2
        isplitl [Hq0]; · iexact Hq0
        isplitl [HB]; · iexact HB
        isplitl [Hwg]; · iexact Hwg
        isplitl [Hwu]; · iexact Hwu
        iexact Hwd
      iexists _; iexact HW
    · sl_exec
      sl_step
      iapply Hk
      isplitl [HTe]; · iexact HTe
      isplitl [HTv]; · iexact HTv
      isplitl [HNx]; · iexact HNx
      isplitl [H5]; · iexact H5
      isplitl [H9]
      · unfold owns; iexists _; isplitr; swap; · iexact H9
        ipureintro
        refine (View.read_writes_full _ _ _ _ _).trans ?_
        unfold outV; rw [if_neg h4]
      isplitl [Hb0]
      · iapply (owns_of_pt c cc0_scratch0 _ _ ?_) $$ Hb0
        refine (View.read_writes_full _ _ _ _ _).trans ?_
        exact pay5_land _ _ _ _ _ _
      isplitl [Hb1]
      · iapply (owns_of_pt c cc0_scratch1 _ _ ?_) $$ Hb1
        refine (View.read_writes_full _ _ _ _ _).trans ?_
        exact pay16_land _ _ _ _ _ _
      isplitl [Hb2]
      · iapply (owns_of_pt c cc0_scratch2 _ _ ?_) $$ Hb2
        refine (View.read_writes_full _ _ _ _ _).trans ?_
        exact pay2_land _ _ _ _ _ _
      isplitl [Hs]
      · iapply (slot_of_pt c _ _ _) $$ Hs
      isplitr [HW]
      · unfold next0; rw [dif_neg hn2]; unfold home
        isplitl [HB_dst0]; · iexists _; iexact HB_dst0
        isplitl [HB_dst1]; · iexists _; iexact HB_dst1
        isplitl [HB_dst2]; · iexists _; iexact HB_dst2
        isplitl [Hq0]; · iexact Hq0
        isplitl [HB]; · iexact HB
        isplitl [Hwg]; · iexact Hwg
        isplitl [Hwu]; · iexact Hwu
        iexact Hwd
      iexists _; iexact HW

end Cert.Kernel.Hand

end
-- ==== Proof.RunSame.lean ====
/-
  A point of the same expert as the one before.
-/
module

public import proofs.«01_k».proof.Proof.Common

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

theorem run_same (c : Dev nD) (i : grid0.Coords) (arg5 : Memref sig .tc .vmem S512x512 .i32) (harg5 : arg5.IsWhole)
    (arg9 : Memref sig .tc .vmem S512x512 .i32) (harg9 : arg9.IsWhole)
    (te : MBuf (F := F) c mTe) (tv : MBuf (F := F) c mTv) (nx : MBuf (F := F) c mNx)
    (wg : MBuf (F := F) c mWg) (wu : MBuf (F := F) c mWu) (wd : MBuf (F := F) c mWd)
    (f5 : MBuf (F := F) c arg5)
    (h1 : ¬ k0_cond1 i = 1#1)
    (h2 : ¬ k0_cond2 i (word c mTe te (k0_off3 i) (k0_off3_inb i)) (word c mTe te (k0_off4 i) (k0_off4_inb i)) = 1#1)
    (G0 G1 : FVec F S1024x256 .bf16) (G2 : FVec F S256x1024 .bf16)
    (h45 : (k0_cond4 (word c mTv tv (k0_off24 i) (k0_off24_inb i)) = 1#1 ∧ ¬ k0_cond5 (word c mTv tv (k0_off25 i) (k0_off25_inb i)) = 1#1)
      ∨ (¬ k0_cond4 (word c mTv tv (k0_off24 i) (k0_off24_inb i)) = 1#1 ∧ k0_cond5 (word c mTv tv (k0_off25 i) (k0_off25_inb i)) = 1#1))
    (W : Waits sig Unit) (K : PUnit → sProp 𝕄) :
    iprop(mPtR c mTe te ∗ mPtR c mTv tv ∗ mPtR c mNx nx
      ∗ (arg5.view.loc (c : Thread nD τ) ↦[arg5.view.set]{fullShare} f5)
      ∗ (∃ f, (arg9.view.loc (c : Thread nD τ) ↦[arg9.view.set]{fullShare} f))
      ∗ owns (c : Thread nD τ) bWg fullShare G0 ∗ owns (c : Thread nD τ) bWu fullShare G1 ∗ owns (c : Thread nD τ) bWd fullShare G2
      ∗ owes (c : Thread nD τ) 0 W
      ∗ (iprop(mPtR c mTe te ∗ mPtR c mTv tv ∗ mPtR c mNx nx
          ∗ (arg5.view.loc (c : Thread nD τ) ↦[arg5.view.set]{fullShare} f5)
          ∗ owns (c : Thread nD τ) arg9 fullShare (outV (word c mTv tv (k0_off24 i) (k0_off24_inb i)) (arg5.view.read (Elt F) f5) G0 G1 G2)
          ∗ owns (c : Thread nD τ) bWg fullShare G0 ∗ owns (c : Thread nD τ) bWu fullShare G1 ∗ owns (c : Thread nD τ) bWd fullShare G2
          ∗ (∃ W', owes (c : Thread nD τ) 0 W')) -∗ K ⟨⟩))
    ⊢ wp frame (wpE (defs₀ (F := F)) Variants.none c none) Set.univ
        (cc0_experts i mTe (Memref.isWhole_whole _) mTv (Memref.isWhole_whole _) mNv (Memref.isWhole_whole _) mNx (Memref.isWhole_whole _)
          arg5 harg5 mWg (Memref.isWhole_whole _) mWu (Memref.isWhole_whole _) mWd (Memref.isWhole_whole _) arg9 harg9
          bWg (Memref.isWhole_whole _) bWu (Memref.isWhole_whole _) bWd (Memref.isWhole_whole _)
          fWg (Memref.isWhole_whole _) fWu (Memref.isWhole_whole _) fWd (Memref.isWhole_whole _) mSl (Memref.isWhole_whole _) cc0_scratch7) K := by
  simp only [cc0_experts_eq_skeleton]; unfold cc0_experts_skel
  unfold owns
  iintro ⟨HTe, HTv, HNx, H5, ⟨%f9, H9⟩, ⟨%g0, %e0, Hb0⟩, ⟨%g1, %e1, Hb1⟩, ⟨%g2, %e2, Hb2⟩, HW, Hk⟩
  rcases h45 with ⟨h4, h5⟩ | ⟨h4, h5⟩
  · sl_exec
    sl_step
    iapply Hk
    isplitl [HTe]; · iexact HTe
    isplitl [HTv]; · iexact HTv
    isplitl [HNx]; · iexact HNx
    isplitl [H5]; · iexact H5
    isplitl [H9]
    · iexists _; isplitr; swap; · iexact H9
      ipureintro
      refine (View.read_writes_full _ _ _ _ _).trans ?_
      unfold outV; rw [if_pos h4]
      rw [View.readAt_full]
      refine congrArg₃' (fun a b d => k0_pay3 _ a b d) ?_ ?_ ?_
      · exact (View.readAt_full _ _ _).trans e0
      · exact (View.readAt_full _ _ _).trans e1
      · exact (View.readAt_full _ _ _).trans e2
    isplitl [Hb0]
    · iexists _; isplitr; swap; · iexact Hb0
      ipureintro; exact e0
    isplitl [Hb1]
    · iexists _; isplitr; swap; · iexact Hb1
      ipureintro; exact e1
    isplitl [Hb2]
    · iexists _; isplitr; swap; · iexact Hb2
      ipureintro; exact e2
    iexists _; iexact HW
  · sl_exec
    sl_step
    iapply Hk
    isplitl [HTe]; · iexact HTe
    isplitl [HTv]; · iexact HTv
    isplitl [HNx]; · iexact HNx
    isplitl [H5]; · iexact H5
    isplitl [H9]
    · iexists _; isplitr; swap; · iexact H9
      ipureintro
      refine (View.read_writes_full _ _ _ _ _).trans ?_
      unfold outV; rw [if_neg h4]
    isplitl [Hb0]
    · iexists _; isplitr; swap; · iexact Hb0
      ipureintro; exact e0
    isplitl [Hb1]
    · iexists _; isplitr; swap; · iexact Hb1
      ipureintro; exact e1
    isplitl [Hb2]
    · iexists _; isplitr; swap; · iexact Hb2
      ipureintro; exact e2
    iexists _; iexact HW

end Cert.Kernel.Hand

end
-- ==== Proof.Point.lean ====
/-
  One point of the grid, from what the point before left to what the next one needs.
-/
module

public import proofs.«01_k».proof.Proof.Words
public import proofs.«01_k».proof.Proof.RunFirst
public import proofs.«01_k».proof.Proof.RunZero
public import proofs.«01_k».proof.Proof.RunOne
public import proofs.«01_k».proof.Proof.RunSame

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

/-- The current expert's weights at bf16, in the three scratch buffers. -/
def bufs (c : Dev nD) (wg : MBuf (F := F) c mWg) (wu : MBuf (F := F) c mWu) (wd : MBuf (F := F) c mWd) (e : BitVec 32) (he : e.toNat < 32) : sProp 𝕄 :=
  iprop(owns (c : Thread nD τ) bWg fullShare (castA c mWg wg e he) ∗ owns (c : Thread nD τ) bWu fullShare (castA c mWu wu e he)
    ∗ owns (c : Thread nD τ) bWd fullShare (castB c mWd wd e he))
/-- The slot's number, and what is in flight into it. -/
def slotSt (c : Dev nD) (wg : MBuf (F := F) c mWg) (wu : MBuf (F := F) c mWu) (wd : MBuf (F := F) c mWd) (x : BitVec 32) : Bool → sProp 𝕄
  | false => iprop(mPt c mSl (fun _ => (0#32 : BitVec 32)) ∗ next0 c wg wu wd x)
  | true => iprop(mPt c mSl (fun _ => (1#32 : BitVec 32)) ∗ next1 c wg wu wd x)

/-- What holds of the scratch, the cells and the weights before point `n`. -/
def Inv (c : Dev nD) (te nx : S96.Idx → BitVec 32) (wg : MBuf (F := F) c mWg) (wu : MBuf (F := F) c mWu) (wd : MBuf (F := F) c mWd) : ℕ → sProp 𝕄
  | 0 => iprop((∃ f, mPt c bWg f) ∗ (∃ f, mPt c bWu f) ∗ (∃ f, mPt c bWd f) ∗ (∃ f, mPt c mSl f) ∗ home c wg wu wd)
  | n + 1 => iprop(∃ he : (at96 te n).toNat < 32, bufs c wg wu wd (at96 te n) he ∗ ∃ b, slotSt c wg wu wd (at96 nx n) b)

theorem inv_zero (c : Dev nD) (te nx : S96.Idx → BitVec 32) (wg : MBuf (F := F) c mWg) (wu : MBuf (F := F) c mWu) (wd : MBuf (F := F) c mWd) :
    Inv c te nx wg wu wd 0 = iprop((∃ f, mPt c bWg f) ∗ (∃ f, mPt c bWu f) ∗ (∃ f, mPt c bWd f) ∗ (∃ f, mPt c mSl f) ∗ home c wg wu wd) := rfl
theorem inv_succ (c : Dev nD) (te nx : S96.Idx → BitVec 32) (wg : MBuf (F := F) c mWg) (wu : MBuf (F := F) c mWu) (wd : MBuf (F := F) c mWd) (n : ℕ) :
    Inv c te nx wg wu wd (n + 1) = iprop(∃ he : (at96 te n).toNat < 32, bufs c wg wu wd (at96 te n) he ∗ ∃ b, slotSt c wg wu wd (at96 nx n) b) := rfl

theorem inv_at (c : Dev nD) (te nx : S96.Idx → BitVec 32) (wg : MBuf (F := F) c mWg) (wu : MBuf (F := F) c mWu) (wd : MBuf (F := F) c mWd) (n : ℕ)
    (e x : BitVec 32) (h : at96 te n = e) (hx : at96 nx n = x) :
    Inv c te nx wg wu wd (n + 1) = iprop(∃ he : e.toNat < 32, bufs c wg wu wd e he ∗ ∃ b, slotSt c wg wu wd x b) := by subst h hx; rfl

theorem next0_pos (c : Dev nD) (wg : MBuf (F := F) c mWg) (wu : MBuf (F := F) c mWu) (wd : MBuf (F := F) c mWd) (e : BitVec 32) (he : e.toNat < 32) :
    next0 c wg wu wd e = fly c wg wu wd q0 q1 0 (by decide) e he := dif_pos he
theorem next1_pos (c : Dev nD) (wg : MBuf (F := F) c mWg) (wu : MBuf (F := F) c mWu) (wd : MBuf (F := F) c mWd) (e : BitVec 32) (he : e.toNat < 32) :
    next1 c wg wu wd e = fly c wg wu wd q1 q0 1 (by decide) e he := dif_pos he

theorem pt_of_owns (c : Dev nD) (b : Ref sig .tc) (X) :
    (owns (c : Thread nD τ) (Memref.whole b) fullShare X : sProp 𝕄) ⊢ iprop(∃ f, mPt c (Memref.whole b) f) := by
  rw [owns_whole]
  iintro H
  iexists X
  iexact H

set_option maxHeartbeats 1000000 in
theorem point (c : Dev nD) (i : grid0.Coords) (arg5 : Memref sig .tc .vmem S512x512 .i32) (harg5 : arg5.IsWhole)
    (arg9 : Memref sig .tc .vmem S512x512 .i32) (harg9 : arg9.IsWhole)
    (te : MBuf (F := F) c mTe) (tv : MBuf (F := F) c mTv) (nx : MBuf (F := F) c mNx)
    (wg : MBuf (F := F) c mWg) (wu : MBuf (F := F) c mWu) (wd : MBuf (F := F) c mWd)
    (f5 : MBuf (F := F) c arg5) (T : Tabs te tv nx) (n : ℕ) (hi : pt i = n) (he : (at96 te n).toNat < 32)
    (W : Waits sig Unit) (K : PUnit → sProp 𝕄) :
    iprop(mPtR c mTe te ∗ mPtR c mTv tv ∗ mPtR c mNx nx
      ∗ (arg5.view.loc (c : Thread nD τ) ↦[arg5.view.set]{fullShare} f5)
      ∗ (∃ f, (arg9.view.loc (c : Thread nD τ) ↦[arg9.view.set]{fullShare} f))
      ∗ Inv c te nx wg wu wd n
      ∗ owes (c : Thread nD τ) 0 W
      ∗ (iprop(mPtR c mTe te ∗ mPtR c mTv tv ∗ mPtR c mNx nx
          ∗ (arg5.view.loc (c : Thread nD τ) ↦[arg5.view.set]{fullShare} f5)
          ∗ owns (c : Thread nD τ) arg9 fullShare (outV (at96 tv n) (arg5.view.read (Elt F) f5)
              (castA c mWg wg (at96 te n) he) (castA c mWu wu (at96 te n) he) (castB c mWd wd (at96 te n) he))
          ∗ Inv c te nx wg wu wd (n + 1)
          ∗ (∃ W', owes (c : Thread nD τ) 0 W')) -∗ K ⟨⟩))
    ⊢ wp frame (wpE (defs₀ (F := F)) Variants.none c none) Set.univ
        (cc0_experts i mTe (Memref.isWhole_whole _) mTv (Memref.isWhole_whole _) mNv (Memref.isWhole_whole _) mNx (Memref.isWhole_whole _)
          arg5 harg5 mWg (Memref.isWhole_whole _) mWu (Memref.isWhole_whole _) mWd (Memref.isWhole_whole _) arg9 harg9
          bWg (Memref.isWhole_whole _) bWu (Memref.isWhole_whole _) bWd (Memref.isWhole_whole _)
          fWg (Memref.isWhole_whole _) fWu (Memref.isWhole_whole _) fWd (Memref.isWhole_whole _) mSl (Memref.isWhole_whole _) cc0_scratch7) K := by
  have hp := pt_lt i
  rw [hi] at hp
  have w0 : word c mTe te ![0] inb_S96_S1_0 = at96 te 0 := word_te c te _ _ 0 rfl (by decide)
  have w3 := word_te c te (k0_off3 i) (k0_off3_inb i) n ((off3_eq i).trans (by rw [hi])) hp
  have w4 := word_te c te (k0_off4 i) (k0_off4_inb i) (n - 1) ((off4_eq i).trans (by rw [hi])) (by omega)
  have w5 := word_te c te (k0_off5 i) (k0_off5_inb i) n ((off5_eq i).trans (by rw [hi])) hp
  have w15 := word_nx c nx (k0_off15 i) (k0_off15_inb i) n ((off15_eq i).trans (by rw [hi])) hp
  have w16 := word_nx c nx (k0_off16 i) (k0_off16_inb i) n ((off16_eq i).trans (by rw [hi])) hp
  have w24 := word_tv c tv (k0_off24 i) (k0_off24_inb i) n ((off24_eq i).trans (by rw [hi])) hp
  have w25 := word_tv c tv (k0_off25 i) (k0_off25_inb i) n ((off25_eq i).trans (by rw [hi])) hp
  have hn : (k0_cond3 (at96 nx n) = 1#1 ∧ (at96 nx n).toNat < 32) ∨ (¬ k0_cond3 (at96 nx n) = 1#1 ∧ ¬ (at96 nx n).toNat < 32) := by
    rcases T.nx_range _ hp with h | h
    · right; rw [h]; exact ⟨cond3_neg, by decide⟩
    · left; exact ⟨cond3_lt _ h, h⟩
  have hc5 : ∀ v w, k0_cond3 (at96 nx n) = 1#1 → k0_chk5 i v w (at96 nx n) (at96 nx n) := by
    intro v w h3
    rcases hn with ⟨_, h⟩ | ⟨h, _⟩
    · exact chk5_of _ _ _ _ _ h
    · exact absurd h3 h
  have h45 := cond45 _ (T.tv01 _ hp)
  rcases n with _ | n
  · have he0 : (word c mTe te ![0] inb_S96_S1_0).toNat < 32 := by rw [w0]; exact T.e_lt 0 (by decide)
    have E := run_first c i arg5 harg5 arg9 harg9 te tv nx wg wu wd f5 (cond1_zero i hi) he0
      (chk1_of _ _ he0) (cond2_zero i hi _ _) (chk2_0 _ _ _)
      (by rw [w5]; exact chk3_of _ _ _ _ he) (chk4_0 _ _ _ _) (by rw [w15, w16]; exact hn) (by rw [w15, w16]; exact hc5 _ _) (by rw [w24, w25]; exact h45) W K
    revert E; revert he0; rw [w0]; intro he0 E
    simp only [w16, w24] at E
    rw [inv_zero, inv_succ c te nx wg wu wd 0]
    iintro ⟨HTe, HTv, HNx, H5, H9, HI, HW, Hk⟩
    icases HI with ⟨Hb0, Hb1, Hb2, Hs, Hh⟩
    iapply E
    isplitl [HTe]; · iexact HTe
    isplitl [HTv]; · iexact HTv
    isplitl [HNx]; · iexact HNx
    isplitl [H5]; · iexact H5
    isplitl [H9]; · iexact H9
    isplitl [Hb0]; · iexact Hb0
    isplitl [Hb1]; · iexact Hb1
    isplitl [Hb2]; · iexact Hb2
    isplitl [Hs]; · iexact Hs
    isplitl [Hh]; · iexact Hh
    isplitl [HW]; · iexact HW
    iintro ⟨HTe, HTv, HNx, H5, H9, Hb0, Hb1, Hb2, Hs, Hn, HW⟩
    iapply Hk
    isplitl [HTe]; · iexact HTe
    isplitl [HTv]; · iexact HTv
    isplitl [HNx]; · iexact HNx
    isplitl [H5]; · iexact H5
    isplitl [H9]; · iexact H9
    isplitr [HW]
    · iexists he
      isplitl [Hb0 Hb1 Hb2]
      · unfold bufs
        isplitl [Hb0]; · iexact Hb0
        isplitl [Hb1]; · iexact Hb1
        iexact Hb2
      iexists true
      unfold slotSt
      isplitl [Hs]; · iexact Hs
      iexact Hn
    iexact HW
  · have h1 := cond1_pos i (by omega)
    rw [show n + 1 - 1 = n by omega] at w4
    by_cases hsame : at96 te (n + 1) = at96 te n
    · have E := fun G0 G1 G2 => run_same c i arg5 harg5 arg9 harg9 te tv nx wg wu wd f5 h1 (by rw [w3, w4, hsame]; exact cond2_same i (by omega) _)
        G0 G1 G2 (by rw [w24, w25]; exact h45) W K
      simp only [w24] at E
      have hx : at96 nx n = at96 nx (n + 1) := (T.nx_same n (by omega) hsame).symm
      rw [inv_at c te nx wg wu wd n _ _ hsame.symm hx, inv_succ]
      unfold bufs
      iintro ⟨HTe, HTv, HNx, H5, H9, HI, HW, Hk⟩
      icases HI with ⟨%he', ⟨Hb0, Hb1, Hb2⟩, ⟨%b, Hs⟩⟩
      iapply (E (castA c mWg wg (at96 te (n + 1)) he) (castA c mWu wu (at96 te (n + 1)) he) (castB c mWd wd (at96 te (n + 1)) he))
      isplitl [HTe]; · iexact HTe
      isplitl [HTv]; · iexact HTv
      isplitl [HNx]; · iexact HNx
      isplitl [H5]; · iexact H5
      isplitl [H9]; · iexact H9
      isplitl [Hb0]; · iexact Hb0
      isplitl [Hb1]; · iexact Hb1
      isplitl [Hb2]; · iexact Hb2
      isplitl [HW]; · iexact HW
      iintro ⟨HTe, HTv, HNx, H5, H9, Hb0, Hb1, Hb2, HW⟩
      iapply Hk
      isplitl [HTe]; · iexact HTe
      isplitl [HTv]; · iexact HTv
      isplitl [HNx]; · iexact HNx
      isplitl [H5]; · iexact H5
      isplitl [H9]; · iexact H9
      isplitr [HW]
      · iexists he
        isplitl [Hb0 Hb1 Hb2]
        · isplitl [Hb0]; · iexact Hb0
          isplitl [Hb1]; · iexact Hb1
          iexact Hb2
        iexists b
        iexact Hs
      iexact HW
    · have h2 : k0_cond2 i (word c mTe te (k0_off3 i) (k0_off3_inb i)) (word c mTe te (k0_off4 i) (k0_off4_inb i)) = 1#1 := by
        rw [w3, w4]; exact cond2_ne i _ _ hsame
      have hx : at96 nx n = at96 te (n + 1) := T.nx_new n (by omega) hsame
      have E0 := run_zero c i arg5 harg5 arg9 harg9 te tv nx wg wu wd f5 h1 (at96 te (n + 1)) he h2 (chk2_0 _ _ _)
        (by rw [w5]; exact chk3_of _ _ _ _ he) (chk4_0 _ _ _ _) (by rw [w15, w16]; exact hn) (by rw [w15, w16]; exact hc5 _ _) (by rw [w24, w25]; exact h45) W K
      have E1 := run_one c i arg5 harg5 arg9 harg9 te tv nx wg wu wd f5 h1 (at96 te (n + 1)) he h2 (chk2_1 _ _ _)
        (by rw [w5]; exact chk3_of _ _ _ _ he) (chk4_1 _ _ _ _) (by rw [w15, w16]; exact hn) (by rw [w15, w16]; exact hc5 _ _) (by rw [w24, w25]; exact h45) W K
      simp only [w16, w24] at E0 E1
      rw [inv_at c te nx wg wu wd n _ _ rfl hx, inv_succ]
      unfold bufs slotSt
      rw [next0_pos _ _ _ _ _ he, next1_pos _ _ _ _ _ he]
      iintro ⟨HTe, HTv, HNx, H5, H9, HI, HW, Hk⟩
      icases HI with ⟨%he', ⟨Hb0, Hb1, Hb2⟩, ⟨%b, Hs⟩⟩
      cases b
      · icases Hs with ⟨Hs, Hn⟩
        iapply E0
        isplitl [HTe]; · iexact HTe
        isplitl [HTv]; · iexact HTv
        isplitl [HNx]; · iexact HNx
        isplitl [H5]; · iexact H5
        isplitl [H9]; · iexact H9
        isplitl [Hb0]; · iapply (pt_of_owns c cc0_scratch0 _) $$ Hb0
        isplitl [Hb1]; · iapply (pt_of_owns c cc0_scratch1 _) $$ Hb1
        isplitl [Hb2]; · iapply (pt_of_owns c cc0_scratch2 _) $$ Hb2
        isplitl [Hs]; · iexact Hs
        isplitl [Hn]; · iexact Hn
        isplitl [HW]; · iexact HW
        iintro ⟨HTe, HTv, HNx, H5, H9, Hb0, Hb1, Hb2, Hs, Hn, HW⟩
        iapply Hk
        isplitl [HTe]; · iexact HTe
        isplitl [HTv]; · iexact HTv
        isplitl [HNx]; · iexact HNx
        isplitl [H5]; · iexact H5
        isplitl [H9]; · iexact H9
        isplitr [HW]
        · iexists he
          isplitl [Hb0 Hb1 Hb2]
          · isplitl [Hb0]; · iexact Hb0
            isplitl [Hb1]; · iexact Hb1
            iexact Hb2
          iexists true
          isplitl [Hs]; · iexact Hs
          iexact Hn
        iexact HW
      · icases Hs with ⟨Hs, Hn⟩
        iapply E1
        isplitl [HTe]; · iexact HTe
        isplitl [HTv]; · iexact HTv
        isplitl [HNx]; · iexact HNx
        isplitl [H5]; · iexact H5
        isplitl [H9]; · iexact H9
        isplitl [Hb0]; · iapply (pt_of_owns c cc0_scratch0 _) $$ Hb0
        isplitl [Hb1]; · iapply (pt_of_owns c cc0_scratch1 _) $$ Hb1
        isplitl [Hb2]; · iapply (pt_of_owns c cc0_scratch2 _) $$ Hb2
        isplitl [Hs]; · iexact Hs
        isplitl [Hn]; · iexact Hn
        isplitl [HW]; · iexact HW
        iintro ⟨HTe, HTv, HNx, H5, H9, Hb0, Hb1, Hb2, Hs, Hn, HW⟩
        iapply Hk
        isplitl [HTe]; · iexact HTe
        isplitl [HTv]; · iexact HTv
        isplitl [HNx]; · iexact HNx
        isplitl [H5]; · iexact H5
        isplitl [H9]; · iexact H9
        isplitr [HW]
        · iexists he
          isplitl [Hb0 Hb1 Hb2]
          · isplitl [Hb0]; · iexact Hb0
            isplitl [Hb1]; · iexact Hb1
            iexact Hb2
          iexists false
          isplitl [Hs]; · iexact Hs
          iexact Hn
        iexact HW

end Cert.Kernel.Hand

end
-- ==== Proof.Frame.lean ====
/-
  The experts' launch: the proof data, the body obligation at every point, the run and what it leaves.
-/
module

public import proofs.«01_k».proof.Proof.Point

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

open Idealize.ShloMosaic.Pipeline (Dat Cfg Window BodyObligation)

variable (m : (ℓ : Loc nD τ sig) → Buf (Elt F) ℓ) (ρ : Dev nD → PrngReg)

/-- The host operations before the region, line by line. -/
abbrev opss : List (List (HloOp τ sig (Elt F))) := [hostOps0, hostOps0_1, hostOps0_2, hostOps0_3, hostOps0_4, hostOps0_5]
/-- What a buffer holds when the region is entered. -/
def V (c : Dev nD) (b : Ref sig .tc) : Buf (Elt F) ((c : Thread nD τ).loc b) := StableHlo.after opss.flatten (fun b => m (c, b)) b

theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefixes pcfgs 0 defs₀ 𝒱₀ m main opss
    ⟨hostOps0_sub, hostOps0_1_sub, hostOps0_2_sub, hostOps0_3_sub, hostOps0_4_sub, hostOps0_5_sub⟩
    (by simp only [List.Forall, opss, hostOps0, hostOps0_1, hostOps0_2, hostOps0_3, hostOps0_4, hostOps0_5]; repeat' apply And.intro
        all_goals rfl) (fun c => main_chain c)

/-- The tables' contents at the region's entry. -/
def tbl : pre0.Contents (Elt F) := fun k => V m 0 (pre0.ref k)

/-- What the run needs of the tables: the fetched block inside the rows at every point, and the words of `Tabs`. -/
structure Good : Prop where
  ok : ok0 (tbl m)
  tabs : ∀ c, Tabs (V m c main_v11) (V m c main_arg1) (V m c main_v27)

variable (G : Good m)

def adm : (p : Fin 1) → (pcfgs (F := F) p).Adm := fun _ => ⟨tbl m, G.ok⟩

abbrev cfgA : Cfg sig Λ₀ := cfg0 (adm m G 0)

/-- The input block at a point. -/
def iblk (c : Dev nD) (t : Fin (cfgA m G).N) : Vec F S512x512 .i32 :=
  (((cfgA m G).win 0).blk t).view.read (Elt F) (V m c main_arg2)

theorem N96 : (cfgA m G).N = 96 := N_0
theorem t_lt (t : Fin (cfgA m G).N) : t.val < 96 := (N96 m G) ▸ t.isLt

/-- What the body leaves in the output's buffer at a point. -/
def outAt (c : Dev nD) (t : Fin (cfgA m G).N) : Vec F S512x512 .i32 :=
  outV (at96 (V m c main_arg1) t.val) (iblk m G c t)
    (castA c mWg (V m c main_arg3) (at96 (V m c main_v11) t.val) ((G.tabs c).e_lt _ (t_lt m G t)))
    (castA c mWu (V m c main_arg4) (at96 (V m c main_v11) t.val) ((G.tabs c).e_lt _ (t_lt m G t)))
    (castB c mWd (V m c main_arg5) (at96 (V m c main_v11) t.val) ((G.tabs c).e_lt _ (t_lt m G t)))

/-- The core's state between points, apart from the windows. -/
def Phi (c : Dev nD) (n : ℕ) : sProp 𝕄 :=
  iprop(mPtR c mTe (V m c main_v11) ∗ mPtR c mTv (V m c main_arg1) ∗ mPtR c mNv (V m c main_v1) ∗ mPtR c mNx (V m c main_v27)
    ∗ (∃ r, prngReg c r)
    ∗ Inv c (V m c main_v11) (V m c main_v27) (V m c main_arg3) (V m c main_arg4) (V m c main_arg5) n)

def dats (p : Fin 1) (c : Dev nD) : Dat τ (Elt F) Unit ℕ (Pipeline.UD sig nD τ) ℕ (Pipeline.pin pcfgs (adm m G) p) c where
  A w := V m c (Pipeline.arrRef spec0 w)
  after w t := match w with
    | ⟨0, _⟩ => iblk m G c t
    | ⟨1, _⟩ => outAt m G c t
  Φ t := Phi m c t.val
  q _ := fullShare
  owed _ := 0

theorem A_eq (c : Dev nD) (w : Fin (cfgA m G).W) : (dats m G 0 c).A w = V m c (Pipeline.arrRef spec0 w) := by
  dsimp only [dats]
theorem after_0 (c : Dev nD) (t : Fin (cfgA m G).N) : (dats m G 0 c).after 0 t = iblk m G c t := by exact id rfl
seal outAt in
theorem after_1 (c : Dev nD) (t : Fin (cfgA m G).N) : (dats m G 0 c).after 1 t = outAt m G c t := by exact id rfl

theorem before_0 (c : Dev nD) (t : Fin (cfgA m G).N) (d) : (dats m G 0 c).before 0 t d = iblk m G c t :=
  ((dats m G 0 c).before_in_eq_fetched 0 rfl (fun _ => rfl) (fun _ _ _ => rfl)
    (fun t => by rw [after_0]; unfold Dat.blockOf iblk; rw [A_eq]; rfl) t d).trans
    (by unfold Dat.fetched Dat.blockOf iblk; rw [A_eq]; rfl)

theorem coords_pt : ∀ t : Fin 96, ((grid0.coords (t.cast N_0.symm)) 0).val = t.val := by decide
theorem pt_coords (t : Fin (cfgA m G).N) : pt ((cfgA m G).grid.coords t) = t.val := coords_pt ⟨t.val, t_lt m G t⟩

/-- The windows' buffers at a point, and the body called with them. -/
abbrev ms0 (t : Fin (cfgA m G).N) : Memref sig .tc .vmem S512x512 .i32 := spec0_0.stage ((cfgA m G).slots t 0)
abbrev ms1 (t : Fin (cfgA m G).N) : Memref sig .tc .vmem S512x512 .i32 := spec0_1.stage ((cfgA m G).slots t 1)
theorem hs0 (t : Fin (cfgA m G).N) : (ms0 m G t).IsWhole := hstage0_0 (((cfgA m G).slots t 0).cast nbuf0_0)
theorem hs1 (t : Fin (cfgA m G).N) : (ms1 m G t).IsWhole := hstage0_1 (((cfgA m G).slots t 1).cast nbuf0_1)

def bodyAt (t : Fin (cfgA m G).N) : Prog (TpuEff nD τ sig (Elt F) Λ₀ .tc) PUnit :=
  cc0_experts ((cfgA m G).grid.coords t) mTe (Memref.isWhole_whole _) mTv (Memref.isWhole_whole _) mNv (Memref.isWhole_whole _) mNx (Memref.isWhole_whole _)
          (ms0 m G t) (hs0 m G t) mWg (Memref.isWhole_whole _) mWu (Memref.isWhole_whole _) mWd (Memref.isWhole_whole _) (ms1 m G t) (hs1 m G t)
          bWg (Memref.isWhole_whole _) bWu (Memref.isWhole_whole _) bWd (Memref.isWhole_whole _)
          fWg (Memref.isWhole_whole _) fWu (Memref.isWhole_whole _) fWd (Memref.isWhole_whole _) mSl (Memref.isWhole_whole _) cc0_scratch7

def bodyPre (c : Dev nD) (t : Fin (cfgA m G).N) : sProp 𝕄 :=
  iprop((dats m G 0 c).Φ t.castSucc ∗ (dats m G 0 c).owesAt () t.castSucc
    ∗ (∃ d, owns (c : Thread nD τ) (ms0 m G t) fullShare ((dats m G 0 c).before 0 t d))
    ∗ (∃ d, owns (c : Thread nD τ) (ms1 m G t) fullShare ((dats m G 0 c).before 1 t d)))
def bodyPost (c : Dev nD) (t : Fin (cfgA m G).N) : sProp 𝕄 :=
  iprop((dats m G 0 c).Φ t.succ ∗ (dats m G 0 c).owesAt () t.succ
    ∗ owns (c : Thread nD τ) (ms0 m G t) fullShare ((dats m G 0 c).after 0 t)
    ∗ owns (c : Thread nD τ) (ms1 m G t) fullShare ((dats m G 0 c).after 1 t))

theorem sound_body (c : Dev nD) (t : Fin (cfgA m G).N) :
    bodyPre m G c t ⊢ wp frame (wpE (defs₀ (F := F)) Variants.none c none) Set.univ (bodyAt m G t) (fun _ => bodyPost m G c t) := by
  unfold bodyPre bodyPost bodyAt
  rw [show (dats m G 0 c).Φ t.castSucc = Phi m c t.val from rfl, show (dats m G 0 c).Φ t.succ = Phi m c (t.val + 1) from rfl, after_0, after_1]
  unfold Phi Dat.owesAt Pipeline.owesWithin
  rw [show (dats m G 0 c).owed t.castSucc = 0 from rfl, show (dats m G 0 c).owed t.succ = 0 from rfl]
  simp only [before_0]
  have P := fun f5 W K => point c ((cfgA m G).grid.coords t) (ms0 m G t) (hs0 m G t) (ms1 m G t) (hs1 m G t) (V m c main_v11) (V m c main_arg1) (V m c main_v27)
    (V m c main_arg3) (V m c main_arg4) (V m c main_arg5) f5 (G.tabs c) t.val (pt_coords m G t) ((G.tabs c).e_lt _ (t_lt m G t)) W K
  unfold outAt
  generalize iblk m G c t = x
  iintro ⟨⟨HTe, HTv, HNv, HNx, Hg, HI⟩, ⟨%W, -, HW⟩, ⟨%d0, H5⟩, ⟨%d1, H9⟩⟩
  unfold owns at P ⊢
  icases H5 with ⟨%f5, %e5, H5⟩
  icases H9 with ⟨%f9, -, H9⟩
  subst e5
  iapply (P f5 W _)
  isplitl [HTe]; · iexact HTe
  isplitl [HTv]; · iexact HTv
  isplitl [HNx]; · iexact HNx
  isplitl [H5]; · iexact H5
  isplitl [H9]; · iexists f9; iexact H9
  isplitl [HI]; · iexact HI
  isplitl [HW]; · iexact HW
  iintro ⟨HTe, HTv, HNx, H5, H9, HI, ⟨%W', HW'⟩⟩
  isplitl [HTe HTv HNv HNx Hg HI]
  · isplitl [HTe]; · iexact HTe
    isplitl [HTv]; · iexact HTv
    isplitl [HNv]; · iexact HNv
    isplitl [HNx]; · iexact HNx
    isplitl [Hg]; · iexact Hg
    iexact HI
  isplitl [HW']
  · iexists W'; isplitr; · ipureintro; exact fun _ _ => Or.inl trivial
    iexact HW'
  isplitl [H5]
  · iexists f5; isplitr; · ipureintro; rfl
    iexact H5
  iexact H9

theorem defs₀_row (t : Fin (cfgA m G).N) :
    defs₀ (F := F) .tc (cfgA m G).body ((cfgA m G).bodyArgs t ((cfgA m G).slots t)) = bodyAt m G t := by
  unfold defs₀; rw [Defs.onTc_tc]; rfl

theorem atD_tv (n : ℕ) (o : Fin 1 → ℕ) (ho : o = ![n]) (hn : n < 96) : (tbl m).atD 1 o = at96 (V m 0 main_arg1) n := by
  subst ho
  have h : ∀ a, (![n] : Fin 1 → ℕ) a < S96.size a := fun a => by fin_cases a; exact hn
  refine (dif_pos h).trans ?_
  exact congrArg (V m 0 main_arg1) (idx96_eq _ _ (by show n = n % 96; omega))

theorem idle_1 (t : Fin (cfgA m G).N) : (cfgA m G).idle 1 ((cfgA m G).grid.coords t) = false := by
  show (!(k0_cond4 ((tbl m).atD 1 (k0_off24 _)) == 1#1) && !(k0_cond5 ((tbl m).atD 1 (k0_off25 _)) == 1#1)) = false
  have hp : pt ((cfgA m G).grid.coords t) < 96 := pt_lt _
  rw [atD_tv m _ _ (off24_eq _) hp, atD_tv m _ _ (off25_eq _) hp]
  rcases (G.tabs 0).tv01 _ hp with h | h <;> rw [h] <;> decide

theorem body_obligation (c : Dev nD) : BodyObligation (dats (F := F) m G 0 c) (defs₀ (F := F)) Variants.none () Set.univ := fun t => by
  rw [bigSep_W0, bigSep_W0, defs₀_row]
  rw [idle_1]
  exact triple_restated (sound_body m G c t) rfl .rfl fun _ => .rfl

/-- The body's two cells. -/
abbrev osem0 : Fin 2 → SemLoc sig := fun j => (![SemLoc.dma 4, SemLoc.dma 5] : Fin 2 → SemLoc sig) j
theorem ownSemFacts0 : Pipeline.OwnSemFacts spec0 osem0 := by decide
theorem ownSems0_list (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), q0) 0 ∗ semVal ((c : Thread nD τ), q1) 0) := by
  rw [Pipeline.ownSems0_eq_of_list c osem0 [0, 1] (by decide) (by decide)]; rfl
/-- The weights, which the body's copies read. -/
def H0 : Finset (Ref sig .tc) := {main_arg3, main_arg4, main_arg5}
theorem H0_sub : H0 ⊆ Pipeline.restRefsP sig pre0 spec0 := by decide
theorem H0_list (c : Dev nD) :
    (bigSep H0 (fun b => ((c : Thread nD τ).loc b) ↦{fullShare} V m c b) : sProp 𝕄)
      = iprop(mPt c mWg (V m c main_arg3) ∗ mPt c mWu (V m c main_arg4) ∗ mPt c mWd (V m c main_arg5)) := by
  rw [BI.bigSep_eq_bigSepL_of_eq [main_arg3, main_arg4, main_arg5] (by decide) (by decide)]; rfl
theorem PhiD_list (c : Dev nD) :
    (Pipeline.ΦD osem0 spec0 H0 (V m) c : sProp 𝕄)
      = iprop(iprop((∃ f, mPt c bWg f) ∗ (∃ f, mPt c bWu f) ∗ (∃ f, mPt c bWd f) ∗ (∃ f, mPt c fWg f) ∗ (∃ f, mPt c fWu f) ∗ (∃ f, mPt c fWd f)
            ∗ (∃ f, mPt c mSl f))
          ∗ (∃ r, prngReg c r)
          ∗ iprop(semVal ((c : Thread nD τ), q0) 0 ∗ semVal ((c : Thread nD τ), q1) 0)
          ∗ iprop(mPt c mWg (V m c main_arg3) ∗ mPt c mWu (V m c main_arg4) ∗ mPt c mWd (V m c main_arg5))) := by
  rw [Pipeline.ΦD_eq, scopedRest0_eq, ownSems0_list, H0_list]
theorem tables_list (c : Dev nD) :
    (Pipeline.ΦT pre0 (tbl m) c : sProp 𝕄)
      = iprop(mPtR c mTe (V m c main_v11) ∗ mPtR c mTv (V m c main_arg1) ∗ mPtR c mNv (V m c main_v1) ∗ mPtR c mNx (V m c main_v27)) := by
  obtain rfl : c = 0 := Subsingleton.elim _ _
  unfold Pipeline.ΦT Pipeline.prefHeld
  rw [bigSep_univ_eq_bigSepL [(0 : Fin 4), 1, 2, 3] (by decide) (by decide)]; rfl

theorem phi_in (c : Dev nD) : iprop(Pipeline.ΦD osem0 spec0 H0 (V m) c ∗ Pipeline.ΦT pre0 (tbl m) c) ⊢ (Phi m c 0 : sProp 𝕄) := by
  rw [PhiD_list, tables_list]
  unfold Phi
  rw [inv_zero]
  unfold home
  iintro ⟨⟨⟨Hb0, Hb1, Hb2, Hf0, Hf1, Hf2, Hs⟩, Hg, ⟨Hq0, Hq1⟩, ⟨Hw0, Hw1, Hw2⟩⟩, ⟨HTe, HTv, HNv, HNx⟩⟩
  isplitl [HTe]; · iexact HTe
  isplitl [HTv]; · iexact HTv
  isplitl [HNv]; · iexact HNv
  isplitl [HNx]; · iexact HNx
  isplitl [Hg]; · iexact Hg
  isplitl [Hb0]; · iexact Hb0
  isplitl [Hb1]; · iexact Hb1
  isplitl [Hb2]; · iexact Hb2
  isplitl [Hs]; · iexact Hs
  isplitl [Hf0]; · iexact Hf0
  isplitl [Hf1]; · iexact Hf1
  isplitl [Hf2]; · iexact Hf2
  isplitl [Hq0]; · iexact Hq0
  isplitl [Hq1]; · iexact Hq1
  isplitl [Hw0]; · iexact Hw0
  isplitl [Hw1]; · iexact Hw1
  iexact Hw2

theorem next0_neg (c : Dev nD) (wg : MBuf (F := F) c mWg) (wu : MBuf (F := F) c mWu) (wd : MBuf (F := F) c mWd) :
    next0 c wg wu wd 4294967295#32 = home c wg wu wd := dif_neg (by decide)
theorem next1_neg (c : Dev nD) (wg : MBuf (F := F) c mWg) (wu : MBuf (F := F) c mWu) (wd : MBuf (F := F) c mWd) :
    next1 c wg wu wd 4294967295#32 = home c wg wu wd := dif_neg (by decide)
theorem slot_last (c : Dev nD) (wg : MBuf (F := F) c mWg) (wu : MBuf (F := F) c mWu) (wd : MBuf (F := F) c mWd) (b : Bool) :
    (slotSt c wg wu wd 4294967295#32 b : sProp 𝕄) ⊢ iprop((∃ f, mPt c mSl f) ∗ home c wg wu wd) := by
  cases b
  · unfold slotSt; dsimp only; rw [next0_neg]
    iintro ⟨Hs, Hh⟩
    isplitl [Hs]; · iexists _; iexact Hs
    iexact Hh
  · unfold slotSt; dsimp only; rw [next1_neg]
    iintro ⟨Hs, Hh⟩
    isplitl [Hs]; · iexists _; iexact Hs
    iexact Hh

include G in
theorem phi_out (c : Dev nD) : (Phi m c 96 : sProp 𝕄) ⊢ Pipeline.ΦD osem0 spec0 H0 (V m) c := by
  rw [PhiD_list]
  unfold Phi
  rw [inv_at c (V m c main_v11) (V m c main_v27) _ _ _ 95 _ _ rfl (G.tabs c).nx_last]
  unfold bufs
  iintro ⟨-, -, -, -, Hg, ⟨%he, ⟨Hb0, Hb1, Hb2⟩, ⟨%b, Hs⟩⟩⟩
  ihave Hs := (slot_last c _ _ _ b) $$ Hs
  unfold home
  icases Hs with ⟨Hs, ⟨Hf0, Hf1, Hf2, Hq0, Hq1, Hw0, Hw1, Hw2⟩⟩
  isplitl [Hb0 Hb1 Hb2 Hf0 Hf1 Hf2 Hs]
  · isplitl [Hb0]; · iapply (pt_of_owns c cc0_scratch0 _) $$ Hb0
    isplitl [Hb1]; · iapply (pt_of_owns c cc0_scratch1 _) $$ Hb1
    isplitl [Hb2]; · iapply (pt_of_owns c cc0_scratch2 _) $$ Hb2
    isplitl [Hf0]; · iexact Hf0
    isplitl [Hf1]; · iexact Hf1
    isplitl [Hf2]; · iexact Hf2
    iexact Hs
  isplitl [Hg]; · iexact Hg
  isplitl [Hq0 Hq1]
  · isplitl [Hq0]; · iexact Hq0
    iexact Hq1
  isplitl [Hw0]; · iexact Hw0
  isplitl [Hw1]; · iexact Hw1
  iexact Hw2

theorem Phi_last (c : Dev nD) : (dats m G 0 c).Φ (Fin.last (cfgA m G).N) = Phi m c 96 := by
  show Phi m c (cfgA m G).N = _
  rw [N96]

set_option backward.isDefEq.respectTransparency.types false in
theorem run_main : θ_run defs (onTc (τ := τ) (main (F := F))) (s₀ m ρ)
    (fun r => Pipeline.FramePost (Pipeline.pin pcfgs (adm m G)) (dats m G) 0 (V m) r ∧ r.2.sem = fun _ => 0) :=
  Pipeline.θ_run_frameP_dma (Q' := _) pcfgs (adm m G) (dats m G) (0 : Fin 1) launch0 osem0 defs₀ Variants.none ownSemFacts0 H0 H0_sub m ρ main
    (hbody := fun c => (body_obligation m G c).loose) (hshare := fun c => (dats m G 0 c).share_full fun _ => rfl)
    (howed := fun _ _ => rfl) (V := V m) (hmain := hmain m Variants.none) (hA := A_eq m G)
    (hpf := fun c k => by obtain rfl : c = 0 := Subsingleton.elim _ _; rfl)
    (hin := fun c => phi_in m c) (hout := fun c => by rw [Phi_last]; exact phi_out m G c)

end Cert.Kernel.Hand

end
-- ==== Proof.TabDef.lean ====
/-
  The tables as functions of the two table arguments.
-/
module

public import proofs.«01_k».proof.Proof.Words

@[expose] public section

noncomputable section

namespace Cert.Kernel.Hand

open Cert.Kernel Cert.Kernel.Gen
open Idealize.ShloMosaic Idealize.ShloMosaic.TcCoe Idealize.ShloMosaic.Tactic

/-- The words of the two table arguments, as the layer's bookkeeping makes them. -/
structure TabsIn (te tv : S96.Idx → BitVec 32) : Prop where
  lt : ∀ n, n < 96 → (at96 te n).toNat < 32
  mono : ∀ n, n + 1 < 96 → (at96 te n).toNat ≤ (at96 te (n + 1)).toNat
  tv01 : ∀ n, n < 96 → at96 tv n = 0#32 ∨ at96 tv n = 1#32
  tvdec : ∀ n, n + 1 < 96 → (at96 tv (n + 1)).toNat ≤ (at96 tv n).toNat
  tv0 : at96 tv 0 = 1#32

/-- How many tiles are in use. -/
def nvT (tv : IVec S96 32) : IVec S1 32 :=
  shapeCast S1 (Host.reduce IntOp.addi tv (constantI S_ 32 0#32) reducesTo_S96_S_d0 h_S_) shapeCasts_S_S1
/-- The last tile in use. -/
def lastT (tv : IVec S96 32) : IVec S_ 32 := subi (shapeCast S_ (nvT tv) shapeCasts_S1_S_) (constantI S_ 32 1#32)
def wrapT (x : IVec S_ 32) : IVec S_ 32 := select (cmpi .slt x (constantI S_ 32 0#32)) (addi x (constantI S_ 32 96#32)) x
/-- The experts' table, with the last used tile's expert where a tile is not in use. -/
def teT (te tv : IVec S96 32) : IVec S96 32 :=
  select (cmpi .sgt tv (broadcastInDim S96 ![] bcast_S_S96 (constantI S_ 32 0#32))) te
    (broadcastInDim S96 ![] bcast_S_S96
      (shapeCast S_ (Host.dynamicSlice S1 te (fun k => (wrapT (lastT tv) (Shape.Idx.first h_S_)).toInt) sliceFits_S96_S1) shapeCasts_S1_S_))
/-- At row `i`, column `j`: tile `j`'s expert if it comes later than tile `i`'s and tile `j` is in use, else 32. -/
def laterT (te' tv : IVec S96 32) : IVec S96x96 32 :=
  select (andi (cmpi .sgt (broadcastInDim S96x96 ![0, 1] bcast_S1x96_S96x96_0_1 (broadcastInDim S1x96 ![1] bcast_S96_S1x96_1 te'))
        (broadcastInDim S96x96 ![0, 1] bcast_S96x1_S96x96_0_1 (broadcastInDim S96x1 ![0] bcast_S96_S96x1_0 te')))
      (broadcastInDim S96x96 ![0, 1] bcast_S1x96_S96x96_0_1
        (cmpi .sgt (broadcastInDim S1x96 ![1] bcast_S96_S1x96_1 tv) (broadcastInDim S1x96 ![] bcast_S_S1x96 (constantI S_ 32 0#32)))))
    (broadcastInDim S96x96 ![0, 1] bcast_S1x96_S96x96_0_1 (broadcastInDim S1x96 ![1] bcast_S96_S1x96_1 te'))
    (broadcastInDim S96x96 ![] bcast_S_S96x96 (constantI S_ 32 32#32))
def minT (te' tv : IVec S96 32) : IVec S96 32 :=
  Host.reduce IntOp.minsi (laterT te' tv) (constantI S_ 32 2147483647#32) reducesTo_S96x96_S96_d1 h_S_
/-- The next expert's table. -/
def nxT (te' tv : IVec S96 32) : IVec S96 32 :=
  select (cmpi .slt (minT te' tv) (broadcastInDim S96 ![] bcast_S_S96 (constantI S_ 32 32#32))) (minT te' tv)
    (broadcastInDim S96 ![] bcast_S_S96 (constantI S_ 32 4294967295#32))

end Cert.Kernel.Hand

end
-- ==== Proof.TabRead.lean ====
/-
  What the host operations before the launch leave in the tables.
-/
module

public import proofs.«01_k».proof.Proof.Frame
public import proofs.«01_k».proof.Proof.TabDef

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

variable (m : (ℓ : Loc nD τ sig) → Buf (Elt F) ℓ) (c : Dev nD)

theorem V_arg0 : V m c main_arg0 = m (c, main_arg0) := by unfold V; simp only [opss, hostOps0, hostOps0_1, hostOps0_2, hostOps0_3, hostOps0_4, hostOps0_5, List.flatten_cons, List.flatten_nil, List.cons_append, List.nil_append, List.append_nil]; after_results
theorem V_arg1 : V m c main_arg1 = m (c, main_arg1) := by unfold V; simp only [opss, hostOps0, hostOps0_1, hostOps0_2, hostOps0_3, hostOps0_4, hostOps0_5, List.flatten_cons, List.flatten_nil, List.cons_append, List.nil_append, List.append_nil]; after_results
theorem V_arg2 : V m c main_arg2 = m (c, main_arg2) := by unfold V; simp only [opss, hostOps0, hostOps0_1, hostOps0_2, hostOps0_3, hostOps0_4, hostOps0_5, List.flatten_cons, List.flatten_nil, List.cons_append, List.nil_append, List.append_nil]; after_results
theorem V_arg3 : V m c main_arg3 = m (c, main_arg3) := by unfold V; simp only [opss, hostOps0, hostOps0_1, hostOps0_2, hostOps0_3, hostOps0_4, hostOps0_5, List.flatten_cons, List.flatten_nil, List.cons_append, List.nil_append, List.append_nil]; after_results
theorem V_arg4 : V m c main_arg4 = m (c, main_arg4) := by unfold V; simp only [opss, hostOps0, hostOps0_1, hostOps0_2, hostOps0_3, hostOps0_4, hostOps0_5, List.flatten_cons, List.flatten_nil, List.cons_append, List.nil_append, List.append_nil]; after_results
theorem V_arg5 : V m c main_arg5 = m (c, main_arg5) := by unfold V; simp only [opss, hostOps0, hostOps0_1, hostOps0_2, hostOps0_3, hostOps0_4, hostOps0_5, List.flatten_cons, List.flatten_nil, List.cons_append, List.nil_append, List.append_nil]; after_results
theorem V_nv : V m c main_v1 = nvT (m (c, main_arg1)) := by unfold V; simp only [opss, hostOps0, hostOps0_1, hostOps0_2, hostOps0_3, hostOps0_4, hostOps0_5, List.flatten_cons, List.flatten_nil, List.cons_append, List.nil_append, List.append_nil]; after_results; rfl

/-- The first line up to the last used tile's number, and all that follows. -/
abbrev opsA : List (HloOp τ sig (Elt F)) := hostOps0.take 14
abbrev opsB : List (HloOp τ sig (Elt F)) := hostOps0.drop 14 ++ hostOps0_1
abbrev opsC : List (HloOp τ sig (Elt F)) := hostOps0_2 ++ hostOps0_3 ++ hostOps0_4 ++ hostOps0_5
/-- The buffers after the first part, and after the second. -/
def VA (b : DevRef τ sig) : Buf (Elt F) (c, b) := StableHlo.after opsA (fun b => m (c, b)) b
def VB (b : DevRef τ sig) : Buf (Elt F) (c, b) := StableHlo.after opsB (VA m c) b
theorem V_cut (b : Ref sig .tc) : V m c b = StableHlo.after opsC (VB m c) b := rfl

theorem A_arg0 : VA m c main_arg0 = m (c, main_arg0) := by unfold VA; simp only [opsA, hostOps0, List.take_succ_cons, List.take_zero]; after_results
theorem A_arg1 : VA m c main_arg1 = m (c, main_arg1) := by unfold VA; simp only [opsA, hostOps0, List.take_succ_cons, List.take_zero]; after_results
theorem A_v3 : VA m c main_v3 = cmpi .sgt (m (c, main_arg1)) (broadcastInDim S96 ![] bcast_S_S96 (constantI S_ 32 0#32)) := by
  unfold VA; simp only [opsA, hostOps0, List.take_succ_cons, List.take_zero]; after_results
theorem A_v8 : VA m c main_v8 = wrapT (lastT (m (c, main_arg1))) := by
  unfold VA; simp only [opsA, hostOps0, List.take_succ_cons, List.take_zero]; after_results; rfl
theorem B_arg1 : VB m c main_arg1 = m (c, main_arg1) := by
  rw [← A_arg1 m c]; unfold VB; simp only [opsB, hostOps0, hostOps0_1, List.drop_succ_cons, List.drop_zero, List.cons_append, List.nil_append]; after_results
theorem B_te : VB m c main_v11 = teT (m (c, main_arg0)) (m (c, main_arg1)) := by
  unfold VB teT
  rw [← A_arg0 m c, ← A_v3 m c, ← A_v8 m c]
  generalize VA m c = W
  simp only [opsB, hostOps0, hostOps0_1, List.drop_succ_cons, List.drop_zero, List.cons_append, List.nil_append]; after_results
  simp only [StableHlo.TRef.toBuf, StableHlo.TRef.ofBuf, cast_eq]
  have aux : ∀ f f' : Fin 1 → ℤ, f = f' → select (W (Proc.tc.devRef main_v3)) (W (Proc.tc.devRef main_arg0))
      (broadcastInDim S96 ![] bcast_S_S96
        (shapeCast S_ (Host.dynamicSlice S1 (W (Proc.tc.devRef main_arg0)) f sliceFits_S96_S1) shapeCasts_S1_S_))
      = select (W (Proc.tc.devRef main_v3)) (W (Proc.tc.devRef main_arg0))
      (broadcastInDim S96 ![] bcast_S_S96
        (shapeCast S_ (Host.dynamicSlice S1 (W (Proc.tc.devRef main_arg0)) f' sliceFits_S96_S1) shapeCasts_S1_S_)) := fun f f' e => by rw [e]
  refine aux _ _ ?_
  funext k; fin_cases k; rfl
theorem C_te : V m c main_v11 = VB m c main_v11 := by
  rw [V_cut]; simp only [opsC, hostOps0_2, hostOps0_3, hostOps0_4, hostOps0_5, List.cons_append, List.nil_append]; after_results
theorem C_nx : V m c main_v27 = nxT (VB m c main_v11) (VB m c main_arg1) := by
  rw [V_cut]
  generalize VB m c = W
  simp only [opsC, hostOps0_2, hostOps0_3, hostOps0_4, hostOps0_5, List.cons_append, List.nil_append]; after_results
  simp only [StableHlo.TRef.toBuf, StableHlo.TRef.ofBuf, cast_eq]
  rfl
theorem V_te : V m c main_v11 = teT (m (c, main_arg0)) (m (c, main_arg1)) := (C_te m c).trans (B_te m c)
theorem V_nx : V m c main_v27 = nxT (teT (m (c, main_arg0)) (m (c, main_arg1))) (m (c, main_arg1)) := by
  rw [C_nx, B_te, B_arg1]

end Cert.Kernel.Hand

end
-- ==== Proof.TabPre.lean ====
/-
  What the precondition says of the two table arguments, word by word.
-/
module

public import proofs.«01_k».proof.Proof.TabDef
public import proofs.«01_k».proof.Proof.Gen.Pre_tiles_in_order
public import proofs.«01_k».proof.Defs
public import Idealize.ShloMosaic.Lib.ReduceAll
public import Idealize.ShloMosaic.Lib.Affine
public import Idealize.ShloMosaic.Lib.StableHlo.Predicate

@[expose] public section

noncomputable section

namespace Cert.Kernel.Hand

open Cert.Kernel Cert.Kernel.Gen
open Idealize.ShloMosaic Idealize.ShloMosaic.TcCoe Idealize.ShloMosaic.Tactic

instance : Subsingleton S_.Idx := ⟨fun x y => funext fun a => a.elim0⟩

theorem toNat_of_toInt {x : BitVec 32} (h0 : 0 ≤ x.toInt) : (x.toNat : ℤ) = x.toInt := by
  rw [BitVec.toInt_eq_toNat_cond] at h0 ⊢; split at h0 <;> split <;> omega

theorem slice_first (x : IVec S96 32) (i : Cert.Pre_tiles_in_order.S1.Idx) (hs) : extractStridedSlice Cert.Pre_tiles_in_order.S1 ![0] x hs i = at96 x 0 :=
  congrArg x (idx96_eq _ _ (by
    have hi : (i 0).val < 1 := (i 0).isLt
    show 0 + (i 0).val = 0 % 96; omega))

theorem tabs_of_fn {F : FTy → Type} [FloatOps F] [Cert.Pre_tiles_in_order.Facts] (te tv : IVec S96 32) (x3 x4 x5 x6)
    (h : Cert.Pre_tiles_in_order.fn (F := F) te tv x3 x4 x5 x6 (Shape.Idx.first h_S_) = 1#1) : TabsIn te tv := by
  dsimp only [Cert.Pre_tiles_in_order.fn, Cert.Pre_tiles_in_order.fn_part1] at h
  obtain ⟨h, hfirst⟩ := IntOp.andi_eq_one.1 (show IntOp.andi _ _ = 1#1 from h)
  obtain ⟨h, htd⟩ := IntOp.andi_eq_one.1 (show IntOp.andi _ _ = 1#1 from h)
  obtain ⟨h, ht01⟩ := IntOp.andi_eq_one.1 (show IntOp.andi _ _ = 1#1 from h)
  obtain ⟨hlt, hmono⟩ := IntOp.andi_eq_one.1 (show IntOp.andi _ _ = 1#1 from h)
  have Hlt := Host.reduce_andi_all _ _ _ _ _ hlt
  have Hmono := Host.reduce_andi_all _ _ _ _ _ hmono
  have H01 := Host.reduce_andi_all _ _ _ _ _ ht01
  have Htd := Host.reduce_andi_all _ _ _ _ _ htd
  have nonneg : ∀ n, n < 96 → 0 ≤ (at96 te n).toInt ∧ (at96 te n).toInt < 32 := fun n hn => by
    obtain ⟨a, b⟩ := IntOp.andi_eq_one.1 (show IntOp.andi _ _ = 1#1 from Hlt (ix96 n))
    exact ⟨IntOp.cmpi_sge.1 (show IntOp.cmpi .sge (at96 te n) 0#32 = 1#1 from a), IntOp.cmpi_slt.1 (show IntOp.cmpi .slt (at96 te n) 32#32 = 1#1 from b)⟩
  have lt : ∀ n, n < 96 → (at96 te n).toNat < 32 := fun n hn => by
    have := nonneg n hn; have := toNat_of_toInt this.1; omega
  have t01 : ∀ n, n < 96 → at96 tv n = 0#32 ∨ at96 tv n = 1#32 := fun n hn => by
    have e : IntOp.ori (IntOp.cmpi .eq (at96 tv n) 0#32) (IntOp.cmpi .eq (at96 tv n) 1#32) = 1#1 := H01 (ix96 n)
    by_cases a : at96 tv n = 0#32
    · exact Or.inl a
    · right
      by_contra b
      have ea : IntOp.cmpi .eq (at96 tv n) 0#32 = 0#1 := by
        show BitVec.ofBool (_ == _) = _; rw [beq_eq_false_iff_ne.2 a]; rfl
      have eb : IntOp.cmpi .eq (at96 tv n) 1#32 = 0#1 := by
        show BitVec.ofBool (_ == _) = _; rw [beq_eq_false_iff_ne.2 b]; rfl
      rw [ea, eb] at e
      exact absurd e (by decide)
  have small : ∀ n, n < 96 → (at96 tv n).toNat < 2 := fun n hn => by rcases t01 n hn with e | e <;> rw [e] <;> decide
  have i95 : ∀ n, n + 1 < 96 → ∃ i : Cert.Pre_tiles_in_order.S95.Idx, (i 0).val = n := fun n hn =>
    ⟨fun a => ⟨n, by fin_cases a; show n < 95; omega⟩, rfl⟩
  have r0 : ∀ (x : IVec S96 32) (i : Cert.Pre_tiles_in_order.S95.Idx) hs, extractStridedSlice Cert.Pre_tiles_in_order.S95 ![0] x hs i = at96 x (i 0).val := fun x i hs => by
    have hi : (i 0).val < 95 := (i 0).isLt
    exact congrArg x (idx96_eq _ _ (by show 0 + (i 0).val = (i 0).val % 96; omega))
  have r1 : ∀ (x : IVec S96 32) (i : Cert.Pre_tiles_in_order.S95.Idx) hs, extractStridedSlice Cert.Pre_tiles_in_order.S95 ![1] x hs i = at96 x ((i 0).val + 1) := fun x i hs => by
    have hi : (i 0).val < 95 := (i 0).isLt
    exact congrArg x (idx96_eq _ _ (by show 1 + (i 0).val = ((i 0).val + 1) % 96; omega))
  refine ⟨lt, fun n hn => ?_, t01, fun n hn => ?_, ?_⟩
  · obtain ⟨i, rfl⟩ := i95 n hn
    have e := IntOp.cmpi_sle.1 (show IntOp.cmpi .sle (extractStridedSlice Cert.Pre_tiles_in_order.S95 ![0] te _ i) (extractStridedSlice Cert.Pre_tiles_in_order.S95 ![1] te _ i) = 1#1 from Hmono i)
    rw [r0, r1] at e
    have a := toNat_of_toInt (nonneg (i 0).val (by omega)).1
    have b := toNat_of_toInt (nonneg _ hn).1
    omega
  · obtain ⟨i, rfl⟩ := i95 n hn
    have e := (show IntOp.cmpi .sge (extractStridedSlice Cert.Pre_tiles_in_order.S95 ![0] tv _ i) (extractStridedSlice Cert.Pre_tiles_in_order.S95 ![1] tv _ i) = 1#1 from Htd i)
    rw [r0, r1] at e
    have a := small (i 0).val (by omega)
    have b := small _ hn
    exact (StableHlo.Predicate.sge_iff_toNat (by omega) (by omega)).1 e
  · have e := StableHlo.Predicate.cmpi_eq_iff.1 (show IntOp.cmpi .eq _ 1#32 = 1#1 from hfirst)
    exact (slice_first tv _ _).symm.trans e

theorem tabs_of_pre (m : (ℓ : Loc nD τ sig) → Buf (Elt Bits) ℓ) [Cert.Pre_tiles_in_order.Facts] (h : Cert.Pre_Kernel m) (c : Dev nD) :
    TabsIn (m (c, main_arg0)) (m (c, main_arg1)) :=
  tabs_of_fn (F := Bits) _ _ _ _ _ _ (congrFun (h c) _)

end Cert.Kernel.Hand

end
-- ==== Proof.TabVal.lean ====
/-
  The tables' words, from those of the two table arguments.
-/
module

public import proofs.«01_k».proof.Proof.TabPre
public import proofs.«01_k».proof.Proof.Gen.Pre_tiles_in_order
public import proofs.«01_k».proof.Defs
public import Idealize.ShloMosaic.Lib.ReduceAll
public import Idealize.ShloMosaic.Lib.Affine
public import Idealize.ShloMosaic.Lib.SortNet.Extract
public import Idealize.ShloMosaic.Lib.StableHlo.Predicate

@[expose] public section

noncomputable section

namespace Cert.Kernel.Hand

open Cert.Kernel Cert.Kernel.Gen
open Idealize.ShloMosaic Idealize.ShloMosaic.TcCoe Idealize.ShloMosaic.Tactic

theorem select_of {s : Shape} {α : Type} (c : IVec s 1) (a b : s.Idx → α) (i : s.Idx) : select c a b i = if c i = 1#1 then a i else b i := by
  show Scalar.select _ _ _ = _
  unfold Scalar.select
  rcases BitVec.eq_zero_or_eq_one (c i) with h | h <;> rw [h] <;> rfl

theorem exists_count (p : ℕ → Prop) (N : ℕ) (h0 : p 0) (hd : ∀ n, n + 1 < N → p (n + 1) → p n) (hN : 1 ≤ N) :
    ∃ k, 1 ≤ k ∧ k ≤ N ∧ ∀ n, n < N → (p n ↔ n < k) := by
  induction N with
  | zero => omega
  | succ N ih =>
    by_cases hz : N = 0
    · subst hz
      exact ⟨1, le_rfl, le_rfl, fun n hn => by
        obtain rfl : n = 0 := by omega
        exact ⟨fun _ => by omega, fun _ => h0⟩⟩
    · obtain ⟨k, k1, k2, hk⟩ := ih (fun n hn => hd n (by omega)) (by omega)
      by_cases hp : p N
      · have : p (N - 1) := hd (N - 1) (by omega) (by rwa [Nat.sub_add_cancel (by omega)])
        have := (hk _ (by omega)).1 this
        refine ⟨N + 1, by omega, le_rfl, fun n hn => ⟨fun _ => hn, fun _ => ?_⟩⟩
        by_cases e : n = N
        · rw [e]; exact hp
        · exact (hk n (by omega)).2 (by omega)
      · refine ⟨k, k1, by omega, fun n hn => ?_⟩
        by_cases e : n = N
        · subst e; exact ⟨fun h => absurd h hp, fun h => by omega⟩
        · exact hk n (by omega)

/-- How many tiles are in use: the flags are 1 before `k`, 0 from `k` on. -/
structure Count (tv : S96.Idx → BitVec 32) (k : ℕ) : Prop where
  pos : 1 ≤ k
  le : k ≤ 96
  one : ∀ n, n < k → at96 tv n = 1#32
  zero : ∀ n, k ≤ n → n < 96 → at96 tv n = 0#32

theorem count_of {te tv : S96.Idx → BitVec 32} (T : TabsIn te tv) : ∃ k, Count tv k := by
  obtain ⟨k, k1, k2, hk⟩ := exists_count (fun n => at96 tv n = 1#32) 96 T.tv0 (fun n hn h => by
    have := T.tvdec n hn
    rw [h] at this
    rcases T.tv01 n (by omega) with e | e
    · rw [e] at this; exact absurd this (by decide)
    · exact e) (by omega)
  refine ⟨k, k1, k2, fun n hn => (hk n (by omega)).2 hn, fun n hn h96 => (T.tv01 n h96).resolve_right fun e => ?_⟩
  have := (hk n h96).1 e
  omega

theorem sum_lt (N k : ℕ) : ∑ n ∈ Finset.range N, (if n < k then 1 else 0) = min N k := by
  induction N with
  | zero => simp
  | succ N ih => rw [Finset.sum_range_succ, ih]; split <;> omega

theorem sum_at96 (f : S96.Idx → ℕ) : ∑ i : S96.Idx, f i = ∑ n ∈ Finset.range 96, f (ix96 n) :=
  Finset.sum_nbij' (fun i => (i 0).val) ix96 (fun i _ => Finset.mem_range.2 (i 0).isLt) (fun _ _ => Finset.mem_univ _)
    (fun i _ => idx96_eq _ _ (Nat.mod_eq_of_lt (i 0).isLt)) (fun n hn => Nat.mod_eq_of_lt (Finset.mem_range.1 hn))
    (fun i _ => congrArg f (idx96_eq _ _ (Nat.mod_eq_of_lt (i 0).isLt).symm))

theorem sum_tv {tv : S96.Idx → BitVec 32} {k : ℕ} (K : Count tv k) : ∑ i : S96.Idx, (tv i).toNat = k := by
  rw [sum_at96, Finset.sum_congr rfl (g := fun n => if n < k then 1 else 0) (fun n hn => ?_), sum_lt]
  · have := K.le; omega
  · have hn := Finset.mem_range.1 hn
    split
    · rename_i h; exact congrArg BitVec.toNat (K.one n h)
    · rename_i h; exact congrArg BitVec.toNat (K.zero n (by omega) hn)

theorem fold_tv {tv : S96.Idx → BitVec 32} {k : ℕ} (K : Count tv k) (S : Finset S96.Idx) (hS : S = Finset.univ) :
    S.fold IntOp.addi 0#32 tv = BitVec.ofNat 32 k := by
  subst hS
  have hk := K.le
  apply BitVec.eq_of_toNat_eq
  have hs := sum_tv K
  rw [BitVec.toNat_ofNat, Nat.mod_eq_of_lt (by omega), StableHlo.Predicate.toNat_fold_addi _ _ (by rw [hs]; omega), hs]

theorem reduce_tv {tv : S96.Idx → BitVec 32} {k : ℕ} (K : Count tv k) (init : S_.Idx → BitVec 32) (hi : ∀ j, init j = 0#32) (j : S_.Idx) :
    Host.reduce IntOp.addi tv init reducesTo_S96_S_d0 h_S_ j = BitVec.ofNat 32 k := by
  rw [Host.reduce_eq_fold, hi]
  exact fold_tv K _ (Finset.filter_true_of_mem fun _ _ => Subsingleton.elim _ _)

theorem cast_const (r : IVec S_ 32) (w : BitVec 32) (h : ∀ j, r j = w) (i : S1.Idx) : shapeCast S1 r shapeCasts_S_S1 i = w := h _

theorem nv_word {tv : S96.Idx → BitVec 32} {k : ℕ} (K : Count tv k) (i : S1.Idx) : nvT tv i = BitVec.ofNat 32 k := by
  unfold nvT
  exact cast_const _ _ (reduce_tv K _ fun _ => rfl) i

theorem last_of (r : IVec S1 32) (w : BitVec 32) (h : ∀ i, r i = w) (j : S_.Idx) :
    subi (shapeCast S_ r shapeCasts_S1_S_) (constantI S_ 32 1#32) j = w - 1#32 := by
  show r _ - 1#32 = _
  rw [h]

theorem wrap_of (r : IVec S_ 32) (n : ℕ) (hn : n < 96) (j : S_.Idx) (h : r j = BitVec.ofNat 32 n) : wrapT r j = BitVec.ofNat 32 n := by
  unfold wrapT
  rw [select_of, if_neg, h]
  show ¬ IntOp.cmpi .slt (r j) 0#32 = 1#1
  rw [h, StableHlo.Predicate.slt_iff_toNat (by rw [BitVec.toNat_ofNat]; omega) (by decide)]
  rw [BitVec.toNat_ofNat]
  show ¬ _ < 0
  omega

theorem last_word {tv : S96.Idx → BitVec 32} {k : ℕ} (K : Count tv k) (j : S_.Idx) : wrapT (lastT tv) j = BitVec.ofNat 32 (k - 1) := by
  have hk := K.le
  have hp := K.pos
  refine wrap_of _ _ (by omega) j ?_
  unfold lastT
  rw [last_of _ _ (nv_word K)]
  exact StableHlo.Predicate.sub_one_ofNat k hp (by omega)

theorem slice_word (x : S96.Idx → BitVec 32) (st : Fin 1 → ℤ) (n : ℕ) (hn : n < 96) (hst : st 0 = n) (i : S1.Idx) :
    Host.dynamicSlice S1 x st sliceFits_S96_S1 i = at96 x n := by
  refine congrArg x (idx96_eq _ _ ?_)
  have hi : (i 0).val < 1 := (i 0).isLt
  show (min (max (st 0) 0) ((96 - 1 : ℕ) : ℤ)).toNat + (i 0).val = n % 96
  rw [hst]; omega

theorem te_word {te tv : S96.Idx → BitVec 32} {k : ℕ} (K : Count tv k) (n : ℕ) (hn : n < 96) :
    at96 (teT te tv) n = if n < k then at96 te n else at96 te (k - 1) := by
  have hk := K.le
  have hp := K.pos
  show teT te tv (ix96 n) = _
  unfold teT
  rw [select_of]
  have hc : cmpi .sgt tv (broadcastInDim S96 ![] bcast_S_S96 (constantI S_ 32 0#32)) (ix96 n) = IntOp.cmpi .sgt (at96 tv n) 0#32 := rfl
  rw [hc]
  split
  · rename_i h
    rw [if_pos]; · rfl
    by_contra hh
    rw [K.zero n (by omega) hn] at h
    exact absurd h (by decide)
  · rename_i h
    rw [if_neg (fun hh => h (by rw [K.one n hh]; decide))]
    refine slice_word te _ (k - 1) (by omega) ?_ _
    show (wrapT (lastT tv) _).toInt = _
    rw [last_word K]
    exact StableHlo.Predicate.toInt_ofNat_small _ (by omega)

/-! ### The next expert's table -/

abbrev ix9696 (i j : ℕ) : S96x96.Idx := fun a => if a = 0 then ⟨i % 96, by
    fin_cases a <;> exact Nat.mod_lt _ (by decide)⟩ else ⟨j % 96, by fin_cases a <;> exact Nat.mod_lt _ (by decide)⟩

theorem foldl_minsi_le {ι : Type} (f : ι → BitVec 32) : ∀ (l : List ι) (a : BitVec 32),
    ((l.foldl (fun r i => IntOp.minsi r (f i)) a).toInt ≤ a.toInt) ∧ ∀ i ∈ l, (l.foldl (fun r i => IntOp.minsi r (f i)) a).toInt ≤ (f i).toInt
  | [], a => ⟨le_rfl, fun _ h => nomatch h⟩
  | b :: l, a => by
    obtain ⟨h1, h2⟩ := foldl_minsi_le f l (IntOp.minsi a (f b))
    rw [SortNet.toInt_minsi] at h1
    refine ⟨h1.trans (min_le_left _ _), fun i hi => ?_⟩
    rcases List.mem_cons.1 hi with rfl | hi
    · exact h1.trans (min_le_right _ _)
    · exact h2 i hi

theorem foldl_minsi_mem {ι : Type} (f : ι → BitVec 32) : ∀ (l : List ι) (a : BitVec 32),
    (l.foldl (fun r i => IntOp.minsi r (f i)) a = a) ∨ ∃ i ∈ l, l.foldl (fun r i => IntOp.minsi r (f i)) a = f i
  | [], a => Or.inl rfl
  | b :: l, a => by
    rcases foldl_minsi_mem f l (IntOp.minsi a (f b)) with h | ⟨i, hi, h⟩
    · have : IntOp.minsi a (f b) = a ∨ IntOp.minsi a (f b) = f b := by
        unfold IntOp.minsi; split
        · exact Or.inl rfl
        · exact Or.inr rfl
      rcases this with e | e
      · exact Or.inl (h.trans e)
      · exact Or.inr ⟨b, List.mem_cons_self .., h.trans e⟩
    · exact Or.inr ⟨i, List.mem_cons_of_mem _ hi, h⟩

/-- What row `i`, column `j` of the table of later experts holds. -/
def cand (te' tv : S96.Idx → BitVec 32) (i j : ℕ) : BitVec 32 :=
  if IntOp.andi (IntOp.cmpi .sgt (at96 te' j) (at96 te' i)) (IntOp.cmpi .sgt (at96 tv j) 0#32) = 1#1 then at96 te' j else 32#32

theorem later_word (te' tv : S96.Idx → BitVec 32) (x : S96x96.Idx) : laterT te' tv x = cand te' tv (x 0).val (x 1).val := by
  have e0 : ∀ y : S96.Idx, (y 0).val = (x 0).val → y = ix96 (x 0).val := fun y h => idx96_eq _ _ (h.trans (Nat.mod_eq_of_lt (x 0).isLt).symm)
  have e1 : ∀ y : S96.Idx, (y 0).val = (x 1).val → y = ix96 (x 1).val := fun y h => idx96_eq _ _ (h.trans (Nat.mod_eq_of_lt (x 1).isLt).symm)
  unfold laterT
  rw [select_of]
  unfold cand at96
  have a : ∀ f : S96.Idx → BitVec 32, broadcastInDim S96x96 ![0, 1] bcast_S1x96_S96x96_0_1 (broadcastInDim S1x96 ![1] bcast_S96_S1x96_1 f) x = f (ix96 (x 1).val) :=
    fun f => congrArg f (e1 _ rfl)
  have b : ∀ f : S96.Idx → BitVec 32, broadcastInDim S96x96 ![0, 1] bcast_S96x1_S96x96_0_1 (broadcastInDim S96x1 ![0] bcast_S96_S96x1_0 f) x = f (ix96 (x 0).val) :=
    fun f => congrArg f (e0 _ rfl)
  rw [a, ← a te', ← b te', ← a tv]
  rfl

theorem min_fold (te' tv : S96.Idx → BitVec 32) (i : S96.Idx) :
    minT te' tv i = (((List.finRange S96x96.numel).map S96x96.rowMajor.symm).filter fun x => reducesTo_S96x96_S96_d1.drop x = i).foldl
      (fun r x => IntOp.minsi r (laterT te' tv x)) 2147483647#32 := by
  unfold minT
  rw [Host.reduce_eq_foldl]; rfl

theorem drop_0 (x : S96x96.Idx) : (reducesTo_S96x96_S96_d1.drop x 0).val = (x 0).val := rfl

theorem min_le (te' tv : S96.Idx → BitVec 32) (i j : ℕ) (hi : i < 96) (hj : j < 96) :
    (at96 (minT te' tv) i).toInt ≤ (cand te' tv i j).toInt := by
  have h := (foldl_minsi_le (laterT te' tv) (((List.finRange S96x96.numel).map S96x96.rowMajor.symm).filter fun x => reducesTo_S96x96_S96_d1.drop x = ix96 i) 2147483647#32).2
    (ix9696 i j) (by
      rw [List.mem_filter]
      refine ⟨List.mem_map.2 ⟨S96x96.rowMajor (ix9696 i j), List.mem_finRange _, Equiv.symm_apply_apply _ _⟩, ?_⟩
      rw [decide_eq_true_eq]
      exact idx96_eq _ _ rfl)
  rw [later_word] at h
  show (minT te' tv (ix96 i)).toInt ≤ _
  rw [min_fold]
  have ei : ((ix9696 i j) 0).val = i := Nat.mod_eq_of_lt hi
  have ej : ((ix9696 i j) 1).val = j := Nat.mod_eq_of_lt hj
  rw [ei, ej] at h
  exact h

theorem min_mem (te' tv : S96.Idx → BitVec 32) (i : ℕ) (hi : i < 96) :
    at96 (minT te' tv) i = 2147483647#32 ∨ ∃ j, j < 96 ∧ at96 (minT te' tv) i = cand te' tv i j := by
  have h := foldl_minsi_mem (laterT te' tv) (((List.finRange S96x96.numel).map S96x96.rowMajor.symm).filter fun x => reducesTo_S96x96_S96_d1.drop x = ix96 i) 2147483647#32
  rw [← min_fold] at h
  rcases h with h | ⟨x, hx, h⟩
  · exact Or.inl h
  · right
    have hx := (List.mem_filter.1 hx).2
    rw [decide_eq_true_eq] at hx
    have h0 : (x 0).val = i := by
      have := congrArg (fun y : S96.Idx => (y 0).val) hx
      exact (drop_0 x).symm.trans (this.trans (Nat.mod_eq_of_lt hi))
    refine ⟨(x 1).val, (x 1).isLt, ?_⟩
    rw [← h0, ← later_word]
    rw [h0]; exact h

theorem nx_word (te' tv : S96.Idx → BitVec 32) (n : ℕ) :
    at96 (nxT te' tv) n = if IntOp.cmpi .slt (at96 (minT te' tv) n) 32#32 = 1#1 then at96 (minT te' tv) n else 4294967295#32 := by
  show nxT te' tv (ix96 n) = _
  unfold nxT
  rw [select_of]; rfl

end Cert.Kernel.Hand

end
-- ==== Proof.Good.lean ====
/-
  The precondition gives what the run needs of the tables.
-/
module

public import proofs.«01_k».proof.Proof.Frame
public import proofs.«01_k».proof.Proof.TabRead
public import proofs.«01_k».proof.Proof.TabVal

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

section Words
variable {te tv : S96.Idx → BitVec 32} (T : TabsIn te tv) {k : ℕ} (K : Count tv k)

include T in
theorem te_mono {i j : ℕ} (h : i ≤ j) (hj : j < 96) : (at96 te i).toNat ≤ (at96 te j).toNat := by
  induction j with
  | zero => obtain rfl : i = 0 := by omega
            exact le_rfl
  | succ j ih =>
    by_cases e : i = j + 1
    · rw [e]
    · exact (ih (by omega) (by omega)).trans (T.mono j hj)

include T K in
theorem te_lt (n : ℕ) (hn : n < 96) : (at96 (teT te tv) n).toNat < 32 := by
  have hk := K.le
  have hp := K.pos
  rw [te_word K n hn]
  split
  · exact T.lt n hn
  · exact T.lt _ (by omega)

include T K in
theorem teT_mono {i j : ℕ} (h : i ≤ j) (hj : j < 96) : (at96 (teT te tv) i).toNat ≤ (at96 (teT te tv) j).toNat := by
  have hk := K.le
  have hp := K.pos
  rw [te_word K i (by omega), te_word K j hj]
  split <;> split
  · exact te_mono T h hj
  · exact te_mono T (by omega) (by omega)
  · omega
  · exact le_rfl

theorem toInt_of_lt {a : BitVec 32} (h : a.toNat < 33) : a.toInt = a.toNat := StableHlo.Predicate.toInt_eq_toNat_of_lt (by omega)

include T K in
/-- A candidate is 32, or a later tile's expert that comes after. -/
theorem cand_or (i j : ℕ) (hi : i < 96) (hj : j < 96) :
    cand (teT te tv) tv i j = 32#32 ∨ (cand (teT te tv) tv i j = at96 (teT te tv) j ∧ (at96 (teT te tv) i).toNat < (at96 (teT te tv) j).toNat) := by
  unfold cand
  split
  · rename_i h
    right
    have h := (IntOp.andi_eq_one.1 h).1
    have a := te_lt T K i hi
    have b := te_lt T K j hj
    exact ⟨rfl, (StableHlo.Predicate.sgt_iff_toNat (by omega) (by omega)).1 h⟩
  · exact Or.inl rfl

include T K in
theorem min_toNat (i : ℕ) (hi : i < 96) : (at96 (minT (teT te tv) tv) i).toNat < 33 := by
  have h := min_le (teT te tv) tv i 0 hi (by omega)
  have hc : (cand (teT te tv) tv i 0).toNat < 33 := by
    rcases cand_or T K i 0 hi (by omega) with e | ⟨e, -⟩ <;> rw [e]
    · decide
    · have := te_lt T K 0 (by omega); omega
  rw [toInt_of_lt hc] at h
  rcases min_mem (teT te tv) tv i hi with e | ⟨j, hj, e⟩
  · rw [e, show (2147483647#32 : BitVec 32).toInt = 2147483647 from by decide] at h
    omega
  · rw [e]
    rcases cand_or T K i j hi hj with e | ⟨e, -⟩ <;> rw [e]
    · decide
    · have := te_lt T K j hj; omega

include T K in
theorem cand_toNat (i j : ℕ) (hi : i < 96) (hj : j < 96) : (cand (teT te tv) tv i j).toNat < 33 := by
  rcases cand_or T K i j hi hj with e | ⟨e, -⟩ <;> rw [e]
  · decide
  · have := te_lt T K j hj; omega

include T K in
theorem min_le' (i j : ℕ) (hi : i < 96) (hj : j < 96) : (at96 (minT (teT te tv) tv) i).toNat ≤ (cand (teT te tv) tv i j).toNat := by
  have h := min_le (teT te tv) tv i j hi hj
  rw [toInt_of_lt (min_toNat T K i hi), toInt_of_lt (cand_toNat T K i j hi hj)] at h
  omega

include T K in
theorem min_mem' (i : ℕ) (hi : i < 96) : ∃ j, j < 96 ∧ at96 (minT (teT te tv) tv) i = cand (teT te tv) tv i j := by
  refine (min_mem (teT te tv) tv i hi).resolve_left fun e => ?_
  have h := min_toNat T K i hi
  rw [e] at h
  exact absurd h (by decide)

include T K in
theorem nx_of_min (n : ℕ) (hn : n < 96) :
    at96 (nxT (teT te tv) tv) n = if (at96 (minT (teT te tv) tv) n).toNat < 32 then at96 (minT (teT te tv) tv) n else 4294967295#32 := by
  have h := min_toNat T K n hn
  rw [nx_word]
  simp only [StableHlo.Predicate.slt_iff_toNat (a := at96 (minT (teT te tv) tv) n) (b := 32#32) (by omega) (by decide)]
  rfl

include T K in
theorem tabs_of : Tabs (teT te tv) tv (nxT (teT te tv) tv) where
  e_lt := te_lt T K
  tv01 := T.tv01
  nx_new n hn hne := by
    have hk := K.le
    have hp := K.pos
    have hm := teT_mono T K (Nat.le_succ n) hn
    have hlt : (at96 (teT te tv) n).toNat < (at96 (teT te tv) (n + 1)).toNat := by
      refine lt_of_le_of_ne hm fun e => hne (BitVec.eq_of_toNat_eq e.symm)
    have hkn : n + 1 < k := by
      by_contra hh
      refine hne ?_
      rw [te_word K _ hn, te_word K _ (by omega), if_neg (by omega)]
      split
      · rename_i h; exact congrArg (at96 te) (by omega)
      · rfl
    have a := te_lt T K n (by omega)
    have b := te_lt T K (n + 1) hn
    have hc : cand (teT te tv) tv n (n + 1) = at96 (teT te tv) (n + 1) := by
      unfold cand
      refine if_pos (IntOp.andi_eq_one.2 ⟨(StableHlo.Predicate.sgt_iff_toNat (by omega) (by omega)).2 hlt, ?_⟩)
      rw [K.one _ hkn]; decide
    have hle := min_le' T K n (n + 1) (by omega) hn
    rw [hc] at hle
    obtain ⟨j, hj, ej⟩ := min_mem' T K n (by omega)
    rw [nx_of_min T K n (by omega), if_pos (by omega), ej]
    rcases cand_or T K n j (by omega) hj with e | ⟨e, hjl⟩
    · rw [ej, e] at hle
      exact absurd hle (by rw [show (32#32 : BitVec 32).toNat = 32 from rfl]; omega)
    · rw [e]
      rw [ej, e] at hle
      apply BitVec.eq_of_toNat_eq
      refine le_antisymm hle ?_
      refine teT_mono T K ?_ hj
      by_contra hh
      have := teT_mono T K (show j ≤ n by omega) (by omega)
      omega
  nx_same n hn he := by
    have hc : ∀ j, cand (teT te tv) tv (n + 1) j = cand (teT te tv) tv n j := fun j => by unfold cand; rw [he]
    have e : at96 (minT (teT te tv) tv) (n + 1) = at96 (minT (teT te tv) tv) n := by
      obtain ⟨j, hj, ej⟩ := min_mem' T K n (by omega)
      obtain ⟨i, hi, ei⟩ := min_mem' T K (n + 1) hn
      have a := min_le' T K (n + 1) j hn hj
      have b := min_le' T K n i (by omega) hi
      rw [hc, ← ej] at a
      rw [← hc, ← ei] at b
      exact BitVec.eq_of_toNat_eq (le_antisymm a b)
    rw [nx_of_min T K _ hn, nx_of_min T K _ (by omega), e]
  nx_last := by
    rw [nx_of_min T K _ (by omega)]
    obtain ⟨j, hj, ej⟩ := min_mem' T K 95 (by omega)
    rcases cand_or T K 95 j (by omega) hj with e | ⟨e, hjl⟩
    · rw [ej, e]; rfl
    · have := teT_mono T K (show j ≤ 95 by omega) (by omega)
      omega
  nx_range n hn := by
    rw [nx_of_min T K _ hn]
    split
    · right; assumption
    · left; rfl

end Words

section Ok
variable (m : (ℓ : Loc nD τ sig) → Buf (Elt F) ℓ)

theorem row_words (w : BitVec 32) (k : ℕ) (hw : w = BitVec.ofNat 32 k) (hp : 1 ≤ k) (hk : k ≤ 96) (n : ℕ) (hn : n < 96) :
    (Scalar.minsi (BitVec.ofNat 32 n) (Scalar.subi w 1#32)).toNat = min n (k - 1) := by
  subst hw
  have e : Scalar.subi (BitVec.ofNat 32 k) 1#32 = BitVec.ofNat 32 (k - 1) := StableHlo.Predicate.sub_one_ofNat k hp (by omega)
  rw [e]
  have a : (BitVec.ofNat 32 n).toInt = n := StableHlo.Predicate.toInt_ofNat_small n (by omega)
  have b : (BitVec.ofNat 32 (k - 1)).toInt = (k - 1 : ℕ) := StableHlo.Predicate.toInt_ofNat_small _ (by omega)
  show (if (BitVec.ofNat 32 n).slt (BitVec.ofNat 32 (k - 1)) then BitVec.ofNat 32 n else BitVec.ofNat 32 (k - 1)).toNat = _
  simp only [BitVec.slt, a, b, decide_eq_true_eq]
  split <;> rw [BitVec.toNat_ofNat] <;> omega

/-- The fetched block's row: the point's, held at the last tile in use. -/
theorem row_eq {k : ℕ} (K : Count (m (0, main_arg1)) k) (i : grid0.Coords) :
    cc0_transform_0 inb_S1_S1_0 numel1_S1 (tbl m) i = ![min (pt i) (k - 1), 0] := by
  have hw : ∀ x : S1.Idx, (tbl m 2 : S1.Idx → BitVec 32) x = BitVec.ofNat 32 k := fun x => by
    show (V m 0 main_v1 : S1.Idx → BitVec 32) x = _
    rw [V_nv]; exact nv_word K x
  unfold cc0_transform_0
  have e := row_words _ k (show (tbl m).at 2 (Rect.unit (s := S1) ![0] S1.size inb_S1_S1_0) numel1_S1 = BitVec.ofNat 32 k from hw _) K.pos K.le (pt i) (pt_lt i)
  exact congrArg (fun x => ![x, 0]) e

theorem good_of (h : ∀ c, TabsIn (m (c, main_arg0)) (m (c, main_arg1))) : Good m where
  ok := fun i => by
    obtain ⟨k, K⟩ := count_of (h 0)
    refine ⟨fun a => ?_, Or.inl rfl⟩
    rw [row_eq m K i]
    have hk := K.le
    have hp := K.pos
    have hi := pt_lt i
    fin_cases a
    · show (min (pt i) (k - 1) + 1) * 512 ≤ 49152
      omega
    · show (0 + 1) * 512 ≤ 512
      omega
  tabs := fun c => by
    obtain ⟨k, K⟩ := count_of (h c)
    rw [V_te, V_nx, V_arg1]
    exact tabs_of (h c) K

end Ok

theorem good_of_pre (m : (ℓ : Loc nD τ sig) → Buf (Elt Bits) ℓ) [Cert.Pre_tiles_in_order.Facts] (h : Cert.Pre_Kernel m) : Good m :=
  good_of m (tabs_of_pre m h)

end Cert.Kernel.Hand

end
-- ==== Proof.KRun.lean ====
/-
  The experts' run: what it leaves in the result, the arguments unchanged, every semaphore at zero.
-/
module

public import proofs.«01_k».proof.Proof.Frame
public import proofs.«01_k».proof.Proof.Good

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

open Idealize.ShloMosaic.Pipeline (Dat Cfg Window BodyObligation)

variable (m : (ℓ : Loc nD τ sig) → Buf (Elt F) ℓ) (ρ : Dev nD → PrngReg) (G : Good m)

theorem rest0 : main_arg0 ∈ Pipeline.restRefs sig spec0 := Pipeline.mem_restRefs_of main_arg0 (by decide) (by decide)
theorem rest1 : main_arg1 ∈ Pipeline.restRefs sig spec0 := Pipeline.mem_restRefs_of main_arg1 (by decide) (by decide)
theorem rest3 : main_arg3 ∈ Pipeline.restRefs sig spec0 := Pipeline.mem_restRefs_of main_arg3 (by decide) (by decide)
theorem rest4 : main_arg4 ∈ Pipeline.restRefs sig spec0 := Pipeline.mem_restRefs_of main_arg4 (by decide) (by decide)
theorem rest5 : main_arg5 ∈ Pipeline.restRefs sig spec0 := Pipeline.mem_restRefs_of main_arg5 (by decide) (by decide)

/-- What the result's array holds after the run. -/
def outArr (c : Dev nD) : Buf (Elt F) ((c.tc : Thread nD τ).loc main_v28) := (dats m G 0 c).arrAt 1 (cfgA m G).N

theorem run_full : θ_run defs (onTc (τ := τ) (main (F := F))) ⟨m, fun _ => 0, ρ⟩ (fun r => (∀ c : Dev nD,
      r.2.mem ((c.tc : Thread nD τ).loc main_v28) = outArr m G c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 1,
      ((h.1 c).2 main_arg0 rest0).trans (V_arg0 m c),
      ((h.1 c).2 main_arg1 rest1).trans (V_arg1 m c),
      (((h.1 c).1 0).trans ((dats m G 0 c).arrAt_in 0 rfl _)).trans ((A_eq m G c 0).trans (V_arg2 m c)),
      ((h.1 c).2 main_arg3 rest3).trans (V_arg3 m c),
      ((h.1 c).2 main_arg4 rest4).trans (V_arg4 m c),
      ((h.1 c).2 main_arg5 rest5).trans (V_arg5 m c)⟩, h.2⟩) (run_main m ρ G)

include G in
theorem frame_full : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2, h.2⟩) (run_full m ρ G)

end Cert.Kernel.Hand

end
-- ==== Proof.KValue.lean ====
/-
  The result's array, element by element.
-/
module

public import proofs.«01_k».proof.Proof.KRun
public import Idealize.ShloMosaic.Lib.Pipeline.ValueKit
public import Idealize.ShloMosaic.Lib.Pipeline.Covers
public import Idealize.ShloMosaic.Lib.PointwiseCore
public import proofs.«01_k».proof.Proof.Frame
public import proofs.«01_k».proof.Proof.Good

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

open Idealize.ShloMosaic.Pipeline (Dat Cfg Window BodyObligation)

variable (m : (ℓ : Loc nD τ sig) → Buf (Elt F) ℓ) (ρ : Dev nD → PrngReg) (G : Good m)

theorem index_1 (t : Fin (cfgA m G).N) : ((cfgA m G).win 1).index t = ![t.val, 0] := by
  show cc0_transform_4 ((cfgA m G).grid.coords t) = _
  have e := pt_coords m G t
  have l := t_lt m G t
  unfold cc0_transform_4
  funext a
  fin_cases a
  · show (BitVec.ofNat 32 (pt ((cfgA m G).grid.coords t))).toNat = t.val
    rw [e, BitVec.toNat_ofNat]; omega
  · rfl

theorem coords_of (n : ℕ) (h : n < 96) : ∃ i : grid0.Coords, pt i = n := ⟨grid0.coords ((⟨n, h⟩ : Fin 96).cast N_0.symm), coords_pt ⟨n, h⟩⟩

theorem covers_1 : ((cfgA m G).win 1).Covers :=
  ((cfgA m G).win 1).covers_of_indexMap_surj rfl (fun a : Fin 2 => by fin_cases a <;> exact (by decide : 0 < 512)) fun β => by
    have n0 : ((cfgA m G).win 1).nblk (0 : Fin 2) = 96 := by simp [Pipeline.Window.nblk]
    have h0 : (β (0 : Fin 2)).val < 96 := lt_of_lt_of_eq (β (0 : Fin 2)).isLt n0
    have n1 : ((cfgA m G).win 1).nblk (1 : Fin 2) = 1 := by simp [Pipeline.Window.nblk]
    have h1 : (β (1 : Fin 2)).val < 1 := lt_of_lt_of_eq (β (1 : Fin 2)).isLt n1
    obtain ⟨i, hi⟩ := coords_of _ h0
    refine ⟨i, fun (a : Fin 2) => ?_⟩
    show cc0_transform_4 i a = _
    unfold cc0_transform_4
    fin_cases a
    · show (BitVec.ofNat 32 (pt i)).toNat = (β (0 : Fin 2)).val
      rw [hi, BitVec.toNat_ofNat]; omega
    · show 0 = (β (1 : Fin 2)).val
      omega

seal outAt in
/-- The result's array: at row `r`, what the point of the row's tile left at the row's place in the tile. -/
theorem out_arr (c : Dev nD) : outArr m G c = fun i : S49152x512.Idx =>
    outAt m G c ⟨(i 0).val / 512, by have := (i 0).isLt; rw [N96]; have : (i 0).val < 49152 := (i 0).isLt; omega⟩
      (ix2 ⟨(i 0).val % 512, Nat.mod_lt _ (by decide)⟩ ⟨(i 1).val, (i 1).isLt⟩) := by
  unfold outArr
  refine (dats m G 0 c).arrAt_eq_of_covers 1 _ (covers_1 m G) fun t hf y => ?_
  have e := index_1 m G t
  have y0 : (y (0 : Fin 2)).val < 512 := (y (0 : Fin 2)).isLt
  have E0 : ((((cfgA m G).win 1).blk t).view.emb y (0 : Fin 2)).val = t.val * 512 + (y (0 : Fin 2)).val := by
    refine (((cfgA m G).win 1).rect_emb_val t y (0 : Fin 2) rfl).trans ?_
    rw [e]; rfl
  have E1 : ((((cfgA m G).win 1).blk t).view.emb y (1 : Fin 2)).val = (y (1 : Fin 2)).val := by
    refine (((cfgA m G).win 1).rect_emb_val t y (1 : Fin 2) rfl).trans ?_
    rw [e]; exact Nat.zero_add _
  have key : ∀ (j : S49152x512.Idx) (z : S512x512.Idx), (j 0).val = t.val * 512 + (z 0).val → (j 1).val = (z 1).val →
      ∀ h h' , outAt m G c t z = outAt m G c ⟨(j 0).val / 512, h⟩ (ix2 ⟨(j 0).val % 512, h'⟩ ⟨(j 1).val, (j 1).isLt⟩) := fun j z e0 e1 h h' => by
    have z0 : (z 0).val < 512 := (z 0).isLt
    have et : t = ⟨(j 0).val / 512, h⟩ := Fin.ext (by show t.val = (j 0).val / 512; omega)
    have ez : z = ix2 ⟨(j 0).val % 512, h'⟩ ⟨(j 1).val, (j 1).isLt⟩ := by
      funext a
      fin_cases a
      · exact Fin.ext (by show (z 0).val = (j 0).val % 512; omega)
      · exact Fin.ext e1.symm
    rw [← et]; exact congrArg _ ez
  exact (congrFun (after_1 m G c t) _).trans (key _ _ E0 E1 _ _)

end Cert.Kernel.Hand

end
-- ==== Proof.RTrip.lean ====
/-
    The reference's loop: what its trips store.
-/
module

public import proofs.«01_k».proof.Proof.Gen.Reference.Frame
public import Idealize.ShloMosaic.Lib.WholeRead
public import Idealize.ShloMosaic.Lib.Writes
public import Idealize.ShloMosaic.Lib.Pipeline.ValueKit
public import Idealize.ShloMosaic.Lib.Pipeline.Covers
public import Idealize.ShloMosaic.Lib.PointwiseCore

@[expose] public section

noncomputable section

namespace Cert.Reference.Hand

open Cert.Reference Cert.Reference.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [BitOps F]

/-- Slab `n` of a three-axis array, as an array of one slab. -/
def slab {N A B : ℕ} {α : Type} (x : (⟨3, ![N, A, B]⟩ : Shape).Idx → α) (n : Fin N) : (⟨3, ![1, A, B]⟩ : Shape).Idx → α := fun j => x (ix3 n ⟨(j 1).val, (j 1).isLt⟩ ⟨(j 2).val, (j 2).isLt⟩)

/-- What the loop leaves in the result, element by element. -/
def tilesV (x0 : Vec F S96x512x1024 .f32) (x1 x2 : Vec F S96x1024x256 .f32) (x3 : Vec F S96x256x1024 .f32) : Vec F S96x512x1024 .f32 := fun i =>
  k0_pay1 (slab x0 (i 0)) (slab x1 (i 0)) (slab x2 (i 0)) (slab x3 (i 0)) (ix3 (0 : Fin 1) ⟨(i 1).val, (i 1).isLt⟩ ⟨(i 2).val, (i 2).isLt⟩)

theorem off_1 : ∀ k : Fin k0_t1_loop.trips, k0_off1 k = ![k.val, 0, 0] := by decide +kernel
theorem off_2 : ∀ k : Fin k0_t1_loop.trips, k0_off2 k = ![k.val, 0, 0] := by decide +kernel
theorem off_3 : ∀ k : Fin k0_t1_loop.trips, k0_off3 k = ![k.val, 0, 0] := by decide +kernel

section
variable (𝒱 : Variants) (c : Dev nD) (bd : Option 𝒱.V) (arg0 : Memref sig .tc .vmem S96x512x1024 .f32) (harg0 : arg0.IsWhole) (arg1 : Memref sig .tc .vmem S96x1024x256 .f32) (harg1 : arg1.IsWhole) (arg2 : Memref sig .tc .vmem S96x1024x256 .f32) (harg2 : arg2.IsWhole) (arg3 : Memref sig .tc .vmem S96x256x1024 .f32) (harg3 : arg3.IsWhole) (arg4 : Memref sig .tc .vmem S96x512x1024 .f32) (harg4 : arg4.IsWhole)

unseal trip_k0_t1 in
theorem trip_eq (X0 : BufTy.Contents (Elt F) arg0.view.ty) (X1 : BufTy.Contents (Elt F) arg1.view.ty) (X2 : BufTy.Contents (Elt F) arg2.view.ty) (X3 : BufTy.Contents (Elt F) arg3.view.ty) (k : Fin k0_t1_loop.trips) :
    tripL_k0_t1 (F := F) 𝒱 c bd arg0 harg0 arg1 harg1 arg2 harg2 arg3 harg3 arg4 harg4 X0 X1 X2 X3 k
      = [⟨Rect.unit (s := S96x512x1024) (k0_off1 k) S1x512x1024.size (k0_off1_inb k),
          k0_pay1 (arg0.view.readAt (Elt F) (Rect.unit (s := S96x512x1024) (k0_off1 k) S1x512x1024.size (k0_off1_inb k)).toLoadRect X0)
            (arg1.view.readAt (Elt F) (Rect.unit (s := S96x1024x256) (k0_off2 k) S1x1024x256.size (k0_off2_inb k)).toLoadRect X1)
            (arg2.view.readAt (Elt F) (Rect.unit (s := S96x1024x256) (k0_off2 k) S1x1024x256.size (k0_off2_inb k)).toLoadRect X2)
            (arg3.view.readAt (Elt F) (Rect.unit (s := S96x256x1024) (k0_off3 k) S1x256x1024.size (k0_off3_inb k)).toLoadRect X3)⟩] := by
  rfl

theorem slab_read {N A B : ℕ} {κ : Kind} {sp} {M : Memref sig κ sp ⟨3, ![N, A, B]⟩ .f32} (h : M.IsWhole) (x : Vec F ⟨3, ![N, A, B]⟩ .f32) (n : Fin N)
    (off : Fin 3 → ℕ) (e : off = ![n.val, 0, 0]) (hb) :
    M.view.readAt (Elt F) (Rect.unit (s := ⟨3, ![N, A, B]⟩) off ![1, A, B] hb).toLoadRect (h.unread x) = slab x n := by
  subst e
  funext j
  rw [h.readAt_unread]
  have j0 : (j (0 : Fin 3)).val < 1 := (j (0 : Fin 3)).isLt
  refine congrArg x (funext fun a => Fin.ext ?_)
  fin_cases a
  · show n.val + 1 * (j (0 : Fin 3)).val = n.val; omega
  · show 0 + 1 * (j (1 : Fin 3)).val = (j (1 : Fin 3)).val; omega
  · show 0 + 1 * (j (2 : Fin 3)).val = (j (2 : Fin 3)).val; omega

variable (x0 : Vec F S96x512x1024 .f32) (x1 x2 : Vec F S96x1024x256 .f32) (x3 : Vec F S96x256x1024 .f32)

theorem trips_96 : k0_t1_loop.trips = 96 := by decide +kernel

theorem trip_piece (k : Fin k0_t1_loop.trips) : ∀ p ∈ tripL_k0_t1 (F := F) 𝒱 c bd arg0 harg0 arg1 harg1 arg2 harg2 arg3 harg3 arg4 harg4 (harg0.unread x0) (harg1.unread x1) (harg2.unread x2) (harg3.unread x3) k,
    ∀ x : p.1.shape.Idx, p.2 x = tilesV x0 x1 x2 x3 (p.1.emb x) := by
  rw [trip_eq]
  intro p hp
  rw [List.mem_singleton] at hp
  subst hp
  intro x
  have hk : k.val < 96 := lt_of_lt_of_eq k.isLt trips_96
  have r0 := slab_read harg0 x0 ⟨k.val, hk⟩ _ (off_1 k) (k0_off1_inb k)
  have r1 := slab_read harg1 x1 ⟨k.val, hk⟩ _ (off_2 k) (k0_off2_inb k)
  have r2 := slab_read harg2 x2 ⟨k.val, hk⟩ _ (off_2 k) (k0_off2_inb k)
  have r3 := slab_read harg3 x3 ⟨k.val, hk⟩ _ (off_3 k) (k0_off3_inb k)
  refine (congrFun (congr (congr (congr (congrArg k0_pay1 r0) r1) r2) r3) x).trans ?_
  have x_0 : (x (0 : Fin 3)).val < 1 := (x (0 : Fin 3)).isLt
  have e0 : ((Rect.unit (s := S96x512x1024) (k0_off1 k) S1x512x1024.size (k0_off1_inb k)).emb x (0 : Fin 3)).val = k.val := by
    show k0_off1 k 0 + 1 * (x (0 : Fin 3)).val = k.val
    have o : k0_off1 k 0 = k.val := congrFun (off_1 k) 0
    omega
  have e1 : ((Rect.unit (s := S96x512x1024) (k0_off1 k) S1x512x1024.size (k0_off1_inb k)).emb x (1 : Fin 3)).val = (x (1 : Fin 3)).val := by
    show k0_off1 k 1 + 1 * (x (1 : Fin 3)).val = _
    have o : k0_off1 k 1 = 0 := congrFun (off_1 k) 1
    omega
  have e2 : ((Rect.unit (s := S96x512x1024) (k0_off1 k) S1x512x1024.size (k0_off1_inb k)).emb x (2 : Fin 3)).val = (x (2 : Fin 3)).val := by
    show k0_off1 k 2 + 1 * (x (2 : Fin 3)).val = _
    have o : k0_off1 k 2 = 0 := congrFun (off_1 k) 2
    omega
  generalize (Rect.unit (s := S96x512x1024) (k0_off1 k) S1x512x1024.size (k0_off1_inb k)).emb x = y at e0 e1 e2
  have en : (⟨k.val, hk⟩ : Fin 96) = y (0 : Fin 3) := Fin.ext e0.symm
  have ex : x = ix3 (0 : Fin 1) ⟨(y (1 : Fin 3)).val, (y (1 : Fin 3)).isLt⟩ ⟨(y (2 : Fin 3)).val, (y (2 : Fin 3)).isLt⟩ := by
    funext a
    fin_cases a
    · exact Fin.ext (by show (x (0 : Fin 3)).val = 0; omega)
    · exact Fin.ext e1.symm
    · exact Fin.ext e2.symm
  rw [en]
  exact congrArg _ ex

theorem pb_piece : ∀ n, n ≤ k0_t1_loop.trips → ∀ p ∈ pb_k0_t1 (F := F) 𝒱 c bd arg0 harg0 arg1 harg1 arg2 harg2 arg3 harg3 arg4 harg4 (harg0.unread x0) (harg1.unread x1) (harg2.unread x2) (harg3.unread x3) n,
    ∀ x : p.1.shape.Idx, p.2 x = tilesV x0 x1 x2 x3 (p.1.emb x)
  | 0, _ => fun p hp => absurd hp List.not_mem_nil
  | n + 1, h => fun p hp => by
    rw [pb_k0_t1_succ 𝒱 c bd arg0 harg0 arg1 harg1 arg2 harg2 arg3 harg3 arg4 harg4 _ _ _ _ ⟨n, h⟩] at hp
    rcases List.mem_append.mp hp with h' | h'
    · exact trip_piece 𝒱 c bd arg0 harg0 arg1 harg1 arg2 harg2 arg3 harg3 arg4 harg4 x0 x1 x2 x3 ⟨n, h⟩ p h'
    · exact pb_piece n (Nat.le_of_succ_le h) p h'

theorem run_pieces : (kernelRun0_A c arg0 harg0 arg1 harg1 arg2 harg2 arg3 harg3 arg4 harg4 x0 x1 x2 x3).1
    = pb_k0_t1 (F := F) Variants.none c none arg0 harg0 arg1 harg1 arg2 harg2 arg3 harg3 arg4 harg4 (harg0.unread x0) (harg1.unread x1) (harg2.unread x2) (harg3.unread x3) k0_t1_loop.trips := by
  with_unfolding_all rfl

theorem out_eq : out0_A_4 c arg0 harg0 arg1 harg1 arg2 harg2 arg3 harg3 arg4 harg4 x0 x1 x2 x3 = tilesV x0 x1 x2 x3 := by
  funext y
  unfold out0_A_4
  refine View.read_writes_apply_of_pieces _ _ _ _ (fun p hp => ?_) y (cover0_A_4 c arg0 harg0 arg1 harg1 arg2 harg2 arg3 harg3 arg4 harg4 x0 x1 x2 x3 y)
  rw [run_pieces] at hp
  exact pb_piece _ c _ arg0 harg0 arg1 harg1 arg2 harg2 arg3 harg3 arg4 harg4 x0 x1 x2 x3 _ le_rfl p hp

end

end Cert.Reference.Hand

end
-- ==== Proof.RHost.lean ====
/-
    The reference's operations before and after its kernel.
-/
module

public import proofs.«01_k».proof.Proof.RTrip
public import Idealize.ShloMosaic.Lib.BitcastConvert

@[expose] public section

noncomputable section

namespace Cert.Reference.Hand

open Cert.Reference Cert.Reference.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [BitOps F]

variable (m : (ℓ : Loc nD τ sig) → Buf (Elt F) ℓ) (ρ : Dev nD → PrngReg) (c : Dev nD)

/-- The rows as the kernel is given them. -/
def rowsT (xs : IVec S49152x512 32) : Vec F S96x512x1024 .f32 :=
  shapeCast S96x512x1024 (extf (s := S49152x1024) .f32
    (concatenate S49152x1024 1
      [⟨S49152x512, shapeCast S49152x512 (extractStridedSlice S49152x512x1 ![0, 0, 0] (bitcastToFloat .bf16 (Host.bitcastConvertNarrow S49152x512x2 16 xs splits_S49152x512_w32_S49152x512x2_w16) : FVec F S49152x512x2 .bf16) slices_S49152x512x2_S49152x512x1_0_0_0) shapeCasts_S49152x512x1_S49152x512⟩,
       ⟨S49152x512, shapeCast S49152x512 (extractStridedSlice S49152x512x1 ![0, 0, 1] (bitcastToFloat .bf16 (Host.bitcastConvertNarrow S49152x512x2 16 xs splits_S49152x512_w32_S49152x512x2_w16) : FVec F S49152x512x2 .bf16) slices_S49152x512x2_S49152x512x1_0_0_1) shapeCasts_S49152x512x1_S49152x512⟩]
      concatenates_S49152x512_S49152x512_S49152x1024_d1) bitsLt_bf16_f32) shapeCasts_S49152x1024_S96x512x1024

/-- The experts' numbers, the negative ones counted from the end, as a column. -/
def colT (te : IVec S96 32) : IVec S96x1 32 :=
  broadcastInDim S96x1 ![0] bcast_S96_S96x1_0
    (select (cmpi .slt te (broadcastInDim S96 ![] bcast_S_S96 (constantI S_ 32 0#32))) (addi te (broadcastInDim S96 ![] bcast_S_S96 (constantI S_ 32 32#32))) te)

theorem V_rows : V m c main_v7 = rowsT (m (c, main_arg2)) := by
  unfold V V0; simp only [hostOps0, List.flatten_cons, List.flatten_nil, List.cons_append, List.nil_append, List.append_nil]; after_results; rfl
theorem V_w1 : V m c main_v14 = Host.gather gather_S32x1024x256_S96x1_S96x1024x256_12_0_n_n_0_1_11024256 (m (c, main_arg3)) (colT (m (c, main_arg0))) := by
  unfold V V0; simp only [hostOps0, List.flatten_cons, List.flatten_nil, List.cons_append, List.nil_append, List.append_nil]; after_results; rfl
theorem V_w2 : V m c main_v21 = Host.gather gather_S32x1024x256_S96x1_S96x1024x256_12_0_n_n_0_1_11024256 (m (c, main_arg4)) (colT (m (c, main_arg0))) := by
  unfold V V0; simp only [hostOps0, List.flatten_cons, List.flatten_nil, List.cons_append, List.nil_append, List.append_nil]; after_results; rfl
theorem V_w3 : V m c main_v28 = Host.gather gather_S32x256x1024_S96x1_S96x256x1024_12_0_n_n_0_1_12561024 (m (c, main_arg5)) (colT (m (c, main_arg0))) := by
  unfold V V0; simp only [hostOps0, List.flatten_cons, List.flatten_nil, List.cons_append, List.nil_append, List.append_nil]; after_results; rfl

/-- The result from the tiles: the rows of the unused ones zero, rounded, two to a word. -/
def packT (T : Vec F S96x512x1024 .f32) (tv : IVec S96 32) : Vec F S49152x1024 .bf16 :=
  shapeCast S49152x1024 (truncf (F := F) .bf16
    (select (broadcastInDim S96x512x1024 ![0, 1, 2] bcast_S96x1x1_S96x512x1024_0_1_2 (cmpi .sgt (broadcastInDim S96x1x1 ![0] bcast_S96_S96x1x1_0 tv) (broadcastInDim S96x1x1 ![] bcast_S_S96x1x1 (constantI S_ 32 0#32))))
      T (broadcastInDim S96x512x1024 ![] bcast_S_S96x512x1024 (constant S_ .f32 0x00000000#32 : FVec F S_ .f32))) bitsLt_bf16_f32) shapeCasts_S96x512x1024_S49152x1024
def wordsT (y : Vec F S49152x1024 .bf16) : IVec S49152x512 32 :=
  Host.bitcastConvertWiden S49152x512 32 (bitcastToInt (F := F) (concatenate S49152x512x2 2
    [⟨S49152x512x1, broadcastInDim S49152x512x1 ![0, 1] bcast_S49152x512_S49152x512x1_0_1 (extractStridedSlice S49152x512 ![0, 0] y slices_S49152x1024_S49152x512_0_0)⟩,
     ⟨S49152x512x1, broadcastInDim S49152x512x1 ![0, 1] bcast_S49152x512_S49152x512x1_0_1 (extractStridedSlice S49152x512 ![0, 512] y slices_S49152x1024_S49152x512_0_512)⟩]
    concatenates_S49152x512x1_S49152x512x1_S49152x512x2_d2)) splits_S49152x512_w32_S49152x512x2_w16

theorem tail_read (W : Valuation τ sig (Elt F)) : StableHlo.after ([hostOps1, hostOps1_1, hostOps1_2].flatten) W (Proc.devRef .tc main_v41)
    = wordsT (packT (W (Proc.devRef .tc main_v29)) (W (Proc.devRef .tc main_arg1))) := by
  simp only [hostOps1, hostOps1_1, hostOps1_2, List.flatten_cons, List.flatten_nil, List.cons_append, List.nil_append, List.append_nil]; after_results
  simp only [StableHlo.TRef.toBuf, StableHlo.TRef.ofBuf, cast_eq]
  rfl

end Cert.Reference.Hand

end
-- ==== Proof.RRead.lean ====
/-
    The reference's operations read at an index.
-/
module

public import proofs.«01_k».proof.Proof.RHost
public import Idealize.ShloMosaic.Lib.PointwiseCore
public import Idealize.ShloMosaic.Lib.BitcastConvert

@[expose] public section

noncomputable section

namespace Cert.Reference.Hand

open Cert.Reference Cert.Reference.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [BitOps F]

/-- One half of a word, as a number. -/
def halfV (w : BitVec 32) (p : ℕ) : F .f32 := FloatOps.extf .f32 bitsLt_bf16_f32 (FloatOps.ofBits .bf16 (w.extractLsb' (p * 16) 16))

theorem rowsT_apply (xs : IVec S49152x512 32) (n : Fin 96) (a : Fin 512) (q : Fin 1024) :
    rowsT (F := F) xs (ix3 n a q) = if h : q.val < 512 then halfV (xs (ix2 ⟨n.val * 512 + a.val, by omega⟩ ⟨q.val, h⟩)) 0
      else halfV (xs (ix2 ⟨n.val * 512 + a.val, by omega⟩ ⟨q.val - 512, by omega⟩)) 1 := by
  pointwise [rowsT]
  have dr : ∀ (x : Fin 49152) (y : Fin 512) (k : Fin 2), splits_S49152x512_w32_S49152x512x2_w16.drop (ix3 x y k) = ix2 x y := fun x y k => by
    funext b; fin_cases b <;> rfl
  by_cases h : q.val < 512
  · rw [dif_pos h, dif_pos h, dr]; rfl
  · rw [dif_neg h, dif_neg h, dr]; rfl

theorem packT_apply (T : Vec F S96x512x1024 .f32) (tv : IVec S96 32) (r : Fin 49152) (q : Fin 1024) :
    packT T tv (ix2 r q) = FloatOps.truncf .bf16 bitsLt_bf16_f32 (Scalar.select (IntOp.cmpi .sgt (tv (ix1 ⟨r.val / 512, by omega⟩)) 0#32)
      (T (ix3 ⟨r.val / 512, by omega⟩ ⟨r.val % 512, by omega⟩ q)) (FloatOps.ofBits .f32 0x00000000#32)) := by
  pointwise [packT]

theorem wordsT_apply (y : Vec F S49152x1024 .bf16) (r : Fin 49152) (j : Fin 512) :
    wordsT y (ix2 r j) = BitOps.toBits (y (ix2 r ⟨512 + j.val, by omega⟩)) ++ BitOps.toBits (y (ix2 r ⟨j.val, by omega⟩)) := by
  have e1 : ∀ h, splits_S49152x512_w32_S49152x512x2_w16.snoc (ix2 r j) ⟨1, h⟩ = ix3 r j (1 : Fin 2) := fun h => by funext b; fin_cases b <;> rfl
  have e0 : ∀ h, splits_S49152x512_w32_S49152x512x2_w16.snoc (ix2 r j) ⟨0, h⟩ = ix3 r j (0 : Fin 2) := fun h => by funext b; fin_cases b <;> rfl
  unfold wordsT
  rw [Host.bitcastConvertWiden_apply_16_32, e1, e0]
  pointwise

theorem colT_apply (te : IVec S96 32) (n : Fin 96) (h : (te (ix1 n)).toNat < 32) : colT te (ix2 n (0 : Fin 1)) = te (ix1 n) := by
  pointwise [colT]
  have e : IntOp.cmpi CmpIPredicate.slt (te (ix1 n)) 0#32 = 0#1 := by
    generalize te (ix1 n) = w at h
    have hs : w.slt 0#32 = false := by
      rw [BitVec.slt_eq_decide, BitVec.toInt_eq_toNat_of_lt (by omega)]
      simp
    show BitVec.ofBool (w.slt 0#32) = 0#1
    rw [hs]; rfl
  rw [e]; rfl

/-- Whole slabs gathered by number. -/
theorem gather_slab {α : Type} {N A B n : ℕ} (d : GatherDims ⟨3, ![N, A, B]⟩ ⟨2, ![n, 1]⟩ ⟨3, ![n, A, B]⟩) (hoff : d.offsetDims = [1, 2])
    (hcoll : d.collapsedSliceDims = [0]) (hob : d.operandBatchingDims = []) (hsim : d.startIndexMap = [0]) (hivd : d.indexVectorDim = 1)
    (x : (⟨3, ![N, A, B]⟩ : Shape).Idx → α) (idx : IVec ⟨2, ![n, 1]⟩ 32) (c : Fin n) (p : Fin A) (q : Fin B) (e : Fin N)
    (he : (idx (ix2 c (0 : Fin 1))).toNat = e.val) (hN : N < 2 ^ 31) : Host.gather d x idx (ix3 c p q) = x (ix3 e p q) := by
  obtain ⟨od, cd, ob, sb, sm, iv, ss, wf⟩ := d
  subst hoff hcoll hob hsim hivd
  unfold Host.gather
  refine congrArg x (funext fun (a : Fin 3) => Fin.ext ?_)
  match a with
  | ⟨0, _⟩ =>
    generalize hd : GatherDims.mk _ _ _ _ _ _ ss wf = d
    have hsl : ss (0 : Fin 3) = 1 := by have h := d.slice_collapsed 0 (by rw [← hd]; exact List.mem_singleton.2 rfl); rw [← hd] at h; exact h
    have hm : (0 : Fin 3) ∈ d.startIndexMap := by rw [← hd]; exact List.mem_singleton.2 rfl
    show d.start (ix3 c p q) idx 0 + d.batchCoord (ix3 c p q) 0 + d.offCoord (ix3 c p q) 0 = e.val
    rw [d.batchCoord_eq_zero _ _ (by rw [← hd]; exact List.not_mem_nil),
      d.offCoord_eq_zero _ _ (fun h => ((d.mem_sKept _).mp h).1 (by rw [← hd]; exact List.mem_singleton.mpr rfl))]
    simp only [Nat.add_zero]
    unfold GatherDims.start
    rw [dif_pos hm]
    have hsi : d.siIdx (ix3 c p q) ⟨d.startIndexMap.idxOf 0, List.idxOf_lt_length_iff.2 hm⟩ = ix2 c (0 : Fin 1) := by
      subst hd
      funext b'
      apply Fin.ext
      match b' with
      | ⟨0, _⟩ => rfl
      | ⟨1, _⟩ => rfl
    have hbl := e.isLt
    rw [hsi, BitVec.toInt_eq_toNat_of_lt (by omega), he]
    subst hd
    show min ((e.val : Int)).toNat (N - ss (0 : Fin 3)) = e.val
    rw [hsl]
    omega
  | ⟨1, _⟩ =>
    generalize hd : GatherDims.mk _ _ _ _ _ _ ss wf = d
    have hm : (1 : Fin 3) ∉ d.startIndexMap := by rw [← hd]; show (1 : Fin 3) ∉ [(0 : Fin 3)]; decide
    have hk : (1 : Fin 3) ∈ d.sKept := by rw [← hd]; show (1 : Fin 3) ∈ [(1 : Fin 3), 2]; decide
    show d.start (ix3 c p q) idx 1 + d.batchCoord (ix3 c p q) 1 + d.offCoord (ix3 c p q) 1 = p.val
    rw [d.batchCoord_eq_zero _ _ (by rw [← hd]; exact List.not_mem_nil)]
    unfold GatherDims.start GatherDims.offCoord
    rw [dif_neg hm, dif_pos hk]
    subst hd
    exact Nat.zero_add _
  | ⟨2, _⟩ =>
    generalize hd : GatherDims.mk _ _ _ _ _ _ ss wf = d
    have hm : (2 : Fin 3) ∉ d.startIndexMap := by rw [← hd]; show (2 : Fin 3) ∉ [(0 : Fin 3)]; decide
    have hk : (2 : Fin 3) ∈ d.sKept := by rw [← hd]; show (2 : Fin 3) ∈ [(1 : Fin 3), 2]; decide
    show d.start (ix3 c p q) idx 2 + d.batchCoord (ix3 c p q) 2 + d.offCoord (ix3 c p q) 2 = q.val
    rw [d.batchCoord_eq_zero _ _ (by rw [← hd]; exact List.not_mem_nil)]
    unfold GatherDims.start GatherDims.offCoord
    rw [dif_neg hm, dif_pos hk]
    subst hd
    exact Nat.zero_add _

end Cert.Reference.Hand

end
-- ==== Proof.Ffn.lean ====
/-
    One tile's two layers: the kernel's arithmetic and the reference's, as one function.
-/
module

public import proofs.«01_k».proof.Proof.KValue
public import proofs.«01_k».proof.Proof.RRead

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [BitOps F]

/-- The gated two layers of one tile, on bf16 rows and bf16 weights. -/
def ffn (x : FVec F S512x1024 .bf16) (g u : FVec F S1024x256 .bf16) (d : FVec F S256x1024 .bf16) : FVec F S512x1024 .f32 :=
  have a : FVec F S512x256 .f32 := matmul dot_S512x1024_S1024x256_S512x256_1_0_0_1_n_n none x g (constant S512x256 .f32 0x00000000#32)
  have b : FVec F S512x256 .f32 := matmul dot_S512x1024_S1024x256_S512x256_1_0_0_1_n_n none x u (constant S512x256 .f32 0x00000000#32)
  have z : FVec F S512x256 .f32 := broadcast S512x256 (Scalar.ofBits .f32 0x00000000#32)
  have o : FVec F S512x256 .f32 := broadcast S512x256 (Scalar.ofBits .f32 0x3F800000#32)
  matmul dot_S512x256_S256x1024_S512x1024_1_0_0_1_n_n none (truncf .bf16 (mulf (mulf a (divf o (addf o (exp (subf z a))))) b) bitsLt_bf16_f32) d
    (constant S512x1024 .f32 0x00000000#32)

/-- The rows of a tile, opened: the low halves of its words, then the high halves, at bf16. -/
def xcat (x : Vec F S512x512 .i32) : FVec F S512x1024 .bf16 :=
  truncf .bf16 (concatenate S512x1024 1 [⟨S512x512, (unpackElementwise 0 x : FVec F S512x512 .f32)⟩, ⟨S512x512, (unpackElementwise 1 x : FVec F S512x512 .f32)⟩]
    concatenates_S512x512_S512x512_S512x1024_d1) bitsLt_bf16_f32

theorem pay3_ffn (x : Vec F S512x512 .i32) (g u : FVec F S1024x256 .bf16) (d : FVec F S256x1024 .bf16) (a : Fin 512) (j : Fin 512) :
    k0_pay3 x g u d (ix2 a j) = BitOps.toBits (FloatOps.truncf .bf16 bitsLt_bf16_f32 (ffn (xcat x) g u d (ix2 a ⟨512 + j.val, by omega⟩)))
      ++ BitOps.toBits (FloatOps.truncf .bf16 bitsLt_bf16_f32 (ffn (xcat x) g u d (ix2 a ⟨j.val, by omega⟩))) := by
  show packElementwise (extractStridedSlice S512x512 ![0, 0] (ffn (xcat x) g u d) slices_S512x1024_o0_0_S512x512)
    (extractStridedSlice S512x512 ![0, 512] (ffn (xcat x) g u d) slices_S512x1024_o0_512_S512x512) (ix2 a j) = _
  generalize ffn (xcat x) g u d = y
  refine congr (congrArg HAppend.hAppend (congrArg (fun v => BitOps.toBits (FloatOps.truncf .bf16 bitsLt_bf16_f32 v)) ?_))
    (congrArg (fun v => BitOps.toBits (FloatOps.truncf .bf16 bitsLt_bf16_f32 v)) ?_)
  · pointwise
  · pointwise

theorem pay4_at (i : S512x512.Idx) : (k0_pay4 (F := F)) i = BitOps.toBits (FloatOps.truncf .bf16 bitsLt_bf16_f32 (FloatOps.ofBits (F := F) .f32 0x00000000#32))
    ++ BitOps.toBits (FloatOps.truncf .bf16 bitsLt_bf16_f32 (FloatOps.ofBits (F := F) .f32 0x00000000#32)) := rfl

theorem pay1_ffn (x : Vec F Cert.Reference.S1x512x1024 .f32) (g u : Vec F S1x1024x256 .f32) (d : Vec F S1x256x1024 .f32) (a : Fin 512) (q : Fin 1024) :
    Cert.Reference.Gen.k0_pay1 x g u d (ix3 (0 : Fin 1) a q)
      = ffn (truncf .bf16 (shapeCast S512x1024 x Cert.Reference.Gen.shapeCasts_S1x512x1024_S512x1024) bitsLt_bf16_f32)
        (truncf .bf16 (shapeCast S1024x256 g Cert.Reference.Gen.shapeCasts_S1x1024x256_S1024x256) bitsLt_bf16_f32)
        (truncf .bf16 (shapeCast S1024x256 u Cert.Reference.Gen.shapeCasts_S1x1024x256_S1024x256) bitsLt_bf16_f32)
        (truncf .bf16 (shapeCast S256x1024 d Cert.Reference.Gen.shapeCasts_S1x256x1024_S256x1024) bitsLt_bf16_f32) (ix2 a q) := by
  show shapeCast Cert.Reference.S1x512x1024 (ffn (F := F) _ _ _ _) Cert.Reference.Gen.shapeCasts_S512x1024_S1x512x1024 (ix3 (0 : Fin 1) a q) = _
  generalize ffn (F := F) _ _ _ _ = y
  pointwise

theorem xcat_apply (x : Vec F S512x512 .i32) (a : Fin 512) (q : Fin 1024) :
    xcat x (ix2 a q) = FloatOps.truncf .bf16 bitsLt_bf16_f32 (if h : q.val < 512 then Cert.Reference.Hand.halfV (x (ix2 a ⟨q.val, h⟩)) 0
      else Cert.Reference.Hand.halfV (x (ix2 a ⟨q.val - 512, by omega⟩)) 1) := by
  have lo : ∀ i, (unpackElementwise 0 x : FVec F S512x512 .f32) i = Cert.Reference.Hand.halfV (x i) 0 := fun _ => rfl
  have hi : ∀ i, (unpackElementwise 1 x : FVec F S512x512 .f32) i = Cert.Reference.Hand.halfV (x i) 1 := fun _ => rfl
  unfold xcat
  generalize (unpackElementwise 0 x : FVec F S512x512 .f32) = p at lo ⊢
  generalize (unpackElementwise 1 x : FVec F S512x512 .f32) = r at hi ⊢
  simp only [← lo, ← hi]
  pointwise

theorem castA_eq (c : Dev nD) (M : Memref sig .tc .hbm S32x1024x256 .f32) (w : MBuf (F := F) c M) (e : BitVec 32) (he : e.toNat < 32) (y : Vec F S1x1024x256 .f32)
    (h : M.view.readAt (Elt F) (Rect.unit (s := S32x1024x256) ![e.toNat, 0, 0] S1x1024x256.size (inbEA e he)).toLoadRect w = y) :
    castA c M w e he = truncf .bf16 (shapeCast S1024x256 y shapeCasts_S1x1024x256_S1024x256) bitsLt_bf16_f32 := by
  subst h
  exact congrArg (fun q => truncf .bf16 q bitsLt_bf16_f32) (Memref.read_squeeze_slice M (Rect.unit (s := S32x1024x256) ![e.toNat, 0, 0] S1x1024x256.size (inbEA e he))
    (fun _ => rfl) squeezes_S1x1024x256_S1024x256 shapeCasts_S1x1024x256_S1024x256 w)

theorem readA (c : Dev nD) (M : Memref sig .tc .hbm S32x1024x256 .f32) (f : MBuf (F := F) c M) (w : Vec F S32x1024x256 .f32) (e : Fin 32) (o : Fin 3 → ℕ) (ho : o = ![e.val, 0, 0]) (hb)
    (T : Vec F Cert.Reference.S96x1024x256 .f32) (n : Fin 96) (hf : M.view.read (Elt F) f = w) (hT : ∀ p q, T (ix3 n p q) = w (ix3 e p q)) :
    M.view.readAt (Elt F) (Rect.unit (s := S32x1024x256) o S1x1024x256.size hb).toLoadRect f = Cert.Reference.Hand.slab T n := by
  subst ho
  funext j
  refine Eq.trans (b := w (ix3 e ⟨(j 1).val, (j 1).isLt⟩ ⟨(j 2).val, (j 2).isLt⟩)) ?_ (hT _ _).symm
  rw [← hf]
  have j0 : (j (0 : Fin 3)).val < 1 := (j (0 : Fin 3)).isLt
  refine congrArg (M.view.read (Elt F) f) (funext fun a => Fin.ext ?_)
  fin_cases a
  · show e.val + 1 * (j (0 : Fin 3)).val = e.val; omega
  · show 0 + 1 * (j (1 : Fin 3)).val = (j (1 : Fin 3)).val; omega
  · show 0 + 1 * (j (2 : Fin 3)).val = (j (2 : Fin 3)).val; omega

theorem castB_eq (c : Dev nD) (M : Memref sig .tc .hbm S32x256x1024 .f32) (w : MBuf (F := F) c M) (e : BitVec 32) (he : e.toNat < 32) (y : Vec F S1x256x1024 .f32)
    (h : M.view.readAt (Elt F) (Rect.unit (s := S32x256x1024) ![e.toNat, 0, 0] S1x256x1024.size (inbEB e he)).toLoadRect w = y) :
    castB c M w e he = truncf .bf16 (shapeCast S256x1024 y shapeCasts_S1x256x1024_S256x1024) bitsLt_bf16_f32 := by
  subst h
  exact congrArg (fun q => truncf .bf16 q bitsLt_bf16_f32) (Memref.read_squeeze_slice M (Rect.unit (s := S32x256x1024) ![e.toNat, 0, 0] S1x256x1024.size (inbEB e he))
    (fun _ => rfl) squeezes_S1x256x1024_S256x1024 shapeCasts_S1x256x1024_S256x1024 w)

theorem readB (c : Dev nD) (M : Memref sig .tc .hbm S32x256x1024 .f32) (f : MBuf (F := F) c M) (w : Vec F S32x256x1024 .f32) (e : Fin 32) (o : Fin 3 → ℕ) (ho : o = ![e.val, 0, 0]) (hb)
    (T : Vec F Cert.Reference.S96x256x1024 .f32) (n : Fin 96) (hf : M.view.read (Elt F) f = w) (hT : ∀ p q, T (ix3 n p q) = w (ix3 e p q)) :
    M.view.readAt (Elt F) (Rect.unit (s := S32x256x1024) o S1x256x1024.size hb).toLoadRect f = Cert.Reference.Hand.slab T n := by
  subst ho
  funext j
  refine Eq.trans (b := w (ix3 e ⟨(j 1).val, (j 1).isLt⟩ ⟨(j 2).val, (j 2).isLt⟩)) ?_ (hT _ _).symm
  rw [← hf]
  have j0 : (j (0 : Fin 3)).val < 1 := (j (0 : Fin 3)).isLt
  refine congrArg (M.view.read (Elt F) f) (funext fun a => Fin.ext ?_)
  fin_cases a
  · show e.val + 1 * (j (0 : Fin 3)).val = e.val; omega
  · show 0 + 1 * (j (1 : Fin 3)).val = (j (1 : Fin 3)).val; omega
  · show 0 + 1 * (j (2 : Fin 3)).val = (j (2 : Fin 3)).val; omega

end Cert.Kernel.Hand

end
-- ==== Proof.RVal.lean ====
/-
    The reference's kernel: its result as an array.
-/
module

public import proofs.«01_k».proof.Proof.RTrip

@[expose] public section

noncomputable section

namespace Cert.Reference.Hand

open Cert.Reference Cert.Reference.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [BitOps F]

variable (m : (ℓ : Loc nD τ sig) → Buf (Elt F) ℓ) (ρ : Dev nD → PrngReg) (c : Dev nD)

theorem idx_id {n : ℕ} {s : Shape} (x y : s.Idx) (h : ∀ a, (x a).val = (y a).val) : x = y := funext fun a => Fin.ext (h a)

theorem blk_0 (t : Fin cfg0.N) : iblk m c 0 t = V m c main_v7 := by
  unfold iblk
  funext z
  refine congrArg (V m c main_v7) (funext fun (a : Fin 3) => Fin.ext ?_)
  refine ((cfg0.win 0).rect_emb_val t z a rfl).trans ?_
  fin_cases a <;> exact Nat.zero_add _
theorem blk_1 (t : Fin cfg0.N) : iblk m c 1 t = V m c main_v14 := by
  unfold iblk
  funext z
  refine congrArg (V m c main_v14) (funext fun (a : Fin 3) => Fin.ext ?_)
  refine ((cfg0.win 1).rect_emb_val t z a rfl).trans ?_
  fin_cases a <;> exact Nat.zero_add _
theorem blk_2 (t : Fin cfg0.N) : iblk m c 2 t = V m c main_v21 := by
  unfold iblk
  funext z
  refine congrArg (V m c main_v21) (funext fun (a : Fin 3) => Fin.ext ?_)
  refine ((cfg0.win 2).rect_emb_val t z a rfl).trans ?_
  fin_cases a <;> exact Nat.zero_add _
theorem blk_3 (t : Fin cfg0.N) : iblk m c 3 t = V m c main_v28 := by
  unfold iblk
  funext z
  refine congrArg (V m c main_v28) (funext fun (a : Fin 3) => Fin.ext ?_)
  refine ((cfg0.win 3).rect_emb_val t z a rfl).trans ?_
  fin_cases a <;> exact Nat.zero_add _

theorem outs_eq (t : Fin cfg0.N) : outsAt0 m c t = tilesV (V m c main_v7) (V m c main_v14) (V m c main_v21) (V m c main_v28) := by
  unfold outsAt0
  rw [out_eq, blk_0, blk_1, blk_2, blk_3]

theorem covers_4 : (cfg0.win 4).Covers :=
  (cfg0.win 4).covers_of_indexMap_surj rfl (fun a : Fin 3 => by fin_cases a <;> decide) fun β => ⟨grid0.coords t0_0, fun (a : Fin 3) => by
    have h : (β a).val < (cfg0.win 4).nblk a := (β a).isLt
    have n : (cfg0.win 4).nblk a = 1 := by fin_cases a <;> simp [Pipeline.Window.nblk]
    have z : (β a).val = 0 := by omega
    rw [z]⟩

/-- The kernel's result as an array. -/
theorem arr_4 : (dats m 0 c).arrAt 4 cfg0.N = tilesV (V m c main_v7) (V m c main_v14) (V m c main_v21) (V m c main_v28) := by
  refine (dats m 0 c).arrAt_eq_of_covers 4 _ covers_4 fun t hf y => ?_
  refine (congrFun ((after0_4 m c t).trans (outs_eq m c t)) _).trans ?_
  generalize tilesV (V m c main_v7) (V m c main_v14) (V m c main_v21) (V m c main_v28) = T
  refine congrArg T (funext fun (a : Fin 3) => Fin.ext (Eq.symm ?_))
  refine ((cfg0.win 4).rect_emb_val t y a rfl).trans ?_
  fin_cases a <;> exact Nat.zero_add _

end Cert.Reference.Hand

end
-- ==== Proof.RRun.lean ====
/-
    The reference's run and its result.
-/
module

public import proofs.«01_k».proof.Proof.RVal
public import proofs.«01_k».proof.Proof.RHost

@[expose] public section

noncomputable section

namespace Cert.Reference.Hand

open Cert.Reference Cert.Reference.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [BitOps F]

variable (m : (ℓ : Loc nD τ sig) → Buf (Elt F) ℓ) (ρ : Dev nD → PrngReg)

/-- The reference's result as a function of its arguments. -/
def refOut (te tv : IVec S96 32) (xs : IVec S49152x512 32) (w1 w2 : Vec F S32x1024x256 .f32) (w3 : Vec F S32x256x1024 .f32) : IVec S49152x512 32 :=
  wordsT (packT (tilesV (rowsT xs) (Host.gather gather_S32x1024x256_S96x1_S96x1024x256_12_0_n_n_0_1_11024256 w1 (colT te))
    (Host.gather gather_S32x1024x256_S96x1_S96x1024x256_12_0_n_n_0_1_11024256 w2 (colT te))
    (Host.gather gather_S32x256x1024_S96x1_S96x256x1024_12_0_n_n_0_1_12561024 w3 (colT te))) tv)

theorem tail_out (c : Dev nD) : Pipeline.afterTail₀ cfgs (dats m) 0 (V0 m) [hostOps1, hostOps1_1, hostOps1_2] c main_v41
    = refOut (m (c, main_arg0)) (m (c, main_arg1)) (m (c, main_arg2)) (m (c, main_arg3)) (m (c, main_arg4)) (m (c, main_arg5)) := by
  unfold Pipeline.afterTail₀
  refine (tail_read _).trans ?_
  have e1 : Pipeline.withArrays spec0 c (V0 m c) (fun w => (dats m 0 c).arrAt w cfg0.N) (Proc.devRef .tc main_arg1) = m (c, main_arg1) :=
    (Pipeline.withArrays_of_ne _ c (V0 m c) _ main_arg1 (by exact (by decide : ∀ w, Pipeline.arrRef spec0 w ≠ main_arg1))).trans (V_main_arg1 m c)
  have e2 : Pipeline.withArrays spec0 c (V0 m c) (fun w => (dats m 0 c).arrAt w cfg0.N) (Proc.devRef .tc main_v29) = _ :=
    (Pipeline.withArrays_arr spec0 launch0.win.arr_inj c (V0 m c) (fun w => (dats m 0 c).arrAt w cfg0.N) 4).trans (arr_4 m c)
  rw [V_rows, V_w1, V_w2, V_w3] at e2
  exact congrArg wordsT (congr (congrArg packT e2) e1)

theorem rest_out : main_v41 ∈ Pipeline.restRefs sig spec0 := Pipeline.mem_restRefs_of main_v41 (by decide) (by decide)

theorem run_full : θ_run defs (onTc (τ := τ) (main (F := F))) ⟨m, fun _ => 0, ρ⟩ (fun r => ∀ c : Dev nD,
      r.2.mem ((c.tc : Thread nD τ).loc main_v41) = refOut (m (c, main_arg0)) (m (c, main_arg1)) (m (c, main_arg2)) (m (c, main_arg3)) (m (c, main_arg4)) (m (c, main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).2 main_v41 rest_out).trans (tail_out m c), h.2 c⟩) (θ_run_and (run_main m ρ) (unchanged m ρ))

end Cert.Reference.Hand

end
-- ==== Proof.Eqn.lean ====
/-
    The kernel's result is the reference's.
-/
module

public import proofs.«01_k».proof.Proof.Ffn
public import proofs.«01_k».proof.Proof.RRun

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [BitOps F]

open Cert.Reference.Hand (refOut rowsT colT packT wordsT tilesV slab halfV rowsT_apply colT_apply packT_apply wordsT_apply gather_slab)

variable (m : (ℓ : Loc nD τ sig) → Buf (Elt F) ℓ) (G : Good m)

theorem at96_ix (f : S96.Idx → BitVec 32) (n : Fin 96) : f (ix1 n) = at96 f n.val :=
  congrArg f (idx96_eq _ _ (by show n.val = n.val % 96; omega))

/-- A valid tile's fetched block is the tile's own rows. -/
theorem iblk_at (c : Dev nD) {k : ℕ} (K : Count (m (c, main_arg1)) k) (t : Fin (cfgA m G).N) (ht : t.val < k) (n : Fin 96) (hn : n.val = t.val) (a : Fin 512) (q : Fin 512) :
    iblk m G c t (ix2 a q) = (m (c, main_arg2) : IVec S49152x512 32) (ix2 ⟨n.val * 512 + a.val, by omega⟩ q) := by
  obtain rfl : c = 0 := Subsingleton.elim _ _
  have e : ((cfgA m G).win 0).index t = ![n.val, 0] := by
    refine (row_eq m K ((cfgA m G).grid.coords t)).trans ?_
    rw [pt_coords m G t, hn, show min t.val (k - 1) = t.val by omega]
  have E0 : ((((cfgA m G).win 0).blk t).view.emb (ix2 a q) (0 : Fin 2)).val = n.val * 512 + a.val := by
    refine (((cfgA m G).win 0).rect_emb_val t (ix2 a q) (0 : Fin 2) rfl).trans ?_
    rw [e]; rfl
  have E1 : ((((cfgA m G).win 0).blk t).view.emb (ix2 a q) (1 : Fin 2)).val = q.val := by
    refine (((cfgA m G).win 0).rect_emb_val t (ix2 a q) (1 : Fin 2) rfl).trans ?_
    rw [e]; exact Nat.zero_add _
  unfold iblk
  rw [V_arg2]
  show (m (0, main_arg2) : IVec S49152x512 32) _ = _
  refine congrArg (m (0, main_arg2) : IVec S49152x512 32) (funext fun b => Fin.ext ?_)
  fin_cases b
  · exact E0
  · exact E1

theorem xcat_rows (x : Vec F S512x512 .i32) (xs : IVec S49152x512 32) (n : Fin 96) (h : ∀ a q, x (ix2 a q) = xs (ix2 ⟨n.val * 512 + a.val, by omega⟩ q)) :
    xcat x = truncf .bf16 (shapeCast S512x1024 (slab (rowsT (F := F) xs) n) Cert.Reference.Gen.shapeCasts_S1x512x1024_S512x1024) bitsLt_bf16_f32 := by
  funext i
  obtain ⟨a, q, rfl⟩ : ∃ (a : Fin 512) (q : Fin 1024), i = ix2 a q := ⟨i 0, i 1, by funext b; fin_cases b <;> rfl⟩
  rw [xcat_apply]
  refine congrArg (FloatOps.truncf .bf16 bitsLt_bf16_f32) ?_
  have e : shapeCast S512x1024 (slab (rowsT (F := F) xs) n) Cert.Reference.Gen.shapeCasts_S1x512x1024_S512x1024 (ix2 a q) = rowsT (F := F) xs (ix3 n a q) := by
    have s : ∀ j, slab (rowsT (F := F) xs) n j = rowsT (F := F) xs (ix3 n ⟨(j 1).val, (j 1).isLt⟩ ⟨(j 2).val, (j 2).isLt⟩) := fun _ => rfl
    generalize slab (rowsT (F := F) xs) n = y at s ⊢
    refine Eq.trans (b := y (ix3 (0 : Fin 1) a q)) ?_ (s _)
    pointwise
  rw [e, rowsT_apply]
  simp only [h]

/-- A valid tile's element with its expert named. -/
theorem tile_expert (c : Dev nD) {k : ℕ} (K : Count (m (c, main_arg1)) k)
    (t : Fin (cfgA m G).N) (ht : t.val < k) (n : Fin 96) (hn : n.val = t.val) (a : Fin 512) (q : Fin 1024)
    (e : BitVec 32) (hw : e.toNat < 32) (hcol : (colT (m (c, main_arg0)) (ix2 n (0 : Fin 1))).toNat = e.toNat) :
    ffn (xcat (iblk m G c t))
      (castA c mWg (V m c main_arg3) e hw)
      (castA c mWu (V m c main_arg4) e hw)
      (castB c mWd (V m c main_arg5) e hw) (ix2 a q)
    = tilesV (rowsT (m (c, main_arg2)))
      (Host.gather Cert.Reference.gather_S32x1024x256_S96x1_S96x1024x256_12_0_n_n_0_1_11024256 (m (c, main_arg3)) (colT (m (c, main_arg0))))
      (Host.gather Cert.Reference.gather_S32x1024x256_S96x1_S96x1024x256_12_0_n_n_0_1_11024256 (m (c, main_arg4)) (colT (m (c, main_arg0))))
      (Host.gather Cert.Reference.gather_S32x256x1024_S96x1_S96x256x1024_12_0_n_n_0_1_12561024 (m (c, main_arg5)) (colT (m (c, main_arg0)))) (ix3 n a q) := by
  have g1 := readA c mWg (V m c main_arg3) (m (c, main_arg3)) ⟨e.toNat, hw⟩ ![e.toNat, 0, 0] rfl (inbEA e hw)
    (Host.gather Cert.Reference.gather_S32x1024x256_S96x1_S96x1024x256_12_0_n_n_0_1_11024256 (m (c, main_arg3)) (colT (m (c, main_arg0)))) n (V_arg3 m c)
    (fun p q => gather_slab Cert.Reference.gather_S32x1024x256_S96x1_S96x1024x256_12_0_n_n_0_1_11024256 rfl rfl rfl rfl rfl _ _ n p q ⟨e.toNat, hw⟩ hcol (by decide))
  have u1 := readA c mWu (V m c main_arg4) (m (c, main_arg4)) ⟨e.toNat, hw⟩ ![e.toNat, 0, 0] rfl (inbEA e hw)
    (Host.gather Cert.Reference.gather_S32x1024x256_S96x1_S96x1024x256_12_0_n_n_0_1_11024256 (m (c, main_arg4)) (colT (m (c, main_arg0)))) n (V_arg4 m c)
    (fun p q => gather_slab Cert.Reference.gather_S32x1024x256_S96x1_S96x1024x256_12_0_n_n_0_1_11024256 rfl rfl rfl rfl rfl _ _ n p q ⟨e.toNat, hw⟩ hcol (by decide))
  have d1 := readB c mWd (V m c main_arg5) (m (c, main_arg5)) ⟨e.toNat, hw⟩ ![e.toNat, 0, 0] rfl (inbEB e hw)
    (Host.gather Cert.Reference.gather_S32x256x1024_S96x1_S96x256x1024_12_0_n_n_0_1_12561024 (m (c, main_arg5)) (colT (m (c, main_arg0)))) n (V_arg5 m c)
    (fun p q => gather_slab Cert.Reference.gather_S32x256x1024_S96x1_S96x256x1024_12_0_n_n_0_1_12561024 rfl rfl rfl rfl rfl _ _ n p q ⟨e.toNat, hw⟩ hcol (by decide))
  rw [castA_eq c mWg _ e hw _ g1, castA_eq c mWu _ e hw _ u1, castB_eq c mWd _ e hw _ d1,
    xcat_rows (iblk m G c t) (m (c, main_arg2)) n (fun a q => iblk_at m G c K t ht n hn a q)]
  exact (pay1_ffn _ _ _ _ a q).symm

/-- A valid tile's element, as the reference has it. -/
theorem tile_valid (c : Dev nD) (T : TabsIn (m (c, main_arg0)) (m (c, main_arg1))) {k : ℕ} (K : Count (m (c, main_arg1)) k)
    (t : Fin (cfgA m G).N) (ht : t.val < k) (n : Fin 96) (hn : n.val = t.val) (a : Fin 512) (q : Fin 1024) :
    ffn (xcat (iblk m G c t))
      (castA c mWg (V m c main_arg3) (at96 (V m c main_v11) t.val) ((G.tabs c).e_lt _ (t_lt m G t)))
      (castA c mWu (V m c main_arg4) (at96 (V m c main_v11) t.val) ((G.tabs c).e_lt _ (t_lt m G t)))
      (castB c mWd (V m c main_arg5) (at96 (V m c main_v11) t.val) ((G.tabs c).e_lt _ (t_lt m G t))) (ix2 a q)
    = tilesV (rowsT (m (c, main_arg2)))
      (Host.gather Cert.Reference.gather_S32x1024x256_S96x1_S96x1024x256_12_0_n_n_0_1_11024256 (m (c, main_arg3)) (colT (m (c, main_arg0))))
      (Host.gather Cert.Reference.gather_S32x1024x256_S96x1_S96x1024x256_12_0_n_n_0_1_11024256 (m (c, main_arg4)) (colT (m (c, main_arg0))))
      (Host.gather Cert.Reference.gather_S32x256x1024_S96x1_S96x256x1024_12_0_n_n_0_1_12561024 (m (c, main_arg5)) (colT (m (c, main_arg0)))) (ix3 n a q) := by
  have he : at96 (V m c main_v11) t.val = at96 (m (c, main_arg0)) n.val := by
    rw [V_te]
    refine (te_word K t.val (t_lt m G t)).trans ?_
    rw [if_pos ht, hn]
  have hlt : (at96 (m (c, main_arg0)) n.val).toNat < 32 := T.lt n.val n.isLt
  have hcol : (colT (m (c, main_arg0)) (ix2 n (0 : Fin 1))).toNat = (at96 (V m c main_v11) t.val).toNat := by
    have e0 := at96_ix (m (c, main_arg0)) n
    rw [colT_apply _ n (by rw [e0]; exact hlt), e0, he]
  exact tile_expert m G c K t ht n hn a q _ _ hcol

/-- The kernel's result is the reference's function of the arguments. -/
theorem out_ref (c : Dev nD) (T : TabsIn (m (c, main_arg0)) (m (c, main_arg1))) :
    outArr m G c = refOut (F := F) (m (c, main_arg0)) (m (c, main_arg1)) (m (c, main_arg2)) (m (c, main_arg3)) (m (c, main_arg4)) (m (c, main_arg5)) := by
  obtain ⟨k, K⟩ := count_of T
  rw [out_arr]
  funext i
  obtain ⟨r, j, rfl⟩ : ∃ (r : Fin 49152) (j : Fin 512), i = ix2 r j := ⟨i 0, i 1, by funext b; fin_cases b <;> rfl⟩
  have hr : r.val / 512 < 96 := by omega
  have hN : r.val / 512 < (cfgA m G).N := by rw [N96]; exact hr
  show outAt m G c ⟨r.val / 512, hN⟩ (ix2 (⟨r.val % 512, Nat.mod_lt _ (by decide)⟩ : Fin 512) j) = _
  unfold refOut
  rw [wordsT_apply, packT_apply, packT_apply]
  rw [at96_ix (m (c, main_arg1))]
  unfold outAt outV
  by_cases ht : r.val / 512 < k
  · have e1 := tile_valid m G c T K ⟨r.val / 512, hN⟩ ht ⟨r.val / 512, hr⟩ rfl ⟨r.val % 512, Nat.mod_lt _ (by decide)⟩
    have w : at96 (V m c main_arg1) (r.val / 512) = 1#32 := by rw [V_arg1]; exact K.one _ ht
    have w' : at96 (m (c, main_arg1)) (r.val / 512) = 1#32 := K.one _ ht
    rw [w, w', if_pos (by decide), pay3_ffn, e1, e1]
    rfl
  · have w : at96 (V m c main_arg1) (r.val / 512) = 0#32 := by rw [V_arg1]; exact K.zero _ (by omega) hr
    have w' : at96 (m (c, main_arg1)) (r.val / 512) = 0#32 := K.zero _ (by omega) hr
    rw [w, w', if_neg (by decide), pay4_at]
    rfl

end Cert.Kernel.Hand

end
-- ==== Proof.CCommon.lean ====
/-
  The combine call: its operands, the rows it copies, what the copies of one tile deliver, and what is held beside them.
-/
module

public import proofs.«01_k».proof.Proof.Gen.Combine.Launch
public import proofs.«01_k».proof.Proof.Gen.Combine.Skeleton
public import Idealize.ShloMosaic.Lib.Pipeline.FrameBody
public import Idealize.ShloMosaic.Lib.Pipeline.Value
public import Idealize.ShloMosaic.Lib.VecWindow
public import Idealize.ShloMosaic.Lib.ValueLayout
public import Idealize.ShloMosaic.Lib.MixedBatch
public import Idealize.ShloMosaic.Lib.Ring
public import Idealize.ShloMosaic.Lib.Tactic
public import Idealize.ShloMosaic.Lib.WordCmp

@[expose] public section

noncomputable section

namespace Cert.Combine.Hand

open Cert.Combine Cert.Combine.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The row numbers, the packed rows left in HBM, and the buffer of two slots of two tiles of rows. -/
abbrev mDest : Memref sig .tc .smem S32768 .i32 := Memref.whole main_arg0
abbrev mYs : Memref sig .tc .hbm S49152x512 .i32 := Memref.whole main_arg3
abbrev mBuf : Memref sig .tc .vmem S2x2x1024x512 .i32 := Memref.whole cc0_scratch0

abbrev MBuf (c : Dev nD) {sp : Space} {S : Shape} {e : EltTy} (M : Memref sig .tc sp S e) : Type := Buf (Elt F) (M.view.loc (c : Thread nD τ))
abbrev mPt (c : Dev nD) {sp : Space} {S : Shape} {e : EltTy} (M : Memref sig .tc sp S e) (f : MBuf (F := F) c M) : sProp 𝕄 :=
  M.view.loc (c : Thread nD τ) ↦{fullShare} f
abbrev mPtR (c : Dev nD) {sp : Space} {S : Shape} {e : EltTy} (M : Memref sig .tc sp S e) (f : MBuf (F := F) c M) : sProp 𝕄 :=
  M.view.loc (c : Thread nD τ) ↦{fullShare.right} f

/-- A row of a slot's half, and a packed row, as the copies name them. -/
abbrev dRow (o : Fin 4 → ℕ) (ho : ∀ a, o a + S1x1x1024x512.size a ≤ S2x2x1024x512.size a) (p : Fin 2 → ℕ)
    (hp : ∀ a, p a + S1x512.size a ≤ S1024x512.size a) : Memref sig .tc .vmem S1x512 .i32 :=
  ((mBuf.slice (Rect.unit (s := S2x2x1024x512) o S1x1x1024x512.size ho) (fun _ => rfl)).squeeze S1024x512 squeezes_S1x1x1024x512_S1024x512).slice
    (Rect.unit (s := S1024x512) p S1x512.size hp) (fun _ => rfl)
abbrev sRow (o : Fin 2 → ℕ) (ho : ∀ a, o a + S1x512.size a ≤ S49152x512.size a) : Memref sig .tc .hbm S1x512 .i32 :=
  mYs.slice (Rect.unit (s := S49152x512) o S1x512.size ho) (fun _ => rfl)
/-- A cell of the two. -/
abbrev semAt (o : Fin 1 → ℕ) (ho : ∀ a, o a + S1.size a ≤ S2.size a) : DmaSem sig :=
  ((cc0_scratch1.slice (Rect.unit (s := S2) o S1.size ho)).squeeze S_ squeezes_S1_S_).sem
/-- The word a row number's element holds. -/
abbrev word (c : Dev nD) (f : MBuf (F := F) c mDest) (o : Fin 1 → ℕ) (h : ∀ a, o a + S1.size a ≤ S32768.size a) : BitVec 32 :=
  (mDest.access (Rect.unit (s := S32768) o S1.size h)).read (Elt F) f (Shape.Idx.first (numel1_S1.symm ▸ Nat.one_pos))

/-- Row number `n`, and word `x` of packed row `n`. -/
def atD (d : S32768.Idx → BitVec 32) (n : ℕ) : BitVec 32 := if h : n < 32768 then d (ix1 (⟨n, h⟩ : Fin 32768)) else 0#32
def atY (y : S49152x512.Idx → BitVec 32) (n : ℕ) (x : Fin 512) : BitVec 32 := if h : n < 49152 then y (ix2 (⟨n, h⟩ : Fin 49152) x) else 0#32
/-- Every row number names a packed row. -/
def InRows (d : S32768.Idx → BitVec 32) : Prop := ∀ n, (atD d n).toNat < 49152

theorem word_eq (c : Dev nD) (f : MBuf (F := F) c mDest) (o : Fin 1 → ℕ) (h) (n : ℕ) (ho : o = ![n]) (hn : n < 32768) :
    word c f o h = atD f n := by
  subst ho
  rw [atD, dif_pos hn]
  show f _ = f _
  refine congrArg f ?_
  funext a; apply Fin.ext; fin_cases a; show n + 1 * 0 = n; omega

/-- Of the copies of tile `t`, the `i`-th: it fills row `i / 2` of half `i % 2` with the row this number names. -/
def wAt (d : S32768.Idx → BitVec 32) (t i : ℕ) : BitVec 32 := atD d (i % 2 * 16384 + (t * 1024 + i / 2))
/-- What the buffer holds of tile `t`, in either slot. -/
def gath (d : S32768.Idx → BitVec 32) (y : S49152x512.Idx → BitVec 32) (t : ℕ) : S2x2x1024x512.Idx → BitVec 32 :=
  fun x => atY y (atD d ((x 1).val * 16384 + (t * 1024 + (x 2).val))).toNat (x 3)

/-- The elements of a row of a half of a slot, of a slot, and of a packed row. -/
def dSet (s k r : ℕ) : Finset S2x2x1024x512.Idx := Finset.univ.filter fun x => (x 0).val = s ∧ (x 1).val = k ∧ (x 2).val = r
def slotSet (s : ℕ) : Finset S2x2x1024x512.Idx := Finset.univ.filter fun x => (x 0).val = s
def sSet (w : ℕ) : Finset S49152x512.Idx := Finset.univ.filter fun x => (x 0).val = w

theorem row_emb {sp : Space} {e : EltTy} {n0 n1 a b : ℕ} (M : Memref sig .tc sp ⟨4, ![n0, n1, a, b]⟩ e) (s k r : ℕ) (hs : s < n0) (hk : k < n1) (hr : r < a)
    (ho : ∀ i, (![s, k, 0, 0] : Fin 4 → ℕ) i + (⟨4, ![1, 1, a, b]⟩ : Shape).size i ≤ (⟨4, ![n0, n1, a, b]⟩ : Shape).size i)
    (hp : ∀ i, (![r, 0] : Fin 2 → ℕ) i + (⟨2, ![1, b]⟩ : Shape).size i ≤ (⟨2, ![a, b]⟩ : Shape).size i)
    (hq : (⟨4, ![1, 1, a, b]⟩ : Shape).Squeezes ⟨2, ![a, b]⟩) (x : (⟨2, ![1, b]⟩ : Shape).Idx) :
    (((M.slice (Rect.unit (s := ⟨4, ![n0, n1, a, b]⟩) ![s, k, 0, 0] (⟨4, ![1, 1, a, b]⟩ : Shape).size ho) (fun _ => rfl)).squeeze ⟨2, ![a, b]⟩ hq).slice
      (Rect.unit (s := ⟨2, ![a, b]⟩) ![r, 0] (⟨2, ![1, b]⟩ : Shape).size hp) (fun _ => rfl)).view.emb x
      = M.view.emb (ix4 (⟨s, hs⟩ : Fin n0) (⟨k, hk⟩ : Fin n1) (⟨r, hr⟩ : Fin a) (x 1 : Fin b)) := by
  have e2 : (Rect.unit (s := ⟨2, ![a, b]⟩) ![r, 0] (⟨2, ![1, b]⟩ : Shape).size hp).emb x = ix2 (⟨r, hr⟩ : Fin a) (x 1 : Fin b) := by
    funext i; apply Fin.ext; fin_cases i
    · show r + 1 * (x 0).val = r
      have : (x 0).val < 1 := (x 0).isLt
      omega
    · show 0 + 1 * (x 1).val = (x 1).val; omega
  have e1 := reshapeEquiv_ix2_11ab hq.numel_eq (⟨r, hr⟩ : Fin a) (x 1 : Fin b)
  show M.view.emb ((Rect.unit (s := ⟨4, ![n0, n1, a, b]⟩) ![s, k, 0, 0] (⟨4, ![1, 1, a, b]⟩ : Shape).size ho).emb (Shape.reshapeEquiv _ ((Rect.unit (s := ⟨2, ![a, b]⟩) ![r, 0] (⟨2, ![1, b]⟩ : Shape).size hp).emb x))) = _
  rw [e2]
  refine congrArg _ ((congrArg _ e1).trans ?_)
  funext i; apply Fin.ext; fin_cases i
  · show s + 1 * 0 = s; omega
  · show k + 1 * 0 = k; omega
  · show 0 + 1 * r = r; omega
  · show 0 + 1 * (x 1).val = (x 1).val; omega

theorem dRow_emb (s k r : ℕ) (ho) (hp) (hs : s < 2) (hk : k < 2) (hr : r < 1024) (x : S1x512.Idx) :
    (dRow ![s, k, 0, 0] ho ![r, 0] hp).view.emb x = (ix4 (⟨s, hs⟩ : Fin 2) (⟨k, hk⟩ : Fin 2) (⟨r, hr⟩ : Fin 1024) (x 1 : Fin 512) : S2x2x1024x512.Idx) :=
  row_emb mBuf s k r hs hk hr ho hp squeezes_S1x1x1024x512_S1024x512 x

theorem sRow_emb (w : ℕ) (ho) (hw : w < 49152) (x : S1x512.Idx) :
    (sRow ![w, 0] ho).view.emb x = (ix2 (⟨w, hw⟩ : Fin 49152) (x 1 : Fin 512) : S49152x512.Idx) := by
  funext a; apply Fin.ext; fin_cases a
  · show w + 1 * (x 0).val = w
    have : (x 0).val < 1 := (x 0).isLt
    omega
  · show 0 + 1 * (x 1).val = (x 1).val; omega

theorem dRow_set (s k r : ℕ) (ho) (hp) (hs : s < 2) (hk : k < 2) (hr : r < 1024) :
    (dRow ![s, k, 0, 0] ho ![r, 0] hp).view.set = dSet s k r := by
  ext x
  rw [View.set, Finset.mem_map, dSet, Finset.mem_filter]
  constructor
  · rintro ⟨y, -, hy⟩
    rw [dRow_emb s k r ho hp hs hk hr] at hy
    subst hy
    exact ⟨Finset.mem_univ _, rfl, rfl, rfl⟩
  · rintro ⟨-, h0, h1, h2⟩
    refine ⟨(ix2 (0 : Fin 1) (x 3 : Fin 512) : S1x512.Idx), Finset.mem_univ _, ?_⟩
    rw [dRow_emb s k r ho hp hs hk hr]
    funext a; apply Fin.ext; fin_cases a
    · exact h0.symm
    · exact h1.symm
    · exact h2.symm
    · rfl

theorem sRow_set (w : ℕ) (ho) (hw : w < 49152) : (sRow ![w, 0] ho).view.set = sSet w := by
  ext x
  rw [View.set, Finset.mem_map, sSet, Finset.mem_filter]
  constructor
  · rintro ⟨y, -, hy⟩
    rw [sRow_emb w ho hw] at hy
    subst hy
    exact ⟨Finset.mem_univ _, rfl⟩
  · rintro ⟨-, h0⟩
    refine ⟨(ix2 (0 : Fin 1) (x 1 : Fin 512) : S1x512.Idx), Finset.mem_univ _, ?_⟩
    rw [sRow_emb w ho hw]
    funext a; apply Fin.ext; fin_cases a
    · exact h0.symm
    · rfl

/-- A row's copy writes what the buffer holds of the tile. -/
theorem land (d : S32768.Idx → BitVec 32) (y : S49152x512.Idx → BitVec 32) (g : S2x2x1024x512.Idx → BitVec 32) (t s k r w : ℕ) (ho) (hp) (ho')
    (hs : s < 2) (hk : k < 2) (hr : r < 1024) (hw : w < 49152) (hwd : w = (atD d (k * 16384 + (t * 1024 + r))).toNat) :
    ∀ i ∈ (dRow ![s, k, 0, 0] ho ![r, 0] hp).view.set,
      (View.write (Elt F) (dRow ![s, k, 0, 0] ho ![r, 0] hp).view g (ReadAs.same.apply ((sRow ![w, 0] ho').view.read (Elt F) y)) Finset.univ) i
        = gath d y t i := by
  intro i hi
  rw [View.set, Finset.mem_map] at hi
  obtain ⟨x, -, rfl⟩ := hi
  rw [View.write_emb_of_mem _ _ (Finset.mem_univ x)]
  have e1 : gath d y t ((dRow ![s, k, 0, 0] ho ![r, 0] hp).view.emb x) = y (ix2 (⟨w, hw⟩ : Fin 49152) (x 1 : Fin 512)) := by
    rw [dRow_emb s k r ho hp hs hk hr]
    show atY y (atD d (k * 16384 + (t * 1024 + r))).toNat (x 1) = _
    rw [← hwd]
    exact dif_pos hw
  rw [e1]
  show y ((sRow ![w, 0] ho').view.emb x) = _
  rw [sRow_emb w ho' hw]

/-- What copy `i` of tile `t` into slot `s` delivers: its row of the buffer, and its own token of the packed row. -/
def dlv (c : Dev nD) (d : S32768.Idx → BitVec 32) (y : MBuf (F := F) c mYs) (t s : ℕ) (q : PosShare TreeShare) (i : Fin 2048) : sProp 𝕄 :=
  iprop((mBuf.view.loc (c : Thread nD τ) ↦[dSet s (i.val % 2) (i.val / 2)]{fullShare} (gath d y t))
    ∗ (mYs.view.loc (c : Thread nD τ) ↦[sSet (wAt d t i.val).toNat]{Transfers.shareTok q 2048 i} y))
instance dlv_storable (c : Dev nD) (d : S32768.Idx → BitVec 32) (y : MBuf (F := F) c mYs) (t s : ℕ) (q : PosShare TreeShare) (i : Fin 2048) :
    Storable (upEmb : UEmb _ 𝕄) (dlv c d y t s q i) := by unfold dlv; infer_instance
/-- What copy `i` takes: its row of the buffer at anything, and its token of the packed row. -/
def want (c : Dev nD) (d : S32768.Idx → BitVec 32) (y : MBuf (F := F) c mYs) (g : MBuf (F := F) c mBuf) (t s : ℕ) (q : PosShare TreeShare) (i : Fin 2048) : sProp 𝕄 :=
  iprop((mBuf.view.loc (c : Thread nD τ) ↦[dSet s (i.val % 2) (i.val / 2)]{fullShare} g)
    ∗ (mYs.view.loc (c : Thread nD τ) ↦[sSet (wAt d t i.val).toNat]{Transfers.shareTok q 2048 i} y))
/-- The rest of the packed rows' share while a tile's copies are in flight. -/
def rest (c : Dev nD) (d : S32768.Idx → BitVec 32) (y : MBuf (F := F) c mYs) (t : ℕ) (q : PosShare TreeShare) : sProp 𝕄 :=
  iprop((mYs.view.loc (c : Thread nD τ) ↦{Transfers.shareDrop q 2048} y)
    ∗ bigSep (Finset.univ : Finset (Fin 2048)) (fun i => mYs.view.loc (c : Thread nD τ) ↦[Finset.univ \ sSet (wAt d t i.val).toNat]{Transfers.shareTok q 2048 i} y))

/-- A slot's elements are its rows'. -/
theorem slot_rows (c : Dev nD) (s : ℕ) (g : MBuf (F := F) c mBuf) :
    (mBuf.view.loc (c : Thread nD τ) ↦[slotSet s]{fullShare} g : sProp 𝕄)
      = bigSep (Finset.univ : Finset (Fin 2048)) (fun i => mBuf.view.loc (c : Thread nD τ) ↦[dSet s (i.val % 2) (i.val / 2)]{fullShare} g) := by
  have hb : slotSet s = (Finset.univ : Finset (Fin 2048)).biUnion (fun i => dSet s (i.val % 2) (i.val / 2)) := by
    ext x
    simp only [slotSet, dSet, Finset.mem_biUnion, Finset.mem_filter, Finset.mem_univ, true_and]
    constructor
    · intro h
      have h1 : (x 1).val < 2 := (x 1).isLt
      have h2 : (x 2).val < 1024 := (x 2).isLt
      exact ⟨⟨2 * (x 2).val + (x 1).val, by omega⟩, h, by show _ = (2 * (x 2).val + (x 1).val) % 2; omega, by show _ = (2 * (x 2).val + (x 1).val) / 2; omega⟩
    · rintro ⟨i, h, -, -⟩; exact h
  have hd : ∀ i ∈ (Finset.univ : Finset (Fin 2048)), ∀ j ∈ (Finset.univ : Finset (Fin 2048)), i ≠ j →
      Disjoint (dSet s (i.val % 2) (i.val / 2)) (dSet s (j.val % 2) (j.val / 2)) := by
    intro i _ j _ hij
    rw [Finset.disjoint_left]
    intro x hx hx'
    simp only [dSet, Finset.mem_filter, Finset.mem_univ, true_and] at hx hx'
    exact hij (Fin.ext (by omega))
  rw [hb]
  exact pointsTo_biUnion _ _ hd

theorem bigSep_two {I : Type} (s : Finset I) (A B : I → sProp 𝕄) : bigSep s (fun i => iprop(A i ∗ B i)) = iprop(bigSep s A ∗ bigSep s B) := BI.bigSep_sep s A B

theorem swap3 (A B C : sProp 𝕄) : iprop(A ∗ B ∗ C) ⊢ iprop(B ∗ A ∗ C) := by
  iintro ⟨H1, H2, H3⟩
  isplitl [H2]; · iexact H2
  isplitl [H1]; · iexact H1
  iexact H3

/-- A share of the packed rows is every copy's token and the rest. -/
theorem ys_split (c : Dev nD) (d : S32768.Idx → BitVec 32) (y : MBuf (F := F) c mYs) (t : ℕ) (q : PosShare TreeShare) :
    (mYs.view.loc (c : Thread nD τ) ↦{q} y : sProp 𝕄) ⊣⊢
      iprop(bigSep (Finset.univ : Finset (Fin 2048)) (fun i => mYs.view.loc (c : Thread nD τ) ↦[sSet (wAt d t i.val).toNat]{Transfers.shareTok q 2048 i} y)
        ∗ rest c d y t q) := by
  have ht := Transfers.pointsTo_toks (Ix := Unit) (Name := ℕ) (U := Pipeline.UD sig nD τ) (Lvl := ℕ) (ℓ := mYs.view.loc (c : Thread nD τ)) (S := Finset.univ) (f := y) q 2048
  have hi : ∀ i : Fin 2048, (mYs.view.loc (c : Thread nD τ) ↦{Transfers.shareTok q 2048 i} y : sProp 𝕄)
      = iprop((mYs.view.loc (c : Thread nD τ) ↦[sSet (wAt d t i.val).toNat]{Transfers.shareTok q 2048 i} y)
        ∗ (mYs.view.loc (c : Thread nD τ) ↦[Finset.univ \ sSet (wAt d t i.val).toNat]{Transfers.shareTok q 2048 i} y)) := by
    intro i
    have h := pointsTo_split_subset (Ix := Unit) (Name := ℕ) (U := Pipeline.UD sig nD τ) (Lvl := ℕ) (Val := Elt F) (ℓ := mYs.view.loc (c : Thread nD τ)) (q := Transfers.shareTok q 2048 i) (f := y)
      (I := sSet (wAt d t i.val).toNat) (S := Finset.univ) (Finset.subset_univ _)
    exact Entails.antisymm h.1 h.2
  have hj : bigSep (Finset.univ : Finset (Fin 2048)) (fun i => (mYs.view.loc (c : Thread nD τ) ↦{Transfers.shareTok q 2048 i} y : sProp 𝕄))
      = iprop(bigSep (Finset.univ : Finset (Fin 2048)) (fun i => mYs.view.loc (c : Thread nD τ) ↦[sSet (wAt d t i.val).toNat]{Transfers.shareTok q 2048 i} y)
        ∗ bigSep (Finset.univ : Finset (Fin 2048)) (fun i => mYs.view.loc (c : Thread nD τ) ↦[Finset.univ \ sSet (wAt d t i.val).toNat]{Transfers.shareTok q 2048 i} y)) := by
    exact (congrArg _ (funext hi)).trans (bigSep_two _ _ _)
  rw [hj] at ht
  unfold rest
  exact ⟨ht.1.trans (swap3 _ _ _), (swap3 _ _ _).trans ht.2⟩

/-- What a tile's copies take, from a slot and a share of the packed rows; what they deliver gives both back. -/
theorem wants (c : Dev nD) (d : S32768.Idx → BitVec 32) (y : MBuf (F := F) c mYs) (g : MBuf (F := F) c mBuf) (t s : ℕ) (q : PosShare TreeShare) :
    iprop((mBuf.view.loc (c : Thread nD τ) ↦[slotSet s]{fullShare} g) ∗ (mYs.view.loc (c : Thread nD τ) ↦{q} y))
      ⊢ (iprop(bigSep (Finset.univ : Finset (Fin 2048)) (want c d y g t s q) ∗ rest c d y t q) : sProp 𝕄) := by
  have hw : bigSep (Finset.univ : Finset (Fin 2048)) (want c d y g t s q)
      = iprop((mBuf.view.loc (c : Thread nD τ) ↦[slotSet s]{fullShare} g)
        ∗ bigSep (Finset.univ : Finset (Fin 2048)) (fun i => mYs.view.loc (c : Thread nD τ) ↦[sSet (wAt d t i.val).toNat]{Transfers.shareTok q 2048 i} y)) := by
    rw [slot_rows]; exact bigSep_two _ _ _
  rw [hw]
  iintro ⟨Hb, Hy⟩
  ihave Hy' := (ys_split c d y t q).1 $$ Hy
  icases Hy' with ⟨H1, H2⟩
  isplitr [H2]
  · isplitl [Hb]; · iexact Hb
    iexact H1
  iexact H2
theorem dlvs (c : Dev nD) (d : S32768.Idx → BitVec 32) (y : MBuf (F := F) c mYs) (t s : ℕ) (q : PosShare TreeShare) :
    (iprop(bigSep (Finset.univ : Finset (Fin 2048)) (dlv c d y t s q) ∗ rest c d y t q) : sProp 𝕄)
      ⊢ iprop((mBuf.view.loc (c : Thread nD τ) ↦[slotSet s]{fullShare} (gath d y t)) ∗ (mYs.view.loc (c : Thread nD τ) ↦{q} y)) := by
  have hw : bigSep (Finset.univ : Finset (Fin 2048)) (dlv c d y t s q)
      = iprop((mBuf.view.loc (c : Thread nD τ) ↦[slotSet s]{fullShare} (gath d y t))
        ∗ bigSep (Finset.univ : Finset (Fin 2048)) (fun i => mYs.view.loc (c : Thread nD τ) ↦[sSet (wAt d t i.val).toNat]{Transfers.shareTok q 2048 i} y)) := by
    rw [slot_rows]; exact bigSep_two _ _ _
  rw [hw]
  iintro ⟨⟨Hb, H1⟩, H2⟩
  isplitl [Hb]; · iexact Hb
  iapply (ys_split c d y t q).2
  isplitl [H1]; · iexact H1
  iexact H2

/-- The buffer is its two slots. -/
theorem buf_slots (c : Dev nD) (g : MBuf (F := F) c mBuf) :
    (mPt c mBuf g : sProp 𝕄) ⊣⊢ iprop((mBuf.view.loc (c : Thread nD τ) ↦[slotSet 0]{fullShare} g) ∗ (mBuf.view.loc (c : Thread nD τ) ↦[slotSet 1]{fullShare} g)) := by
  have hu : (Finset.univ : Finset S2x2x1024x512.Idx) = slotSet 0 ∪ slotSet 1 := by
    ext x
    simp only [slotSet, Finset.mem_union, Finset.mem_filter, Finset.mem_univ, true_and, true_iff]
    have h0 : (x 0).val < 2 := (x 0).isLt
    omega
  have hd : Disjoint (slotSet 0) (slotSet 1) := by
    rw [Finset.disjoint_left]
    intro x hx hx'
    simp only [slotSet, Finset.mem_filter, Finset.mem_univ, true_and] at hx hx'
    omega
  have h := pointsTo_union (Ix := Unit) (Name := ℕ) (U := Pipeline.UD sig nD τ) (Lvl := ℕ) (Val := Elt F) (ℓ := mBuf.view.loc (c : Thread nD τ)) (q := fullShare) (f := g) hd
  rw [← hu] at h
  exact h

end Cert.Combine.Hand

end
-- ==== Proof.COff.lean ====
/-
  The combine call: the offsets its body computes, and its conditions.
-/
module

public import proofs.«01_k».proof.Proof.CCommon

@[expose] public section

noncomputable section

namespace Cert.Combine.Hand

open Cert.Combine Cert.Combine.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev pt (i : grid0.Coords) : ℕ := (i 0).val
theorem pt_lt (i : grid0.Coords) : pt i < 16 := (i 0).isLt

/-- The slot a grid coordinate's word names. -/
def slotW (a : BitVec 32) : BitVec 32 :=
  Scalar.select (Scalar.andi (Scalar.xori (Scalar.cmpi .slt (Scalar.remsi a (Scalar.select (Scalar.cmpi .eq 2#32 0#32) 1#32 2#32)) 0#32)
      (Scalar.cmpi .slt (Scalar.select (Scalar.cmpi .eq 2#32 0#32) 1#32 2#32) 0#32))
      (Scalar.cmpi .ne (Scalar.remsi a (Scalar.select (Scalar.cmpi .eq 2#32 0#32) 1#32 2#32)) 0#32))
    (Scalar.addi (Scalar.remsi a (Scalar.select (Scalar.cmpi .eq 2#32 0#32) 1#32 2#32)) (Scalar.select (Scalar.cmpi .eq 2#32 0#32) 1#32 2#32))
    (Scalar.remsi a (Scalar.select (Scalar.cmpi .eq 2#32 0#32) 1#32 2#32))
theorem slotW_eq (i : grid0.Coords) : (slotW (BitVec.ofNat 32 (i 0).val)).toNat = pt i % 2 := by
  have h : ∀ n : Fin 16, (slotW (BitVec.ofNat 32 n.val)).toNat = n.val % 2 := by decide
  exact h ⟨_, pt_lt i⟩
theorem slotW_not (i : grid0.Coords) : (Scalar.subi 1#32 (slotW (BitVec.ofNat 32 (i 0).val))).toNat = (pt i + 1) % 2 := by
  have h : ∀ n : Fin 16, (Scalar.subi 1#32 (slotW (BitVec.ofNat 32 n.val))).toNat = (n.val + 1) % 2 := by decide
  exact h ⟨_, pt_lt i⟩

theorem off17_eq (i : grid0.Coords) : k0_off17 i = ![pt i % 2] := congrArg (fun x : ℕ => ![x]) (slotW_eq i)
theorem off18_eq (i : grid0.Coords) : k0_off18 i = ![pt i % 2, 0, 0, 0] := congrArg (fun x : ℕ => ![x, 0, 0, 0]) (slotW_eq i)
theorem off20_eq (i : grid0.Coords) : k0_off20 i = ![pt i % 2, 1, 0, 0] := congrArg (fun x : ℕ => ![x, 1, 0, 0]) (slotW_eq i)
theorem off21_eq (i : grid0.Coords) : k0_off21 i = ![pt i % 2, 0, 0, 0] := congrArg (fun x : ℕ => ![x, 0, 0, 0]) (slotW_eq i)
theorem off22_eq (i : grid0.Coords) : k0_off22 i = ![pt i % 2, 1, 0, 0] := congrArg (fun x : ℕ => ![x, 1, 0, 0]) (slotW_eq i)
theorem off8_eq (i : grid0.Coords) : k0_off8 i = ![(pt i + 1) % 2] := congrArg (fun x : ℕ => ![x]) (slotW_not i)
theorem off13_eq (i : grid0.Coords) : k0_off13 i = ![(pt i + 1) % 2] := congrArg (fun x : ℕ => ![x]) (slotW_not i)
theorem off9_eq (i : grid0.Coords) : k0_off9 i = ![(pt i + 1) % 2, 0, 0, 0] := congrArg (fun x : ℕ => ![x, 0, 0, 0]) (slotW_not i)
theorem off14_eq (i : grid0.Coords) : k0_off14 i = ![(pt i + 1) % 2, 1, 0, 0] := congrArg (fun x : ℕ => ![x, 1, 0, 0]) (slotW_not i)

theorem iv_toNat (k : ℕ) (hk : k < 1024) : (Scf.iv 0#32 1#32 k).toNat = k := by
  unfold Scf.iv
  simp only [BitVec.toNat_add, BitVec.toNat_mul, BitVec.toNat_ofNat]
  omega
theorem off1_eq (k : Fin k0_t1_loop.trips) (hk : k.val < 1024) : k0_off1 k = ![0 * 16384 + (0 * 1024 + k.val)] := by
  unfold k0_off1
  refine congrArg (fun x : ℕ => ![x]) ?_
  show (0#32 + Scf.iv 0#32 1#32 k.val).toNat = _
  rw [BitVec.toNat_add, iv_toNat _ hk, BitVec.toNat_ofNat]; omega
theorem off4_eq (k : Fin k0_t1_loop.trips) (hk : k.val < 1024) : k0_off4 k = ![1 * 16384 + (0 * 1024 + k.val)] := by
  unfold k0_off4
  refine congrArg (fun x : ℕ => ![x]) ?_
  show (16384#32 + Scf.iv 0#32 1#32 k.val).toNat = _
  rw [BitVec.toNat_add, iv_toNat _ hk, BitVec.toNat_ofNat]; omega
theorem off2_eq (k : Fin k0_t1_loop.trips) (hk : k.val < 1024) : k0_off2 k = ![k.val, 0] := congrArg (fun x : ℕ => ![x, 0]) (iv_toNat _ hk)
theorem off5_eq (k : Fin k0_t1_loop.trips) (hk : k.val < 1024) : k0_off5 k = ![k.val, 0] := congrArg (fun x : ℕ => ![x, 0]) (iv_toNat _ hk)
theorem off7_eq (i : grid0.Coords) (k : Fin k0_t2_loop.trips) (hk : k.val < 1024) : k0_off7 i k = ![0 * 16384 + ((pt i + 1) * 1024 + k.val)] := by
  unfold k0_off7
  refine congrArg (fun x : ℕ => ![x]) ?_
  show ((0#32 + (BitVec.ofNat 32 (pt i) + 1#32) * 1024#32) + Scf.iv 0#32 1#32 k.val).toNat = _
  have := pt_lt i
  simp only [BitVec.toNat_add, BitVec.toNat_mul, BitVec.toNat_ofNat, iv_toNat _ hk]
  omega
theorem off12_eq (i : grid0.Coords) (k : Fin k0_t2_loop.trips) (hk : k.val < 1024) : k0_off12 i k = ![1 * 16384 + ((pt i + 1) * 1024 + k.val)] := by
  unfold k0_off12
  refine congrArg (fun x : ℕ => ![x]) ?_
  show ((16384#32 + (BitVec.ofNat 32 (pt i) + 1#32) * 1024#32) + Scf.iv 0#32 1#32 k.val).toNat = _
  have := pt_lt i
  simp only [BitVec.toNat_add, BitVec.toNat_mul, BitVec.toNat_ofNat, iv_toNat _ hk]
  omega
theorem off10_eq (k : Fin k0_t2_loop.trips) (hk : k.val < 1024) : k0_off10 k = ![k.val, 0] := congrArg (fun x : ℕ => ![x, 0]) (iv_toNat _ hk)
theorem off15_eq (k : Fin k0_t2_loop.trips) (hk : k.val < 1024) : k0_off15 k = ![k.val, 0] := congrArg (fun x : ℕ => ![x, 0]) (iv_toNat _ hk)

theorem trips1 : k0_t1_loop.trips = 1024 := by decide
theorem trips2 : k0_t2_loop.trips = 1024 := by decide
theorem trips3 : k0_t3_loop.trips = 1024 := by decide

theorem cond1_zero (i : grid0.Coords) (h : pt i = 0) : k0_cond1 i = 1#1 := by
  unfold k0_cond1; rw [show (i 0).val = 0 from h]; decide
theorem cond1_pos (i : grid0.Coords) (h : pt i ≠ 0) : ¬ k0_cond1 i = 1#1 := by
  have hh : ∀ n : Fin 16, n.val ≠ 0 → ¬ (Scalar.cmpi .ne (Scalar.extui (Scalar.cmpi .eq (BitVec.ofNat 32 n.val) 0#32) : BitVec 32) 0#32) = 1#1 := by decide
  exact hh ⟨_, pt_lt i⟩ h
theorem cond2_lt (i : grid0.Coords) (h : pt i < 15) : k0_cond2 i = 1#1 := by
  have hh : ∀ n : Fin 16, n.val < 15 → (Scalar.cmpi .ne (Scalar.extui (Scalar.cmpi .slt (Scalar.addi (BitVec.ofNat 32 n.val) 1#32) 16#32) : BitVec 32) 0#32) = 1#1 := by decide
  exact hh ⟨_, pt_lt i⟩ h
theorem cond2_last (i : grid0.Coords) (h : pt i = 15) : ¬ k0_cond2 i = 1#1 := by
  unfold k0_cond2; rw [show (i 0).val = 15 from h]; decide

theorem inbW (w : BitVec 32) (hw : w.toNat < 49152) : ∀ a, (![w.toNat, 0] : Fin 2 → ℕ) a + S1x512.size a ≤ S49152x512.size a := by
  intro a; fin_cases a
  · show w.toNat + 1 ≤ 49152; omega
  · show 0 + 512 ≤ 512; omega

end Cert.Combine.Hand

end
-- ==== Proof.CIssue.lean ====
/-
  The combine call: one row's copy started, and the loops that start a tile's copies.
-/
module

public import proofs.«01_k».proof.Proof.COff

@[expose] public section

noncomputable section

namespace Cert.Combine.Hand

open Cert.Combine Cert.Combine.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The amount of one copy, and the copies of tile `t` into slot `s` on cell `sm`, `k` of them started and `u` units waited for. -/
abbrev amt : ℕ := (dRow ![0, 0, 0, 0] inb_S2x2x1024x512_S1x1x1024x512_0_0_0_0 ![0, 0] (by decide)).view.dmaCredit
abbrev fly (c : Dev nD) (d : S32768.Idx → BitVec 32) (y : MBuf (F := F) c mYs) (t s : ℕ) (q : PosShare TreeShare) (sm : DmaSem sig) (k u : ℕ) : sProp 𝕄 :=
  Transfers.Batch (Lvl := ℕ) (countersEmb (U := Pipeline.UD sig nD τ)) (c : Thread nD τ) (.dma sm) () amt (dlv c d y t s q) k u

/-- One copy: the row number read, assumed to name a packed row, and the row's copy started. -/
def issue1 (a : Fin 1 → ℕ) (ha : ∀ i, a i + S1.size i ≤ S32768.size i) (C : BitVec 32 → Prop) (dC : ∀ w, Decidable (C w))
    (hC : ∀ w, C w → ∀ i, (![w.toNat, 0] : Fin 2 → ℕ) i + S1x512.size i ≤ S49152x512.size i)
    (dst : Memref sig .tc .vmem S1x512 .i32) (sm : DmaSem sig) : Prog (TpuEff nD τ sig (Elt F) Λ₀ .tc) PUnit := do
  let w : Elt F .i32 ← smemLoad mDest (Rect.unit (s := S32768) a S1.size ha) numel1_S1 rfl
  have h : C w := (← Prog.lift (TpuEff.assume (C w) (dC w))).down
  Prog.lift (.enqueueDma (sRow ![w.toNat, 0] (hC w h)) (.here dst) (.dma sm) (View.wordExact_bits rfl) (View.wordExact_bits rfl) ⟨Or.inl rfl, trivial⟩)

theorem wp_issue1 (c : Dev nD) (d : MBuf (F := F) c mDest) (y : MBuf (F := F) c mYs) (g : MBuf (F := F) c mBuf) (t s : ℕ) (q : PosShare TreeShare) (hd : InRows d) (ht : t < 16) (hs : s < 2)
    (k r j : ℕ) (hk : k < 2) (hr : r < 1024) (hj : j = 2 * r + k) (hj' : j < 2048)
    (a : Fin 1 → ℕ) (ha) (haw : a = ![k * 16384 + (t * 1024 + r)]) (C : BitVec 32 → Prop) (dC : ∀ w, Decidable (C w)) (hC)
    (hCw : ∀ w : BitVec 32, w.toNat < 49152 → C w)
    (o : Fin 4 → ℕ) (ho) (hos : o = ![s, k, 0, 0]) (p : Fin 2 → ℕ) (hp) (hpr : p = ![r, 0]) (sm : DmaSem sig) (Q : PUnit → sProp 𝕄) :
    iprop(mPtR c mDest d ∗ want c d y g t s q ⟨j, hj'⟩ ∗ fly c d y t s q sm j 0 ∗ (iprop(mPtR c mDest d ∗ fly c d y t s q sm (j + 1) 0) -∗ Q ⟨⟩))
      ⊢ wp frame (wpE (defs₀ (F := F)) Variants.none c none) Set.univ (issue1 a ha C dC hC (dRow o ho p hp) sm) Q := by
  subst hos hpr
  have hn : k * 16384 + (t * 1024 + r) < 32768 := by omega
  have hw : word c d a ha = atD d (k * 16384 + (t * 1024 + r)) := word_eq c d a ha _ haw hn
  have hjw : wAt d t j = atD d (k * 16384 + (t * 1024 + r)) := by
    unfold wAt; rw [show j % 2 = k by omega, show j / 2 = r by omega]
  have hlt : (word c d a ha).toNat < 49152 := by rw [hw]; exact hd _
  have hds := dRow_set s k r ho hp hs hk hr
  have hss := fun h => sRow_set (word c d a ha).toNat h hlt
  have hl := fun h => land (F := F) d y g t s k r (word c d a ha).toNat ho hp h hs hk hr hlt (by rw [hw])
  have hD : ∀ h, iprop(((dRow ![s, k, 0, 0] ho ![r, 0] hp).view.loc (c : Thread nD τ) ↦[(dRow ![s, k, 0, 0] ho ![r, 0] hp).view.set]{fullShare}
        (View.write (Elt F) (dRow ![s, k, 0, 0] ho ![r, 0] hp).view g (ReadAs.same.apply ((sRow ![(word c d a ha).toNat, 0] h).view.read (Elt F) y)) Finset.univ))
      ∗ ((sRow ![(word c d a ha).toNat, 0] h).view.loc (c : Thread nD τ) ↦[(sRow ![(word c d a ha).toNat, 0] h).view.set]{Transfers.shareTok q 2048 ⟨j, hj'⟩} y))
      ⊢ dlv c d y t s q ⟨j, hj'⟩ := by
    intro h
    rw [pointsTo_congr (hl h), hds, hss h]
    unfold dlv
    rw [show (⟨j, hj'⟩ : Fin 2048).val = j from rfl, hjw, ← hw, show j % 2 = k by omega, show j / 2 = r by omega]
  have hwant : want c d y g t s q ⟨j, hj'⟩ = iprop((mBuf.view.loc (c : Thread nD τ) ↦[(dRow ![s, k, 0, 0] ho ![r, 0] hp).view.set]{fullShare} g)
      ∗ (mYs.view.loc (c : Thread nD τ) ↦[sSet (word c d a ha).toNat]{Transfers.shareTok q 2048 ⟨j, hj'⟩} y)) := by
    unfold want
    rw [show (⟨j, hj'⟩ : Fin 2048).val = j from rfl, hjw, ← hw, show j % 2 = k by omega, show j / 2 = r by omega, hds]
  rw [hwant]
  show _ ⊢ wp frame (wpE (defs₀ (F := F)) Variants.none c none) Set.univ
    (smemLoadElt mDest (Rect.unit (s := S32768) a S1.size ha) (View.loads_smem_one rfl numel1_S1) (Shape.Idx.first (numel1_S1.symm ▸ Nat.one_pos))
      fun w => .op (.assume (C w) (dC w)) fun h =>
        .op (.enqueueDmaAs (sRow ![w.toNat, 0] (hC w h.down)) (.here (dRow ![s, k, 0, 0] ho ![r, 0] hp)) .same (.dma sm) (View.wordExact_bits rfl) (View.wordExact_bits rfl) ⟨Or.inl rfl, trivial⟩) .ret) Q
  iintro ⟨Ht, ⟨Hb, Hy⟩, HB, Hk⟩
  iapply (wp_smemLoadElt Variants.none (c : Thread nD τ) none Set.univ (S := Finset.univ) (f := d) (q := fullShare.right) (Finset.subset_univ _)) $$ [Ht]
  · iexact Ht
  iintro Ht
  iapply (wp_assume Variants.none (c : Thread nD τ) none Set.univ (hCw _ hlt))
  iapply (Transfers.wp_dmaBatch (countersEmb (U := Pipeline.UD sig nD τ)) Variants.none (c : Thread nD τ) none () amt rfl (Finset.Subset.refl _) hj' (Nat.zero_le _) (hD _)
    (src := sRow ![(word c d a ha).toNat, 0] (hC _ (hCw _ hlt))) (dst := dRow ![s, k, 0, 0] ho ![r, 0] hp)) $$ [Hb Hy HB]
  · isplitl [Hy]
    · rw [hss]; iexact Hy
    isplitl [Hb]; · iexact Hb
    iexact HB
  iintro HB
  rw [wp_ret]
  imodintro
  iapply Hk
  isplitl [Ht]; · iexact Ht
  iexact HB

/-- A trip of the loops: the two copies of a row. -/
theorem wp_issue2 (c : Dev nD) (d : MBuf (F := F) c mDest) (y : MBuf (F := F) c mYs) (g : MBuf (F := F) c mBuf) (t s : ℕ) (q : PosShare TreeShare) (hd : InRows d) (ht : t < 16) (hs : s < 2)
    (r : ℕ) (hr : r < 1024) (sm : DmaSem sig)
    (a : Fin 1 → ℕ) (ha) (haw : a = ![0 * 16384 + (t * 1024 + r)]) (C : BitVec 32 → Prop) (dC : ∀ w, Decidable (C w)) (hC) (hCw : ∀ w : BitVec 32, w.toNat < 49152 → C w)
    (o : Fin 4 → ℕ) (ho) (hos : o = ![s, 0, 0, 0]) (p : Fin 2 → ℕ) (hp) (hpr : p = ![r, 0])
    (a' : Fin 1 → ℕ) (ha') (haw' : a' = ![1 * 16384 + (t * 1024 + r)]) (C' : BitVec 32 → Prop) (dC' : ∀ w, Decidable (C' w)) (hC') (hCw' : ∀ w : BitVec 32, w.toNat < 49152 → C' w)
    (o' : Fin 4 → ℕ) (ho') (hos' : o' = ![s, 1, 0, 0]) (p' : Fin 2 → ℕ) (hp') (hpr' : p' = ![r, 0]) (Q : PUnit → sProp 𝕄) :
    iprop(mPtR c mDest d ∗ bigSep (Transfers.pending (n := 2048) (2 * r)) (want c d y g t s q) ∗ fly c d y t s q sm (2 * r) 0
      ∗ (iprop(mPtR c mDest d ∗ bigSep (Transfers.pending (n := 2048) (2 * (r + 1))) (want c d y g t s q) ∗ fly c d y t s q sm (2 * (r + 1)) 0) -∗ Q ⟨⟩))
      ⊢ wp frame (wpE (defs₀ (F := F)) Variants.none c none) Set.univ
        (issue1 a ha C dC hC (dRow o ho p hp) sm >>= fun _ => issue1 a' ha' C' dC' hC' (dRow o' ho' p' hp') sm >>= fun _ => pure ⟨⟩) Q := by
  rw [Transfers.bigSep_pending_step _ (2 * r) (by omega), Transfers.bigSep_pending_step _ (2 * r + 1) (by omega), show 2 * r + 1 + 1 = 2 * (r + 1) by omega]
  rw [wp_bind]
  iintro ⟨Ht, ⟨H0, H1, HP⟩, HB, Hk⟩
  iapply (wp_issue1 c d y g t s q hd ht hs 0 r (2 * r) (by omega) hr (by omega) (by omega) a ha haw C dC hC hCw o ho hos p hp hpr sm)
  isplitl [Ht]; · iexact Ht
  isplitl [H0]; · iexact H0
  isplitl [HB]; · iexact HB
  iintro ⟨Ht, HB⟩
  rw [wp_bind]
  iapply (wp_issue1 c d y g t s q hd ht hs 1 r (2 * r + 1) (by omega) hr (by omega) (by omega) a' ha' haw' C' dC' hC' hCw' o' ho' hos' p' hp' hpr' sm)
  isplitl [Ht]; · iexact Ht
  isplitl [H1]; · iexact H1
  isplitl [HB]; · iexact HB
  iintro ⟨Ht, HB⟩
  rw [show (pure ⟨⟩ : Prog (TpuEff nD τ sig (Elt F) Λ₀ .tc) PUnit) = .ret ⟨⟩ from rfl, wp_ret]
  imodintro
  iapply Hk
  isplitl [Ht]; · iexact Ht
  isplitl [HP]; · iexact HP
  iexact HB

/-- The invariant of the loops that start a tile's copies. -/
def issInv (c : Dev nD) (d : MBuf (F := F) c mDest) (y : MBuf (F := F) c mYs) (g : MBuf (F := F) c mBuf) (t s : ℕ) (q : PosShare TreeShare) (sm : DmaSem sig) (k : ℕ) : sProp 𝕄 :=
  iprop(mPtR c mDest d ∗ bigSep (Transfers.pending (n := 2048) (2 * k)) (want c d y g t s q) ∗ fly c d y t s q sm (2 * k) 0)

section
variable (i : grid0.Coords) (arg2 : Memref sig .tc .vmem S1024x1024 .f32) (harg2 : arg2.IsWhole) (arg3 : Memref sig .tc .vmem S1024x128 .f32) (harg3 : arg3.IsWhole)
  (arg4 : Memref sig .tc .vmem S1024x128 .f32) (harg4 : arg4.IsWhole) (arg6 : Memref sig .tc .vmem S1024x1024 .f32) (harg6 : arg6.IsWhole)

theorem t1_trip (c : Dev nD) (d : MBuf (F := F) c mDest) (y : MBuf (F := F) c mYs) (g : MBuf (F := F) c mBuf) (q : PosShare TreeShare) (hd : InRows d)
    (h1 : k0_cond1 i = 1#1) (k : Fin k0_t1_loop.trips) (acc : Unit) :
    issInv c d y g 0 0 q (semAt ![0] inb_S2_S1_0) k.val ⊢ wp frame (wpE (defs₀ (F := F)) Variants.none c none) Set.univ
      (k0_t1_body i mDest (Memref.isWhole_whole _) arg2 harg2 arg3 harg3 arg4 harg4 mYs (Memref.isWhole_whole _) arg6 harg6 mBuf (Memref.isWhole_whole _) cc0_scratch1 h1 k acc)
      (fun _ => issInv c d y g 0 0 q (semAt ![0] inb_S2_S1_0) (k.val + 1)) := by
  have hk : k.val < 1024 := by have h := k.isLt; have := trips1; omega
  have e : k0_t1_body (F := F) i mDest (Memref.isWhole_whole _) arg2 harg2 arg3 harg3 arg4 harg4 mYs (Memref.isWhole_whole _) arg6 harg6 mBuf (Memref.isWhole_whole _) cc0_scratch1 h1 k acc
      = (issue1 (k0_off1 k) (k0_off1_inb i k h1) (k0_chk1 i) (k0_chk1.dec i) (fun w h => k0_off3_inb i w h h1)
          (dRow ![0, 0, 0, 0] inb_S2x2x1024x512_S1x1x1024x512_0_0_0_0 (k0_off2 k) (k0_off2_inb i k h1)) (semAt ![0] inb_S2_S1_0) >>= fun _ =>
        issue1 (k0_off4 k) (k0_off4_inb i k h1) (k0_chk2 i) (k0_chk2.dec i) (fun w h => k0_off6_inb i w h h1)
          (dRow ![0, 1, 0, 0] inb_S2x2x1024x512_S1x1x1024x512_0_1_0_0 (k0_off5 k) (k0_off5_inb i k h1)) (semAt ![0] inb_S2_S1_0) >>= fun _ => pure ⟨⟩) := rfl
  rw [e]
  unfold issInv
  iintro ⟨Ht, HP, HB⟩
  iapply (wp_issue2 c d y g 0 0 q hd (by decide) (by decide) k.val hk (semAt ![0] inb_S2_S1_0)
    _ _ (off1_eq k hk) _ _ _ (fun w hw _ => inbW w hw) _ _ rfl _ _ (off2_eq k hk) _ _ (off4_eq k hk) _ _ _ (fun w hw _ => inbW w hw) _ _ rfl _ _ (off5_eq k hk))
  isplitl [Ht]; · iexact Ht
  isplitl [HP]; · iexact HP
  isplitl [HB]; · iexact HB
  iintro H
  iexact H

theorem t2_trip (c : Dev nD) (d : MBuf (F := F) c mDest) (y : MBuf (F := F) c mYs) (g : MBuf (F := F) c mBuf) (q : PosShare TreeShare) (hd : InRows d)
    (h2 : k0_cond2 i = 1#1) (h15 : pt i < 15) (k : Fin k0_t2_loop.trips) (acc : Unit) :
    issInv c d y g (pt i + 1) ((pt i + 1) % 2) q (semAt (k0_off8 i) (k0_off8_inb i h2)) k.val ⊢ wp frame (wpE (defs₀ (F := F)) Variants.none c none) Set.univ
      (k0_t2_body i mDest (Memref.isWhole_whole _) arg2 harg2 arg3 harg3 arg4 harg4 mYs (Memref.isWhole_whole _) arg6 harg6 mBuf (Memref.isWhole_whole _) cc0_scratch1 h2 k acc)
      (fun _ => issInv c d y g (pt i + 1) ((pt i + 1) % 2) q (semAt (k0_off8 i) (k0_off8_inb i h2)) (k.val + 1)) := by
  have hk : k.val < 1024 := by have h := k.isLt; have := trips2; omega
  have e : k0_t2_body (F := F) i mDest (Memref.isWhole_whole _) arg2 harg2 arg3 harg3 arg4 harg4 mYs (Memref.isWhole_whole _) arg6 harg6 mBuf (Memref.isWhole_whole _) cc0_scratch1 h2 k acc
      = (issue1 (k0_off7 i k) (k0_off7_inb i k h2) (k0_chk3 i) (k0_chk3.dec i) (fun w h => k0_off11_inb i w h h2)
          (dRow (k0_off9 i) (k0_off9_inb i h2) (k0_off10 k) (k0_off10_inb i k h2)) (semAt (k0_off8 i) (k0_off8_inb i h2)) >>= fun _ =>
        issue1 (k0_off12 i k) (k0_off12_inb i k h2) (k0_chk4 i) (k0_chk4.dec i) (fun w h => k0_off16_inb i w h h2)
          (dRow (k0_off14 i) (k0_off14_inb i h2) (k0_off15 k) (k0_off15_inb i k h2)) (semAt (k0_off8 i) (k0_off8_inb i h2)) >>= fun _ => pure ⟨⟩) := rfl
  rw [e]
  unfold issInv
  iintro ⟨Ht, HP, HB⟩
  iapply (wp_issue2 c d y g (pt i + 1) ((pt i + 1) % 2) q hd (by omega) (by omega) k.val hk (semAt (k0_off8 i) (k0_off8_inb i h2))
    _ _ (off7_eq i k hk) _ _ _ (fun w hw _ => inbW w hw) _ _ (off9_eq i) _ _ (off10_eq k hk) _ _ (off12_eq i k hk) _ _ _ (fun w hw _ => inbW w hw) _ _ (off14_eq i) _ _ (off15_eq k hk))
  isplitl [Ht]; · iexact Ht
  isplitl [HP]; · iexact HP
  isplitl [HB]; · iexact HB
  iintro H
  iexact H
end

end Cert.Combine.Hand

end
-- ==== Proof.CDrain.lean ====
/-
  The combine call: the loop of waits that collects a tile's copies.
-/
module

public import proofs.«01_k».proof.Proof.CIssue

@[expose] public section

noncomputable section

namespace Cert.Combine.Hand

open Cert.Combine Cert.Combine.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem amt_pos : 0 < amt := by decide

/-- The copies of a tile with `j` of them waited for: all collected after the last. -/
def drained (c : Dev nD) (d : S32768.Idx → BitVec 32) (y : MBuf (F := F) c mYs) (t s : ℕ) (q : PosShare TreeShare) (sm : DmaSem sig) (j : ℕ) : sProp 𝕄 :=
  if j < 2048 then fly c d y t s q sm 2048 (j * amt)
  else iprop(bigSep (Finset.univ : Finset (Fin 2048)) (dlv c d y t s q) ∗ semVal ((c : Thread nD τ), SemLoc.dma sm) 0)
theorem drained_lt (c : Dev nD) (d : S32768.Idx → BitVec 32) (y : MBuf (F := F) c mYs) (t s : ℕ) (q : PosShare TreeShare) (sm : DmaSem sig) (j : ℕ) (h : j < 2048) :
    drained c d y t s q sm j = fly c d y t s q sm 2048 (j * amt) := if_pos h
theorem drained_all (c : Dev nD) (d : S32768.Idx → BitVec 32) (y : MBuf (F := F) c mYs) (t s : ℕ) (q : PosShare TreeShare) (sm : DmaSem sig) :
    drained c d y t s q sm 2048 = iprop(bigSep (Finset.univ : Finset (Fin 2048)) (dlv c d y t s q) ∗ semVal ((c : Thread nD τ), SemLoc.dma sm) 0) := if_neg (by omega)

theorem arith_last (a j : ℕ) (h : j + 1 = 2048) : j * a + a = a * 2048 := by rw [← h, Nat.mul_comm a, Nat.succ_mul]
theorem arith_skip (a j : ℕ) (h0 : 0 < a) (h : j + 1 < 2048) : j * a + a < a * 2048 := by
  rw [← Nat.succ_mul, Nat.mul_comm a]
  exact Nat.mul_lt_mul_of_pos_right h h0

/-- One wait for a row. -/
theorem wp_wait1 (c : Dev nD) (d : MBuf (F := F) c mDest) (y : MBuf (F := F) c mYs) (t s : ℕ) (q : PosShare TreeShare) (sm : DmaSem sig) (j : ℕ) (hj : j < 2048)
    (o : Fin 4 → ℕ) (ho) (p : Fin 2 → ℕ) (hp) (o' : Fin 2 → ℕ) (ho') (h h') (Q : PUnit → sProp 𝕄) :
    iprop(drained c d y t s q sm j ∗ (∃ W, owes (c : Thread nD τ) 0 W) ∗ (iprop(drained c d y t s q sm (j + 1) ∗ (∃ W, owes (c : Thread nD τ) 0 W)) -∗ Q ⟨⟩))
      ⊢ wp frame (wpE (defs₀ (F := F)) Variants.none c none) Set.univ (Prog.lift (.waitDma2 sm (sRow o' ho') (dRow o ho p hp) h h')) Q := by
  show _ ⊢ wp frame (wpE (defs₀ (F := F)) Variants.none c none) Set.univ (.op (.waitDma2 sm (sRow o' ho') (dRow o ho p hp) h h') .ret) Q
  rw [drained_lt _ _ _ _ _ _ _ _ hj]
  by_cases hl : j + 1 = 2048
  · rw [hl, drained_all]
    iintro ⟨HB, ⟨%W, HW⟩, Hk⟩
    iapply (Transfers.wp_waitBatchLast (countersEmb (U := Pipeline.UD sig nD τ)) Variants.none (c : Thread nD τ) none () (N := amt) rfl amt_pos
      (arith_last amt j hl) (u := j * amt) (srcw := sRow o' ho') (dstw := dRow o ho p hp) (D := dlv c d y t s q)) $$ [HB HW]
    · isplitl [HB]; · iexact HB
      iexact HW
    iintro ⟨HD, Hs, HW⟩
    rw [wp_ret]
    imodintro
    iapply Hk
    isplitl [HD Hs]
    · isplitl [HD]; · iexact HD
      iexact Hs
    iexists _
    iexact HW
  · rw [drained_lt _ _ _ _ _ _ _ _ (by omega : j + 1 < 2048), Nat.succ_mul]
    iintro ⟨HB, ⟨%W, HW⟩, Hk⟩
    iapply (Transfers.wp_waitBatch (countersEmb (U := Pipeline.UD sig nD τ)) Variants.none (c : Thread nD τ) none () (N := amt) rfl
      (arith_skip amt j amt_pos (by omega)) (u := j * amt) (srcw := sRow o' ho') (dstw := dRow o ho p hp) (D := dlv c d y t s q)) $$ [HB HW]
    · isplitl [HB]; · iexact HB
      iexact HW
    iintro ⟨HD, HW⟩
    rw [wp_ret]
    imodintro
    iapply Hk
    isplitl [HD]; · iexact HD
    iexists _
    iexact HW

/-- The invariant of the loop of waits. -/
def drInv (c : Dev nD) (d : MBuf (F := F) c mDest) (y : MBuf (F := F) c mYs) (t s : ℕ) (q : PosShare TreeShare) (sm : DmaSem sig) (k : ℕ) : sProp 𝕄 :=
  iprop(drained c d y t s q sm (2 * k) ∗ (∃ W, owes (c : Thread nD τ) 0 W))

theorem t3_trip (i : grid0.Coords) (arg2 : Memref sig .tc .vmem S1024x1024 .f32) (harg2 : arg2.IsWhole) (arg3 : Memref sig .tc .vmem S1024x128 .f32) (harg3 : arg3.IsWhole)
    (arg4 : Memref sig .tc .vmem S1024x128 .f32) (harg4 : arg4.IsWhole) (arg6 : Memref sig .tc .vmem S1024x1024 .f32) (harg6 : arg6.IsWhole)
    (c : Dev nD) (d : MBuf (F := F) c mDest) (y : MBuf (F := F) c mYs) (t s : ℕ) (q : PosShare TreeShare) (k : Fin k0_t3_loop.trips) (acc : Unit) :
    drInv c d y t s q (semAt (k0_off17 i) (k0_off17_inb i)) k.val ⊢ wp frame (wpE (defs₀ (F := F)) Variants.none c none) Set.univ
      (k0_t3_body i mDest (Memref.isWhole_whole _) arg2 harg2 arg3 harg3 arg4 harg4 mYs (Memref.isWhole_whole _) arg6 harg6 mBuf (Memref.isWhole_whole _) cc0_scratch1 k acc)
      (fun _ => drInv c d y t s q (semAt (k0_off17 i) (k0_off17_inb i)) (k.val + 1)) := by
  have hk : k.val < 1024 := by have h := k.isLt; have := trips3; omega
  have e : k0_t3_body (F := F) i mDest (Memref.isWhole_whole _) arg2 harg2 arg3 harg3 arg4 harg4 mYs (Memref.isWhole_whole _) arg6 harg6 mBuf (Memref.isWhole_whole _) cc0_scratch1 k acc
      = (Prog.lift (.waitDma2 (semAt (k0_off17 i) (k0_off17_inb i)) (sRow ![0, 0] inb_S49152x512_S1x512_0_0) (dRow (k0_off18 i) (k0_off18_inb i) (k0_off19 k) (k0_off19_inb k)) (View.wordExact_bits rfl) (View.wordExact_bits rfl)) >>= fun _ =>
        Prog.lift (.waitDma2 (semAt (k0_off17 i) (k0_off17_inb i)) (sRow ![0, 0] inb_S49152x512_S1x512_0_0) (dRow (k0_off20 i) (k0_off20_inb i) (k0_off19 k) (k0_off19_inb k)) (View.wordExact_bits rfl) (View.wordExact_bits rfl)) >>= fun _ =>
        pure ⟨⟩) := rfl
  rw [e, wp_bind]
  unfold drInv
  iintro ⟨HB, HW⟩
  iapply (wp_wait1 c d y t s q (semAt (k0_off17 i) (k0_off17_inb i)) (2 * k.val) (by omega) _ _ _ _ _ _ _ _)
  isplitl [HB]; · iexact HB
  isplitl [HW]; · iexact HW
  iintro ⟨HB, HW⟩
  rw [wp_bind]
  iapply (wp_wait1 c d y t s q (semAt (k0_off17 i) (k0_off17_inb i)) (2 * k.val + 1) (by omega) _ _ _ _ _ _ _ _)
  isplitl [HB]; · iexact HB
  isplitl [HW]; · iexact HW
  iintro ⟨HB, HW⟩
  rw [show (pure ⟨⟩ : Prog (TpuEff nD τ sig (Elt F) Λ₀ .tc) PUnit) = .ret ⟨⟩ from rfl, wp_ret]
  imodintro
  rw [show 2 * (k.val + 1) = 2 * k.val + 1 + 1 by omega]
  isplitl [HB]; · iexact HB
  iexact HW

end Cert.Combine.Hand

end
-- ==== Proof.CPhase.lean ====
/-
  The combine call: the phases of one grid point.
-/
module

public import proofs.«01_k».proof.Proof.CDrain

@[expose] public section

noncomputable section

namespace Cert.Combine.Hand

open Cert.Combine Cert.Combine.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The two cells, and the halves of the packed rows' share the two slots' copies read by. -/
theorem cell_in (s : ℕ) (h : s < 2) : ∀ i, (![s] : Fin 1 → ℕ) i + S1.size i ≤ S2.size i := by
  intro i
  obtain rfl : i = 0 := Subsingleton.elim _ _
  show s + 1 ≤ 2
  omega
def sem (s : ℕ) : DmaSem sig := if h : s < 2 then semAt ![s] (cell_in s h) else 8
def half (s : ℕ) : PosShare TreeShare := if s = 0 then fullShare.left else fullShare.right
theorem semAt_eq (o : Fin 1 → ℕ) (ho) (s : ℕ) (hs : s < 2) (h : o = ![s]) : semAt o ho = sem s := by
  subst h
  unfold sem
  rw [dif_pos hs]

/-- A slot at rest; a slot with tile `t` in flight into it; a slot holding tile `t`. -/
def home (c : Dev nD) (y : MBuf (F := F) c mYs) (s : ℕ) : sProp 𝕄 :=
  iprop((∃ g, mBuf.view.loc (c : Thread nD τ) ↦[slotSet s]{fullShare} g) ∗ (mYs.view.loc (c : Thread nD τ) ↦{half s} y) ∗ semVal ((c : Thread nD τ), SemLoc.dma (sem s)) 0)
def inFlight (c : Dev nD) (d : MBuf (F := F) c mDest) (y : MBuf (F := F) c mYs) (t s : ℕ) : sProp 𝕄 :=
  iprop(fly c d y t s (half s) (sem s) 2048 0 ∗ rest c d y t (half s))
def landed (c : Dev nD) (d : MBuf (F := F) c mDest) (y : MBuf (F := F) c mYs) (t s : ℕ) : sProp 𝕄 :=
  iprop((mBuf.view.loc (c : Thread nD τ) ↦[slotSet s]{fullShare} (gath d y t)) ∗ (mYs.view.loc (c : Thread nD τ) ↦{half s} y) ∗ semVal ((c : Thread nD τ), SemLoc.dma (sem s)) 0)

theorem home_of_landed (c : Dev nD) (d : MBuf (F := F) c mDest) (y : MBuf (F := F) c mYs) (t s : ℕ) : landed c d y t s ⊢ home c y s := by
  unfold landed home
  iintro ⟨Hb, Hy, Hs⟩
  isplitl [Hb]; · iexists _; iexact Hb
  isplitl [Hy]; · iexact Hy
  iexact Hs

theorem issInv_zero (c : Dev nD) (d : MBuf (F := F) c mDest) (y : MBuf (F := F) c mYs) (g) (t s : ℕ) :
    issInv c d y g t s (half s) (sem s) 0 = iprop(mPtR c mDest d ∗ bigSep Finset.univ (want c d y g t s (half s)) ∗ fly c d y t s (half s) (sem s) 0 0) := by
  unfold issInv
  rw [Nat.mul_zero, Transfers.bigSep_pending_zero]

/-- From a slot at rest, the loops that start a tile's copies into it. -/
theorem start (c : Dev nD) (d : MBuf (F := F) c mDest) (y : MBuf (F := F) c mYs) (t s : ℕ) :
    (iprop(mPtR c mDest d ∗ home c y s) : sProp 𝕄) ⊢ |={Set.univ}=> iprop(∃ g, issInv c d y g t s (half s) (sem s) 0 ∗ rest c d y t (half s)) := by
  simp only [issInv_zero]
  unfold home
  iintro ⟨Ht, ⟨%g, Hb⟩, Hy, Hs⟩
  imod (Transfers.batch_alloc' (Lvl := ℕ) (countersEmb (U := Pipeline.UD sig nD τ)) (c : Thread nD τ) () amt
      (dlv c d y t s (half s)) (sm := SemLoc.dma (sem s)) (E := Set.univ)) $$ Hs with HB
  imodintro
  iexists g
  ihave H := (wants c d y g t s (half s)) $$ [Hb Hy]
  · isplitl [Hb]; · iexact Hb
    iexact Hy
  icases H with ⟨HP, HR⟩
  isplitr [HR]
  · isplitl [Ht]; · iexact Ht
    isplitl [HP]; · iexact HP
    iexact HB
  iexact HR

theorem started (c : Dev nD) (d : MBuf (F := F) c mDest) (y : MBuf (F := F) c mYs) (g) (t s : ℕ) :
    (iprop(issInv c d y g t s (half s) (sem s) 1024 ∗ rest c d y t (half s)) : sProp 𝕄) ⊢ iprop(mPtR c mDest d ∗ inFlight c d y t s) := by
  unfold issInv inFlight
  iintro ⟨⟨Ht, -, HB⟩, HR⟩
  isplitl [Ht]; · iexact Ht
  isplitl [HB]; · iexact HB
  iexact HR

section
variable (i : grid0.Coords) (arg2 : Memref sig .tc .vmem S1024x1024 .f32) (harg2 : arg2.IsWhole) (arg3 : Memref sig .tc .vmem S1024x128 .f32) (harg3 : arg3.IsWhole)
  (arg4 : Memref sig .tc .vmem S1024x128 .f32) (harg4 : arg4.IsWhole) (arg6 : Memref sig .tc .vmem S1024x1024 .f32) (harg6 : arg6.IsWhole)

abbrev loop1 (h1 : k0_cond1 i = 1#1) : Prog (TpuEff nD τ sig (Elt F) Λ₀ .tc) Unit :=
  Scf.Loop.for k0_t1_loop (k0_t1_ok i h1) ⟨⟩ (k0_t1_body i mDest (Memref.isWhole_whole _) arg2 harg2 arg3 harg3 arg4 harg4 mYs (Memref.isWhole_whole _) arg6 harg6 mBuf (Memref.isWhole_whole _) cc0_scratch1 h1)
abbrev loop2 (h2 : k0_cond2 i = 1#1) : Prog (TpuEff nD τ sig (Elt F) Λ₀ .tc) Unit :=
  Scf.Loop.for k0_t2_loop (k0_t2_ok i h2) ⟨⟩ (k0_t2_body i mDest (Memref.isWhole_whole _) arg2 harg2 arg3 harg3 arg4 harg4 mYs (Memref.isWhole_whole _) arg6 harg6 mBuf (Memref.isWhole_whole _) cc0_scratch1 h2)
abbrev loop3 : Prog (TpuEff nD τ sig (Elt F) Λ₀ .tc) Unit :=
  Scf.Loop.for k0_t3_loop k0_t3_ok ⟨⟩ (k0_t3_body i mDest (Memref.isWhole_whole _) arg2 harg2 arg3 harg3 arg4 harg4 mYs (Memref.isWhole_whole _) arg6 harg6 mBuf (Memref.isWhole_whole _) cc0_scratch1)

theorem wp_loop1 (c : Dev nD) (d : MBuf (F := F) c mDest) (y : MBuf (F := F) c mYs) (hd : InRows d) (h1 : k0_cond1 i = 1#1) (Q : Unit → sProp 𝕄) :
    iprop(mPtR c mDest d ∗ home c y 0 ∗ (iprop(mPtR c mDest d ∗ inFlight c d y 0 0) -∗ Q ()))
      ⊢ wp frame (wpE (defs₀ (F := F)) Variants.none c none) Set.univ (loop1 i arg2 harg2 arg3 harg3 arg4 harg4 arg6 harg6 h1) Q := by
  iintro ⟨Ht, Hh, Hk⟩
  imod (start c d y 0 0) $$ [Ht Hh] with ⟨%g, HI, HR⟩
  · isplitl [Ht]; · iexact Ht
    iexact Hh
  have T := fun k acc => t1_trip i arg2 harg2 arg3 harg3 arg4 harg4 arg6 harg6 c d y g (half 0) hd h1 k acc
  rw [semAt_eq ![0] inb_S2_S1_0 0 (by omega) rfl] at T
  have L := Scf.wp_for frame (wpE (defs₀ (F := F)) Variants.none (c : Thread nD τ) none) Set.univ k0_t1_loop.lb k0_t1_loop.ub k0_t1_loop.st (k0_t1_ok i h1) ()
    (k0_t1_body (F := F) i mDest (Memref.isWhole_whole _) arg2 harg2 arg3 harg3 arg4 harg4 mYs (Memref.isWhole_whole _) arg6 harg6 mBuf (Memref.isWhole_whole _) cc0_scratch1 h1)
    (fun k _ => issInv c d y g 0 0 (half 0) (sem 0) k)
    T (Q := Q)
  iapply L
  isplitl [HI]; · iexact HI
  iintro %acc HI
  iapply Hk
  iapply (started c d y g 0 0)
  isplitl [HI]
  · rw [show Scf.trips k0_t1_loop.lb k0_t1_loop.ub k0_t1_loop.st = 1024 from trips1]; iexact HI
  iexact HR

theorem wp_loop2 (c : Dev nD) (d : MBuf (F := F) c mDest) (y : MBuf (F := F) c mYs) (hd : InRows d) (h2 : k0_cond2 i = 1#1) (h15 : pt i < 15) (Q : Unit → sProp 𝕄) :
    iprop(mPtR c mDest d ∗ home c y ((pt i + 1) % 2) ∗ (iprop(mPtR c mDest d ∗ inFlight c d y (pt i + 1) ((pt i + 1) % 2)) -∗ Q ()))
      ⊢ wp frame (wpE (defs₀ (F := F)) Variants.none c none) Set.univ (loop2 i arg2 harg2 arg3 harg3 arg4 harg4 arg6 harg6 h2) Q := by
  iintro ⟨Ht, Hh, Hk⟩
  imod (start c d y (pt i + 1) ((pt i + 1) % 2)) $$ [Ht Hh] with ⟨%g, HI, HR⟩
  · isplitl [Ht]; · iexact Ht
    iexact Hh
  have T := fun k acc => t2_trip i arg2 harg2 arg3 harg3 arg4 harg4 arg6 harg6 c d y g (half ((pt i + 1) % 2)) hd h2 h15 k acc
  rw [semAt_eq (k0_off8 i) (k0_off8_inb i h2) ((pt i + 1) % 2) (by omega) (off8_eq i)] at T
  have L := Scf.wp_for frame (wpE (defs₀ (F := F)) Variants.none (c : Thread nD τ) none) Set.univ k0_t2_loop.lb k0_t2_loop.ub k0_t2_loop.st (k0_t2_ok i h2) ()
    (k0_t2_body (F := F) i mDest (Memref.isWhole_whole _) arg2 harg2 arg3 harg3 arg4 harg4 mYs (Memref.isWhole_whole _) arg6 harg6 mBuf (Memref.isWhole_whole _) cc0_scratch1 h2)
    (fun k _ => issInv c d y g (pt i + 1) ((pt i + 1) % 2) (half ((pt i + 1) % 2)) (sem ((pt i + 1) % 2)) k) T (Q := Q)
  iapply L
  isplitl [HI]; · iexact HI
  iintro %acc HI
  iapply Hk
  iapply (started c d y g (pt i + 1) ((pt i + 1) % 2))
  isplitl [HI]
  · rw [show Scf.trips k0_t2_loop.lb k0_t2_loop.ub k0_t2_loop.st = 1024 from trips2]; iexact HI
  iexact HR

theorem wp_loop3 (c : Dev nD) (d : MBuf (F := F) c mDest) (y : MBuf (F := F) c mYs) (t : ℕ) (Q : Unit → sProp 𝕄) :
    iprop(inFlight c d y t (pt i % 2) ∗ (∃ W, owes (c : Thread nD τ) 0 W) ∗ (iprop(landed c d y t (pt i % 2) ∗ (∃ W, owes (c : Thread nD τ) 0 W)) -∗ Q ()))
      ⊢ wp frame (wpE (defs₀ (F := F)) Variants.none c none) Set.univ (loop3 i arg2 harg2 arg3 harg3 arg4 harg4 arg6 harg6) Q := by
  unfold inFlight
  iintro ⟨⟨HB, HR⟩, HW, Hk⟩
  have T := fun k acc => t3_trip i arg2 harg2 arg3 harg3 arg4 harg4 arg6 harg6 c d y t (pt i % 2) (half (pt i % 2)) k acc
  rw [semAt_eq (k0_off17 i) (k0_off17_inb i) (pt i % 2) (by omega) (off17_eq i)] at T
  have L := Scf.wp_for frame (wpE (defs₀ (F := F)) Variants.none (c : Thread nD τ) none) Set.univ k0_t3_loop.lb k0_t3_loop.ub k0_t3_loop.st k0_t3_ok ()
    (k0_t3_body (F := F) i mDest (Memref.isWhole_whole _) arg2 harg2 arg3 harg3 arg4 harg4 mYs (Memref.isWhole_whole _) arg6 harg6 mBuf (Memref.isWhole_whole _) cc0_scratch1)
    (fun k _ => drInv c d y t (pt i % 2) (half (pt i % 2)) (sem (pt i % 2)) k) T (Q := Q)
  iapply L
  isplitl [HB HW]
  · unfold drInv
    rw [drained_lt _ _ _ _ _ _ _ _ (by omega), Nat.mul_zero, Nat.zero_mul]
    isplitl [HB]; · iexact HB
    iexact HW
  iintro %acc HI
  rw [show Scf.trips k0_t3_loop.lb k0_t3_loop.ub k0_t3_loop.st = 1024 from trips3]
  unfold drInv
  rw [show 2 * 1024 = 2048 from rfl, drained_all]
  icases HI with ⟨⟨HD, Hs⟩, HW⟩
  iapply Hk
  unfold landed
  isplitr [HW]
  · ihave H := (dlvs c d y t (pt i % 2) (half (pt i % 2))) $$ [HD HR]
    · isplitl [HD]; · iexact HD
      iexact HR
    icases H with ⟨Hb, Hy⟩
    isplitl [Hb]; · iexact Hb
    isplitl [Hy]; · iexact Hy
    iexact Hs
  iexact HW
end

end Cert.Combine.Hand

end
-- ==== Proof.CPoint.lean ====
/-
  The combine call: a grid point.
-/
module

public import proofs.«01_k».proof.Proof.CPhase

@[expose] public section

noncomputable section

namespace Cert.Combine.Hand

open Cert.Combine Cert.Combine.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (i : grid0.Coords) (arg2 : Memref sig .tc .vmem S1024x1024 .f32) (harg2 : arg2.IsWhole) (arg3 : Memref sig .tc .vmem S1024x128 .f32) (harg3 : arg3.IsWhole)
  (arg4 : Memref sig .tc .vmem S1024x128 .f32) (harg4 : arg4.IsWhole) (arg6 : Memref sig .tc .vmem S1024x1024 .f32) (harg6 : arg6.IsWhole)

/-- What a point does with its tile once the rows have landed. -/
def tail : Prog (TpuEff nD τ sig (Elt F) Λ₀ .tc) PUnit := do
  let v18 : Vec F S1024x1024 .f32 ← Prog.lift (.load arg2 (Rect.unit (s := S1024x1024) ![0, 0] S1024x1024.size inb_S1024x1024_S1024x1024_0_0).toLoadRect (View.loadsAt_vmem h_S1024x1024))
  let v19 : Vec F S1024x128 .f32 ← Prog.lift (.load arg3 (Rect.unit (s := S1024x128) ![0, 0] S1024x128.size inb_S1024x128_S1024x128_0_0).toLoadRect (View.loadsAt_vmem h_S1024x128))
  let v23 : Vec F S1x1x1024x512 .i32 ← Prog.lift (.load mBuf (Rect.unit (s := S2x2x1024x512) (k0_off21 i) S1x1x1024x512.size (k0_off21_inb i)).toLoadRect (View.loadsAt_vmem h_S1x1x1024x512))
  let v30 : Vec F S1024x128 .f32 ← Prog.lift (.load arg4 (Rect.unit (s := S1024x128) ![0, 0] S1024x128.size inb_S1024x128_S1024x128_0_0).toLoadRect (View.loadsAt_vmem h_S1024x128))
  let v34 : Vec F S1x1x1024x512 .i32 ← Prog.lift (.load mBuf (Rect.unit (s := S2x2x1024x512) (k0_off22 i) S1x1x1024x512.size (k0_off22_inb i)).toLoadRect (View.loadsAt_vmem h_S1x1x1024x512))
  let v41 : Vec F S1024x1024 .f32 ← Prog.lift (.load arg6 (Rect.unit (s := S1024x1024) ![0, 0] S1024x1024.size inb_S1024x1024_S1024x1024_0_0).toLoadRect (View.loadsAt_vmem h_S1024x1024))
  Prog.lift (.store arg6 (Rect.unit (s := S1024x1024) ![0, 0] S1024x1024.size inb_S1024x1024_S1024x1024_0_0) (k0_pay1 (k0_pay2 v18 v19 v23) (k0_pay3 v30) v34) Finset.univ (View.stores_vmem_bits_univ h_S1024x1024 rfl) (.inl rfl))
  pure ⟨⟩

theorem body_eq : cc0_combine (F := F) i mDest (Memref.isWhole_whole _) arg2 harg2 arg3 harg3 arg4 harg4 mYs (Memref.isWhole_whole _) arg6 harg6 mBuf (Memref.isWhole_whole _) cc0_scratch1
    = (if h1 : k0_cond1 i = 1#1 then loop1 i arg2 harg2 arg3 harg3 arg4 harg4 arg6 harg6 h1 else pure ⟨⟩) >>= fun _ =>
      (if h2 : k0_cond2 i = 1#1 then loop2 i arg2 harg2 arg3 harg3 arg4 harg4 arg6 harg6 h2 else pure ⟨⟩) >>= fun _ =>
      loop3 i arg2 harg2 arg3 harg3 arg4 harg4 arg6 harg6 >>= fun _ => tail i arg2 arg3 arg4 arg6 := by
  rw [cc0_combine_eq_skeleton]
  unfold cc0_combine_skel
  rw [k0_part1_eq_skeleton]
  unfold k0_part1_skel tail
  by_cases h1 : k0_cond1 i = 1#1 <;> by_cases h2 : k0_cond2 i = 1#1
  · simp only [dif_pos h1, dif_pos h2, bind_assoc, pure_bind]
  · simp only [dif_pos h1, dif_neg h2, bind_assoc, pure_bind]
  · simp only [dif_neg h1, dif_pos h2, bind_assoc, pure_bind]
  · simp only [dif_neg h1, dif_neg h2, bind_assoc, pure_bind]

/-- A half of a tile's rows, as the body reads it, and the block it leaves. -/
def hv (d : S32768.Idx → BitVec 32) (y : S49152x512.Idx → BitVec 32) (n k : ℕ) : Vec F S1x1x1024x512 .i32 :=
  fun x => atY y (atD d (k * 16384 + (n * 1024 + (x 2).val))).toNat (x 3)
def outV (x1 : Vec F S1024x1024 .f32) (w0 w1 : Vec F S1024x128 .f32) (h0 h1 : Vec F S1x1x1024x512 .i32) : Vec F S1024x1024 .f32 :=
  k0_pay1 (k0_pay2 x1 w0 h0) (k0_pay3 w1) h1

theorem half_emb (s k : ℕ) (hs : s < 2) (hk : k < 2) (o : Fin 4 → ℕ) (ho) (h : o = ![s, k, 0, 0]) (x : S1x1x1024x512.Idx) :
    (Rect.unit (s := S2x2x1024x512) o S1x1x1024x512.size ho).emb x = (ix4 (⟨s, hs⟩ : Fin 2) (⟨k, hk⟩ : Fin 2) (x 2 : Fin 1024) (x 3 : Fin 512) : S2x2x1024x512.Idx) := by
  subst h
  have h0 : (x 0).val < 1 := (x 0).isLt
  have h1 : (x 1).val < 1 := (x 1).isLt
  funext a; apply Fin.ext; fin_cases a
  · show s + 1 * (x 0).val = s; omega
  · show k + 1 * (x 1).val = k; omega
  · show 0 + 1 * (x 2).val = (x 2).val; omega
  · show 0 + 1 * (x 3).val = (x 3).val; omega

theorem half_read (c : Dev nD) (d : S32768.Idx → BitVec 32) (y : S49152x512.Idx → BitVec 32) (n s k : ℕ) (hs : s < 2) (hk : k < 2) (o : Fin 4 → ℕ) (ho) (h : o = ![s, k, 0, 0]) :
    mBuf.view.readAt (Elt F) (Rect.unit (s := S2x2x1024x512) o S1x1x1024x512.size ho).toLoadRect (gath d y n) = hv (F := F) d y n k := by
  funext x
  show gath d y n ((Rect.unit (s := S2x2x1024x512) o S1x1x1024x512.size ho).emb x) = _
  rw [half_emb s k hs hk o ho h]
  rfl

theorem half_sub (s k : ℕ) (hs : s < 2) (hk : k < 2) (o : Fin 4 → ℕ) (ho) (h : o = ![s, k, 0, 0]) :
    mBuf.view.setOn (Rect.unit (s := S2x2x1024x512) o S1x1x1024x512.size ho).toLoadRect.set ⊆ slotSet s := by
  intro z hz
  have hz' : z ∈ ((mBuf.view).slice (Rect.unit (s := S2x2x1024x512) o S1x1x1024x512.size ho)).set := by rw [View.set_slice]; exact hz
  rw [View.set, Finset.mem_map] at hz'
  obtain ⟨x, -, hx⟩ := hz'
  have e : ((mBuf.view).slice (Rect.unit (s := S2x2x1024x512) o S1x1x1024x512.size ho)).emb x = _ := half_emb s k hs hk o ho h x
  rw [e] at hx
  rw [slotSet, Finset.mem_filter]
  subst hx
  exact ⟨Finset.mem_univ _, rfl⟩

theorem wp_tail (c : Dev nD) (d : MBuf (F := F) c mDest) (y : MBuf (F := F) c mYs) (n : ℕ)
    (f2 : MBuf (F := F) c arg2) (f3 : MBuf (F := F) c arg3) (f4 : MBuf (F := F) c arg4) (f6 : MBuf (F := F) c arg6) (Q : PUnit → sProp 𝕄) :
    iprop((arg2.view.loc (c : Thread nD τ) ↦[arg2.view.set]{fullShare} f2) ∗ (arg3.view.loc (c : Thread nD τ) ↦[arg3.view.set]{fullShare} f3)
        ∗ (arg4.view.loc (c : Thread nD τ) ↦[arg4.view.set]{fullShare} f4) ∗ (arg6.view.loc (c : Thread nD τ) ↦[arg6.view.set]{fullShare} f6)
        ∗ (mBuf.view.loc (c : Thread nD τ) ↦[slotSet (pt i % 2)]{fullShare} (gath d y n))
        ∗ (iprop((arg2.view.loc (c : Thread nD τ) ↦[arg2.view.set]{fullShare} f2) ∗ (arg3.view.loc (c : Thread nD τ) ↦[arg3.view.set]{fullShare} f3)
            ∗ (arg4.view.loc (c : Thread nD τ) ↦[arg4.view.set]{fullShare} f4)
            ∗ owns (c : Thread nD τ) arg6 fullShare (outV (arg2.view.read (Elt F) f2) (arg3.view.read (Elt F) f3) (arg4.view.read (Elt F) f4) (hv d y n 0) (hv d y n 1))
            ∗ (mBuf.view.loc (c : Thread nD τ) ↦[slotSet (pt i % 2)]{fullShare} (gath d y n))) -∗ Q ⟨⟩))
      ⊢ wp frame (wpE (defs₀ (F := F)) Variants.none c none) Set.univ (tail i arg2 arg3 arg4 arg6) Q := by
  iintro ⟨H2, H3, H4, H6, Hb, Hk⟩
  unfold tail
  iapply (wp_load Variants.none (c : Thread nD τ) none Set.univ (View.setOn_subset_set _ _)) $$ H2
  iintro H2
  iapply (wp_load Variants.none (c : Thread nD τ) none Set.univ (View.setOn_subset_set _ _)) $$ H3
  iintro H3
  iapply (wp_load Variants.none (c : Thread nD τ) none Set.univ (half_sub (pt i % 2) 0 (by omega) (by omega) _ (k0_off21_inb i) (off21_eq i))) $$ Hb
  iintro Hb
  iapply (wp_load Variants.none (c : Thread nD τ) none Set.univ (View.setOn_subset_set _ _)) $$ H4
  iintro H4
  iapply (wp_load Variants.none (c : Thread nD τ) none Set.univ (half_sub (pt i % 2) 1 (by omega) (by omega) _ (k0_off22_inb i) (off22_eq i))) $$ Hb
  iintro Hb
  iapply (wp_load Variants.none (c : Thread nD τ) none Set.univ (View.setOn_subset_set _ _)) $$ H6
  iintro H6
  rw [View.readAt_full arg2.view f2, View.readAt_full arg3.view f3, View.readAt_full arg4.view f4, half_read c d y n (pt i % 2) 0 (by omega) (by omega) _ (k0_off21_inb i) (off21_eq i),
    half_read c d y n (pt i % 2) 1 (by omega) (by omega) _ (k0_off22_inb i) (off22_eq i)]
  iapply (wp_store Variants.none (c : Thread nD τ) none Set.univ (m := arg6) (r := Rect.unit (s := S1024x1024) ![0, 0] S1024x1024.size inb_S1024x1024_S1024x1024_0_0) (f := f6) (S := arg6.view.set)
    ((View.setOn_subset_set _ _).trans (by show (arg6.view.slice _).set ⊆ _; rw [View.set_slice]; exact View.setOn_subset_set _ _))) $$ H6
  iintro H6
  rw [show ((Prog.ret PUnit.unit : Prog (TpuEff nD τ sig (Elt F) Λ₀ .tc) PUnit).bind fun _ => pure PUnit.unit) = .ret ⟨⟩ from rfl, wp_ret]
  imodintro
  iapply Hk
  isplitl [H2]; · iexact H2
  isplitl [H3]; · iexact H3
  isplitl [H4]; · iexact H4
  isplitr [Hb]
  · unfold owns
    iexists _
    isplitr; swap; · iexact H6
    ipureintro
    exact View.read_writes_full arg6.view f6 inb_S1024x1024_S1024x1024_0_0 _ []
  iexact Hb

/-- The two slots between points: before point `n` its tile is in flight, apart from the first point and after the last. -/
def Inv (c : Dev nD) (d : MBuf (F := F) c mDest) (y : MBuf (F := F) c mYs) (n : ℕ) : sProp 𝕄 :=
  if n = 0 ∨ 16 ≤ n then iprop(home c y 0 ∗ home c y 1) else iprop(inFlight c d y n (n % 2) ∗ home c y ((n + 1) % 2))

/-- The windows' buffers before and after the body. -/
abbrev Pre (c : Dev nD) (f2 : MBuf (F := F) c arg2) (f3 : MBuf (F := F) c arg3) (f4 : MBuf (F := F) c arg4) : sProp 𝕄 :=
  iprop((arg2.view.loc (c : Thread nD τ) ↦[arg2.view.set]{fullShare} f2) ∗ (arg3.view.loc (c : Thread nD τ) ↦[arg3.view.set]{fullShare} f3)
        ∗ (arg4.view.loc (c : Thread nD τ) ↦[arg4.view.set]{fullShare} f4) ∗ (∃ f6, arg6.view.loc (c : Thread nD τ) ↦[arg6.view.set]{fullShare} f6))
abbrev Post (c : Dev nD) (d : MBuf (F := F) c mDest) (y : MBuf (F := F) c mYs) (n : ℕ) (f2 : MBuf (F := F) c arg2) (f3 : MBuf (F := F) c arg3) (f4 : MBuf (F := F) c arg4) : sProp 𝕄 :=
  iprop((arg2.view.loc (c : Thread nD τ) ↦[arg2.view.set]{fullShare} f2) ∗ (arg3.view.loc (c : Thread nD τ) ↦[arg3.view.set]{fullShare} f3)
        ∗ (arg4.view.loc (c : Thread nD τ) ↦[arg4.view.set]{fullShare} f4)
        ∗ owns (c : Thread nD τ) arg6 fullShare (outV (arg2.view.read (Elt F) f2) (arg3.view.read (Elt F) f3) (arg4.view.read (Elt F) f4) (hv d y n 0) (hv d y n 1)))

theorem wp_land (c : Dev nD) (d : MBuf (F := F) c mDest) (y : MBuf (F := F) c mYs) (n : ℕ)
    (f2 : MBuf (F := F) c arg2) (f3 : MBuf (F := F) c arg3) (f4 : MBuf (F := F) c arg4) (Q : PUnit → sProp 𝕄) :
    iprop(inFlight c d y n (pt i % 2) ∗ (∃ W, owes (c : Thread nD τ) 0 W) ∗ Pre arg2 arg3 arg4 arg6 c f2 f3 f4
        ∗ (iprop(Post arg2 arg3 arg4 arg6 c d y n f2 f3 f4 ∗ home c y (pt i % 2) ∗ (∃ W, owes (c : Thread nD τ) 0 W)) -∗ Q ⟨⟩))
      ⊢ wp frame (wpE (defs₀ (F := F)) Variants.none c none) Set.univ (loop3 i arg2 harg2 arg3 harg3 arg4 harg4 arg6 harg6 >>= fun _ => tail i arg2 arg3 arg4 arg6) Q := by
  iintro ⟨HF, HW, ⟨H2, H3, H4, ⟨%f6, H6⟩⟩, Hk⟩
  rw [wp_bind]
  iapply (wp_loop3 i arg2 harg2 arg3 harg3 arg4 harg4 arg6 harg6 c d y n _)
  isplitl [HF]; · iexact HF
  isplitl [HW]; · iexact HW
  iintro ⟨HL, HW⟩
  unfold landed
  icases HL with ⟨Hb, Hy, Hs⟩
  iapply (wp_tail i arg2 arg3 arg4 arg6 c d y n f2 f3 f4 f6 _)
  isplitl [H2]; · iexact H2
  isplitl [H3]; · iexact H3
  isplitl [H4]; · iexact H4
  isplitl [H6]; · iexact H6
  isplitl [Hb]; · iexact Hb
  iintro ⟨H2, H3, H4, H6, Hb⟩
  iapply Hk
  isplitl [H2 H3 H4 H6]
  · isplitl [H2]; · iexact H2
    isplitl [H3]; · iexact H3
    isplitl [H4]; · iexact H4
    iexact H6
  isplitl [Hb Hy Hs]
  · unfold home
    isplitl [Hb]; · iexists _; iexact Hb
    isplitl [Hy]; · iexact Hy
    iexact Hs
  iexact HW

/-- The second phase on: the next tile's copies started, unless this is the last point. -/
theorem wp_next (c : Dev nD) (d : MBuf (F := F) c mDest) (y : MBuf (F := F) c mYs) (hd : InRows d)
    (f2 : MBuf (F := F) c arg2) (f3 : MBuf (F := F) c arg3) (f4 : MBuf (F := F) c arg4) (Q : PUnit → sProp 𝕄) :
    iprop(mPtR c mDest d ∗ inFlight c d y (pt i) (pt i % 2) ∗ home c y ((pt i + 1) % 2) ∗ (∃ W, owes (c : Thread nD τ) 0 W) ∗ Pre arg2 arg3 arg4 arg6 c f2 f3 f4
        ∗ (iprop(mPtR c mDest d ∗ Post arg2 arg3 arg4 arg6 c d y (pt i) f2 f3 f4 ∗ Inv c d y (pt i + 1) ∗ (∃ W, owes (c : Thread nD τ) 0 W)) -∗ Q ⟨⟩))
      ⊢ wp frame (wpE (defs₀ (F := F)) Variants.none c none) Set.univ
        ((if h2 : k0_cond2 i = 1#1 then loop2 i arg2 harg2 arg3 harg3 arg4 harg4 arg6 harg6 h2 else pure ⟨⟩) >>= fun _ =>
          loop3 i arg2 harg2 arg3 harg3 arg4 harg4 arg6 harg6 >>= fun _ => tail i arg2 arg3 arg4 arg6) Q := by
  have hp := pt_lt i
  by_cases h15 : pt i < 15
  · rw [dif_pos (cond2_lt i h15)]
    have e : Inv c d y (pt i + 1) = iprop(inFlight c d y (pt i + 1) ((pt i + 1) % 2) ∗ home c y ((pt i + 1 + 1) % 2)) := by
      unfold Inv; rw [if_neg (by omega)]
    rw [e, show (pt i + 1 + 1) % 2 = pt i % 2 by omega]
    iintro ⟨Ht, HF, Hh, HW, HP, Hk⟩
    rw [wp_bind]
    iapply (wp_loop2 i arg2 harg2 arg3 harg3 arg4 harg4 arg6 harg6 c d y hd (cond2_lt i h15) h15 _)
    isplitl [Ht]; · iexact Ht
    isplitl [Hh]; · iexact Hh
    iintro ⟨Ht, HN⟩
    iapply (wp_land i arg2 harg2 arg3 harg3 arg4 harg4 arg6 harg6 c d y (pt i) f2 f3 f4 _)
    isplitl [HF]; · iexact HF
    isplitl [HW]; · iexact HW
    isplitl [HP]; · iexact HP
    iintro ⟨HP, Hh, HW⟩
    iapply Hk
    isplitl [Ht]; · iexact Ht
    isplitl [HP]; · iexact HP
    isplitl [HN Hh]
    · isplitl [HN]; · iexact HN
      iexact Hh
    iexact HW
  · have h : pt i = 15 := by omega
    rw [dif_neg (cond2_last i h)]
    have e : Inv c d y (pt i + 1) = iprop(home c y 0 ∗ home c y 1) := by
      unfold Inv; rw [if_pos (by omega)]
    rw [e, show (pt i + 1) % 2 = 0 by omega, pure_bind]
    iintro ⟨Ht, HF, Hh, HW, HP, Hk⟩
    iapply (wp_land i arg2 harg2 arg3 harg3 arg4 harg4 arg6 harg6 c d y (pt i) f2 f3 f4 _)
    isplitl [HF]; · iexact HF
    isplitl [HW]; · iexact HW
    isplitl [HP]; · iexact HP
    rw [show pt i % 2 = 1 by omega]
    iintro ⟨HP, Hh', HW⟩
    iapply Hk
    isplitl [Ht]; · iexact Ht
    isplitl [HP]; · iexact HP
    isplitl [Hh Hh']
    · isplitl [Hh]; · iexact Hh
      iexact Hh'
    iexact HW

theorem point (c : Dev nD) (d : MBuf (F := F) c mDest) (y : MBuf (F := F) c mYs) (hd : InRows d)
    (f2 : MBuf (F := F) c arg2) (f3 : MBuf (F := F) c arg3) (f4 : MBuf (F := F) c arg4) (Q : PUnit → sProp 𝕄) :
    iprop(mPtR c mDest d ∗ Inv c d y (pt i) ∗ (∃ W, owes (c : Thread nD τ) 0 W) ∗ Pre arg2 arg3 arg4 arg6 c f2 f3 f4
        ∗ (iprop(mPtR c mDest d ∗ Post arg2 arg3 arg4 arg6 c d y (pt i) f2 f3 f4 ∗ Inv c d y (pt i + 1) ∗ (∃ W, owes (c : Thread nD τ) 0 W)) -∗ Q ⟨⟩))
      ⊢ wp frame (wpE (defs₀ (F := F)) Variants.none c none) Set.univ
        (cc0_combine (F := F) i mDest (Memref.isWhole_whole _) arg2 harg2 arg3 harg3 arg4 harg4 mYs (Memref.isWhole_whole _) arg6 harg6 mBuf (Memref.isWhole_whole _) cc0_scratch1) Q := by
  have hp := pt_lt i
  rw [body_eq]
  have N := wp_next i arg2 harg2 arg3 harg3 arg4 harg4 arg6 harg6 c d y hd f2 f3 f4 Q
  by_cases h0 : pt i = 0
  · rw [dif_pos (cond1_zero i h0)]
    have e : Inv c d y (pt i) = iprop(home c y 0 ∗ home c y 1) := by
      unfold Inv; rw [if_pos (Or.inl h0)]
    rw [e]
    rw [h0] at N ⊢
    iintro ⟨Ht, ⟨Hh, Hh'⟩, HW, HP, Hk⟩
    rw [wp_bind]
    iapply (wp_loop1 i arg2 harg2 arg3 harg3 arg4 harg4 arg6 harg6 c d y hd (cond1_zero i h0) _)
    isplitl [Ht]; · iexact Ht
    isplitl [Hh]; · iexact Hh
    iintro ⟨Ht, HF⟩
    iapply N
    isplitl [Ht]; · iexact Ht
    isplitl [HF]; · iexact HF
    isplitl [Hh']; · iexact Hh'
    isplitl [HW]; · iexact HW
    isplitl [HP]; · iexact HP
    iexact Hk
  · rw [dif_neg (cond1_pos i h0), pure_bind]
    have e : Inv c d y (pt i) = iprop(inFlight c d y (pt i) (pt i % 2) ∗ home c y ((pt i + 1) % 2)) := by
      unfold Inv; rw [if_neg (by omega)]
    rw [e]
    iintro ⟨Ht, ⟨HF, Hh⟩, HW, HP, Hk⟩
    iapply N
    isplitl [Ht]; · iexact Ht
    isplitl [HF]; · iexact HF
    isplitl [Hh]; · iexact Hh
    isplitl [HW]; · iexact HW
    isplitl [HP]; · iexact HP
    iexact Hk
end

end Cert.Combine.Hand

end
-- ==== Proof.CFrame.lean ====
/-
  The combine call's launch: the proof data, the body obligation at every point, the run.
-/
module

public import proofs.«01_k».proof.Proof.CPoint

@[expose] public section

noncomputable section

namespace Cert.Combine.Hand

open Cert.Combine Cert.Combine.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Pipeline (Dat Cfg Window BodyObligation)

/-- The cells by number. -/
theorem sem_0 : sem 0 = 8 := by
  unfold sem; rw [dif_pos (by decide)]; decide
theorem sem_1 : sem 1 = 9 := by
  unfold sem; rw [dif_pos (by decide)]; decide
theorem half_0 : half 0 = fullShare.left := if_pos rfl
theorem half_1 : half 1 = fullShare.right := if_neg (by decide)

/-- Both slots at rest: the whole buffer at some contents, the packed rows, and both cells at zero. -/
theorem homes_of (c : Dev nD) (y : MBuf (F := F) c mYs) :
    (iprop((∃ f, mPt c mBuf f) ∗ mPt c mYs y ∗ semVal ((c : Thread nD τ), SemLoc.dma (8 : DmaSem sig)) 0 ∗ semVal ((c : Thread nD τ), SemLoc.dma (9 : DmaSem sig)) 0) : sProp 𝕄)
      ⊢ iprop(home c y 0 ∗ home c y 1) := by
  unfold home
  rw [sem_0, sem_1, half_0, half_1]
  iintro ⟨⟨%f, Hb⟩, Hy, H8, H9⟩
  ihave Hb := (buf_slots c f).1 $$ Hb
  icases Hb with ⟨Hb0, Hb1⟩
  ihave Hy := (pointsTo_share (PosShare.mem_left_op_right fullShare)).1 $$ Hy
  icases Hy with ⟨Hy0, Hy1⟩
  isplitl [Hb0 Hy0 H8]
  · isplitl [Hb0]; · iexists f; iexact Hb0
    isplitl [Hy0]; · iexact Hy0
    iexact H8
  isplitl [Hb1]; · iexists f; iexact Hb1
  isplitl [Hy1]; · iexact Hy1
  iexact H9

theorem of_homes (c : Dev nD) (y : MBuf (F := F) c mYs) :
    (iprop(home c y 0 ∗ home c y 1) : sProp 𝕄)
      ⊢ iprop((∃ f, mPt c mBuf f) ∗ mPt c mYs y ∗ semVal ((c : Thread nD τ), SemLoc.dma (8 : DmaSem sig)) 0 ∗ semVal ((c : Thread nD τ), SemLoc.dma (9 : DmaSem sig)) 0) := by
  unfold home
  rw [sem_0, sem_1, half_0, half_1]
  iintro ⟨⟨⟨%f, Hb0⟩, Hy0, H8⟩, ⟨⟨%g, Hb1⟩, Hy1, H9⟩⟩
  isplitl [Hb0 Hb1]
  · iexists (slotSet 1).piecewise g f
    iapply (buf_slots c _).2
    isplitl [Hb0]
    · rw [← pointsTo_congr (f := f) (g := (slotSet 1).piecewise g f) (fun x hx => (Finset.piecewise_eq_of_notMem _ _ _ (by
        simp only [slotSet, Finset.mem_filter, Finset.mem_univ, true_and] at hx ⊢; omega)).symm)]
      iexact Hb0
    · rw [← pointsTo_congr (f := g) (g := (slotSet 1).piecewise g f) (fun x hx => (Finset.piecewise_eq_of_mem _ _ _ hx).symm)]
      iexact Hb1
  isplitl [Hy0 Hy1]
  · iapply (pointsTo_share (PosShare.mem_left_op_right fullShare)).2
    isplitl [Hy0]; · iexact Hy0
    iexact Hy1
  isplitl [H8]; · iexact H8
  iexact H9

/-- A point by its number. -/
theorem point_at (i : grid0.Coords) (arg2 : Memref sig .tc .vmem S1024x1024 .f32) (harg2 : arg2.IsWhole) (arg3 : Memref sig .tc .vmem S1024x128 .f32) (harg3 : arg3.IsWhole)
    (arg4 : Memref sig .tc .vmem S1024x128 .f32) (harg4 : arg4.IsWhole) (arg6 : Memref sig .tc .vmem S1024x1024 .f32) (harg6 : arg6.IsWhole)
    (c : Dev nD) (d : MBuf (F := F) c mDest) (y : MBuf (F := F) c mYs) (hd : InRows d)
    (f2 : MBuf (F := F) c arg2) (f3 : MBuf (F := F) c arg3) (f4 : MBuf (F := F) c arg4) (n : ℕ) (hn : pt i = n) (Q : PUnit → sProp 𝕄) :
    iprop(mPtR c mDest d ∗ Inv c d y n ∗ (∃ W, owes (c : Thread nD τ) 0 W) ∗ Pre arg2 arg3 arg4 arg6 c f2 f3 f4
        ∗ (iprop(mPtR c mDest d ∗ iprop((arg2.view.loc (c : Thread nD τ) ↦[arg2.view.set]{fullShare} f2) ∗ (arg3.view.loc (c : Thread nD τ) ↦[arg3.view.set]{fullShare} f3)
            ∗ (arg4.view.loc (c : Thread nD τ) ↦[arg4.view.set]{fullShare} f4)
            ∗ owns (c : Thread nD τ) arg6 fullShare (outV (arg2.view.read (Elt F) f2) (arg3.view.read (Elt F) f3) (arg4.view.read (Elt F) f4) (hv d y n 0) (hv d y n 1)))
          ∗ Inv c d y (n + 1) ∗ (∃ W, owes (c : Thread nD τ) 0 W)) -∗ Q ⟨⟩))
      ⊢ wp frame (wpE (defs₀ (F := F)) Variants.none c none) Set.univ
        (cc0_combine (F := F) i mDest (Memref.isWhole_whole _) arg2 harg2 arg3 harg3 arg4 harg4 mYs (Memref.isWhole_whole _) arg6 harg6 mBuf (Memref.isWhole_whole _) cc0_scratch1) Q := by
  subst hn
  exact point i arg2 harg2 arg3 harg3 arg4 harg4 arg6 harg6 c d y hd f2 f3 f4 Q

variable (m : (ℓ : Loc nD τ sig) → Buf (Elt F) ℓ) (ρ : Dev nD → PrngReg)

/-- What a buffer holds when the region is entered. -/
def V (c : Dev nD) (b : Ref sig .tc) : Buf (Elt F) ((c : Thread nD τ).loc b) := StableHlo.after ([hostOps0] : List (List (HloOp τ sig (Elt F)))).flatten (fun b => m (c, b)) b

theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefixes pcfgs 0 defs₀ 𝒱₀ m main [hostOps0] hostOps0_sub
    (by simp only [List.Forall, hostOps0]; repeat' apply And.intro
        all_goals rfl) (fun c => main_chain c)

/-- The table's contents at the region's entry. -/
def tbl : pre0.Contents (Elt F) := fun k => V m 0 (pre0.ref k)

/-- What the run needs of the row numbers. -/
def Good : Prop := ∀ c : Dev nD, InRows (V m c main_arg0)

variable (G : Good m)

def adm : (p : Fin 1) → (pcfgs (F := F) p).Adm := fun _ => ⟨tbl m, trivial⟩

abbrev cfgA : Cfg sig Λ₀ := cfg0 (adm m 0)

/-- The input blocks at a point. -/
def iblk0 (c : Dev nD) (t : Fin (cfgA m).N) : Vec F S1024x1024 .f32 := (((cfgA m).win 0).blk t).view.read (Elt F) (V m c main_arg1)
def iblk1 (c : Dev nD) (t : Fin (cfgA m).N) : Vec F S1024x128 .f32 := (((cfgA m).win 1).blk t).view.read (Elt F) (V m c main_v3)
def iblk2 (c : Dev nD) (t : Fin (cfgA m).N) : Vec F S1024x128 .f32 := (((cfgA m).win 2).blk t).view.read (Elt F) (V m c main_v7)

theorem N16 : (cfgA m).N = 16 := N_0

/-- What the body leaves in the output's buffer at a point. -/
def outAt (c : Dev nD) (t : Fin (cfgA m).N) : Vec F S1024x1024 .f32 :=
  outV (iblk0 m c t) (iblk1 m c t) (iblk2 m c t) (hv (V m c main_arg0) (V m c main_arg3) t.val 0) (hv (V m c main_arg0) (V m c main_arg3) t.val 1)

/-- The core's state between points, apart from the windows. -/
def Phi (c : Dev nD) (n : ℕ) : sProp 𝕄 :=
  iprop(mPtR c mDest (V m c main_arg0) ∗ (∃ r, prngReg c r) ∗ Inv c (V m c main_arg0) (V m c main_arg3) n)

def dats (p : Fin 1) (c : Dev nD) : Dat τ (Elt F) Unit ℕ (Pipeline.UD sig nD τ) ℕ (Pipeline.pin pcfgs (adm m) p) c where
  A w := V m c (Pipeline.arrRef spec0 w)
  after w t := match w with
    | ⟨0, _⟩ => iblk0 m c t
    | ⟨1, _⟩ => iblk1 m c t
    | ⟨2, _⟩ => iblk2 m c t
    | ⟨3, _⟩ => outAt m c t
  Φ t := Phi m c t.val
  q _ := fullShare
  owed _ := 0

theorem A_eq (c : Dev nD) (w : Fin (cfgA m).W) : (dats m 0 c).A w = V m c (Pipeline.arrRef spec0 w) := by
  dsimp only [dats]
theorem after_0 (c : Dev nD) (t : Fin (cfgA m).N) : (dats m 0 c).after 0 t = iblk0 m c t := by exact id rfl
theorem after_1 (c : Dev nD) (t : Fin (cfgA m).N) : (dats m 0 c).after 1 t = iblk1 m c t := by exact id rfl
theorem after_2 (c : Dev nD) (t : Fin (cfgA m).N) : (dats m 0 c).after 2 t = iblk2 m c t := by exact id rfl
seal outAt in
theorem after_3 (c : Dev nD) (t : Fin (cfgA m).N) : (dats m 0 c).after 3 t = outAt m c t := by exact id rfl

theorem before_0 (c : Dev nD) (t : Fin (cfgA m).N) (d) : (dats m 0 c).before 0 t d = iblk0 m c t :=
  ((dats m 0 c).before_in_eq_fetched 0 rfl (fun _ => rfl) (fun _ _ _ => rfl)
    (fun t => by rw [after_0]; unfold Dat.blockOf iblk0; rw [A_eq]; rfl) t d).trans
    (by unfold Dat.fetched Dat.blockOf iblk0; rw [A_eq]; rfl)
theorem before_1 (c : Dev nD) (t : Fin (cfgA m).N) (d) : (dats m 0 c).before 1 t d = iblk1 m c t :=
  ((dats m 0 c).before_in_eq_fetched 1 rfl (fun _ => rfl) (fun _ _ _ => rfl)
    (fun t => by rw [after_1]; unfold Dat.blockOf iblk1; rw [A_eq]; rfl) t d).trans
    (by unfold Dat.fetched Dat.blockOf iblk1; rw [A_eq]; rfl)
theorem before_2 (c : Dev nD) (t : Fin (cfgA m).N) (d) : (dats m 0 c).before 2 t d = iblk2 m c t :=
  ((dats m 0 c).before_in_eq_fetched 2 rfl (fun _ => rfl) (fun _ _ _ => rfl)
    (fun t => by rw [after_2]; unfold Dat.blockOf iblk2; rw [A_eq]; rfl) t d).trans
    (by unfold Dat.fetched Dat.blockOf iblk2; rw [A_eq]; rfl)

theorem coords_pt : ∀ t : Fin 16, ((grid0.coords (t.cast N_0.symm)) 0).val = t.val := by decide
theorem pt_coords (t : Fin (cfgA m).N) : pt ((cfgA m).grid.coords t) = t.val := coords_pt ⟨t.val, N16 m ▸ t.isLt⟩

/-- The windows' buffers at a point, and the body called with them. -/
abbrev ms0 (t : Fin (cfgA m).N) : Memref sig .tc .vmem S1024x1024 .f32 := spec0_0.stage ((cfgA m).slots t 0)
abbrev ms1 (t : Fin (cfgA m).N) : Memref sig .tc .vmem S1024x128 .f32 := spec0_1.stage ((cfgA m).slots t 1)
abbrev ms2 (t : Fin (cfgA m).N) : Memref sig .tc .vmem S1024x128 .f32 := spec0_2.stage ((cfgA m).slots t 2)
abbrev ms3 (t : Fin (cfgA m).N) : Memref sig .tc .vmem S1024x1024 .f32 := spec0_3.stage ((cfgA m).slots t 3)

def bodyAt (t : Fin (cfgA m).N) : Prog (TpuEff nD τ sig (Elt F) Λ₀ .tc) PUnit :=
  cc0_combine ((cfgA m).grid.coords t) mDest (Memref.isWhole_whole _) (ms0 m t) (hstage0_0 (((cfgA m).slots t 0).cast nbuf0_0)) (ms1 m t) (hstage0_1 (((cfgA m).slots t 1).cast nbuf0_1))
    (ms2 m t) (hstage0_2 (((cfgA m).slots t 2).cast nbuf0_2)) mYs (Memref.isWhole_whole _) (ms3 m t) (hstage0_3 (((cfgA m).slots t 3).cast nbuf0_3)) mBuf (Memref.isWhole_whole _) cc0_scratch1

def bodyPre (c : Dev nD) (t : Fin (cfgA m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d)))
def bodyPost (c : Dev nD) (t : Fin (cfgA m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t))

include G in
theorem sound_body (c : Dev nD) (t : Fin (cfgA m).N) :
    bodyPre m c t ⊢ wp frame (wpE (defs₀ (F := F)) Variants.none c none) Set.univ (bodyAt m t) (fun _ => bodyPost m c t) := by
  unfold bodyPre bodyPost bodyAt
  rw [show (dats m 0 c).Φ t.castSucc = Phi m c t.val from rfl, show (dats m 0 c).Φ t.succ = Phi m c (t.val + 1) from rfl, after_0, after_1, after_2, after_3]
  unfold Phi Dat.owesAt Pipeline.owesWithin
  rw [show (dats m 0 c).owed t.castSucc = 0 from rfl, show (dats m 0 c).owed t.succ = 0 from rfl]
  simp only [before_0, before_1, before_2]
  have P := fun f2 f3 f4 Q => point_at ((cfgA m).grid.coords t) (ms0 m t) (hstage0_0 (((cfgA m).slots t 0).cast nbuf0_0)) (ms1 m t) (hstage0_1 (((cfgA m).slots t 1).cast nbuf0_1))
    (ms2 m t) (hstage0_2 (((cfgA m).slots t 2).cast nbuf0_2)) (ms3 m t) (hstage0_3 (((cfgA m).slots t 3).cast nbuf0_3)) c (V m c main_arg0) (V m c main_arg3) (G c) f2 f3 f4 t.val (pt_coords m t) Q
  unfold outAt
  generalize iblk0 m c t = x0
  generalize iblk1 m c t = x1
  generalize iblk2 m c t = x2
  iintro ⟨⟨Ht, Hg, HI⟩, ⟨%W, -, HW⟩, ⟨%d0, H0⟩, ⟨%d1, H1⟩, ⟨%d2, H2⟩, ⟨%d3, H3⟩⟩
  unfold owns at P ⊢
  icases H0 with ⟨%f0, %e0, H0⟩
  icases H1 with ⟨%f1, %e1, H1⟩
  icases H2 with ⟨%f2, %e2, H2⟩
  icases H3 with ⟨%f3, -, H3⟩
  subst e0 e1 e2
  iapply (P f0 f1 f2 _)
  isplitl [Ht]; · iexact Ht
  isplitl [HI]; · iexact HI
  isplitl [HW]; · iexists W; iexact HW
  isplitl [H0 H1 H2 H3]
  · isplitl [H0]; · iexact H0
    isplitl [H1]; · iexact H1
    isplitl [H2]; · iexact H2
    iexists f3; iexact H3
  iintro ⟨Ht, ⟨H0, H1, H2, H3⟩, HI, ⟨%W', HW⟩⟩
  isplitl [Ht Hg HI]
  · isplitl [Ht]; · iexact Ht
    isplitl [Hg]; · iexact Hg
    iexact HI
  isplitl [HW]
  · iexists W'; isplitr; · ipureintro; exact fun _ _ => Or.inl trivial
    iexact HW
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexact H3

theorem defs₀_row (t : Fin (cfgA m).N) :
    defs₀ (F := F) .tc (cfgA m).body ((cfgA m).bodyArgs t ((cfgA m).slots t)) = bodyAt m t := by
  unfold defs₀; rw [Defs.onTc_tc]; rfl

include G in
theorem body_obligation (c : Dev nD) : BodyObligation (dats (F := F) m 0 c) (defs₀ (F := F)) Variants.none () Set.univ := fun t => by
  rw [bigSep_W0, bigSep_W0, defs₀_row]
  exact triple_restated (sound_body m G c t) rfl .rfl fun _ => .rfl

/-- The body's two cells. -/
abbrev osem0 : Fin 2 → SemLoc sig := fun j => (![SemLoc.dma 8, SemLoc.dma 9] : Fin 2 → SemLoc sig) j
theorem ownSemFacts0 : Pipeline.OwnSemFacts spec0 osem0 := by decide
theorem ownSems0_list (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (8 : DmaSem sig)) 0 ∗ semVal ((c : Thread nD τ), SemLoc.dma (9 : DmaSem sig)) 0) := by
  rw [Pipeline.ownSems0_eq_of_list c osem0 [0, 1] (by decide) (by decide)]; rfl
/-- The packed rows, which the body's copies read. -/
def H0 : Finset (Ref sig .tc) := {main_arg3}
theorem H0_sub : H0 ⊆ Pipeline.restRefsP sig pre0 spec0 := by decide
theorem H0_list (c : Dev nD) :
    (bigSep H0 (fun b => ((c : Thread nD τ).loc b) ↦{fullShare} V m c b) : sProp 𝕄) = mPt c mYs (V m c main_arg3) := by
  rw [BI.bigSep_eq_bigSepL_of_eq [main_arg3] (by decide) (by decide)]; rfl
theorem PhiD_list (c : Dev nD) :
    (Pipeline.ΦD osem0 spec0 H0 (V m) c : sProp 𝕄)
      = iprop((∃ f, mPt c mBuf f) ∗ (∃ r, prngReg c r)
          ∗ iprop(semVal ((c : Thread nD τ), SemLoc.dma (8 : DmaSem sig)) 0 ∗ semVal ((c : Thread nD τ), SemLoc.dma (9 : DmaSem sig)) 0)
          ∗ mPt c mYs (V m c main_arg3)) := by
  rw [Pipeline.ΦD_eq, scopedRest0_eq, ownSems0_list, H0_list]
theorem tables_list (c : Dev nD) : (Pipeline.ΦT pre0 (tbl m) c : sProp 𝕄) = mPtR c mDest (V m c main_arg0) := by
  obtain rfl : c = 0 := Subsingleton.elim _ _
  unfold Pipeline.ΦT Pipeline.prefHeld
  rw [bigSep_univ_eq_bigSepL [(0 : Fin 1)] (by decide) (by decide)]; rfl

theorem inv_rest (c : Dev nD) (d : MBuf (F := F) c mDest) (y : MBuf (F := F) c mYs) (n : ℕ) (h : n = 0 ∨ 16 ≤ n) : (Inv c d y n : sProp 𝕄) = iprop(home c y 0 ∗ home c y 1) := if_pos h

theorem phi_in (c : Dev nD) : iprop(Pipeline.ΦD osem0 spec0 H0 (V m) c ∗ Pipeline.ΦT pre0 (tbl m) c) ⊢ (Phi m c 0 : sProp 𝕄) := by
  rw [PhiD_list, tables_list]
  unfold Phi
  rw [inv_rest _ _ _ _ (Or.inl rfl)]
  iintro ⟨⟨Hb, Hg, ⟨H8, H9⟩, Hy⟩, Ht⟩
  isplitl [Ht]; · iexact Ht
  isplitl [Hg]; · iexact Hg
  iapply (homes_of c (V m c main_arg3))
  isplitl [Hb]; · iexact Hb
  isplitl [Hy]; · iexact Hy
  isplitl [H8]; · iexact H8
  iexact H9

theorem phi_out (c : Dev nD) : (Phi m c 16 : sProp 𝕄) ⊢ Pipeline.ΦD osem0 spec0 H0 (V m) c := by
  rw [PhiD_list]
  unfold Phi
  rw [inv_rest _ _ _ _ (Or.inr (Nat.le_refl _))]
  iintro ⟨-, Hg, HI⟩
  ihave HI := (of_homes c (V m c main_arg3)) $$ HI
  icases HI with ⟨Hb, Hy, H8, H9⟩
  isplitl [Hb]; · iexact Hb
  isplitl [Hg]; · iexact Hg
  isplitl [H8 H9]
  · isplitl [H8]; · iexact H8
    iexact H9
  iexact Hy

theorem Phi_last (c : Dev nD) : (dats m 0 c).Φ (Fin.last (cfgA m).N) = Phi m c 16 := by
  show Phi m c (cfgA m).N = _
  rw [N16]

include G in
set_option backward.isDefEq.respectTransparency.types false in
theorem run_main : θ_run defs (onTc (τ := τ) (main (F := F))) (s₀ m ρ)
    (fun r => Pipeline.FramePost (Pipeline.pin pcfgs (adm m)) (dats m) 0 (V m) r ∧ r.2.sem = fun _ => 0) :=
  Pipeline.θ_run_frameP_dma (Q' := _) pcfgs (adm m) (dats m) (0 : Fin 1) launch0 osem0 defs₀ Variants.none ownSemFacts0 H0 H0_sub m ρ main
    (hbody := fun c => (body_obligation m G c).loose) (hshare := fun c => (dats m 0 c).share_full fun _ => rfl)
    (howed := fun _ _ => rfl) (V := V m) (hmain := hmain m Variants.none) (hA := A_eq m)
    (hpf := fun c k => by obtain rfl : c = 0 := Subsingleton.elim _ _; rfl)
    (hin := fun c => phi_in m c) (hout := fun c => by rw [Phi_last]; exact phi_out m c)

end Cert.Combine.Hand

end
-- ==== Proof.CRun.lean ====
/-
  The combine call's run: its arguments are left, its result is the array of the blocks; the precondition's rows.
-/
module

public import proofs.«01_k».proof.Proof.CFrame
public import proofs.«01_k».proof.Defs
public import proofs.«01_k».proof.Proof.Gen.Pre_rows_named
public import Idealize.ShloMosaic.Lib.ReduceAll
public import Idealize.ShloMosaic.Lib.Affine
public import Idealize.ShloMosaic.Lib.StableHlo.Predicate

@[expose] public section

noncomputable section

namespace Cert.Combine.Hand

open Cert.Combine Cert.Combine.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Pipeline (Dat Cfg Window BodyObligation)

variable (m : (ℓ : Loc nD τ sig) → Buf (Elt F) ℓ) (ρ : Dev nD → PrngReg)

theorem V_arg0 (c : Dev nD) : V m c main_arg0 = m (c, main_arg0) := by unfold V; simp only [hostOps0, List.flatten_cons, List.flatten_nil, List.cons_append, List.nil_append, List.append_nil]; after_results
theorem V_arg1 (c : Dev nD) : V m c main_arg1 = m (c, main_arg1) := by unfold V; simp only [hostOps0, List.flatten_cons, List.flatten_nil, List.cons_append, List.nil_append, List.append_nil]; after_results
theorem V_arg2 (c : Dev nD) : V m c main_arg2 = m (c, main_arg2) := by unfold V; simp only [hostOps0, List.flatten_cons, List.flatten_nil, List.cons_append, List.nil_append, List.append_nil]; after_results
theorem V_arg3 (c : Dev nD) : V m c main_arg3 = m (c, main_arg3) := by unfold V; simp only [hostOps0, List.flatten_cons, List.flatten_nil, List.cons_append, List.nil_append, List.append_nil]; after_results

/-- The weights of one half, each across a row of 128. -/
def wT0 (w : FVec F S2x16384 .f32) : FVec F S16384x128 .f32 :=
  broadcastInDim S16384x128 ![0, 1] bcast_S16384x1_S16384x128_0_1 (broadcastInDim S16384x1 ![0] bcast_S16384_S16384x1_0
    (shapeCast S16384 (extractStridedSlice S1x16384 ![0, 0] w slices_S2x16384_S1x16384_0_0) shapeCasts_S1x16384_S16384))
def wT1 (w : FVec F S2x16384 .f32) : FVec F S16384x128 .f32 :=
  broadcastInDim S16384x128 ![0, 1] bcast_S16384x1_S16384x128_0_1 (broadcastInDim S16384x1 ![0] bcast_S16384_S16384x1_0
    (shapeCast S16384 (extractStridedSlice S1x16384 ![1, 0] w slices_S2x16384_S1x16384_1_0) shapeCasts_S1x16384_S16384))
theorem V_w0 (c : Dev nD) : V m c main_v3 = wT0 (m (c, main_arg2)) := by
  unfold V; simp only [hostOps0, List.flatten_cons, List.flatten_nil, List.cons_append, List.nil_append, List.append_nil]; after_results; rfl
theorem V_w1 (c : Dev nD) : V m c main_v7 = wT1 (m (c, main_arg2)) := by
  unfold V; simp only [hostOps0, List.flatten_cons, List.flatten_nil, List.cons_append, List.nil_append, List.append_nil]; after_results; rfl

theorem rest0 : main_arg0 ∈ Pipeline.restRefs sig spec0 := Pipeline.mem_restRefs_of main_arg0 (by decide) (by decide)
theorem rest2 : main_arg2 ∈ Pipeline.restRefs sig spec0 := Pipeline.mem_restRefs_of main_arg2 (by decide) (by decide)
theorem rest3 : main_arg3 ∈ Pipeline.restRefs sig spec0 := Pipeline.mem_restRefs_of main_arg3 (by decide) (by decide)

/-- What the result's array holds after the run. -/
def outArr (c : Dev nD) : Buf (Elt F) ((c.tc : Thread nD τ).loc main_v8) := (dats m 0 c).arrAt 3 (cfgA m).N

variable (G : Good m)

include G in
theorem run_full : θ_run defs (onTc (τ := τ) (main (F := F))) ⟨m, fun _ => 0, ρ⟩ (fun r => (∀ c : Dev nD,
      r.2.mem ((c.tc : Thread nD τ).loc main_v8) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c).1 3,
      ((h.1 c).2 main_arg0 rest0).trans (V_arg0 m c),
      (((h.1 c).1 0).trans ((dats m 0 c).arrAt_in 0 rfl _)).trans ((A_eq m c 0).trans (V_arg1 m c)),
      ((h.1 c).2 main_arg2 rest2).trans (V_arg2 m c),
      ((h.1 c).2 main_arg3 rest3).trans (V_arg3 m c)⟩, h.2⟩) (run_main m ρ G)

include G in
theorem frame_full : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2, h.2⟩) (run_full m ρ G)

/-- The precondition names every row. -/
theorem rows_of_fn {F : FTy → Type} [FloatOps F] [Cert.Pre_rows_named.Facts] (d : IVec S32768 32) (x1 x2 x3)
    (h : Cert.Pre_rows_named.fn (F := F) d x1 x2 x3 (Shape.Idx.first Cert.Pre_rows_named.Facts.h_S_) = 1#1) : InRows d := by
  intro n
  unfold atD
  split
  · rename_i hn
    dsimp only [Cert.Pre_rows_named.fn] at h
    have : Subsingleton Cert.Pre_rows_named.S_.Idx := ⟨fun x y => funext fun a => a.elim0⟩
    have H := Host.reduce_andi_all _ _ _ _ _ h
    obtain ⟨a, b⟩ := IntOp.andi_eq_one.1 (show IntOp.andi _ _ = 1#1 from H (ix1 (⟨n, hn⟩ : Fin 32768)))
    have a := IntOp.cmpi_sge.1 (show IntOp.cmpi .sge (d (ix1 (⟨n, hn⟩ : Fin 32768))) 0#32 = 1#1 from a)
    have b := IntOp.cmpi_slt.1 (show IntOp.cmpi .slt (d (ix1 (⟨n, hn⟩ : Fin 32768))) 49152#32 = 1#1 from b)
    rw [show (0#32 : BitVec 32).toInt = 0 from by decide] at a
    rw [show (49152#32 : BitVec 32).toInt = 49152 from by decide] at b
    rw [BitVec.toInt_eq_toNat_cond] at a b
    split at a <;> omega
  · decide

theorem rows_of_pre (m : (ℓ : Loc nD τ sig) → Buf (Elt Bits) ℓ) [Cert.Pre_rows_named.Facts] (h : Cert.Pre_Combine m) (c : Dev nD) :
    InRows (m (c, main_arg0)) :=
  rows_of_fn (F := Bits) _ _ _ _ (congrFun (h c) _)

theorem good_of_pre (m : (ℓ : Loc nD τ sig) → Buf (Elt Bits) ℓ) [Cert.Pre_rows_named.Facts] (h : Cert.Pre_Combine m) : Good m := fun c => by
  rw [V_arg0]; exact rows_of_pre m h c

end Cert.Combine.Hand

end
-- ==== Proof.CValue.lean ====
/-
  The combine call's result as an array: which point wrote a row, and the blocks a point was given.
-/
module

public import proofs.«01_k».proof.Proof.CRun
public import Idealize.ShloMosaic.Lib.Pipeline.ValueKit
public import Idealize.ShloMosaic.Lib.Pipeline.Covers
public import Idealize.ShloMosaic.Lib.PointwiseCore

@[expose] public section

noncomputable section

namespace Cert.Combine.Hand

open Cert.Combine Cert.Combine.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Pipeline (Dat Cfg Window BodyObligation)

variable (m : (ℓ : Loc nD τ sig) → Buf (Elt F) ℓ)

theorem t_lt (t : Fin (cfgA m).N) : t.val < 16 := N16 m ▸ t.isLt

/-- A window's block index at a point. -/
theorem row_index (n : ℕ) (h : n < 16) (i : grid0.Coords) (e : pt i = n) : (![(BitVec.ofNat 32 (pt i)).toNat, 0] : Fin 2 → ℕ) = ![n, 0] := by
  rw [e, BitVec.toNat_ofNat, Nat.mod_eq_of_lt (by omega)]

theorem index_0 (t : Fin (cfgA m).N) : ((cfgA m).win 0).index t = ![t.val, 0] :=
  row_index t.val (t_lt m t) _ (pt_coords m t)
theorem index_1 (t : Fin (cfgA m).N) : ((cfgA m).win 1).index t = ![t.val, 0] :=
  row_index t.val (t_lt m t) _ (pt_coords m t)
theorem index_2 (t : Fin (cfgA m).N) : ((cfgA m).win 2).index t = ![t.val, 0] :=
  row_index t.val (t_lt m t) _ (pt_coords m t)
theorem index_3 (t : Fin (cfgA m).N) : ((cfgA m).win 3).index t = ![t.val, 0] :=
  row_index t.val (t_lt m t) _ (pt_coords m t)

theorem coords_of (n : ℕ) (h : n < 16) : ∃ i : grid0.Coords, pt i = n := ⟨grid0.coords ((⟨n, h⟩ : Fin 16).cast N_0.symm), coords_pt ⟨n, h⟩⟩

theorem covers_3 : ((cfgA m).win 3).Covers :=
  ((cfgA m).win 3).covers_of_indexMap_surj rfl (fun a : Fin 2 => by fin_cases a <;> exact (by decide : 0 < 1024)) fun β => by
    have n0 : ((cfgA m).win 3).nblk (0 : Fin 2) = 16 := by simp [Pipeline.Window.nblk]
    have h0 : (β (0 : Fin 2)).val < 16 := lt_of_lt_of_eq (β (0 : Fin 2)).isLt n0
    have n1 : ((cfgA m).win 3).nblk (1 : Fin 2) = 1 := by simp [Pipeline.Window.nblk]
    have h1 : (β (1 : Fin 2)).val < 1 := lt_of_lt_of_eq (β (1 : Fin 2)).isLt n1
    obtain ⟨i, hi⟩ := coords_of _ h0
    refine ⟨i, fun (a : Fin 2) => ?_⟩
    refine (congrFun (row_index _ h0 i hi) a).trans ?_
    fin_cases a
    · rfl
    · show 0 = (β (1 : Fin 2)).val
      omega

seal outAt in
/-- The result's array: at row `r`, what the point of the row's block left at the row's place in the block. -/
theorem out_arr (c : Dev nD) : outArr m c = fun i : S16384x1024.Idx =>
    outAt m c ⟨(i 0).val / 1024, by have := (i 0).isLt; rw [N16]; have : (i 0).val < 16384 := (i 0).isLt; omega⟩
      (ix2 ⟨(i 0).val % 1024, Nat.mod_lt _ (by decide)⟩ ⟨(i 1).val, (i 1).isLt⟩) := by
  unfold outArr
  refine (dats m 0 c).arrAt_eq_of_covers 3 _ (covers_3 m) fun t hf y => ?_
  have e := index_3 m t
  have y0 : (y (0 : Fin 2)).val < 1024 := (y (0 : Fin 2)).isLt
  have E0 : ((((cfgA m).win 3).blk t).view.emb y (0 : Fin 2)).val = t.val * 1024 + (y (0 : Fin 2)).val := by
    refine (((cfgA m).win 3).rect_emb_val t y (0 : Fin 2) rfl).trans ?_
    rw [e]; rfl
  have E1 : ((((cfgA m).win 3).blk t).view.emb y (1 : Fin 2)).val = (y (1 : Fin 2)).val := by
    refine (((cfgA m).win 3).rect_emb_val t y (1 : Fin 2) rfl).trans ?_
    rw [e]; exact Nat.zero_add _
  have key : ∀ (j : S16384x1024.Idx) (z : S1024x1024.Idx), (j 0).val = t.val * 1024 + (z 0).val → (j 1).val = (z 1).val →
      ∀ h h' , outAt m c t z = outAt m c ⟨(j 0).val / 1024, h⟩ (ix2 ⟨(j 0).val % 1024, h'⟩ ⟨(j 1).val, (j 1).isLt⟩) := fun j z e0 e1 h h' => by
    have z0 : (z 0).val < 1024 := (z 0).isLt
    have et : t = ⟨(j 0).val / 1024, h⟩ := Fin.ext (by show t.val = (j 0).val / 1024; omega)
    have ez : z = ix2 ⟨(j 0).val % 1024, h'⟩ ⟨(j 1).val, (j 1).isLt⟩ := by
      funext a
      fin_cases a
      · exact Fin.ext (by show (z 0).val = (j 0).val % 1024; omega)
      · exact Fin.ext e1.symm
    rw [← et]; exact congrArg _ ez
  exact (congrFun (after_3 m c t) _).trans (key _ _ E0 E1 _ _)

/-- A block's element is the array's at the block's row. -/
theorem iblk0_at (c : Dev nD) (t : Fin (cfgA m).N) (a q : Fin 1024) (r : Fin 16384) (hr : r.val = t.val * 1024 + a.val) :
    iblk0 m c t (ix2 a q) = (V m c main_arg1 : Vec F S16384x1024 .f32) (ix2 r q) := by
  have e := index_0 m t
  have E0 : ((((cfgA m).win 0).blk t).view.emb (ix2 a q) (0 : Fin 2)).val = r.val := by
    refine (((cfgA m).win 0).rect_emb_val t (ix2 a q) (0 : Fin 2) rfl).trans ?_
    rw [e, hr]; rfl
  have E1 : ((((cfgA m).win 0).blk t).view.emb (ix2 a q) (1 : Fin 2)).val = q.val := by
    refine (((cfgA m).win 0).rect_emb_val t (ix2 a q) (1 : Fin 2) rfl).trans ?_
    rw [e]; exact Nat.zero_add _
  unfold iblk0
  show (V m c main_arg1 : Vec F S16384x1024 .f32) _ = _
  refine congrArg (V m c main_arg1 : Vec F S16384x1024 .f32) (funext fun b => Fin.ext ?_)
  fin_cases b
  · exact E0
  · exact E1

theorem iblk1_at (c : Dev nD) (t : Fin (cfgA m).N) (a : Fin 1024) (q : Fin 128) (r : Fin 16384) (hr : r.val = t.val * 1024 + a.val) :
    iblk1 m c t (ix2 a q) = (V m c main_v3 : Vec F S16384x128 .f32) (ix2 r q) := by
  have e := index_1 m t
  have E0 : ((((cfgA m).win 1).blk t).view.emb (ix2 a q) (0 : Fin 2)).val = r.val := by
    refine (((cfgA m).win 1).rect_emb_val t (ix2 a q) (0 : Fin 2) rfl).trans ?_
    rw [e, hr]; rfl
  have E1 : ((((cfgA m).win 1).blk t).view.emb (ix2 a q) (1 : Fin 2)).val = q.val := by
    refine (((cfgA m).win 1).rect_emb_val t (ix2 a q) (1 : Fin 2) rfl).trans ?_
    rw [e]; exact Nat.zero_add _
  unfold iblk1
  show (V m c main_v3 : Vec F S16384x128 .f32) _ = _
  refine congrArg (V m c main_v3 : Vec F S16384x128 .f32) (funext fun b => Fin.ext ?_)
  fin_cases b
  · exact E0
  · exact E1

theorem iblk2_at (c : Dev nD) (t : Fin (cfgA m).N) (a : Fin 1024) (q : Fin 128) (r : Fin 16384) (hr : r.val = t.val * 1024 + a.val) :
    iblk2 m c t (ix2 a q) = (V m c main_v7 : Vec F S16384x128 .f32) (ix2 r q) := by
  have e := index_2 m t
  have E0 : ((((cfgA m).win 2).blk t).view.emb (ix2 a q) (0 : Fin 2)).val = r.val := by
    refine (((cfgA m).win 2).rect_emb_val t (ix2 a q) (0 : Fin 2) rfl).trans ?_
    rw [e, hr]; rfl
  have E1 : ((((cfgA m).win 2).blk t).view.emb (ix2 a q) (1 : Fin 2)).val = q.val := by
    refine (((cfgA m).win 2).rect_emb_val t (ix2 a q) (1 : Fin 2) rfl).trans ?_
    rw [e]; exact Nat.zero_add _
  unfold iblk2
  show (V m c main_v7 : Vec F S16384x128 .f32) _ = _
  refine congrArg (V m c main_v7 : Vec F S16384x128 .f32) (funext fun b => Fin.ext ?_)
  fin_cases b
  · exact E0
  · exact E1

end Cert.Combine.Hand

end
-- ==== Proof.CEqn.lean ====
/-
  One element of the combine call's block.
-/
module

public import proofs.«01_k».proof.Proof.CValue
public import proofs.«01_k».proof.Proof.RRead

@[expose] public section

noncomputable section

namespace Cert.Combine.Hand

open Cert.Combine Cert.Combine.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- One half of a word, opened. -/
def halfV (w : BitVec 32) (p : ℕ) : F .f32 := FloatOps.extf .f32 (by decide) (FloatOps.ofBits .bf16 (w.extractLsb' (p * 16) 16))

theorem ix2_eq {n0 n1 : ℕ} (a : Fin n0) (b : Fin n1) : (ValueIdx.ix2 a b : (⟨2, ![n0, n1]⟩ : Shape).Idx) = ix2 a b := by
  funext x; fin_cases x <;> rfl
theorem ix1_eq {n0 : ℕ} (a : Fin n0) : (ValueIdx.ix1 a : (⟨1, ![n0]⟩ : Shape).Idx) = ix1 a := by
  funext x; fin_cases x <;> rfl

/-- One packed row, opened: the low halves of its words, then the high halves. -/
def rowV (y : Fin 512 → BitVec 32) (q : Fin 1024) : F .f32 :=
  if h : q.val < 512 then halfV (F := F) (y ⟨q.val, h⟩) 0 else halfV (F := F) (y ⟨q.val - 512, by omega⟩) 1

/-- Rows of words, opened. -/
theorem open_apply (x : IVec S1024x512 32) (a : Fin 1024) (q : Fin 1024) :
    (concatenate S1024x1024 1 [⟨S1024x512, (unpackElementwise 0 x : FVec F S1024x512 .f32)⟩, ⟨S1024x512, (unpackElementwise 1 x : FVec F S1024x512 .f32)⟩]
      concatenates_S1024x512_S1024x512_S1024x1024_d1 : FVec F S1024x1024 .f32) (ix2 a q) = rowV (F := F) (fun j => x (ix2 a j)) q := by
  have lo : ∀ i, (unpackElementwise 0 x : FVec F S1024x512 .f32) i = halfV (x i) 0 := fun _ => rfl
  have hi : ∀ i, (unpackElementwise 1 x : FVec F S1024x512 .f32) i = halfV (x i) 1 := fun _ => rfl
  unfold rowV
  generalize (unpackElementwise 0 x : FVec F S1024x512 .f32) = p at lo ⊢
  generalize (unpackElementwise 1 x : FVec F S1024x512 .f32) = r at hi ⊢
  simp only [← lo, ← hi]
  pointwise

/-- Eight copies of a block side by side, all of whose columns are equal. -/
theorem eight_apply (w : FVec F S1024x128 .f32) (a q : Fin 1024) (v : F .f32) (h : ∀ k : Fin 128, w (ix2 a k) = v) :
    (concatenate S1024x1024 1 [⟨S1024x128, w⟩, ⟨S1024x128, w⟩, ⟨S1024x128, w⟩, ⟨S1024x128, w⟩, ⟨S1024x128, w⟩, ⟨S1024x128, w⟩, ⟨S1024x128, w⟩, ⟨S1024x128, w⟩]
      concatenates_S1024x128_S1024x128_S1024x128_S1024x128_S1024x128_S1024x128_S1024x128_S1024x128_S1024x1024_d1 : FVec F S1024x1024 .f32) (ix2 a q) = v := by
  pointwise
  simp only [h, dite_eq_ite, ite_self]

theorem half_cast (h : Vec F S1x1x1024x512 .i32) (y : ℕ → Fin 512 → BitVec 32) (e : ∀ x, h x = y (x 2).val ⟨(x 3).val, (x 3).isLt⟩) (a : Fin 1024) (j : Fin 512) :
    (shapeCast S1024x512 h shapeCasts_S1x1x1024x512_S1024x512 : IVec S1024x512 32) (ix2 a j) = y a.val j := by
  refine Eq.trans (b := h (ix4 (0 : Fin 1) (0 : Fin 1) a j)) ?_ (e _)
  pointwise

/-- The body's element. -/
theorem outV_at (x1 : Vec F S1024x1024 .f32) (w0 w1 : Vec F S1024x128 .f32) (h0 h1 : Vec F S1x1x1024x512 .i32) (a q : Fin 1024)
    (v0 v1 : F .f32) (e0 : ∀ k : Fin 128, w0 (ix2 a k) = v0) (e1 : ∀ k : Fin 128, w1 (ix2 a k) = v1) (y0 y1 : ℕ → Fin 512 → BitVec 32)
    (g0 : ∀ x, h0 x = y0 (x 2).val ⟨(x 3).val, (x 3).isLt⟩) (g1 : ∀ x, h1 x = y1 (x 2).val ⟨(x 3).val, (x 3).isLt⟩) :
    outV x1 w0 w1 h0 h1 (ix2 a q) = FloatOps.addf (FloatOps.addf (x1 (ix2 a q)) (FloatOps.mulf v0 (rowV (F := F) (y0 a.val) q))) (FloatOps.mulf v1 (rowV (F := F) (y1 a.val) q)) := by
  have s : ∀ w : FVec F S1024x128 .f32, shapeCast S1024x128 w shapeCasts_S1024x128_S1024x128 = w := fun w => by
    funext i
    obtain ⟨b, k, rfl⟩ : ∃ (b : Fin 1024) (k : Fin 128), i = ix2 b k := ⟨i 0, i 1, by funext b; fin_cases b <;> rfl⟩
    pointwise
  have o0 := open_apply (F := F) (shapeCast S1024x512 h0 shapeCasts_S1x1x1024x512_S1024x512) a q
  have o1 := open_apply (F := F) (shapeCast S1024x512 h1 shapeCasts_S1x1x1024x512_S1024x512) a q
  rw [show (fun j => (shapeCast S1024x512 h0 shapeCasts_S1x1x1024x512_S1024x512 : IVec S1024x512 32) (ix2 a j)) = y0 a.val from funext fun j => half_cast h0 y0 g0 a j] at o0
  rw [show (fun j => (shapeCast S1024x512 h1 shapeCasts_S1x1x1024x512_S1024x512 : IVec S1024x512 32) (ix2 a j)) = y1 a.val from funext fun j => half_cast h1 y1 g1 a j] at o1
  have c0 := eight_apply w0 a q v0 e0
  have c1 := eight_apply w1 a q v1 e1
  unfold outV k0_pay1 k0_pay2 k0_pay3
  rw [s, s]
  exact congr (congrArg FloatOps.addf (congrArg (FloatOps.addf _) (congr (congrArg FloatOps.mulf c0) o0))) (congr (congrArg FloatOps.mulf c1) o1)

end Cert.Combine.Hand

end
-- ==== Proof.CRefVal.lean ====
/-
  The combine's reference, element by element.
-/
module

public import proofs.«01_k».proof.Proof.CEqn
public import proofs.«01_k».proof.Proof.Gen.CombineReference
public import proofs.«01_k».proof.Proof.Gen.CombineReference.Run

@[expose] public section

noncomputable section

namespace Cert.CombineReference.Hand

open Cert.CombineReference Cert.CombineReference.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Cert.Combine.Hand (rowV)

/-- The packed rows as numbers. -/
def table (y : IVec S49152x512 32) : FVec F S49152x1024 .f32 :=
  extf .f32 (concatenate S49152x1024 1 [⟨S49152x512, (shapeCast _ (extractStridedSlice S49152x512x1 ![0, 0, 0] (bitcastToFloat (F := F) .bf16 (Host.bitcastConvertNarrow S49152x512x2 16 y splits_S49152x512_w32_S49152x512x2_w16)) slices_S49152x512x2_S49152x512x1_0_0_0) shapeCasts_S49152x512x1_S49152x512)⟩, ⟨S49152x512, (shapeCast _ (extractStridedSlice S49152x512x1 ![0, 0, 1] (bitcastToFloat (F := F) .bf16 (Host.bitcastConvertNarrow S49152x512x2 16 y splits_S49152x512_w32_S49152x512x2_w16)) slices_S49152x512x2_S49152x512x1_0_0_1) shapeCasts_S49152x512x1_S49152x512)⟩] concatenates_S49152x512_S49152x512_S49152x1024_d1) bitsLt_bf16_f32

/-- The row numbers of the first half and of the second. -/
def half0 (d : IVec S32768 32) : IVec S16384 32 :=
  shapeCast _ (extractStridedSlice S1x16384 ![0, 0] (shapeCast _ d shapeCasts_S32768_S2x16384) slices_S2x16384_S1x16384_0_0) shapeCasts_S1x16384_S16384
def half1 (d : IVec S32768 32) : IVec S16384 32 :=
  shapeCast _ (extractStridedSlice S1x16384 ![1, 0] (shapeCast _ d shapeCasts_S32768_S2x16384) slices_S2x16384_S1x16384_1_0) shapeCasts_S1x16384_S16384
/-- The column a table of rows is indexed with. -/
def col (x : IVec S16384 32) : IVec S16384x1 32 :=
  broadcastInDim S16384x1 ![0] bcast_S16384_S16384x1_0 (select (cmpi .slt x (broadcastInDim S16384 ![] bcast_S_S16384 (constantI S_ 32 0#32))) (addi x (broadcastInDim S16384 ![] bcast_S_S16384 (constantI S_ 32 49152#32))) x)
/-- The weights of a half, across the rows. -/
def wide0 (w : FVec F S2x16384 .f32) : FVec F S16384x1024 .f32 :=
  broadcastInDim S16384x1024 ![0, 1] bcast_S16384x1_S16384x1024_0_1 (broadcastInDim S16384x1 ![0] bcast_S16384_S16384x1_0 (shapeCast _ (extractStridedSlice S1x16384 ![0, 0] w slices_S2x16384_S1x16384_0_0) shapeCasts_S1x16384_S16384))
def wide1 (w : FVec F S2x16384 .f32) : FVec F S16384x1024 .f32 :=
  broadcastInDim S16384x1024 ![0, 1] bcast_S16384x1_S16384x1024_0_1 (broadcastInDim S16384x1 ![0] bcast_S16384_S16384x1_0 (shapeCast _ (extractStridedSlice S1x16384 ![1, 0] w slices_S2x16384_S1x16384_1_0) shapeCasts_S1x16384_S16384))
/-- The reference's result as a function of its arguments. -/
def refOut (d : IVec S32768 32) (x1 : FVec F S16384x1024 .f32) (w : FVec F S2x16384 .f32) (y : IVec S49152x512 32) : FVec F S16384x1024 .f32 :=
  addf (addf x1 (mulf (wide0 w) (Host.gather gather_S49152x1024_S16384x1_S16384x1024_1_0_n_n_0_1_11024 (table y) (col (half0 d)))))
    (mulf (wide1 w) (Host.gather gather_S49152x1024_S16384x1_S16384x1024_1_0_n_n_0_1_11024 (table y) (col (half1 d))))

theorem table_apply (y : IVec S49152x512 32) (n : Fin 49152) (q : Fin 1024) : table (F := F) y (ix2 n q) = rowV (F := F) (fun j => y (ix2 n j)) q := by
  unfold rowV
  pointwise [table]
  have dr : ∀ (x : Fin 49152) (y : Fin 512) (k : Fin 2), splits_S49152x512_w32_S49152x512x2_w16.drop (ix3 x y k) = ix2 x y := fun x y k => by
    funext b; fin_cases b <;> rfl
  by_cases h : q.val < 512
  · rw [dif_pos h, dif_pos h, dr]; rfl
  · rw [dif_neg h, dif_neg h, dr]; rfl

theorem half0_apply (d : IVec S32768 32) (n : Fin 16384) : half0 d (ix1 n) = d (ix1 (⟨n.val, by omega⟩ : Fin 32768)) := by
  pointwise [half0]
theorem half1_apply (d : IVec S32768 32) (n : Fin 16384) : half1 d (ix1 n) = d (ix1 (⟨16384 + n.val, by omega⟩ : Fin 32768)) := by
  pointwise [half1]

theorem wide0_apply (w : FVec F S2x16384 .f32) (n : Fin 16384) (q : Fin 1024) : wide0 w (ix2 n q) = w (ix2 (0 : Fin 2) n) := by
  pointwise [wide0]
theorem wide1_apply (w : FVec F S2x16384 .f32) (n : Fin 16384) (q : Fin 1024) : wide1 w (ix2 n q) = w (ix2 (1 : Fin 2) n) := by
  pointwise [wide1]

theorem col_apply (x : IVec S16384 32) (n : Fin 16384) (h : (x (ix1 n)).toNat < 49152) : col x (ix2 n (0 : Fin 1)) = x (ix1 n) := by
  pointwise [col]
  have e : IntOp.cmpi CmpIPredicate.slt (x (ix1 n)) 0#32 = 0#1 := by
    generalize x (ix1 n) = w at h
    have hs : w.slt 0#32 = false := by
      rw [BitVec.slt_eq_decide, BitVec.toInt_eq_toNat_of_lt (by omega)]
      simp
    show BitVec.ofBool (w.slt 0#32) = 0#1
    rw [hs]; rfl
  rw [e]; rfl

/-- Whole rows gathered by number. -/
theorem gather_rows {α : Type} {N B n : ℕ} (d : GatherDims ⟨2, ![N, B]⟩ ⟨2, ![n, 1]⟩ ⟨2, ![n, B]⟩) (hoff : d.offsetDims = [1])
    (hcoll : d.collapsedSliceDims = [0]) (hob : d.operandBatchingDims = []) (hsim : d.startIndexMap = [0]) (hivd : d.indexVectorDim = 1)
    (x : (⟨2, ![N, B]⟩ : Shape).Idx → α) (idx : IVec ⟨2, ![n, 1]⟩ 32) (c : Fin n) (q : Fin B) (e : Fin N)
    (he : (idx (ix2 c (0 : Fin 1))).toNat = e.val) (hN : N < 2 ^ 31) : Host.gather d x idx (ix2 c q) = x (ix2 e q) := by
  obtain ⟨od, cd, ob, sb, sm, iv, ss, wf⟩ := d
  subst hoff hcoll hob hsim hivd
  unfold Host.gather
  refine congrArg x (funext fun (a : Fin 2) => Fin.ext ?_)
  match a with
  | ⟨0, _⟩ =>
    generalize hd : GatherDims.mk _ _ _ _ _ _ ss wf = d
    have hsl : ss (0 : Fin 2) = 1 := by have h := d.slice_collapsed 0 (by rw [← hd]; exact List.mem_singleton.2 rfl); rw [← hd] at h; exact h
    have hm : (0 : Fin 2) ∈ d.startIndexMap := by rw [← hd]; exact List.mem_singleton.2 rfl
    show d.start (ix2 c q) idx 0 + d.batchCoord (ix2 c q) 0 + d.offCoord (ix2 c q) 0 = e.val
    rw [d.batchCoord_eq_zero _ _ (by rw [← hd]; exact List.not_mem_nil),
      d.offCoord_eq_zero _ _ (fun h => ((d.mem_sKept _).mp h).1 (by rw [← hd]; exact List.mem_singleton.mpr rfl))]
    simp only [Nat.add_zero]
    unfold GatherDims.start
    rw [dif_pos hm]
    have hsi : d.siIdx (ix2 c q) ⟨d.startIndexMap.idxOf 0, List.idxOf_lt_length_iff.2 hm⟩ = ix2 c (0 : Fin 1) := by
      subst hd
      funext b'
      apply Fin.ext
      match b' with
      | ⟨0, _⟩ => rfl
      | ⟨1, _⟩ => rfl
    have hbl := e.isLt
    rw [hsi, BitVec.toInt_eq_toNat_of_lt (by omega), he]
    subst hd
    show min ((e.val : Int)).toNat (N - ss (0 : Fin 2)) = e.val
    rw [hsl]
    omega
  | ⟨1, _⟩ =>
    generalize hd : GatherDims.mk _ _ _ _ _ _ ss wf = d
    have hm : (1 : Fin 2) ∉ d.startIndexMap := by rw [← hd]; show (1 : Fin 2) ∉ [(0 : Fin 2)]; decide
    have hk : (1 : Fin 2) ∈ d.sKept := by rw [← hd]; show (1 : Fin 2) ∈ [(1 : Fin 2)]; decide
    show d.start (ix2 c q) idx 1 + d.batchCoord (ix2 c q) 1 + d.offCoord (ix2 c q) 1 = q.val
    rw [d.batchCoord_eq_zero _ _ (by rw [← hd]; exact List.not_mem_nil)]
    unfold GatherDims.start GatherDims.offCoord
    rw [dif_neg hm, dif_pos hk]
    subst hd
    exact Nat.zero_add _

/-- The reference's element, its two row numbers in range. -/
theorem refOut_at (d : IVec S32768 32) (x1 : FVec F S16384x1024 .f32) (w : FVec F S2x16384 .f32) (y : IVec S49152x512 32) (n : Fin 16384) (q : Fin 1024)
    (e0 e1 : Fin 49152) (h0 : (d (ix1 (⟨n.val, by omega⟩ : Fin 32768))).toNat = e0.val) (h1 : (d (ix1 (⟨16384 + n.val, by omega⟩ : Fin 32768))).toNat = e1.val) :
    refOut d x1 w y (ix2 n q) = FloatOps.addf (FloatOps.addf (x1 (ix2 n q)) (FloatOps.mulf (w (ix2 (0 : Fin 2) n)) (rowV (F := F) (fun j => y (ix2 e0 j)) q)))
      (FloatOps.mulf (w (ix2 (1 : Fin 2) n)) (rowV (F := F) (fun j => y (ix2 e1 j)) q)) := by
  have c0 : (col (half0 d) (ix2 n (0 : Fin 1))).toNat = e0.val := by
    rw [col_apply _ n (by rw [half0_apply, h0]; exact e0.isLt), half0_apply, h0]
  have c1 : (col (half1 d) (ix2 n (0 : Fin 1))).toNat = e1.val := by
    rw [col_apply _ n (by rw [half1_apply, h1]; exact e1.isLt), half1_apply, h1]
  have g0 := gather_rows gather_S49152x1024_S16384x1_S16384x1024_1_0_n_n_0_1_11024 rfl rfl rfl rfl rfl (table (F := F) y) (col (half0 d)) n q e0 c0 (by decide)
  have g1 := gather_rows gather_S49152x1024_S16384x1_S16384x1024_1_0_n_n_0_1_11024 rfl rfl rfl rfl rfl (table (F := F) y) (col (half1 d)) n q e1 c1 (by decide)
  rw [table_apply] at g0 g1
  have w0 := wide0_apply w n q
  have w1 := wide1_apply w n q
  unfold refOut
  exact congr (congrArg FloatOps.addf (congrArg (FloatOps.addf _) (congr (congrArg FloatOps.mulf w0) g0))) (congr (congrArg FloatOps.mulf w1) g1)

variable (m : (ℓ : Loc nD τ sig) → Buf (Elt F) ℓ) (ρ : Dev nD → PrngReg)

theorem run_full : θ_run defs (onTc (τ := τ) (main (F := F))) ⟨m, fun _ => 0, ρ⟩ (fun r => ∀ c : Dev nD,
      r.2.mem ((c.tc : Thread nD τ).loc main_v37) = refOut (m (c, main_arg0)) (m (c, main_arg1)) (m (c, main_arg2)) (m (c, main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans rfl, (h c).2⟩) (Cert.CombineReference.Value.run m ρ)

theorem frame_full : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2, Idealize.ShloMosaic.sem_eq_zero_of_no_sems (by decide) r.2⟩) (Cert.CombineReference.Value.run m ρ)

end Cert.CombineReference.Hand

end
-- ==== Proof.CEnd.lean ====
/-
  The combine call's result is its reference's.
-/
module

public import proofs.«01_k».proof.Proof.CEqn
public import proofs.«01_k».proof.Proof.CRefVal

@[expose] public section

noncomputable section

namespace Cert.Combine.Hand

open Cert.Combine Cert.Combine.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Cert.CombineReference.Hand (refOut refOut_at)

variable (m : (ℓ : Loc nD τ sig) → Buf (Elt F) ℓ)

theorem wT0_apply (w : FVec F S2x16384 .f32) (n : Fin 16384) (k : Fin 128) : wT0 w (ix2 n k) = w (ix2 (0 : Fin 2) n) := by
  pointwise [wT0]
theorem wT1_apply (w : FVec F S2x16384 .f32) (n : Fin 16384) (k : Fin 128) : wT1 w (ix2 n k) = w (ix2 (1 : Fin 2) n) := by
  pointwise [wT1]

theorem atD_ix (d : IVec S32768 32) (n : Fin 32768) (k : ℕ) (h : k = n.val) : atD d k = d (ix1 n) := by
  subst h
  unfold atD
  rw [dif_pos n.isLt, ix1_eq]

theorem atY_ix (y : IVec S49152x512 32) (n : Fin 49152) (k : ℕ) (h : k = n.val) : atY y k = fun j => y (ix2 n j) := by
  subst h
  funext j
  unfold atY
  rw [dif_pos n.isLt, ix2_eq]

/-- The call's result is the reference's function of the arguments. -/
theorem out_ref (c : Dev nD) (R : InRows (m (c, main_arg0))) :
    outArr m c = refOut (F := F) (m (c, main_arg0)) (m (c, main_arg1)) (m (c, main_arg2)) (m (c, main_arg3)) := by
  rw [out_arr]
  funext i
  obtain ⟨r, q, rfl⟩ : ∃ (r : Fin 16384) (q : Fin 1024), i = ix2 r q := ⟨i 0, i 1, by funext b; fin_cases b <;> rfl⟩
  have hN : r.val / 1024 < (cfgA m).N := by rw [N16]; omega
  show outAt m c ⟨r.val / 1024, hN⟩ (ix2 (⟨r.val % 1024, Nat.mod_lt _ (by decide)⟩ : Fin 1024) q) = _
  have hr : r.val = r.val / 1024 * 1024 + r.val % 1024 := by omega
  have d0 := atD_ix (m (c, main_arg0)) ⟨r.val, by omega⟩ (0 * 16384 + (r.val / 1024 * 1024 + r.val % 1024)) (by show _ = r.val; omega)
  have d1 := atD_ix (m (c, main_arg0)) ⟨16384 + r.val, by omega⟩ (1 * 16384 + (r.val / 1024 * 1024 + r.val % 1024)) (by show _ = 16384 + r.val; omega)
  have l0 := R (0 * 16384 + (r.val / 1024 * 1024 + r.val % 1024))
  have l1 := R (1 * 16384 + (r.val / 1024 * 1024 + r.val % 1024))
  have y0 := atY_ix (m (c, main_arg3)) ⟨_, l0⟩ _ rfl
  have y1 := atY_ix (m (c, main_arg3)) ⟨_, l1⟩ _ rfl
  refine Eq.trans ?_ (refOut_at (m (c, main_arg0)) (m (c, main_arg1)) (m (c, main_arg2)) (m (c, main_arg3)) r q ⟨_, l0⟩ ⟨_, l1⟩
    (congrArg BitVec.toNat d0.symm) (congrArg BitVec.toNat d1.symm)).symm
  have B := outV_at (iblk0 m c ⟨r.val / 1024, hN⟩) (iblk1 m c ⟨r.val / 1024, hN⟩) (iblk2 m c ⟨r.val / 1024, hN⟩)
    (hv (V m c main_arg0) (V m c main_arg3) (r.val / 1024) 0) (hv (V m c main_arg0) (V m c main_arg3) (r.val / 1024) 1)
    ⟨r.val % 1024, Nat.mod_lt _ (by decide)⟩ q ((m (c, main_arg2) : FVec F S2x16384 .f32) (ix2 (0 : Fin 2) r)) ((m (c, main_arg2) : FVec F S2x16384 .f32) (ix2 (1 : Fin 2) r))
    (fun k => by rw [iblk1_at m c ⟨r.val / 1024, hN⟩ _ k r hr, V_w0]; exact wT0_apply _ r k)
    (fun k => by rw [iblk2_at m c ⟨r.val / 1024, hN⟩ _ k r hr, V_w1]; exact wT1_apply _ r k)
    (fun a => atY (m (c, main_arg3)) (atD (m (c, main_arg0)) (0 * 16384 + (r.val / 1024 * 1024 + a))).toNat)
    (fun a => atY (m (c, main_arg3)) (atD (m (c, main_arg0)) (1 * 16384 + (r.val / 1024 * 1024 + a))).toNat)
    (fun x => by rw [V_arg0, V_arg3]; rfl) (fun x => by rw [V_arg0, V_arg3]; rfl)
  rw [iblk0_at m c ⟨r.val / 1024, hN⟩ _ q r hr, V_arg1] at B
  unfold outAt
  refine B.trans ?_
  dsimp only
  rw [y0, y1]

end Cert.Combine.Hand

end
-- ==== Proof.CIdeal.lean ====
/-
  The combine call read over the extended reals: the same text, so the same run.
-/
module

public import proofs.«01_k».proof.Proof.CEnd
public import proofs.«01_k».proof.Proof.Gen.CombineIdeal
public import proofs.«01_k».proof.Proof.Gen.CombineReferenceIdeal
public import proofs.«01_k».proof.Defs

@[expose] public section

noncomputable section

namespace Cert.CombineIdeal.Hand

open Idealize.ShloMosaic Idealize.ShloMosaic.TcCoe Idealize.SL.Sem

attribute [local instance] Cert.Combine.Gen.facts Cert.CombineReference.Gen.facts Cert.CombineIdeal.Gen.facts Cert.CombineReferenceIdeal.Gen.facts

theorem sig_same : Cert.CombineIdeal.sig = Cert.Combine.sig := rfl
theorem body_same : Cert.CombineIdeal.defs₀ (F := Ideal) = Cert.Combine.defs₀ (F := Ideal) := by
  refine congrArg Defs.onTc (funext fun l => funext fun x => ?_)
  match l, x with
  | 0, (t, s) => rfl
  | ⟨_ + 1, h⟩, _ => exact absurd h (Nat.not_lt.2 (Nat.le_add_left _ _))
theorem defs_same : Cert.CombineIdeal.defs (F := Ideal) = Cert.Combine.defs (F := Ideal) := congrArg (Pipeline.defs (Cert.Combine.pcfgs (F := Ideal))) body_same
theorem main_same : Cert.CombineIdeal.main (F := Ideal) = Cert.Combine.main (F := Ideal) := rfl
theorem rdefs_same : Cert.CombineReferenceIdeal.defs (F := Ideal) = Cert.CombineReference.defs (F := Ideal) := rfl
theorem rmain_same : Cert.CombineReferenceIdeal.main (F := Ideal) = Cert.CombineReference.main (F := Ideal) := rfl

/-- The precondition, read at the extended reals. -/
theorem good_at [Cert.Pre_rows_named.Facts] (m : (ℓ : Loc Cert.Combine.nD Cert.Combine.τ Cert.Combine.sig) → Buf (Elt Ideal) ℓ) (h : Cert.Pre_CombineIdeal m) (c : Dev Cert.Combine.nD) :
    Cert.Combine.Hand.InRows (m (c, Cert.Combine.main_arg0)) :=
  Cert.Combine.Hand.rows_of_fn (F := Ideal) _ _ _ _ (congrFun (h c) _)

theorem good [Cert.Pre_rows_named.Facts] (m : (ℓ : Loc Cert.CombineIdeal.nD Cert.CombineIdeal.τ Cert.CombineIdeal.sig) → Buf (Elt Ideal) ℓ) (h : Cert.Pre_CombineIdeal m) : Cert.Combine.Hand.Good (F := Ideal) m := fun c => by
  rw [Cert.Combine.Hand.V_arg0]; exact good_at m h c

theorem frame [Cert.Pre_rows_named.Facts] : Cert.quiescent_CombineIdeal := fun m g h => by
  have H := Cert.Combine.Hand.frame_full (F := Ideal) m g (good m h)
  rw [← defs_same] at H
  exact H

theorem rframe : Cert.quiescent_CombineReferenceIdeal := fun m g _ => Cert.CombineReference.Hand.frame_full (F := Ideal) m g

theorem rframe_pre [Cert.Pre_rows_named.Facts] : Cert.quiescent_CombineReferenceIdeal_pre_rows_named := fun m g _ => Cert.CombineReference.Hand.frame_full (F := Ideal) m g

theorem value [Cert.Pre_rows_named.Facts] : Cert.algebraic_CombineIdeal_CombineReferenceIdeal := fun m g m' g' h ha => by
  have H := Cert.Combine.Hand.run_full (F := Ideal) m g (good m h)
  rw [← defs_same] at H
  refine ⟨fun c => Cert.Combine.Hand.outArr (F := Ideal) m c, (θ_run _ _ _).mono (fun _ e c => e.1 c) H,
    (θ_run _ _ _).mono (fun r e c => ⟨(e c).1.trans ?_, (e c).2⟩) (Cert.CombineReference.Hand.run_full (F := Ideal) m' g')⟩
  obtain ⟨a0, a1, a2, a3⟩ := ha c
  refine Eq.trans ?_ (Cert.Combine.Hand.out_ref (F := Ideal) m c (good_at m h c)).symm
  exact congr (congr (congr (congrArg (Cert.CombineReference.Hand.refOut (F := Ideal)) a0) a1) a2) a3

end Cert.CombineIdeal.Hand

end
-- ==== Proof.DCommon.lean ====
/-
  The dispatch call: its operands, the rows it places, what the copies of one tile deliver, and what is held beside them.
-/
module

public import proofs.«01_k».proof.Proof.Gen.Dispatch.Launch
public import proofs.«01_k».proof.Proof.Gen.Dispatch.Skeleton
public import Idealize.ShloMosaic.Lib.Pipeline.FrameBody
public import Idealize.ShloMosaic.Lib.Pipeline.Value
public import Idealize.ShloMosaic.Lib.VecWindow
public import Idealize.ShloMosaic.Lib.ValueLayout
public import Idealize.ShloMosaic.Lib.MixedBatch
public import Idealize.ShloMosaic.Lib.Ring
public import Idealize.ShloMosaic.Lib.Tactic
public import Idealize.ShloMosaic.Lib.WordCmp

@[expose] public section

noncomputable section

namespace Cert.Dispatch.Hand

open Cert.Dispatch Cert.Dispatch.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The slots, and the rows they are placed in. -/
abbrev mDest : Memref sig .tc .smem S32768 .i32 := Memref.whole main_arg0
abbrev mXs : Memref sig .tc .hbm S49152x512 .i32 := Memref.whole main_v0

abbrev MBuf (c : Dev nD) {sp : Space} {S : Shape} {e : EltTy} (M : Memref sig .tc sp S e) : Type := Buf (Elt F) (M.view.loc (c : Thread nD τ))
abbrev mPt (c : Dev nD) {sp : Space} {S : Shape} {e : EltTy} (M : Memref sig .tc sp S e) (f : MBuf (F := F) c M) : sProp 𝕄 :=
  M.view.loc (c : Thread nD τ) ↦{fullShare} f
abbrev mPtR (c : Dev nD) {sp : Space} {S : Shape} {e : EltTy} (M : Memref sig .tc sp S e) (f : MBuf (F := F) c M) : sProp 𝕄 :=
  M.view.loc (c : Thread nD τ) ↦{fullShare.right} f

/-- A row placed, and a row of the block, as the copies name them. -/
abbrev dRow (o : Fin 2 → ℕ) (ho : ∀ a, o a + S1x512.size a ≤ S49152x512.size a) : Memref sig .tc .hbm S1x512 .i32 :=
  mXs.slice (Rect.unit (s := S49152x512) o S1x512.size ho) (fun _ => rfl)
abbrev bRow (B : Memref sig .tc .vmem S1024x512 .i32) (p : Fin 2 → ℕ) (hp : ∀ a, p a + S1x512.size a ≤ S1024x512.size a) : Memref sig .tc .vmem S1x512 .i32 :=
  B.slice (Rect.unit (s := S1024x512) p S1x512.size hp) (fun _ => rfl)
/-- The word a slot's element holds. -/
abbrev word (c : Dev nD) (f : MBuf (F := F) c mDest) (o : Fin 1 → ℕ) (h : ∀ a, o a + S1.size a ≤ S32768.size a) : BitVec 32 :=
  (mDest.access (Rect.unit (s := S32768) o S1.size h)).read (Elt F) f (Shape.Idx.first (numel1_S1.symm ▸ Nat.one_pos))

/-- Slot number `n`. -/
def atD (d : S32768.Idx → BitVec 32) (n : ℕ) : BitVec 32 := if h : n < 32768 then d (ix1 (⟨n, h⟩ : Fin 32768)) else 0#32
/-- Every slot names a row, and no two the same one. -/
def InRows (d : S32768.Idx → BitVec 32) : Prop := ∀ n, (atD d n).toNat < 49152
def Apart (d : S32768.Idx → BitVec 32) : Prop := ∀ n n', n < 32768 → n' < 32768 → (atD d n).toNat = (atD d n').toNat → n = n'

theorem word_eq (c : Dev nD) (f : MBuf (F := F) c mDest) (o : Fin 1 → ℕ) (h) (n : ℕ) (ho : o = ![n]) (hn : n < 32768) :
    word c f o h = atD f n := by
  subst ho
  rw [atD, dif_pos hn]
  show f _ = f _
  refine congrArg f ?_
  funext a; apply Fin.ext; fin_cases a; show n + 1 * 0 = n; omega

/-- Of the copies of tile `t`, the `i`-th: it places row `i / 2` of the tile in the row this slot names. -/
def wAt (d : S32768.Idx → BitVec 32) (t i : ℕ) : BitVec 32 := atD d (i % 2 * 16384 + (t * 1024 + i / 2))

/-- The rows with those of tile `t` placed: row `i / 2` of the tile, `v`, where copy `i` goes. -/
def put (d : S32768.Idx → BitVec 32) (v : S1024x512.Idx → BitVec 32) (t : ℕ) (f : S49152x512.Idx → BitVec 32) : S49152x512.Idx → BitVec 32 :=
  fun x => open Classical in if h : ∃ i : Fin 2048, (wAt d t i.val).toNat = (x 0).val then
    v (ix2 (⟨h.choose.val / 2, by have := h.choose.isLt; omega⟩ : Fin 1024) (x 1 : Fin 512)) else f x

theorem wAt_inj (d : S32768.Idx → BitVec 32) (ha : Apart d) (t : ℕ) (ht : t < 16) (i j : ℕ) (hi : i < 2048) (hj : j < 2048)
    (h : (wAt d t i).toNat = (wAt d t j).toNat) : i = j := by
  have := ha _ _ (by omega) (by omega) h
  omega

theorem put_hit (d : S32768.Idx → BitVec 32) (ha : Apart d) (v : S1024x512.Idx → BitVec 32) (t : ℕ) (ht : t < 16) (f : S49152x512.Idx → BitVec 32)
    (i : ℕ) (hi : i < 2048) (x : S49152x512.Idx) (h : (wAt d t i).toNat = (x 0).val) :
    put d v t f x = v (ix2 (⟨i / 2, by omega⟩ : Fin 1024) (x 1 : Fin 512)) := by
  have he : ∃ i : Fin 2048, (wAt d t i.val).toNat = (x 0).val := ⟨⟨i, hi⟩, h⟩
  unfold put
  rw [dif_pos he]
  have hc := wAt_inj d ha t ht _ i he.choose.isLt hi (he.choose_spec.trans h.symm)
  have : (⟨he.choose.val / 2, by have := he.choose.isLt; omega⟩ : Fin 1024) = ⟨i / 2, by omega⟩ := Fin.ext (by show he.choose.val / 2 = i / 2; rw [hc])
  rw [this]
theorem put_miss (d : S32768.Idx → BitVec 32) (v : S1024x512.Idx → BitVec 32) (t : ℕ) (f : S49152x512.Idx → BitVec 32)
    (x : S49152x512.Idx) (h : ∀ i : Fin 2048, (wAt d t i.val).toNat ≠ (x 0).val) : put d v t f x = f x := by
  unfold put
  rw [dif_neg (fun ⟨i, hi⟩ => h i hi)]

/-- The elements of a row placed, and those a tile's copies fill. -/
def rSet (w : ℕ) : Finset S49152x512.Idx := Finset.univ.filter fun x => (x 0).val = w
def tSet (d : S32768.Idx → BitVec 32) (t : ℕ) : Finset S49152x512.Idx := (Finset.univ : Finset (Fin 2048)).biUnion fun i => rSet (wAt d t i.val).toNat

theorem put_off (d : S32768.Idx → BitVec 32) (v : S1024x512.Idx → BitVec 32) (t : ℕ) (f : S49152x512.Idx → BitVec 32)
    (x : S49152x512.Idx) (h : x ∉ tSet d t) : put d v t f x = f x := by
  apply put_miss
  intro i hi
  apply h
  unfold tSet
  rw [Finset.mem_biUnion]
  refine ⟨i, Finset.mem_univ _, ?_⟩
  unfold rSet
  rw [Finset.mem_filter]
  exact ⟨Finset.mem_univ _, hi.symm⟩

theorem dRow_emb (w : ℕ) (ho) (hw : w < 49152) (x : S1x512.Idx) :
    (dRow ![w, 0] ho).view.emb x = (ix2 (⟨w, hw⟩ : Fin 49152) (x 1 : Fin 512) : S49152x512.Idx) := by
  funext a; apply Fin.ext; fin_cases a
  · show w + 1 * (x 0).val = w
    have : (x 0).val < 1 := (x 0).isLt
    omega
  · show 0 + 1 * (x 1).val = (x 1).val; omega

theorem dRow_set (w : ℕ) (ho) (hw : w < 49152) : (dRow ![w, 0] ho).view.set = rSet w := by
  ext x
  rw [View.set, Finset.mem_map, rSet, Finset.mem_filter]
  constructor
  · rintro ⟨y, -, hy⟩
    rw [dRow_emb w ho hw] at hy
    subst hy
    exact ⟨Finset.mem_univ _, rfl⟩
  · rintro ⟨-, h0⟩
    refine ⟨(ix2 (0 : Fin 1) (x 1 : Fin 512) : S1x512.Idx), Finset.mem_univ _, ?_⟩
    rw [dRow_emb w ho hw]
    funext a; apply Fin.ext; fin_cases a
    · exact h0.symm
    · rfl

theorem bRow_read (B : Memref sig .tc .vmem S1024x512 .i32) (c : Dev nD) (f : MBuf (F := F) c B) (r : ℕ) (hp) (hr : r < 1024) (x : S1x512.Idx) :
    (bRow B ![r, 0] hp).view.read (Elt F) f x = B.view.read (Elt F) f (ix2 (⟨r, hr⟩ : Fin 1024) (x 1 : Fin 512)) := by
  have e : (Rect.unit (s := S1024x512) ![r, 0] S1x512.size hp).emb x = ix2 (⟨r, hr⟩ : Fin 1024) (x 1 : Fin 512) := by
    funext i; apply Fin.ext; fin_cases i
    · show r + 1 * (x 0).val = r
      have : (x 0).val < 1 := (x 0).isLt
      omega
    · show 0 + 1 * (x 1).val = (x 1).val; omega
  show B.view.read (Elt F) f ((Rect.unit (s := S1024x512) ![r, 0] S1x512.size hp).emb x) = _
  exact congrArg (B.view.read (Elt F) f) e
theorem bRow_sub (B : Memref sig .tc .vmem S1024x512 .i32) (p) (hp) : (bRow B p hp).view.set ⊆ B.view.set := by
  intro x hx
  rw [View.set, Finset.mem_map] at hx ⊢
  obtain ⟨y, -, rfl⟩ := hx
  exact ⟨_, Finset.mem_univ _, rfl⟩

/-- A row's copy writes what the rows hold once the tile is placed. -/
theorem land (d : S32768.Idx → BitVec 32) (ha : Apart d) (B : Memref sig .tc .vmem S1024x512 .i32) (c : Dev nD) (fb : MBuf (F := F) c B)
    (g : S49152x512.Idx → BitVec 32) (t i r w : ℕ) (ho) (hp) (ht : t < 16) (hi : i < 2048) (hr : r = i / 2) (hw : w < 49152) (hwd : w = (wAt d t i).toNat) :
    ∀ x ∈ (dRow ![w, 0] ho).view.set,
      (View.write (Elt F) (dRow ![w, 0] ho).view g (ReadAs.same.apply ((bRow B ![r, 0] hp).view.read (Elt F) fb)) Finset.univ) x
        = put d (B.view.read (Elt F) fb) t g x := by
  intro x hx
  rw [View.set, Finset.mem_map] at hx
  obtain ⟨y, -, rfl⟩ := hx
  rw [View.write_emb_of_mem _ _ (Finset.mem_univ y)]
  subst hr
  rw [dRow_emb w ho hw]
  refine Eq.trans ?_ (put_hit d ha _ t ht g i hi _ hwd.symm).symm
  exact bRow_read B c fb (i / 2) hp (by omega) y

section
variable (B : Memref sig .tc .vmem S1024x512 .i32)

theorem bIn (r : ℕ) (h : r < 1024) : ∀ a, (![r, 0] : Fin 2 → ℕ) a + S1x512.size a ≤ S1024x512.size a := by
  intro a; fin_cases a
  · show r + 1 ≤ 1024; omega
  · show 0 + 512 ≤ 512; omega
/-- The elements of the block's row copy `i` reads. -/
theorem half_lt (i : Fin 2048) : i.val / 2 < 1024 := by have := i.isLt; omega
abbrev bSet (i : Fin 2048) : Finset (bRow B ![i.val / 2, 0] (bIn _ (half_lt i))).view.ty.Idx :=
  (bRow B ![i.val / 2, 0] (bIn _ (half_lt i))).view.set

theorem bSet_sub (i : Fin 2048) : bSet B i ⊆ B.view.set := bRow_sub B _ _

/-- What copy `i` of tile `t` takes: its row at anything, and its token of the block's row. -/
def want (c : Dev nD) (d : S32768.Idx → BitVec 32) (fb : MBuf (F := F) c B) (g : MBuf (F := F) c mXs) (t : ℕ) (i : Fin 2048) : sProp 𝕄 :=
  iprop((mXs.view.loc (c : Thread nD τ) ↦[rSet (wAt d t i.val).toNat]{fullShare} g)
    ∗ (B.view.loc (c : Thread nD τ) ↦[bSet B i]{Transfers.shareTok fullShare 2048 i} fb))
/-- What it delivers: its row with the tile placed, and the token. -/
def dlv (c : Dev nD) (d : S32768.Idx → BitVec 32) (fb : MBuf (F := F) c B) (g : MBuf (F := F) c mXs) (t : ℕ) (i : Fin 2048) : sProp 𝕄 :=
  iprop((mXs.view.loc (c : Thread nD τ) ↦[rSet (wAt d t i.val).toNat]{fullShare} (put d (B.view.read (Elt F) fb) t g))
    ∗ (B.view.loc (c : Thread nD τ) ↦[bSet B i]{Transfers.shareTok fullShare 2048 i} fb))
instance dlv_storable (c : Dev nD) (d : S32768.Idx → BitVec 32) (fb : MBuf (F := F) c B) (g : MBuf (F := F) c mXs) (t : ℕ) (i : Fin 2048) :
    Storable (upEmb : UEmb _ 𝕄) (dlv B c d fb g t i) := by unfold dlv; infer_instance
/-- What is held beside the copies in flight: the other rows, and the rest of the block's share. -/
def rest (c : Dev nD) (d : S32768.Idx → BitVec 32) (fb : MBuf (F := F) c B) (g : MBuf (F := F) c mXs) (t : ℕ) : sProp 𝕄 :=
  iprop((mXs.view.loc (c : Thread nD τ) ↦[Finset.univ \ tSet d t]{fullShare} g)
    ∗ (B.view.loc (c : Thread nD τ) ↦[B.view.set]{Transfers.shareDrop fullShare 2048} fb)
    ∗ bigSep (Finset.univ : Finset (Fin 2048)) (fun i => B.view.loc (c : Thread nD τ) ↦[B.view.set \ bSet B i]{Transfers.shareTok fullShare 2048 i} fb))

theorem bigSep_two {I : Type} (s : Finset I) (A B : I → sProp 𝕄) : bigSep s (fun i => iprop(A i ∗ B i)) = iprop(bigSep s A ∗ bigSep s B) := BI.bigSep_sep s A B

theorem swap3 (A B C : sProp 𝕄) : iprop(A ∗ B ∗ C) ⊢ iprop(B ∗ A ∗ C) := by
  iintro ⟨H1, H2, H3⟩
  isplitl [H2]; · iexact H2
  isplitl [H1]; · iexact H1
  iexact H3

theorem tile_rows (c : Dev nD) (d : S32768.Idx → BitVec 32) (ha : Apart d) (t : ℕ) (ht : t < 16) (g : MBuf (F := F) c mXs) :
    (mXs.view.loc (c : Thread nD τ) ↦[tSet d t]{fullShare} g : sProp 𝕄)
      = bigSep (Finset.univ : Finset (Fin 2048)) (fun i => mXs.view.loc (c : Thread nD τ) ↦[rSet (wAt d t i.val).toNat]{fullShare} g) := by
  have hd : ∀ i ∈ (Finset.univ : Finset (Fin 2048)), ∀ j ∈ (Finset.univ : Finset (Fin 2048)), i ≠ j →
      Disjoint (rSet (wAt d t i.val).toNat) (rSet (wAt d t j.val).toNat) := by
    intro i _ j _ hij
    rw [Finset.disjoint_left]
    intro x hx hx'
    simp only [rSet, Finset.mem_filter, Finset.mem_univ, true_and] at hx hx'
    exact hij (Fin.ext (wAt_inj d ha t ht _ _ i.isLt j.isLt (hx.symm.trans hx')))
  exact pointsTo_biUnion _ _ hd

theorem blk_split (c : Dev nD) (fb : MBuf (F := F) c B) :
    (B.view.loc (c : Thread nD τ) ↦[B.view.set]{fullShare} fb : sProp 𝕄) ⊣⊢
      iprop(bigSep (Finset.univ : Finset (Fin 2048)) (fun i => B.view.loc (c : Thread nD τ) ↦[bSet B i]{Transfers.shareTok fullShare 2048 i} fb)
        ∗ (B.view.loc (c : Thread nD τ) ↦[B.view.set]{Transfers.shareDrop fullShare 2048} fb)
        ∗ bigSep (Finset.univ : Finset (Fin 2048)) (fun i => B.view.loc (c : Thread nD τ) ↦[B.view.set \ bSet B i]{Transfers.shareTok fullShare 2048 i} fb)) := by
  have ht := Transfers.pointsTo_toks (Ix := Unit) (Name := ℕ) (U := Pipeline.UD sig nD τ) (Lvl := ℕ) (ℓ := B.view.loc (c : Thread nD τ)) (S := B.view.set) (f := fb) fullShare 2048
  have hi : ∀ i : Fin 2048, (B.view.loc (c : Thread nD τ) ↦[B.view.set]{Transfers.shareTok fullShare 2048 i} fb : sProp 𝕄)
      = iprop((B.view.loc (c : Thread nD τ) ↦[bSet B i]{Transfers.shareTok fullShare 2048 i} fb)
        ∗ (B.view.loc (c : Thread nD τ) ↦[B.view.set \ bSet B i]{Transfers.shareTok fullShare 2048 i} fb)) := by
    intro i
    have h := pointsTo_split_subset (Ix := Unit) (Name := ℕ) (U := Pipeline.UD sig nD τ) (Lvl := ℕ) (Val := Elt F) (ℓ := B.view.loc (c : Thread nD τ)) (q := Transfers.shareTok fullShare 2048 i) (f := fb)
      (I := bSet B i) (S := B.view.set) (bSet_sub B i)
    exact Entails.antisymm h.1 h.2
  have hj : bigSep (Finset.univ : Finset (Fin 2048)) (fun i => (B.view.loc (c : Thread nD τ) ↦[B.view.set]{Transfers.shareTok fullShare 2048 i} fb : sProp 𝕄))
      = iprop(bigSep (Finset.univ : Finset (Fin 2048)) (fun i => B.view.loc (c : Thread nD τ) ↦[bSet B i]{Transfers.shareTok fullShare 2048 i} fb)
        ∗ bigSep (Finset.univ : Finset (Fin 2048)) (fun i => B.view.loc (c : Thread nD τ) ↦[B.view.set \ bSet B i]{Transfers.shareTok fullShare 2048 i} fb)) := by
    exact (congrArg _ (funext hi)).trans (bigSep_two _ _ _)
  rw [hj] at ht
  exact ⟨ht.1.trans (swap3 _ _ _), (swap3 _ _ _).trans ht.2⟩

/-- The rows are the tile's and the others. -/
theorem xs_split (c : Dev nD) (d : S32768.Idx → BitVec 32) (t : ℕ) (g : MBuf (F := F) c mXs) :
    (mPt c mXs g : sProp 𝕄) ⊣⊢ iprop((mXs.view.loc (c : Thread nD τ) ↦[tSet d t]{fullShare} g) ∗ (mXs.view.loc (c : Thread nD τ) ↦[Finset.univ \ tSet d t]{fullShare} g)) :=
  pointsTo_split_subset (Ix := Unit) (Name := ℕ) (U := Pipeline.UD sig nD τ) (Lvl := ℕ) (Val := Elt F) (ℓ := mXs.view.loc (c : Thread nD τ)) (q := fullShare) (f := g)
      (I := tSet d t) (S := Finset.univ) (Finset.subset_univ _)

/-- What a tile's copies take, from the rows and the block; what they deliver gives both back, the tile placed. -/
theorem wants (c : Dev nD) (d : S32768.Idx → BitVec 32) (ha : Apart d) (fb : MBuf (F := F) c B) (g : MBuf (F := F) c mXs) (t : ℕ) (ht : t < 16) :
    iprop(mPt c mXs g ∗ (B.view.loc (c : Thread nD τ) ↦[B.view.set]{fullShare} fb))
      ⊢ (iprop(bigSep (Finset.univ : Finset (Fin 2048)) (want B c d fb g t) ∗ rest B c d fb g t) : sProp 𝕄) := by
  have hw : bigSep (Finset.univ : Finset (Fin 2048)) (want B c d fb g t)
      = iprop((mXs.view.loc (c : Thread nD τ) ↦[tSet d t]{fullShare} g)
        ∗ bigSep (Finset.univ : Finset (Fin 2048)) (fun i => B.view.loc (c : Thread nD τ) ↦[bSet B i]{Transfers.shareTok fullShare 2048 i} fb)) := by
    rw [tile_rows c d ha t ht]; exact bigSep_two _ _ _
  rw [hw]
  unfold rest
  iintro ⟨Hx, Hb⟩
  ihave Hx := (xs_split c d t g).1 $$ Hx
  icases Hx with ⟨Hx0, Hx1⟩
  ihave Hb := (blk_split B c fb).1 $$ Hb
  icases Hb with ⟨Hb0, Hb1, Hb2⟩
  isplitl [Hx0 Hb0]
  · isplitl [Hx0]; · iexact Hx0
    iexact Hb0
  isplitl [Hx1]; · iexact Hx1
  isplitl [Hb1]; · iexact Hb1
  iexact Hb2
theorem dlvs (c : Dev nD) (d : S32768.Idx → BitVec 32) (ha : Apart d) (fb : MBuf (F := F) c B) (g : MBuf (F := F) c mXs) (t : ℕ) (ht : t < 16) :
    (iprop(bigSep (Finset.univ : Finset (Fin 2048)) (dlv B c d fb g t) ∗ rest B c d fb g t) : sProp 𝕄)
      ⊢ iprop(mPt c mXs (put d (B.view.read (Elt F) fb) t g) ∗ (B.view.loc (c : Thread nD τ) ↦[B.view.set]{fullShare} fb)) := by
  have hw : bigSep (Finset.univ : Finset (Fin 2048)) (dlv B c d fb g t)
      = iprop((mXs.view.loc (c : Thread nD τ) ↦[tSet d t]{fullShare} (put d (B.view.read (Elt F) fb) t g))
        ∗ bigSep (Finset.univ : Finset (Fin 2048)) (fun i => B.view.loc (c : Thread nD τ) ↦[bSet B i]{Transfers.shareTok fullShare 2048 i} fb)) := by
    rw [tile_rows c d ha t ht]; exact bigSep_two _ _ _
  have hr : (mXs.view.loc (c : Thread nD τ) ↦[Finset.univ \ tSet d t]{fullShare} g : sProp 𝕄)
      = (mXs.view.loc (c : Thread nD τ) ↦[Finset.univ \ tSet d t]{fullShare} (put d (B.view.read (Elt F) fb) t g)) := by
    refine pointsTo_congr (fun x hx => (put_off d _ t g x ?_).symm)
    rw [Finset.mem_sdiff] at hx
    exact hx.2
  rw [hw]
  unfold rest
  rw [hr]
  iintro ⟨⟨Hx0, Hb0⟩, Hx1, Hb1, Hb2⟩
  isplitl [Hx0 Hx1]
  · iapply (xs_split c d t _).2
    isplitl [Hx0]; · iexact Hx0
    iexact Hx1
  iapply (blk_split B c fb).2
  isplitl [Hb0]; · iexact Hb0
  isplitl [Hb1]; · iexact Hb1
  iexact Hb2
end

end Cert.Dispatch.Hand

end
-- ==== Proof.DIssue.lean ====
/-
  The dispatch call: the loop that starts a tile's copies.
-/
module

public import proofs.«01_k».proof.Proof.DCommon

@[expose] public section

noncomputable section

namespace Cert.Dispatch.Hand

open Cert.Dispatch Cert.Dispatch.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev pt (i : grid0.Coords) : ℕ := (i 0).val
theorem pt_lt (i : grid0.Coords) : pt i < 16 := (i 0).isLt
theorem iv_toNat (k : ℕ) (hk : k < 1024) : (Scf.iv 0#32 1#32 k).toNat = k := by
  unfold Scf.iv
  simp only [BitVec.toNat_add, BitVec.toNat_mul, BitVec.toNat_ofNat]
  omega
theorem off1_eq (i : grid0.Coords) (k : Fin k0_t1_loop.trips) (hk : k.val < 1024) : k0_off1 i k = ![0 * 16384 + (pt i * 1024 + k.val)] := by
  unfold k0_off1
  refine congrArg (fun x : ℕ => ![x]) ?_
  show ((0#32 + BitVec.ofNat 32 (pt i) * 1024#32) + Scf.iv 0#32 1#32 k.val).toNat = _
  have := pt_lt i
  simp only [BitVec.toNat_add, BitVec.toNat_mul, BitVec.toNat_ofNat, iv_toNat _ hk]
  omega
theorem off4_eq (i : grid0.Coords) (k : Fin k0_t1_loop.trips) (hk : k.val < 1024) : k0_off4 i k = ![1 * 16384 + (pt i * 1024 + k.val)] := by
  unfold k0_off4
  refine congrArg (fun x : ℕ => ![x]) ?_
  show ((16384#32 + BitVec.ofNat 32 (pt i) * 1024#32) + Scf.iv 0#32 1#32 k.val).toNat = _
  have := pt_lt i
  simp only [BitVec.toNat_add, BitVec.toNat_mul, BitVec.toNat_ofNat, iv_toNat _ hk]
  omega
theorem off3_eq (k : Fin k0_t1_loop.trips) (hk : k.val < 1024) : k0_off3 k = ![k.val, 0] := congrArg (fun x : ℕ => ![x, 0]) (iv_toNat _ hk)
theorem off6_eq (k : Fin k0_t1_loop.trips) (hk : k.val < 1024) : k0_off6 k = ![k.val, 0] := congrArg (fun x : ℕ => ![x, 0]) (iv_toNat _ hk)
theorem trips1 : k0_t1_loop.trips = 1024 := by decide
theorem trips2 : k0_t2_loop.trips = 1024 := by decide
theorem inbW (w : BitVec 32) (hw : w.toNat < 49152) : ∀ a, (![w.toNat, 0] : Fin 2 → ℕ) a + S1x512.size a ≤ S49152x512.size a := by
  intro a; fin_cases a
  · show w.toNat + 1 ≤ 49152; omega
  · show 0 + 512 ≤ 512; omega

/-- The amount of one copy, and the copies of tile `t`, `k` of them started and `u` units waited for. -/
abbrev amt : ℕ := (dRow ![0, 0] inb_S49152x512_S1x512_0_0).view.dmaCredit
abbrev fly (B : Memref sig .tc .vmem S1024x512 .i32) (c : Dev nD) (d : S32768.Idx → BitVec 32) (fb : MBuf (F := F) c B) (g : MBuf (F := F) c mXs) (t k u : ℕ) : sProp 𝕄 :=
  Transfers.Batch (Lvl := ℕ) (countersEmb (U := Pipeline.UD sig nD τ)) (c : Thread nD τ) (.dma cc0_scratch0.sem) () amt (dlv B c d fb g t) k u

/-- One copy: the slot read, assumed to name a row, and the copy of the tile's row started. -/
def issue1 (a : Fin 1 → ℕ) (ha : ∀ i, a i + S1.size i ≤ S32768.size i) (C : BitVec 32 → Prop) (dC : ∀ w, Decidable (C w))
    (hC : ∀ w, C w → ∀ i, (![w.toNat, 0] : Fin 2 → ℕ) i + S1x512.size i ≤ S49152x512.size i)
    (src : Memref sig .tc .vmem S1x512 .i32) : Prog (TpuEff nD τ sig (Elt F) Λ₀ .tc) PUnit := do
  let w : Elt F .i32 ← smemLoad mDest (Rect.unit (s := S32768) a S1.size ha) numel1_S1 rfl
  have h : C w := (← Prog.lift (TpuEff.assume (C w) (dC w))).down
  Prog.lift (.enqueueDma src (.here (dRow ![w.toNat, 0] (hC w h))) (.dma cc0_scratch0.sem) (View.wordExact_bits rfl) (View.wordExact_bits rfl) ⟨Or.inl rfl, trivial⟩)

section
variable (B : Memref sig .tc .vmem S1024x512 .i32)

theorem wp_issue1 (c : Dev nD) (d : MBuf (F := F) c mDest) (hd : InRows d) (hap : Apart d) (fb : MBuf (F := F) c B) (g : MBuf (F := F) c mXs) (t : ℕ) (ht : t < 16)
    (k r j : ℕ) (hk : k < 2) (hr : r < 1024) (hj : j = 2 * r + k) (hj' : j < 2048)
    (a : Fin 1 → ℕ) (ha) (haw : a = ![k * 16384 + (t * 1024 + r)]) (C : BitVec 32 → Prop) (dC : ∀ w, Decidable (C w)) (hC)
    (hCw : ∀ w : BitVec 32, w.toNat < 49152 → C w) (p : Fin 2 → ℕ) (hp) (hpr : p = ![r, 0]) (Q : PUnit → sProp 𝕄) :
    iprop(mPtR c mDest d ∗ want B c d fb g t ⟨j, hj'⟩ ∗ fly B c d fb g t j 0 ∗ (iprop(mPtR c mDest d ∗ fly B c d fb g t (j + 1) 0) -∗ Q ⟨⟩))
      ⊢ wp frame (wpE (defs₀ (F := F)) Variants.none c none) Set.univ (issue1 a ha C dC hC (bRow B p hp)) Q := by
  obtain rfl : r = j / 2 := by omega
  subst hpr
  have hn : k * 16384 + (t * 1024 + j / 2) < 32768 := by omega
  have hw : word c d a ha = atD d (k * 16384 + (t * 1024 + j / 2)) := word_eq c d a ha _ haw hn
  have hjw : wAt d t j = word c d a ha := by
    rw [hw]; unfold wAt; rw [show j % 2 = k by omega]
  have hlt : (word c d a ha).toNat < 49152 := by rw [hw]; exact hd _
  have hds := fun h => dRow_set (word c d a ha).toNat h hlt
  have hl := fun h => land (F := F) d hap B c fb g t j (j / 2) (word c d a ha).toNat h hp ht hj' rfl hlt (by rw [hjw])
  have hD : ∀ h, iprop(((dRow ![(word c d a ha).toNat, 0] h).view.loc (c : Thread nD τ) ↦[(dRow ![(word c d a ha).toNat, 0] h).view.set]{fullShare}
        (View.write (Elt F) (dRow ![(word c d a ha).toNat, 0] h).view g (ReadAs.same.apply ((bRow B ![j / 2, 0] hp).view.read (Elt F) fb)) Finset.univ))
      ∗ ((bRow B ![j / 2, 0] hp).view.loc (c : Thread nD τ) ↦[(bRow B ![j / 2, 0] hp).view.set]{Transfers.shareTok fullShare 2048 ⟨j, hj'⟩} fb))
      ⊢ dlv B c d fb g t ⟨j, hj'⟩ := by
    intro h
    rw [pointsTo_congr (hl h), hds h]
    unfold dlv
    rw [show (⟨j, hj'⟩ : Fin 2048).val = j from rfl, hjw]
  have hwant : ∀ h, want B c d fb g t ⟨j, hj'⟩ = iprop((mXs.view.loc (c : Thread nD τ) ↦[(dRow ![(word c d a ha).toNat, 0] h).view.set]{fullShare} g)
      ∗ ((bRow B ![j / 2, 0] hp).view.loc (c : Thread nD τ) ↦[(bRow B ![j / 2, 0] hp).view.set]{Transfers.shareTok fullShare 2048 ⟨j, hj'⟩} fb)) := by
    intro h
    rw [hds h]
    unfold want
    rw [show (⟨j, hj'⟩ : Fin 2048).val = j from rfl, hjw]
  rw [hwant (hC _ (hCw _ hlt))]
  show _ ⊢ wp frame (wpE (defs₀ (F := F)) Variants.none c none) Set.univ
    (smemLoadElt mDest (Rect.unit (s := S32768) a S1.size ha) (View.loads_smem_one rfl numel1_S1) (Shape.Idx.first (numel1_S1.symm ▸ Nat.one_pos))
      fun w => .op (.assume (C w) (dC w)) fun h =>
        .op (.enqueueDmaAs (bRow B ![j / 2, 0] hp) (.here (dRow ![w.toNat, 0] (hC w h.down))) .same (.dma cc0_scratch0.sem) (View.wordExact_bits rfl) (View.wordExact_bits rfl) ⟨Or.inl rfl, trivial⟩) .ret) Q
  iintro ⟨Ht, ⟨Hx, Hb⟩, HB, Hk⟩
  iapply (wp_smemLoadElt Variants.none (c : Thread nD τ) none Set.univ (S := Finset.univ) (f := d) (q := fullShare.right) (Finset.subset_univ _)) $$ [Ht]
  · iexact Ht
  iintro Ht
  iapply (wp_assume Variants.none (c : Thread nD τ) none Set.univ (hCw _ hlt))
  iapply (Transfers.wp_dmaBatch (countersEmb (U := Pipeline.UD sig nD τ)) Variants.none (c : Thread nD τ) none () amt rfl (Finset.Subset.refl _) hj' (Nat.zero_le _) (hD _)
    (src := bRow B ![j / 2, 0] hp) (dst := dRow ![(word c d a ha).toNat, 0] (hC _ (hCw _ hlt)))) $$ [Hx Hb HB]
  · isplitl [Hb]; · iexact Hb
    isplitl [Hx]; · iexact Hx
    iexact HB
  iintro HB
  rw [wp_ret]
  imodintro
  iapply Hk
  isplitl [Ht]; · iexact Ht
  iexact HB

/-- A trip of the loop that starts a tile's copies: the two of a row. -/
theorem wp_issue2 (c : Dev nD) (d : MBuf (F := F) c mDest) (hd : InRows d) (hap : Apart d) (fb : MBuf (F := F) c B) (g : MBuf (F := F) c mXs) (t : ℕ) (ht : t < 16)
    (r : ℕ) (hr : r < 1024)
    (a : Fin 1 → ℕ) (ha) (haw : a = ![0 * 16384 + (t * 1024 + r)]) (C : BitVec 32 → Prop) (dC : ∀ w, Decidable (C w)) (hC) (hCw : ∀ w : BitVec 32, w.toNat < 49152 → C w)
    (p : Fin 2 → ℕ) (hp) (hpr : p = ![r, 0])
    (a' : Fin 1 → ℕ) (ha') (haw' : a' = ![1 * 16384 + (t * 1024 + r)]) (C' : BitVec 32 → Prop) (dC' : ∀ w, Decidable (C' w)) (hC') (hCw' : ∀ w : BitVec 32, w.toNat < 49152 → C' w)
    (p' : Fin 2 → ℕ) (hp') (hpr' : p' = ![r, 0]) (Q : PUnit → sProp 𝕄) :
    iprop(mPtR c mDest d ∗ bigSep (Transfers.pending (n := 2048) (2 * r)) (want B c d fb g t) ∗ fly B c d fb g t (2 * r) 0
      ∗ (iprop(mPtR c mDest d ∗ bigSep (Transfers.pending (n := 2048) (2 * (r + 1))) (want B c d fb g t) ∗ fly B c d fb g t (2 * (r + 1)) 0) -∗ Q ⟨⟩))
      ⊢ wp frame (wpE (defs₀ (F := F)) Variants.none c none) Set.univ
        (issue1 a ha C dC hC (bRow B p hp) >>= fun _ => issue1 a' ha' C' dC' hC' (bRow B p' hp') >>= fun _ => pure ⟨⟩) Q := by
  rw [Transfers.bigSep_pending_step _ (2 * r) (by omega), Transfers.bigSep_pending_step _ (2 * r + 1) (by omega), show 2 * r + 1 + 1 = 2 * (r + 1) by omega]
  rw [wp_bind]
  iintro ⟨Ht, ⟨H0, H1, HP⟩, HB, Hk⟩
  iapply (wp_issue1 B c d hd hap fb g t ht 0 r (2 * r) (by omega) hr (by omega) (by omega) a ha haw C dC hC hCw p hp hpr)
  isplitl [Ht]; · iexact Ht
  isplitl [H0]; · iexact H0
  isplitl [HB]; · iexact HB
  iintro ⟨Ht, HB⟩
  rw [wp_bind]
  iapply (wp_issue1 B c d hd hap fb g t ht 1 r (2 * r + 1) (by omega) hr (by omega) (by omega) a' ha' haw' C' dC' hC' hCw' p' hp' hpr')
  isplitl [Ht]; · iexact Ht
  isplitl [H1]; · iexact H1
  isplitl [HB]; · iexact HB
  iintro ⟨Ht, HB⟩
  rw [show (pure ⟨⟩ : Prog (TpuEff nD τ sig (Elt F) Λ₀ .tc) PUnit) = .ret ⟨⟩ from rfl, wp_ret]
  imodintro
  iapply Hk
  isplitl [Ht]; · iexact Ht
  isplitl [HP]; · iexact HP
  iexact HB

/-- The invariant of the loop that starts a tile's copies. -/
def issInv (c : Dev nD) (d : MBuf (F := F) c mDest) (fb : MBuf (F := F) c B) (g : MBuf (F := F) c mXs) (t k : ℕ) : sProp 𝕄 :=
  iprop(mPtR c mDest d ∗ bigSep (Transfers.pending (n := 2048) (2 * k)) (want B c d fb g t) ∗ fly B c d fb g t (2 * k) 0)

theorem t1_trip (i : grid0.Coords) (hB : B.IsWhole) (c : Dev nD) (d : MBuf (F := F) c mDest) (hd : InRows d) (hap : Apart d) (fb : MBuf (F := F) c B) (g : MBuf (F := F) c mXs)
    (k : Fin k0_t1_loop.trips) (acc : Unit) :
    issInv B c d fb g (pt i) k.val ⊢ wp frame (wpE (defs₀ (F := F)) Variants.none c none) Set.univ
      (k0_t1_body i mDest (Memref.isWhole_whole _) B hB mXs (Memref.isWhole_whole _) mXs (Memref.isWhole_whole _) cc0_scratch0 k acc)
      (fun _ => issInv B c d fb g (pt i) (k.val + 1)) := by
  have hk : k.val < 1024 := by have h := k.isLt; have := trips1; omega
  have e : k0_t1_body (F := F) i mDest (Memref.isWhole_whole _) B hB mXs (Memref.isWhole_whole _) mXs (Memref.isWhole_whole _) cc0_scratch0 k acc
      = (issue1 (k0_off1 i k) (k0_off1_inb i k) k0_chk1 k0_chk1.dec (fun w h => k0_off2_inb w h) (bRow B (k0_off3 k) (k0_off3_inb k)) >>= fun _ =>
        issue1 (k0_off4 i k) (k0_off4_inb i k) k0_chk2 k0_chk2.dec (fun w h => k0_off5_inb w h) (bRow B (k0_off6 k) (k0_off6_inb k)) >>= fun _ => pure ⟨⟩) := rfl
  rw [e]
  unfold issInv
  iintro ⟨Ht, HP, HB⟩
  iapply (wp_issue2 B c d hd hap fb g (pt i) (pt_lt i) k.val hk
    _ _ (off1_eq i k hk) _ _ _ (fun w hw => inbW w hw) _ _ (off3_eq k hk) _ _ (off4_eq i k hk) _ _ _ (fun w hw => inbW w hw) _ _ (off6_eq k hk))
  isplitl [Ht]; · iexact Ht
  isplitl [HP]; · iexact HP
  isplitl [HB]; · iexact HB
  iintro H
  iexact H
end

end Cert.Dispatch.Hand

end
-- ==== Proof.DPoint.lean ====
/-
  The dispatch call: the loop of waits that collects a tile's copies, and a whole point.
-/
module

public import proofs.«01_k».proof.Proof.DIssue

@[expose] public section

noncomputable section

namespace Cert.Dispatch.Hand

open Cert.Dispatch Cert.Dispatch.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem amt_pos : 0 < amt := by decide

section
variable (B : Memref sig .tc .vmem S1024x512 .i32)

/-- The copies of a tile with `j` of them waited for: all collected after the last. -/
def drained (c : Dev nD) (d : S32768.Idx → BitVec 32) (fb : MBuf (F := F) c B) (g : MBuf (F := F) c mXs) (t j : ℕ) : sProp 𝕄 :=
  if j < 2048 then fly B c d fb g t 2048 (j * amt)
  else iprop(bigSep (Finset.univ : Finset (Fin 2048)) (dlv B c d fb g t) ∗ semVal ((c : Thread nD τ), SemLoc.dma cc0_scratch0.sem) 0)
theorem drained_lt (c : Dev nD) (d : S32768.Idx → BitVec 32) (fb : MBuf (F := F) c B) (g : MBuf (F := F) c mXs) (t j : ℕ) (h : j < 2048) :
    drained B c d fb g t j = fly B c d fb g t 2048 (j * amt) := if_pos h
theorem drained_all (c : Dev nD) (d : S32768.Idx → BitVec 32) (fb : MBuf (F := F) c B) (g : MBuf (F := F) c mXs) (t : ℕ) :
    drained B c d fb g t 2048 = iprop(bigSep (Finset.univ : Finset (Fin 2048)) (dlv B c d fb g t) ∗ semVal ((c : Thread nD τ), SemLoc.dma cc0_scratch0.sem) 0) := if_neg (by omega)

theorem arith_last (a j : ℕ) (h : j + 1 = 2048) : j * a + a = a * 2048 := by rw [← h, Nat.mul_comm a, Nat.succ_mul]
theorem arith_skip (a j : ℕ) (h0 : 0 < a) (h : j + 1 < 2048) : j * a + a < a * 2048 := by
  rw [← Nat.succ_mul, Nat.mul_comm a]
  exact Nat.mul_lt_mul_of_pos_right h h0

/-- One wait for a row. -/
theorem wp_wait1 (c : Dev nD) (d : MBuf (F := F) c mDest) (fb : MBuf (F := F) c B) (g : MBuf (F := F) c mXs) (t j : ℕ) (hj : j < 2048)
    (p : Fin 2 → ℕ) (hp) (o : Fin 2 → ℕ) (ho) (h h') (Q : PUnit → sProp 𝕄) :
    iprop(drained B c d fb g t j ∗ (∃ W, owes (c : Thread nD τ) 0 W) ∗ (iprop(drained B c d fb g t (j + 1) ∗ (∃ W, owes (c : Thread nD τ) 0 W)) -∗ Q ⟨⟩))
      ⊢ wp frame (wpE (defs₀ (F := F)) Variants.none c none) Set.univ (Prog.lift (.waitDma2 cc0_scratch0.sem (bRow B p hp) (dRow o ho) h h')) Q := by
  show _ ⊢ wp frame (wpE (defs₀ (F := F)) Variants.none c none) Set.univ (.op (.waitDma2 cc0_scratch0.sem (bRow B p hp) (dRow o ho) h h') .ret) Q
  rw [drained_lt _ _ _ _ _ _ _ hj]
  by_cases hl : j + 1 = 2048
  · rw [hl, drained_all]
    iintro ⟨HB, ⟨%W, HW⟩, Hk⟩
    iapply (Transfers.wp_waitBatchLast (countersEmb (U := Pipeline.UD sig nD τ)) Variants.none (c : Thread nD τ) none () (N := amt) rfl amt_pos
      (arith_last amt j hl) (u := j * amt) (srcw := bRow B p hp) (dstw := dRow o ho) (D := dlv B c d fb g t)) $$ [HB HW]
    · isplitl [HB]; · iexact HB
      iexact HW
    iintro ⟨HD, Hs, HW⟩
    rw [wp_ret]
    imodintro
    iapply Hk
    isplitl [HD Hs]
    · isplitl [HD]; · iexact HD
      iexact Hs
    iexists _
    iexact HW
  · rw [drained_lt _ _ _ _ _ _ _ (by omega : j + 1 < 2048), Nat.succ_mul]
    iintro ⟨HB, ⟨%W, HW⟩, Hk⟩
    iapply (Transfers.wp_waitBatch (countersEmb (U := Pipeline.UD sig nD τ)) Variants.none (c : Thread nD τ) none () (N := amt) rfl
      (arith_skip amt j amt_pos (by omega)) (u := j * amt) (srcw := bRow B p hp) (dstw := dRow o ho) (D := dlv B c d fb g t)) $$ [HB HW]
    · isplitl [HB]; · iexact HB
      iexact HW
    iintro ⟨HD, HW⟩
    rw [wp_ret]
    imodintro
    iapply Hk
    isplitl [HD]; · iexact HD
    iexists _
    iexact HW

/-- The invariant of the loop of waits. -/
def drInv (c : Dev nD) (d : MBuf (F := F) c mDest) (fb : MBuf (F := F) c B) (g : MBuf (F := F) c mXs) (t k : ℕ) : sProp 𝕄 :=
  iprop(drained B c d fb g t (2 * k) ∗ (∃ W, owes (c : Thread nD τ) 0 W))

theorem t2_trip (i : grid0.Coords) (hB : B.IsWhole) (c : Dev nD) (d : MBuf (F := F) c mDest) (fb : MBuf (F := F) c B) (g : MBuf (F := F) c mXs) (t : ℕ)
    (k : Fin k0_t2_loop.trips) (acc : Unit) :
    drInv B c d fb g t k.val ⊢ wp frame (wpE (defs₀ (F := F)) Variants.none c none) Set.univ
      (k0_t2_body i mDest (Memref.isWhole_whole _) B hB mXs (Memref.isWhole_whole _) mXs (Memref.isWhole_whole _) cc0_scratch0 k acc)
      (fun _ => drInv B c d fb g t (k.val + 1)) := by
  have hk : k.val < 1024 := by have h := k.isLt; have := trips2; omega
  have e : k0_t2_body (F := F) i mDest (Memref.isWhole_whole _) B hB mXs (Memref.isWhole_whole _) mXs (Memref.isWhole_whole _) cc0_scratch0 k acc
      = (Prog.lift (.waitDma2 cc0_scratch0.sem (bRow B (k0_off7 k) (k0_off7_inb k)) (dRow ![0, 0] inb_S49152x512_S1x512_0_0) (View.wordExact_bits rfl) (View.wordExact_bits rfl)) >>= fun _ =>
        Prog.lift (.waitDma2 cc0_scratch0.sem (bRow B (k0_off7 k) (k0_off7_inb k)) (dRow ![0, 0] inb_S49152x512_S1x512_0_0) (View.wordExact_bits rfl) (View.wordExact_bits rfl)) >>= fun _ =>
        pure ⟨⟩) := rfl
  rw [e, wp_bind]
  unfold drInv
  iintro ⟨HB, HW⟩
  iapply (wp_wait1 B c d fb g t (2 * k.val) (by omega) _ _ _ _ _ _)
  isplitl [HB]; · iexact HB
  isplitl [HW]; · iexact HW
  iintro ⟨HB, HW⟩
  rw [wp_bind]
  iapply (wp_wait1 B c d fb g t (2 * k.val + 1) (by omega) _ _ _ _ _ _)
  isplitl [HB]; · iexact HB
  isplitl [HW]; · iexact HW
  iintro ⟨HB, HW⟩
  rw [show (pure ⟨⟩ : Prog (TpuEff nD τ sig (Elt F) Λ₀ .tc) PUnit) = .ret ⟨⟩ from rfl, wp_ret]
  imodintro
  rw [show 2 * (k.val + 1) = 2 * k.val + 1 + 1 by omega]
  isplitl [HB]; · iexact HB
  iexact HW

theorem issInv_zero (c : Dev nD) (d : MBuf (F := F) c mDest) (fb : MBuf (F := F) c B) (g : MBuf (F := F) c mXs) (t : ℕ) :
    issInv B c d fb g t 0 = iprop(mPtR c mDest d ∗ bigSep Finset.univ (want B c d fb g t) ∗ fly B c d fb g t 0 0) := by
  unfold issInv
  rw [Nat.mul_zero, Transfers.bigSep_pending_zero]

/-- A point: the tile is placed. -/
theorem point (i : grid0.Coords) (hB : B.IsWhole) (c : Dev nD) (d : MBuf (F := F) c mDest) (hd : InRows d) (hap : Apart d) (fb : MBuf (F := F) c B) (g : MBuf (F := F) c mXs)
    (Q : PUnit → sProp 𝕄) :
    iprop(mPtR c mDest d ∗ mPt c mXs g ∗ semVal ((c : Thread nD τ), SemLoc.dma cc0_scratch0.sem) 0 ∗ (∃ W, owes (c : Thread nD τ) 0 W) ∗ (B.view.loc (c : Thread nD τ) ↦[B.view.set]{fullShare} fb)
        ∗ (iprop(mPtR c mDest d ∗ mPt c mXs (put d (B.view.read (Elt F) fb) (pt i) g) ∗ semVal ((c : Thread nD τ), SemLoc.dma cc0_scratch0.sem) 0 ∗ (∃ W, owes (c : Thread nD τ) 0 W)
          ∗ (B.view.loc (c : Thread nD τ) ↦[B.view.set]{fullShare} fb)) -∗ Q ⟨⟩))
      ⊢ wp frame (wpE (defs₀ (F := F)) Variants.none c none) Set.univ
        (cc0_dispatch (F := F) i mDest (Memref.isWhole_whole _) B hB mXs (Memref.isWhole_whole _) mXs (Memref.isWhole_whole _) cc0_scratch0) Q := by
  rw [cc0_dispatch_eq_skeleton]
  unfold cc0_dispatch_skel
  rw [wp_bind]
  iintro ⟨Ht, Hx, Hs, HW, Hb, Hk⟩
  imod (Transfers.batch_alloc' (Lvl := ℕ) (countersEmb (U := Pipeline.UD sig nD τ)) (c : Thread nD τ) () amt
      (dlv B c d fb g (pt i)) (sm := SemLoc.dma cc0_scratch0.sem) (E := Set.univ)) $$ Hs with HB
  ihave H := (wants B c d hap fb g (pt i) (pt_lt i)) $$ [Hx Hb]
  · isplitl [Hx]; · iexact Hx
    iexact Hb
  icases H with ⟨HP, HR⟩
  have L := fun Q' => Scf.wp_for (Q := Q') frame (wpE (defs₀ (F := F)) Variants.none (c : Thread nD τ) none) Set.univ k0_t1_loop.lb k0_t1_loop.ub k0_t1_loop.st k0_t1_ok ()
    (k0_t1_body (F := F) i mDest (Memref.isWhole_whole _) B hB mXs (Memref.isWhole_whole _) mXs (Memref.isWhole_whole _) cc0_scratch0)
    (fun k _ => issInv B c d fb g (pt i) k) (fun k acc => t1_trip B i hB c d hd hap fb g k acc)
  iapply (L _)
  isplitl [Ht HP HB]
  · rw [issInv_zero]
    isplitl [Ht]; · iexact Ht
    isplitl [HP]; · iexact HP
    iexact HB
  iintro %acc HI
  rw [show Scf.trips k0_t1_loop.lb k0_t1_loop.ub k0_t1_loop.st = 1024 from trips1]
  unfold issInv
  icases HI with ⟨Ht, -, HB⟩
  rw [wp_bind]
  have L2 := fun Q' => Scf.wp_for (Q := Q') frame (wpE (defs₀ (F := F)) Variants.none (c : Thread nD τ) none) Set.univ k0_t2_loop.lb k0_t2_loop.ub k0_t2_loop.st k0_t2_ok ()
    (k0_t2_body (F := F) i mDest (Memref.isWhole_whole _) B hB mXs (Memref.isWhole_whole _) mXs (Memref.isWhole_whole _) cc0_scratch0)
    (fun k _ => drInv B c d fb g (pt i) k) (fun k acc => t2_trip B i hB c d fb g (pt i) k acc)
  iapply (L2 _)
  isplitl [HB HW]
  · unfold drInv
    rw [drained_lt _ _ _ _ _ _ _ (by omega), Nat.mul_zero, Nat.zero_mul]
    isplitl [HB]; · iexact HB
    iexact HW
  iintro %acc HI
  rw [show Scf.trips k0_t2_loop.lb k0_t2_loop.ub k0_t2_loop.st = 1024 from trips2]
  unfold drInv
  rw [show 2 * 1024 = 2048 from rfl, drained_all]
  icases HI with ⟨⟨HD, Hs⟩, HW⟩
  ihave H := (dlvs B c d hap fb g (pt i) (pt_lt i)) $$ [HD HR]
  · isplitl [HD]; · iexact HD
    iexact HR
  icases H with ⟨Hx, Hb⟩
  rw [show (pure ⟨⟩ : Prog (TpuEff nD τ sig (Elt F) Λ₀ .tc) PUnit) = .ret ⟨⟩ from rfl, wp_ret]
  imodintro
  iapply Hk
  isplitl [Ht]; · iexact Ht
  isplitl [Hx]; · iexact Hx
  isplitl [Hs]; · iexact Hs
  isplitl [HW]; · iexact HW
  iexact Hb
end

end Cert.Dispatch.Hand

end
-- ==== Proof.DFrame.lean ====
/-
  The dispatch call: the state between points, and the whole run.
-/
module

public import proofs.«01_k».proof.Proof.DPoint
public import Idealize.ShloMosaic.Lib.Pipeline.FrameValue

@[expose] public section

noncomputable section

namespace Cert.Dispatch.Hand

open Cert.Dispatch Cert.Dispatch.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Pipeline (Dat Cfg Window BodyObligation)

/-- A point by its number. -/
theorem point_at (B : Memref sig .tc .vmem S1024x512 .i32) (i : grid0.Coords) (hB : B.IsWhole) (c : Dev nD) (d : MBuf (F := F) c mDest) (hd : InRows d) (hap : Apart d)
    (fb : MBuf (F := F) c B) (g : MBuf (F := F) c mXs) (n : ℕ) (hn : pt i = n) (Q : PUnit → sProp 𝕄) :
    iprop(mPtR c mDest d ∗ mPt c mXs g ∗ semVal ((c : Thread nD τ), SemLoc.dma cc0_scratch0.sem) 0 ∗ (∃ W, owes (c : Thread nD τ) 0 W) ∗ (B.view.loc (c : Thread nD τ) ↦[B.view.set]{fullShare} fb)
        ∗ (iprop(mPtR c mDest d ∗ mPt c mXs (put d (B.view.read (Elt F) fb) n g) ∗ semVal ((c : Thread nD τ), SemLoc.dma cc0_scratch0.sem) 0 ∗ (∃ W, owes (c : Thread nD τ) 0 W)
          ∗ (B.view.loc (c : Thread nD τ) ↦[B.view.set]{fullShare} fb)) -∗ Q ⟨⟩))
      ⊢ wp frame (wpE (defs₀ (F := F)) Variants.none c none) Set.univ
        (cc0_dispatch (F := F) i mDest (Memref.isWhole_whole _) B hB mXs (Memref.isWhole_whole _) mXs (Memref.isWhole_whole _) cc0_scratch0) Q := by
  subst hn
  exact point B i hB c d hd hap fb g Q

variable (m : (ℓ : Loc nD τ sig) → Buf (Elt F) ℓ) (ρ : Dev nD → PrngReg)

/-- What a buffer holds when the region is entered. -/
def V (c : Dev nD) (b : Ref sig .tc) : Buf (Elt F) ((c : Thread nD τ).loc b) := StableHlo.after ([hostOps0] : List (List (HloOp τ sig (Elt F)))).flatten (fun b => m (c, b)) b

theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefixes pcfgs 0 defs₀ 𝒱₀ m main [hostOps0] hostOps0_sub
    (by simp only [List.Forall, hostOps0]; repeat' apply And.intro
        all_goals rfl) (fun c => main_chain c)

/-- The table's contents at the region's entry. -/
def tbl : pre0.Contents (Elt F) := fun k => V m 0 (pre0.ref k)

/-- What the run needs of the slots. -/
def Good : Prop := ∀ c : Dev nD, InRows (V m c main_arg0) ∧ Apart (V m c main_arg0)

variable (G : Good m)

def adm : (p : Fin 1) → (pcfgs (F := F) p).Adm := fun _ => ⟨tbl m, trivial⟩

abbrev cfgA : Cfg sig Λ₀ := cfg0 (adm m 0)

/-- The block at a point. -/
def iblk0 (c : Dev nD) (t : Fin (cfgA m).N) : Vec F S1024x512 .i32 := (((cfgA m).win 0).blk t).view.read (Elt F) (V m c main_arg1)

theorem N16 : (cfgA m).N = 16 := N_0

/-- The block at a point by its number, and the rows after so many points. -/
def blkV (c : Dev nD) (n : ℕ) : S1024x512.Idx → BitVec 32 := if h : n < (cfgA m).N then iblk0 m c ⟨n, h⟩ else fun _ => 0#32
def st (c : Dev nD) : ℕ → MBuf (F := F) c mXs
  | 0 => V m c main_v0
  | n + 1 => put (V m c main_arg0) (blkV m c n) n (st c n)
theorem st_succ (c : Dev nD) (t : Fin (cfgA m).N) : st m c (t.val + 1) = put (V m c main_arg0) (iblk0 m c t) t.val (st m c t.val) := by
  show put (V m c main_arg0) (blkV m c t.val) t.val (st m c t.val) = _
  rw [blkV, dif_pos t.isLt]

/-- The core's state between points, apart from the window. -/
def Phi (c : Dev nD) (n : ℕ) : sProp 𝕄 :=
  iprop(mPtR c mDest (V m c main_arg0) ∗ (∃ r, prngReg c r) ∗ mPt c mXs (st m c n) ∗ semVal ((c : Thread nD τ), SemLoc.dma cc0_scratch0.sem) 0)

def dats (p : Fin 1) (c : Dev nD) : Dat τ (Elt F) Unit ℕ (Pipeline.UD sig nD τ) ℕ (Pipeline.pin pcfgs (adm m) p) c where
  A w := V m c (Pipeline.arrRef spec0 w)
  after w t := match w with
    | ⟨0, _⟩ => iblk0 m c t
  Φ t := Phi m c t.val
  q _ := fullShare
  owed _ := 0

theorem A_eq (c : Dev nD) (w : Fin (cfgA m).W) : (dats m 0 c).A w = V m c (Pipeline.arrRef spec0 w) := by
  dsimp only [dats]
theorem after_0 (c : Dev nD) (t : Fin (cfgA m).N) : (dats m 0 c).after 0 t = iblk0 m c t := by exact id rfl

theorem before_0 (c : Dev nD) (t : Fin (cfgA m).N) (d) : (dats m 0 c).before 0 t d = iblk0 m c t :=
  ((dats m 0 c).before_in_eq_fetched 0 rfl (fun _ => rfl) (fun _ _ _ => rfl)
    (fun t => by rw [after_0]; unfold Dat.blockOf iblk0; rw [A_eq]; rfl) t d).trans
    (by unfold Dat.fetched Dat.blockOf iblk0; rw [A_eq]; rfl)

theorem coords_pt : ∀ t : Fin 16, ((grid0.coords (t.cast N_0.symm)) 0).val = t.val := by decide
theorem pt_coords (t : Fin (cfgA m).N) : pt ((cfgA m).grid.coords t) = t.val := coords_pt ⟨t.val, N16 m ▸ t.isLt⟩

/-- The window's buffer at a point, and the body called with it. -/
abbrev ms0 (t : Fin (cfgA m).N) : Memref sig .tc .vmem S1024x512 .i32 := spec0_0.stage ((cfgA m).slots t 0)

def bodyAt (t : Fin (cfgA m).N) : Prog (TpuEff nD τ sig (Elt F) Λ₀ .tc) PUnit :=
  cc0_dispatch ((cfgA m).grid.coords t) mDest (Memref.isWhole_whole _) (ms0 m t) (hstage0_0 (((cfgA m).slots t 0).cast nbuf0_0)) mXs (Memref.isWhole_whole _) mXs (Memref.isWhole_whole _) cc0_scratch0

def bodyPre (c : Dev nD) (t : Fin (cfgA m).N) : sProp 𝕄 :=
  iprop((dats m 0 c).Φ t.castSucc ∗ (dats m 0 c).owesAt () t.castSucc
    ∗ (∃ d, owns (c : Thread nD τ) (ms0 m t) fullShare ((dats m 0 c).before 0 t d)))
def bodyPost (c : Dev nD) (t : Fin (cfgA m).N) : sProp 𝕄 :=
  iprop((dats m 0 c).Φ t.succ ∗ (dats m 0 c).owesAt () t.succ
    ∗ owns (c : Thread nD τ) (ms0 m t) fullShare ((dats m 0 c).after 0 t))

include G in
theorem sound_body (c : Dev nD) (t : Fin (cfgA m).N) :
    bodyPre m c t ⊢ wp frame (wpE (defs₀ (F := F)) Variants.none c none) Set.univ (bodyAt m t) (fun _ => bodyPost m c t) := by
  unfold bodyPre bodyPost bodyAt
  rw [show (dats m 0 c).Φ t.castSucc = Phi m c t.val from rfl, show (dats m 0 c).Φ t.succ = Phi m c (t.val + 1) from rfl, after_0]
  unfold Phi Dat.owesAt Pipeline.owesWithin
  rw [show (dats m 0 c).owed t.castSucc = 0 from rfl, show (dats m 0 c).owed t.succ = 0 from rfl, st_succ]
  simp only [before_0]
  have P := fun fb g Q => point_at (ms0 m t) ((cfgA m).grid.coords t) (hstage0_0 (((cfgA m).slots t 0).cast nbuf0_0)) c (V m c main_arg0) (G c).1 (G c).2 fb g t.val (pt_coords m t) Q
  generalize iblk0 m c t = x0
  generalize st m c t.val = g
  iintro ⟨⟨Ht, Hg, Hx, Hs⟩, ⟨%W, -, HW⟩, ⟨%d0, H0⟩⟩
  unfold owns at P ⊢
  icases H0 with ⟨%f0, %e0, H0⟩
  subst e0
  iapply (P f0 g _)
  isplitl [Ht]; · iexact Ht
  isplitl [Hx]; · iexact Hx
  isplitl [Hs]; · iexact Hs
  isplitl [HW]; · iexists W; iexact HW
  isplitl [H0]; · iexact H0
  iintro ⟨Ht, Hx, Hs, ⟨%W', HW⟩, H0⟩
  isplitl [Ht Hg Hx Hs]
  · isplitl [Ht]; · iexact Ht
    isplitl [Hg]; · iexact Hg
    isplitl [Hx]; · iexact Hx
    iexact Hs
  isplitl [HW]
  · iexists W'; isplitr; · ipureintro; exact fun _ _ => Or.inl trivial
    iexact HW
  iexists f0; isplitr; · ipureintro; rfl
  iexact H0

theorem defs₀_row (t : Fin (cfgA m).N) :
    defs₀ (F := F) .tc (cfgA m).body ((cfgA m).bodyArgs t ((cfgA m).slots t)) = bodyAt m t := by
  unfold defs₀; rw [Defs.onTc_tc]; rfl

include G in
theorem body_obligation (c : Dev nD) : BodyObligation (dats (F := F) m 0 c) (defs₀ (F := F)) Variants.none () Set.univ := fun t => by
  rw [bigSep_W0, bigSep_W0, defs₀_row]
  exact triple_restated (sound_body m G c t) rfl .rfl fun _ => .rfl

/-- The body's cell. -/
abbrev osem0 : Fin 1 → SemLoc sig := fun _ => SemLoc.dma 2
theorem ownSemFacts0 : Pipeline.OwnSemFacts spec0 osem0 := by decide
theorem sem_2 : (cc0_scratch0.sem : DmaSem sig) = 2 := by decide
theorem ownSems0_list (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma (2 : DmaSem sig)) 0 := by
  rw [Pipeline.ownSems0_eq_of_list c osem0 [0] (by decide) (by decide)]; rfl
/-- The rows, which the body's copies write, and what they end at. -/
def R0 : Finset (Ref sig .tc) := {main_v0}
theorem R0_sub : R0 ⊆ Pipeline.restRefsP sig pre0 spec0 \ ∅ := by decide
def ends (c : Dev nD) (b : Ref sig .tc) : Buf (Elt F) ((c : Thread nD τ).loc b) := Function.update (V m c) main_v0 (st m c 16) b
theorem ends_eq (c : Dev nD) : ends m c main_v0 = st m c 16 := by unfold ends; exact Function.update_self _ _ _
theorem R0_list (c : Dev nD) (W : (b : Ref sig .tc) → Buf (Elt F) ((c : Thread nD τ).loc b)) : (Pipeline.routed R0 c W : sProp 𝕄) = mPt c mXs (W main_v0) := by
  unfold Pipeline.routed
  rw [BI.bigSep_eq_bigSepL_of_eq [main_v0] (by decide) (by decide)]; rfl
theorem PhiD_list (c : Dev nD) (W : (c : Dev nD) → (b : Ref sig .tc) → Buf (Elt F) ((c : Thread nD τ).loc b)) :
    (Pipeline.ΦDRG osem0 spec0 ∅ R0 (V m) W c : sProp 𝕄)
      = iprop(emp ∗ (∃ r, prngReg c r) ∗ semVal ((c : Thread nD τ), SemLoc.dma (2 : DmaSem sig)) 0 ∗ emp ∗ mPt c mXs (W c main_v0)) := by
  rw [Pipeline.ΦDRG_eq, scopedRest0_eq, ownSems0_list, R0_list, BI.bigSep_empty]; rfl
theorem tables_list (c : Dev nD) : (Pipeline.ΦT pre0 (tbl m) c : sProp 𝕄) = mPtR c mDest (V m c main_arg0) := by
  obtain rfl : c = 0 := Subsingleton.elim _ _
  unfold Pipeline.ΦT Pipeline.prefHeld
  rw [bigSep_univ_eq_bigSepL [(0 : Fin 1)] (by decide) (by decide)]; rfl

theorem phi_in (c : Dev nD) : iprop(Pipeline.ΦDRG osem0 spec0 ∅ R0 (V m) (V m) c ∗ Pipeline.ΦT pre0 (tbl m) c) ⊢ (Phi m c 0 : sProp 𝕄) := by
  rw [PhiD_list, tables_list]
  unfold Phi
  rw [sem_2, show st m c 0 = V m c main_v0 from rfl]
  iintro ⟨⟨-, Hg, Hs, -, Hx⟩, Ht⟩
  isplitl [Ht]; · iexact Ht
  isplitl [Hg]; · iexact Hg
  isplitl [Hx]; · iexact Hx
  iexact Hs

theorem phi_out (c : Dev nD) : (Phi m c 16 : sProp 𝕄) ⊢ Pipeline.ΦDRG osem0 spec0 ∅ R0 (V m) (ends m) c := by
  rw [PhiD_list, ends_eq]
  unfold Phi
  rw [sem_2]
  iintro ⟨-, Hg, Hx, Hs⟩
  isplitr; · iempintro
  isplitl [Hg]; · iexact Hg
  isplitl [Hs]; · iexact Hs
  isplitr; · iempintro
  iexact Hx

theorem Phi_last (c : Dev nD) : (dats m 0 c).Φ (Fin.last (cfgA m).N) = Phi m c 16 := by
  show Phi m c (cfgA m).N = _
  rw [N16]

include G in
set_option backward.isDefEq.respectTransparency.types false in
theorem run_main : θ_run defs (onTc (τ := τ) (main (F := F))) (s₀ m ρ)
    (fun r => Pipeline.FramePostRG (Pipeline.pin pcfgs (adm m)) (dats m) 0 R0 (V m) (ends m) r ∧ r.2.sem = fun _ => 0) :=
  Pipeline.θ_run_frameP_dmaRG (Q' := _) pcfgs (adm m) (dats m) (0 : Fin 1) launch0 osem0 defs₀ Variants.none ownSemFacts0 ∅ R0 (Finset.empty_subset _) R0_sub m ρ main
    (hbody := fun c => (body_obligation m G c).loose) (hshare := fun c => (dats m 0 c).share_full fun _ => rfl)
    (howed := fun _ _ => rfl) (V := V m) (hmain := hmain m Variants.none) (hA := A_eq m)
    (hpf := fun c k => by obtain rfl : c = 0 := Subsingleton.elim _ _; rfl) (G := ends m)
    (hin := fun c => phi_in m c) (hout := fun c => by rw [Phi_last]; exact phi_out m c)

end Cert.Dispatch.Hand

end
-- ==== Proof.DScat.lean ====
/-
  Where the updates of a scatter land, and what a count of one says.
-/
module

public import proofs.«01_k».proof.Proof.DFrame
public import Idealize.ShloMosaic.Lib.Routing.OpsPair
public import Idealize.ShloMosaic.Lib.Routing.OpsSet
public import Idealize.ShloMosaic.Lib.PointwiseCore

@[expose] public section

noncomputable section

namespace Cert.Dispatch.Hand

open Cert.Dispatch Cert.Dispatch.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Where a scalar update lands: at the entry that its index word, read signed, is. -/
theorem lands1 {N M : ℕ} (d : ScatterDims ⟨1, ![N]⟩ ⟨2, ![M, 1]⟩ ⟨1, ![M]⟩) (huw : d.updateWindowDims = []) (hiw : d.insertedWindowDims = [0])
    (hsd : d.scatterDimsToOperandDims = [0]) (hivd : d.indexVectorDim = 1) (idx : IVec ⟨2, ![M, 1]⟩ 32) (k : Fin M) (x : Fin N) :
    d.resultIdx? (ix1 k) idx = some (ix1 x) ↔ (idx (ix2 k (0 : Fin 1))).toInt = (x.val : Int) := by
  obtain ⟨uw, iw, sd, iv, wf⟩ := d
  subst huw hiw hsd hivd
  generalize hd : ScatterDims.mk _ _ _ _ wf = d
  have hs : d.start (ix1 k) idx (0 : Fin 1) = (idx (ix2 k (0 : Fin 1))).toInt := by
    subst hd
    unfold ScatterDims.start
    rw [dif_pos (List.mem_singleton.2 rfl)]
    refine congrArg (fun i => (idx i).toInt) (funext fun (b : Fin 2) => Fin.ext ?_)
    match b with
    | ⟨0, _⟩ => rfl
    | ⟨1, _⟩ => rfl
  have hw : d.window (ix1 k) (0 : Fin 1) = 0 := by
    subst hd
    unfold ScatterDims.window
    rw [dif_neg (by show (0 : Fin 1) ∉ []; exact List.not_mem_nil)]
  rw [Routing.resultIdx?_eq_some]
  constructor
  · intro h
    have h0 := h (0 : Fin 1)
    rw [hs, hw] at h0
    have e : ((ix1 x (0 : Fin 1)).val : Int) = (x.val : Int) := rfl
    omega
  · intro h a
    obtain rfl : a = (0 : Fin 1) := Subsingleton.elim (α := Fin 1) _ _
    rw [hs, hw]
    have e : ((ix1 x (0 : Fin 1)).val : Int) = (x.val : Int) := rfl
    omega

/-- Where an element of a row update lands: in the row that the update's index word is, at its own column. -/
theorem lands2 {R C M : ℕ} (d : ScatterDims ⟨2, ![R, C]⟩ ⟨2, ![M, 1]⟩ ⟨2, ![M, C]⟩) (huw : d.updateWindowDims = [1]) (hiw : d.insertedWindowDims = [0])
    (hsd : d.scatterDimsToOperandDims = [0]) (hivd : d.indexVectorDim = 1) (idx : IVec ⟨2, ![M, 1]⟩ 32) (k : Fin M) (q : Fin C) (r : Fin R) (x : Fin C) :
    d.resultIdx? (ix2 k q) idx = some (ix2 r x) ↔ (idx (ix2 k (0 : Fin 1))).toInt = (r.val : Int) ∧ q = x := by
  obtain ⟨uw, iw, sd, iv, wf⟩ := d
  subst huw hiw hsd hivd
  generalize hd : ScatterDims.mk _ _ _ _ wf = d
  have hs0 : d.start (ix2 k q) idx (0 : Fin 2) = (idx (ix2 k (0 : Fin 1))).toInt := by
    subst hd
    unfold ScatterDims.start
    rw [dif_pos (List.mem_singleton.2 rfl)]
    refine congrArg (fun i => (idx i).toInt) (funext fun (b : Fin 2) => Fin.ext ?_)
    match b with
    | ⟨0, _⟩ => rfl
    | ⟨1, _⟩ => rfl
  have hs1 : d.start (ix2 k q) idx (1 : Fin 2) = 0 := by
    subst hd
    unfold ScatterDims.start
    rw [dif_neg (by show (1 : Fin 2) ∉ [(0 : Fin 2)]; decide)]
  have hw0 : d.window (ix2 k q) (0 : Fin 2) = 0 := by
    subst hd
    unfold ScatterDims.window
    rw [dif_neg (by show (0 : Fin 2) ∉ [(1 : Fin 2)]; decide)]
  have hw1 : d.window (ix2 k q) (1 : Fin 2) = q.val := by
    subst hd
    unfold ScatterDims.window
    rw [dif_pos (by show (1 : Fin 2) ∈ [(1 : Fin 2)]; decide)]
    rfl
  rw [Routing.resultIdx?_eq_some]
  have e0 : ((ix2 r x (0 : Fin 2)).val : Int) = (r.val : Int) := rfl
  have e1 : ((ix2 r x (1 : Fin 2)).val : Int) = (x.val : Int) := rfl
  constructor
  · intro h
    have h0 := h (0 : Fin 2)
    have h1 := h (1 : Fin 2)
    rw [hs0, hw0] at h0
    rw [hs1, hw1] at h1
    exact ⟨by omega, Fin.ext (by omega)⟩
  · rintro ⟨h, rfl⟩ a
    match a with
    | ⟨0, _⟩ => show d.start (ix2 k q) idx (0 : Fin 2) + (d.window (ix2 k q) (0 : Fin 2) : Int) = _; rw [hs0, hw0, h]; exact Int.add_zero _
    | ⟨1, _⟩ => show d.start (ix2 k q) idx (1 : Fin 2) + (d.window (ix2 k q) (1 : Fin 2) : Int) = _; rw [hs1, hw1]; exact Int.zero_add _

/-- Ones added up over a list. -/
theorem fold_ones {ι : Type} (hit : ι → Prop) [DecidablePred hit] (l : List ι) (z : ℕ) :
    l.foldl (fun a n => if hit n then IntOp.addi a 1#32 else a) (BitVec.ofNat 32 z) = BitVec.ofNat 32 (z + l.countP fun n => decide (hit n)) := by
  induction l generalizing z with
  | nil => rfl
  | cons n l ih =>
    rw [List.foldl_cons, List.countP_cons]
    by_cases h : hit n
    · rw [if_pos h, show IntOp.addi (BitVec.ofNat 32 z) 1#32 = BitVec.ofNat 32 (z + 1) from (BitVec.ofNat_add z 1).symm, ih, if_pos (decide_eq_true h)]
      exact congrArg _ (by omega)
    · rw [if_neg h, ih, if_neg (by rw [decide_eq_false h]; exact Bool.false_ne_true)]
      exact congrArg _ (by omega)

/-- Two members that count make the count two. -/
theorem two_of_count {ι : Type} (P : ι → Bool) (l : List ι) (a b : ι) (ha : a ∈ l) (hb : b ∈ l) (hab : a ≠ b) (pa : P a = true) (pb : P b = true) : 2 ≤ l.countP P := by
  rw [List.countP_eq_length_filter]
  have ma : a ∈ l.filter P := List.mem_filter.2 ⟨ha, pa⟩
  have mb : b ∈ l.filter P := List.mem_filter.2 ⟨hb, pb⟩
  revert ma mb
  generalize l.filter P = k
  intro ma mb
  match k with
  | [] => exact absurd ma List.not_mem_nil
  | [y] => exact absurd ((List.mem_singleton.1 ma).trans (List.mem_singleton.1 mb).symm) hab
  | _ :: _ :: t => simp

/-- Where the ones scattered to an entry come to one at most, no two index words name the entry. -/
theorem apart_of_count {N M : ℕ} (d : ScatterDims ⟨1, ![N]⟩ ⟨2, ![M, 1]⟩ ⟨1, ![M]⟩) (huw : d.updateWindowDims = []) (hiw : d.insertedWindowDims = [0])
    (hsd : d.scatterDimsToOperandDims = [0]) (hivd : d.indexVectorDim = 1) (hM : M < 2 ^ 31) (x0 : IVec ⟨1, ![N]⟩ 32) (h0 : ∀ i, x0 i = 0#32)
    (idx : IVec ⟨2, ![M, 1]⟩ 32) (upd : IVec ⟨1, ![M]⟩ 32) (hu : ∀ i, upd i = 1#32) (x : Fin N)
    (h : (Host.scatter d IntOp.addi x0 idx upd (ix1 x)).toInt ≤ 1) (k k' : Fin M)
    (hk : (idx (ix2 k (0 : Fin 1))).toInt = (x.val : Int)) (hk' : (idx (ix2 k' (0 : Fin 1))).toInt = (x.val : Int)) : k = k' := by
  by_contra ne
  rw [Routing.scatter_at, h0] at h
  simp only [hu] at h
  rw [show (0#32 : BitVec 32) = BitVec.ofNat 32 0 from rfl, fold_ones, Nat.zero_add] at h
  have hl : (List.finRange (⟨1, ![M]⟩ : Shape).numel).countP (fun n => decide (d.resultIdx? ((⟨1, ![M]⟩ : Shape).rowMajor.symm n) idx = some (ix1 x))) ≤ M :=
    List.countP_le_length.trans (by rw [List.length_finRange, Shape.numel_rank1]; exact le_refl M)
  have h2 := two_of_count (fun n => decide (d.resultIdx? ((⟨1, ![M]⟩ : Shape).rowMajor.symm n) idx = some (ix1 x))) (List.finRange (⟨1, ![M]⟩ : Shape).numel)
    ((⟨1, ![M]⟩ : Shape).rowMajor (ix1 k)) ((⟨1, ![M]⟩ : Shape).rowMajor (ix1 k')) (List.mem_finRange _) (List.mem_finRange _)
    (fun e => ne (congrFun ((⟨1, ![M]⟩ : Shape).rowMajor.injective e) (0 : Fin 1)))
    (decide_eq_true (by rw [Equiv.symm_apply_apply]; exact (lands1 d huw hiw hsd hivd idx k x).2 hk))
    (decide_eq_true (by rw [Equiv.symm_apply_apply]; exact (lands1 d huw hiw hsd hivd idx k' x).2 hk'))
  revert h hl h2
  generalize (List.finRange (⟨1, ![M]⟩ : Shape).numel).countP _ = w
  intro h hl h2
  rw [BitVec.toInt_eq_toNat_of_lt (by rw [BitVec.toNat_ofNat, Nat.mod_eq_of_lt (by omega)]; omega), BitVec.toNat_ofNat, Nat.mod_eq_of_lt (by omega)] at h
  omega

end Cert.Dispatch.Hand

end
-- ==== Proof.DRun.lean ====
/-
  The dispatch call's run: its arguments are left, its result is the rows after the last point.
-/
module

public import proofs.«01_k».proof.Proof.DFrame

@[expose] public section

noncomputable section

namespace Cert.Dispatch.Hand

open Cert.Dispatch Cert.Dispatch.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem V_arg0 (c : Dev nD) : V m c main_arg0 = m (c, main_arg0) := by unfold V; simp only [hostOps0, List.flatten_cons, List.flatten_nil, List.cons_append, List.nil_append, List.append_nil]; after_results
theorem V_arg1 (c : Dev nD) : V m c main_arg1 = m (c, main_arg1) := by unfold V; simp only [hostOps0, List.flatten_cons, List.flatten_nil, List.cons_append, List.nil_append, List.append_nil]; after_results
theorem V_arg2 (c : Dev nD) : V m c main_arg2 = m (c, main_arg2) := by unfold V; simp only [hostOps0, List.flatten_cons, List.flatten_nil, List.cons_append, List.nil_append, List.append_nil]; after_results
theorem V_v0 (c : Dev nD) : V m c main_v0 = m (c, main_arg2) := by
  unfold V; simp only [hostOps0, List.flatten_cons, List.flatten_nil, List.cons_append, List.nil_append, List.append_nil]; after_results; rfl

theorem rest0 : main_arg0 ∈ Pipeline.restRefs sig spec0 \ R0 := by decide
theorem rest2 : main_arg2 ∈ Pipeline.restRefs sig spec0 \ R0 := by decide
theorem mem0 : main_v0 ∈ R0 := by decide

variable (G : Good m)

include G in
theorem run_full : θ_run defs (onTc (τ := τ) (main (F := F))) ⟨m, fun _ => 0, ρ⟩ (fun r => (∀ c : Dev nD,
      r.2.mem ((c.tc : Thread nD τ).loc main_v0) = st m c 16
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1.written c mem0).trans (ends_eq m c),
      ((h.1.toR c).2 main_arg0 rest0).trans (V_arg0 m c),
      (((h.1.toR c).1 0).trans ((dats m 0 c).arrAt_in 0 rfl _)).trans ((A_eq m c 0).trans (V_arg1 m c)),
      ((h.1.toR c).2 main_arg2 rest2).trans (V_arg2 m c)⟩, h.2⟩) (run_main m ρ G)

include G in
theorem frame_full : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2, h.2⟩) (run_full m ρ G)

end Cert.Dispatch.Hand

end
-- ==== Proof.DPre.lean ====
/-
  The precondition of the dispatch call, read: the row numbers are in range, and apart.
-/
module

public import proofs.«01_k».proof.Proof.DScat
public import proofs.«01_k».proof.Proof.DRun
public import proofs.«01_k».proof.Defs
public import proofs.«01_k».proof.Proof.Gen.Pre_slots_apart
public import Idealize.ShloMosaic.Lib.ReduceAll
public import Idealize.ShloMosaic.Lib.Affine
public import Idealize.ShloMosaic.Lib.StableHlo.Predicate

@[expose] public section

noncomputable section

namespace Cert.Dispatch.Hand

open Cert.Dispatch Cert.Dispatch.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem ix1_same {n : ℕ} (k : Fin n) : (ValueIdx.ix1 k : (⟨1, ![n]⟩ : Shape).Idx) = ix1 k := by
  funext b; obtain rfl : b = (0 : Fin 1) := Subsingleton.elim (α := Fin 1) _ _; rfl
theorem ix2_same {n k : ℕ} (a : Fin n) (b : Fin k) : (ValueIdx.ix2 a b : (⟨2, ![n, k]⟩ : Shape).Idx) = ix2 a b := by
  funext j; match j with
  | ⟨0, _⟩ => rfl
  | ⟨1, _⟩ => rfl

theorem atD_at (d : IVec S32768 32) (n : Fin 32768) (k : ℕ) (h : k = n.val) : atD d k = d (ix1 n) := by
  subst h
  unfold atD
  rw [dif_pos n.isLt, ix1_same]

/-- A word in range is not wrapped. -/
theorem wrap_word (w : BitVec 32) (h : w.toNat < 49152) : Scalar.select (IntOp.cmpi .slt w 0#32) (IntOp.addi w 49152#32) w = w :=
  Routing.wrap_of_lt w _ (by omega)

/-- The precondition's first half: every row number is in range. -/
theorem rows_of_fn {F : FTy → Type} [FloatOps F] [Cert.Pre_slots_apart.Facts] (d : IVec S32768 32) (x1 x2)
    (h : Cert.Pre_slots_apart.fn (F := F) d x1 x2 (Shape.Idx.first Cert.Pre_slots_apart.Facts.h_S_) = 1#1) (n : Fin 32768) : (d (ix1 n)).toNat < 49152 := by
  dsimp only [Cert.Pre_slots_apart.fn, Cert.Pre_slots_apart.fn_part1] at h
  have : Subsingleton Cert.Pre_slots_apart.S_.Idx := ⟨fun x y => funext fun a => a.elim0⟩
  have h := (IntOp.andi_eq_one.1 (show IntOp.andi _ _ = 1#1 from h)).1
  have H := Host.reduce_andi_all _ _ _ _ _ h
  obtain ⟨a, b⟩ := IntOp.andi_eq_one.1 (show IntOp.andi _ _ = 1#1 from H (ix1 n))
  have a := IntOp.cmpi_sge.1 (show IntOp.cmpi .sge (d (ix1 n)) 0#32 = 1#1 from a)
  have b := IntOp.cmpi_slt.1 (show IntOp.cmpi .slt (d (ix1 n)) 49152#32 = 1#1 from b)
  rw [show (0#32 : BitVec 32).toInt = 0 from by decide] at a
  rw [show (49152#32 : BitVec 32).toInt = 49152 from by decide] at b
  rw [BitVec.toInt_eq_toNat_cond] at a b
  split at a <;> omega

/-- Its second half: no row number appears twice. -/
theorem apart_of_fn {F : FTy → Type} [FloatOps F] [Cert.Pre_slots_apart.Facts] (d : IVec S32768 32) (x1 x2)
    (h : Cert.Pre_slots_apart.fn (F := F) d x1 x2 (Shape.Idx.first Cert.Pre_slots_apart.Facts.h_S_) = 1#1) (n n' : Fin 32768)
    (e : (d (ix1 n)).toNat = (d (ix1 n')).toNat) : n = n' := by
  have hr := rows_of_fn d x1 x2 h
  dsimp only [Cert.Pre_slots_apart.fn, Cert.Pre_slots_apart.fn_part1] at h
  have : Subsingleton Cert.Pre_slots_apart.S_.Idx := ⟨fun x y => funext fun a => a.elim0⟩
  have h := (IntOp.andi_eq_one.1 (show IntOp.andi _ _ = 1#1 from h)).2
  have H := Host.reduce_andi_all _ _ _ _ _ h (ix1 (⟨(d (ix1 n)).toNat, hr n⟩ : Fin 49152))
  have H := IntOp.cmpi_sle.1 (show IntOp.cmpi .sle _ 1#32 = 1#1 from H)
  rw [show (1#32 : BitVec 32).toInt = 1 from by decide] at H
  have w : ∀ k : Fin 32768, (d (ix1 k)).toNat = (d (ix1 n)).toNat →
      (broadcastInDim Cert.Pre_slots_apart.S32768x1 ![0] Cert.Pre_slots_apart.Facts.bcast_S32768_S32768x1_0
        (select (cmpi .slt d (broadcastInDim Cert.Pre_slots_apart.S32768 ![] Cert.Pre_slots_apart.Facts.bcast_S_S32768 (constantI Cert.Pre_slots_apart.S_ 32 0#32)))
          (addi d (broadcastInDim Cert.Pre_slots_apart.S32768 ![] Cert.Pre_slots_apart.Facts.bcast_S_S32768 (constantI Cert.Pre_slots_apart.S_ 32 49152#32))) d)
        (ix2 k (0 : Fin 1))).toInt = (((⟨(d (ix1 n)).toNat, hr n⟩ : Fin 49152)).val : Int) := fun k hk => by
    have q : ∀ (i : S32768.Idx) (hi : i = ix1 k), (Scalar.select (IntOp.cmpi .slt (d i) 0#32) (IntOp.addi (d i) 49152#32) (d i)).toInt = ((d (ix1 n)).toNat : Int) := by
      rintro i rfl
      rw [wrap_word _ (hr k), BitVec.toInt_eq_toNat_of_lt (by have := hr k; omega), hk]
    refine q _ ?_
    funext b; obtain rfl : b = (0 : Fin 1) := Subsingleton.elim (α := Fin 1) _ _; rfl
  exact apart_of_count Cert.Pre_slots_apart.scatter_S49152_S32768x1_S32768_n_0_0_1 rfl rfl rfl rfl (by decide) _ (fun _ => rfl) _ _ (fun _ => rfl) _ H n n' (w n rfl) (w n' e.symm)

theorem atD_past (d : IVec S32768 32) (k : ℕ) (h : ¬ k < 32768) : (atD d k).toNat < 49152 := by
  unfold atD
  rw [dif_neg h]; decide

theorem good_of_fn {F : FTy → Type} [FloatOps F] [Cert.Pre_slots_apart.Facts] (d : IVec S32768 32) (x1 x2)
    (h : Cert.Pre_slots_apart.fn (F := F) d x1 x2 (Shape.Idx.first Cert.Pre_slots_apart.Facts.h_S_) = 1#1) : InRows d ∧ Apart d := by
  refine ⟨fun k => ?_, fun k k' hk hk' e => ?_⟩
  · by_cases hk : k < 32768
    · rw [atD_at d ⟨k, hk⟩ k rfl]; exact rows_of_fn d x1 x2 h _
    · exact atD_past d k hk
  · rw [atD_at d ⟨k, hk⟩ k rfl, atD_at d ⟨k', hk'⟩ k' rfl] at e
    exact congrArg Fin.val (apart_of_fn d x1 x2 h _ _ e)

theorem slots_of_pre (m : (ℓ : Loc nD τ sig) → Buf (Elt Bits) ℓ) [Cert.Pre_slots_apart.Facts] (h : Cert.Pre_Dispatch m) (c : Dev nD) :
    InRows (m (c, main_arg0)) ∧ Apart (m (c, main_arg0)) :=
  good_of_fn (F := Bits) _ _ _ (congrFun (h c) _)

theorem good_of_pre (m : (ℓ : Loc nD τ sig) → Buf (Elt Bits) ℓ) [Cert.Pre_slots_apart.Facts] (h : Cert.Pre_Dispatch m) : Good m := fun c => by
  rw [V_arg0]; exact slots_of_pre m h c

end Cert.Dispatch.Hand

end
-- ==== Proof.DRefVal.lean ====
/-
  The dispatch call's reference, element by element.
-/
module

public import proofs.«01_k».proof.Proof.DPre
public import proofs.«01_k».proof.Proof.Gen.DispatchReference
public import proofs.«01_k».proof.Proof.Gen.DispatchReference.Run

@[expose] public section

noncomputable section

namespace Cert.DispatchReference.Hand

open Cert.DispatchReference Cert.DispatchReference.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Cert.Dispatch.Hand (lands2 wrap_word)

/-- The rows, each twice over. -/
def twice (xp : IVec S16384x512 32) : IVec S32768x512 32 :=
  concatenate S32768x512 0 [⟨S16384x512, xp⟩, ⟨S16384x512, xp⟩] concatenates_S16384x512_S16384x512_S32768x512_d0
/-- The column the result is indexed with. -/
def col (d : IVec S32768 32) : IVec S32768x1 32 :=
  broadcastInDim S32768x1 ![0] bcast_S32768_S32768x1_0 (select (cmpi .slt d (broadcastInDim S32768 ![] bcast_S_S32768 (constantI S_ 32 0#32))) (addi d (broadcastInDim S32768 ![] bcast_S_S32768 (constantI S_ 32 49152#32))) d)
/-- The reference's result as a function of its arguments. -/
def refOut (d : IVec S32768 32) (xp : IVec S16384x512 32) (xs : IVec S49152x512 32) : IVec S49152x512 32 :=
  Host.scatter scatter_S49152x512_S32768x1_S32768x512_1_0_0_1 (fun _ b => b) xs (col d) (twice xp)

theorem twice_apply (xp : IVec S16384x512 32) (p : Fin 32768) (q : Fin 512) : twice xp (ix2 p q) = xp (ix2 (⟨p.val % 16384, Nat.mod_lt _ (by decide)⟩ : Fin 16384) q) := by
  pointwise [twice]
  by_cases h : p.val < 16384
  · rw [dif_pos h]
    refine congrArg (fun r : Fin 16384 => xp (ix2 r q)) (Fin.ext ?_)
    show p.val = p.val % 16384
    omega
  · rw [dif_neg h]
    refine congrArg (fun r : Fin 16384 => xp (ix2 r q)) (Fin.ext ?_)
    show p.val - 16384 = p.val % 16384
    omega

theorem col_apply (d : IVec S32768 32) (n : Fin 32768) (h : (d (ix1 n)).toNat < 49152) : (col d (ix2 n (0 : Fin 1))).toInt = ((d (ix1 n)).toNat : Int) := by
  have e : col d (ix2 n (0 : Fin 1)) = d (ix1 n) := by
    pointwise [col]
    exact wrap_word _ h
  rw [e, BitVec.toInt_eq_toNat_of_lt (by omega)]

variable (d : IVec S32768 32) (xp : IVec S16384x512 32) (xs : IVec S49152x512 32) (hr : ∀ n : Fin 32768, (d (ix1 n)).toNat < 49152)

include hr in
theorem lands (p : Fin 32768) (q : Fin 512) (r : Fin 49152) (x : Fin 512) :
    scatter_S49152x512_S32768x1_S32768x512_1_0_0_1.resultIdx? (ix2 p q) (col d) = some (ix2 r x) ↔ (d (ix1 p)).toNat = r.val ∧ q = x := by
  rw [lands2 scatter_S49152x512_S32768x1_S32768x512_1_0_0_1 rfl rfl rfl rfl (col d) p q r x, col_apply d p (hr p)]
  constructor
  · rintro ⟨h, e⟩; exact ⟨by omega, e⟩
  · rintro ⟨h, e⟩; exact ⟨by omega, e⟩

theorem two (k : S32768x512.Idx) : ∃ (p : Fin 32768) (q : Fin 512), k = ix2 p q := by
  refine ⟨k 0, k 1, ?_⟩
  funext j; match j with
  | ⟨0, _⟩ => rfl
  | ⟨1, _⟩ => rfl

include hr in
/-- A row that a slot names holds that slot's row. -/
theorem refOut_hit (ha : ∀ n n' : Fin 32768, (d (ix1 n)).toNat = (d (ix1 n')).toNat → n = n') (p : Fin 32768) (r : Fin 49152) (x : Fin 512) (h : (d (ix1 p)).toNat = r.val) :
    refOut d xp xs (ix2 r x) = xp (ix2 (⟨p.val % 16384, Nat.mod_lt _ (by decide)⟩ : Fin 16384) x) := by
  unfold refOut
  refine Routing.scatter_set_hit _ _ _ _ _ _ (fun k hk => ?_) (ix2 p x) ((lands d hr p x r x).2 ⟨h, rfl⟩)
  obtain ⟨p', q', rfl⟩ := two k
  obtain ⟨e, eq⟩ := (lands d hr _ _ r x).1 hk
  rw [twice_apply, ha _ p (e.trans h.symm), eq]

include hr in
/-- A row that no slot names is left. -/
theorem refOut_miss (r : Fin 49152) (x : Fin 512) (h : ∀ p : Fin 32768, (d (ix1 p)).toNat ≠ r.val) : refOut d xp xs (ix2 r x) = xs (ix2 r x) := by
  unfold refOut
  refine Routing.scatter_set_miss _ _ _ _ _ (fun k hk => ?_)
  obtain ⟨p', q', rfl⟩ := two k
  exact h _ ((lands d hr _ _ r x).1 hk).1

variable (m : (ℓ : Loc nD τ sig) → Buf (Elt F) ℓ) (ρ : Dev nD → PrngReg)

theorem run_full : θ_run defs (onTc (τ := τ) (main (F := F))) ⟨m, fun _ => 0, ρ⟩ (fun r => ∀ c : Dev nD,
      r.2.mem ((c.tc : Thread nD τ).loc main_v7) = refOut (m (c, main_arg0)) (m (c, main_arg1)) (m (c, main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans rfl, (h c).2⟩) (Cert.DispatchReference.Value.run m ρ)

theorem frame_full : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, Idealize.ShloMosaic.sem_eq_zero_of_no_sems (by decide) r.2⟩) (Cert.DispatchReference.Value.run m ρ)

end Cert.DispatchReference.Hand

end
-- ==== Proof.DEnd.lean ====
/-
  What the dispatch call's rows are after the last point: the reference's.
-/
module

public import proofs.«01_k».proof.Proof.DRefVal

@[expose] public section

noncomputable section

namespace Cert.Dispatch.Hand

open Cert.Dispatch Cert.Dispatch.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Cert.DispatchReference.Hand (refOut refOut_hit refOut_miss)

variable (m : (ℓ : Loc nD τ sig) → Buf (Elt F) ℓ)

/-- The window's block index at a point. -/
theorem row_index (n : ℕ) (h : n < 16) (i : grid0.Coords) (e : pt i = n) : (![(BitVec.ofNat 32 (pt i)).toNat, 0] : Fin 2 → ℕ) = ![n, 0] := by
  rw [e, BitVec.toNat_ofNat, Nat.mod_eq_of_lt (by omega)]
theorem index_0 (t : Fin (cfgA m).N) : ((cfgA m).win 0).index t = ![t.val, 0] :=
  row_index t.val (N16 m ▸ t.isLt) _ (pt_coords m t)

theorem iblk0_at (c : Dev nD) (t : Fin (cfgA m).N) (a : Fin 1024) (q : Fin 512) (r : Fin 16384) (hr : r.val = t.val * 1024 + a.val) :
    iblk0 m c t (ix2 a q) = (V m c main_arg1 : IVec S16384x512 32) (ix2 r q) := by
  have e := index_0 m t
  have E0 : ((((cfgA m).win 0).blk t).view.emb (ix2 a q) (0 : Fin 2)).val = r.val := by
    refine (((cfgA m).win 0).rect_emb_val t (ix2 a q) (0 : Fin 2) rfl).trans ?_
    rw [e, hr]; rfl
  have E1 : ((((cfgA m).win 0).blk t).view.emb (ix2 a q) (1 : Fin 2)).val = q.val := by
    refine (((cfgA m).win 0).rect_emb_val t (ix2 a q) (1 : Fin 2) rfl).trans ?_
    rw [e]; exact Nat.zero_add _
  unfold iblk0
  show (V m c main_arg1 : IVec S16384x512 32) _ = _
  refine congrArg (V m c main_arg1 : IVec S16384x512 32) (funext fun b => Fin.ext ?_)
  fin_cases b
  · exact E0
  · exact E1

/-- Row `r` of the packed rows. -/
def xpAt (c : Dev nD) (r : ℕ) (q : Fin 512) : BitVec 32 := if h : r < 16384 then (V m c main_arg1 : IVec S16384x512 32) (ix2 (⟨r, h⟩ : Fin 16384) q) else 0#32

theorem blkV_at (c : Dev nD) (n : ℕ) (hn : n < 16) (a : Fin 1024) (q : Fin 512) : blkV m c n (ix2 a q) = xpAt m c (n * 1024 + a.val) q := by
  have hN : n < (cfgA m).N := by rw [N16]; exact hn
  have hr : n * 1024 + a.val < 16384 := by omega
  unfold blkV xpAt
  rw [dif_pos hN, dif_pos hr, iblk0_at m c ⟨n, hN⟩ a q ⟨_, hr⟩ rfl]

theorem slot_mod (i n : ℕ) (hi : i < 2048) (hn : n < 16) : (i % 2 * 16384 + (n * 1024 + i / 2)) % 16384 = n * 1024 + i / 2 := by
  rw [Nat.add_comm, Nat.add_mul_mod_self_right, Nat.mod_eq_of_lt (by omega)]

/-- A row that no slot of the first `n` tiles names is left. -/
theorem st_miss (c : Dev nD) (x : S49152x512.Idx) (n : ℕ) (hn : n ≤ 16) (h : ∀ p, p < 32768 → p % 16384 < n * 1024 → (atD (V m c main_arg0) p).toNat ≠ (x 0).val) :
    (st m c n : S49152x512.Idx → BitVec 32) x = (V m c main_v0 : S49152x512.Idx → BitVec 32) x := by
  induction n with
  | zero => rfl
  | succ n ih =>
    refine (put_miss (V m c main_arg0) (blkV m c n) n (st m c n) x fun i => ?_).trans (ih (by omega) fun p hp hl => h p hp (by omega))
    have := i.isLt
    exact h _ (by omega) (by rw [slot_mod i.val n i.isLt hn]; omega)

/-- Where a slot's row goes, the tile by its number. -/
theorem slot_of (p : ℕ) (hp : p < 32768) (n : ℕ) (h : p % 16384 < (n + 1) * 1024) (hl : ¬ p % 16384 < n * 1024) :
    ∃ i, i < 2048 ∧ i % 2 * 16384 + (n * 1024 + i / 2) = p ∧ n * 1024 + i / 2 = p % 16384 :=
  ⟨(p % 16384 - n * 1024) * 2 + p / 16384, by omega, by omega, by omega⟩

theorem put_at (c : Dev nD) (ha : Apart (V m c main_arg0)) (x : S49152x512.Idx) (p : ℕ) (n : ℕ) (hn : n < 16) (i : ℕ) (hi : i < 2048)
    (e : (atD (V m c main_arg0) p).toNat = (x 0).val) (e1 : i % 2 * 16384 + (n * 1024 + i / 2) = p) (e2 : n * 1024 + i / 2 = p % 16384) (g : S49152x512.Idx → BitVec 32) :
    put (V m c main_arg0) (blkV m c n) n g x = xpAt m c (p % 16384) (x 1 : Fin 512) := by
  have w : wAt (V m c main_arg0) n i = atD (V m c main_arg0) p := by
    unfold wAt
    rw [e1]
  refine (put_hit (V m c main_arg0) ha (blkV m c n) n hn g i hi x ((congrArg BitVec.toNat w).trans e)).trans ?_
  rw [← e2]
  exact (congrArg (blkV m c n) (ix2_same (⟨i / 2, by omega⟩ : Fin 1024) (x 1 : Fin 512))).trans (blkV_at m c n hn ⟨i / 2, by omega⟩ (x 1))

theorem put_kept (c : Dev nD) (ha : Apart (V m c main_arg0)) (x : S49152x512.Idx) (p : ℕ) (hp : p < 32768) (n : ℕ) (hn : n < 16)
    (e : (atD (V m c main_arg0) p).toNat = (x 0).val) (hl : p % 16384 < n * 1024) (v : S1024x512.Idx → BitVec 32) (g : S49152x512.Idx → BitVec 32) :
    put (V m c main_arg0) v n g x = g x := by
  refine put_miss (V m c main_arg0) v n g x fun i hi => ?_
  have := i.isLt
  have q : i.val % 2 * 16384 + (n * 1024 + i.val / 2) = p := ha _ _ (by omega) hp (hi.trans e.symm)
  have r := slot_mod i.val n i.isLt hn
  rw [q] at r
  omega

/-- A row that a slot of the first `n` tiles names holds that slot's row. -/
theorem st_hit (c : Dev nD) (ha : Apart (V m c main_arg0)) (x : S49152x512.Idx) (p : ℕ) (hp : p < 32768) (e : (atD (V m c main_arg0) p).toNat = (x 0).val)
    (n : ℕ) (hn : n ≤ 16) (h : p % 16384 < n * 1024) : (st m c n : S49152x512.Idx → BitVec 32) x = xpAt m c (p % 16384) (x 1 : Fin 512) := by
  induction n with
  | zero => exact absurd h (by omega)
  | succ n ih =>
    by_cases hl : p % 16384 < n * 1024
    · exact (put_kept m c ha x p hp n hn e hl (blkV m c n) (st m c n)).trans (ih (by omega) hl)
    · obtain ⟨i, hi, e1, e2⟩ := slot_of p hp n h hl
      exact put_at m c ha x p n hn i hi e e1 e2 (st m c n)

/-- The call's result is the reference's function of the arguments. -/
theorem out_ref (c : Dev nD) (R : InRows (m (c, main_arg0)) ∧ Apart (m (c, main_arg0))) :
    (st m c 16 : S49152x512.Idx → BitVec 32) = refOut (m (c, main_arg0)) (m (c, main_arg1)) (m (c, main_arg2)) := by
  obtain ⟨hr, ha⟩ := R
  have hr' : ∀ n : Fin 32768, ((m (c, main_arg0) : IVec S32768 32) (ix1 n)).toNat < 49152 := fun n => by
    rw [← atD_at (m (c, main_arg0)) n n.val rfl]; exact hr _
  have ha' : ∀ n n' : Fin 32768, ((m (c, main_arg0) : IVec S32768 32) (ix1 n)).toNat = ((m (c, main_arg0) : IVec S32768 32) (ix1 n')).toNat → n = n' := fun n n' e => by
    rw [← atD_at (m (c, main_arg0)) n n.val rfl, ← atD_at (m (c, main_arg0)) n' n'.val rfl] at e
    exact Fin.ext (ha _ _ n.isLt n'.isLt e)
  funext x
  obtain ⟨r, q, rfl⟩ : ∃ (r : Fin 49152) (q : Fin 512), x = ix2 r q := ⟨x 0, x 1, by funext b; fin_cases b <;> rfl⟩
  by_cases h : ∃ p : Fin 32768, ((m (c, main_arg0) : IVec S32768 32) (ix1 p)).toNat = r.val
  · obtain ⟨p, hp⟩ := h
    have := p.isLt
    rw [refOut_hit _ _ _ hr' ha' p r q hp]
    refine (st_hit m c (by rw [V_arg0]; exact ha) (ix2 r q) p.val p.isLt (by rw [V_arg0, atD_at _ p p.val rfl]; exact hp) 16 (le_refl _) (by omega)).trans ?_
    unfold xpAt
    rw [dif_pos (Nat.mod_lt _ (by decide)), V_arg1]
    rfl
  · have h' : ∀ p : Fin 32768, ((m (c, main_arg0) : IVec S32768 32) (ix1 p)).toNat ≠ r.val := fun p e => h ⟨p, e⟩
    rw [refOut_miss _ _ _ hr' r q h']
    refine (st_miss m c (ix2 r q) 16 (le_refl _) fun p hp _ => ?_).trans (by rw [V_v0])
    rw [V_arg0, atD_at _ ⟨p, hp⟩ p rfl]
    exact h' _

end Cert.Dispatch.Hand

end
-- ==== Proof.DIdeal.lean ====
/-
  The dispatch call read over the extended reals: the same text, so the same run.
-/
module

public import proofs.«01_k».proof.Proof.DEnd
public import proofs.«01_k».proof.Proof.Gen.DispatchIdeal
public import proofs.«01_k».proof.Proof.Gen.DispatchReferenceIdeal
public import proofs.«01_k».proof.Defs

@[expose] public section

noncomputable section

namespace Cert.DispatchIdeal.Hand

open Idealize.ShloMosaic Idealize.ShloMosaic.TcCoe Idealize.SL.Sem

attribute [local instance] Cert.Dispatch.Gen.facts Cert.DispatchReference.Gen.facts Cert.DispatchIdeal.Gen.facts Cert.DispatchReferenceIdeal.Gen.facts

theorem sig_same : Cert.DispatchIdeal.sig = Cert.Dispatch.sig := rfl
theorem body_same : Cert.DispatchIdeal.defs₀ (F := Ideal) = Cert.Dispatch.defs₀ (F := Ideal) := by
  refine congrArg Defs.onTc (funext fun l => funext fun x => ?_)
  match l, x with
  | 0, (t, s) => rfl
  | ⟨_ + 1, h⟩, _ => exact absurd h (Nat.not_lt.2 (Nat.le_add_left _ _))
theorem defs_same : Cert.DispatchIdeal.defs (F := Ideal) = Cert.Dispatch.defs (F := Ideal) := congrArg (Pipeline.defs (Cert.Dispatch.pcfgs (F := Ideal))) body_same
theorem main_same : Cert.DispatchIdeal.main (F := Ideal) = Cert.Dispatch.main (F := Ideal) := rfl
theorem rdefs_same : Cert.DispatchReferenceIdeal.defs (F := Ideal) = Cert.DispatchReference.defs (F := Ideal) := rfl
theorem rmain_same : Cert.DispatchReferenceIdeal.main (F := Ideal) = Cert.DispatchReference.main (F := Ideal) := rfl

/-- The precondition, read at the extended reals. -/
theorem good_at [Cert.Pre_slots_apart.Facts] (m : (ℓ : Loc Cert.Dispatch.nD Cert.Dispatch.τ Cert.Dispatch.sig) → Buf (Elt Ideal) ℓ) (h : Cert.Pre_DispatchIdeal m) (c : Dev Cert.Dispatch.nD) :
    Cert.Dispatch.Hand.InRows (m (c, Cert.Dispatch.main_arg0)) ∧ Cert.Dispatch.Hand.Apart (m (c, Cert.Dispatch.main_arg0)) :=
  Cert.Dispatch.Hand.good_of_fn (F := Ideal) _ _ _ (congrFun (h c) _)

theorem good [Cert.Pre_slots_apart.Facts] (m : (ℓ : Loc Cert.DispatchIdeal.nD Cert.DispatchIdeal.τ Cert.DispatchIdeal.sig) → Buf (Elt Ideal) ℓ) (h : Cert.Pre_DispatchIdeal m) : Cert.Dispatch.Hand.Good (F := Ideal) m := fun c => by
  rw [Cert.Dispatch.Hand.V_arg0]; exact good_at m h c

theorem frame [Cert.Pre_slots_apart.Facts] : Cert.quiescent_DispatchIdeal := fun m g h => by
  have H := Cert.Dispatch.Hand.frame_full (F := Ideal) m g (good m h)
  rw [← defs_same] at H
  exact H

theorem rframe : Cert.quiescent_DispatchReferenceIdeal := fun m g _ => Cert.DispatchReference.Hand.frame_full (F := Ideal) m g

theorem rframe_pre [Cert.Pre_slots_apart.Facts] : Cert.quiescent_DispatchReferenceIdeal_pre_slots_apart := fun m g _ => Cert.DispatchReference.Hand.frame_full (F := Ideal) m g

theorem value [Cert.Pre_slots_apart.Facts] : Cert.algebraic_DispatchIdeal_DispatchReferenceIdeal := fun m g m' g' h ha => by
  have H := Cert.Dispatch.Hand.run_full (F := Ideal) m g (good m h)
  rw [← defs_same] at H
  refine ⟨fun c => Cert.Dispatch.Hand.st (F := Ideal) m c 16, (θ_run _ _ _).mono (fun _ e c => e.1 c) H,
    (θ_run _ _ _).mono (fun r e c => ⟨(e c).1.trans ?_, (e c).2⟩) (Cert.DispatchReference.Hand.run_full (F := Ideal) m' g')⟩
  obtain ⟨a0, a1, a2⟩ := ha c
  refine Eq.trans ?_ (Cert.Dispatch.Hand.out_ref (F := Ideal) m c (good_at m h c)).symm
  exact congr (congr (congrArg (Cert.DispatchReference.Hand.refOut) a0) a1) a2

end Cert.DispatchIdeal.Hand

end
-- ==== Proof.PVal.lean ====
/-
  The payloads of the projection, read at a place over the reals.
-/
module

public import proofs.«01_k».proof.Proof.Gen.ProjIdeal.Skeleton
public import Idealize.ShloMosaic.Lib.Pointwise
public import Idealize.ShloMosaic.PureOps.Ideal.Laws

@[expose] public section

noncomputable section

namespace Cert.ProjIdeal.Hand

open Cert.ProjIdeal Cert.ProjIdeal.Gen
open Idealize.ShloMosaic Idealize.ShloMosaic.TcCoe Idealize.ShloMosaic.Tactic
open scoped BigOperators

/-- One over the root of a row's mean square plus the small constant. -/
def nrm (f : Fin 1024 → EReal) : EReal :=
  Ideal.rsqrt (Ideal.div (∑ d, f d * f d) (Ideal.ofBits .f32 0x44800000#32) + Ideal.ofBits .f32 0x358637BD#32)

/-- A row normed, scaled and multiplied by a column. -/
def colOf (f g w : Fin 1024 → EReal) : EReal := ∑ k, f k * nrm f * g k * w k

theorem pay4_apply (x : Vec Ideal S512x1024 .f32) (g : Vec Ideal S1x1024 .f32) (w : Vec Ideal S1024x2048 .bf16) (r : Fin 512) (n : Fin 2048) :
    k0_pay4 x g w (ix2 r n) = colOf (fun d => x (ix2 r d)) (fun d => g (ix2 0 d)) (fun d => w (ix2 d n)) := by
  unfold colOf nrm
  pointwise [k0_pay4, k0_pay3]
  first | rfl | done

theorem pay11_apply (z : FVec Ideal S512x2048 .f32) (r : Fin 512) (n : Fin 512) :
    k0_pay11 z (ix2 r n) = z (ix2 r ⟨1536 + n.val, by omega⟩) := by
  pointwise [k0_pay11]

/-- A choice by a place's being below 64. -/
theorem sel_lt (k : ℕ) (hk : k < 1024) (a b : EReal) :
    Scalar.select (IntOp.cmpi CmpIPredicate.slt (BitVec.ofNat 32 k) 64#32) a b = if k < 64 then a else b := by
  have e : (BitVec.ofNat 32 k).slt 64#32 = decide (k < 64) :=
    (by decide +kernel : ∀ k : Fin 1024, (BitVec.ofNat 32 k.val).slt 64#32 = decide (k.val < 64)) ⟨k, hk⟩
  by_cases h : k < 64 <;> simp [Scalar.select, IntOp.cmpi, e, h]

set_option maxHeartbeats 1000000 in
theorem pay1_apply (z : FVec Ideal S512x2048 .f32) (o : Vec Ideal S1x1024 .f32) (r : Fin 512) (n : Fin 1024) :
    k0_pay1 (k0_pay45 z) (iota .tc S512x128 32 [1] iota_S512x128_d1_w32) (k0_pay47 z) (k0_pay48 z) (k0_pay50 z) (k0_pay51 z) (k0_pay53 z) k0_pay54 (k0_pay55 z) k0_pay56 o (ix2 r n)
      = (if h : n.val % 128 < 64 then z (ix2 r ⟨1024 + (64 * (n.val / 128) + n.val % 128), by omega⟩) else 0) + o (ix2 0 n) := by
  pointwise [k0_pay1, k0_pay45, k0_pay46, k0_pay47, k0_pay48, k0_pay49, k0_pay50, k0_pay51, k0_pay52, k0_pay53, k0_pay54, k0_pay55, k0_pay56]
  have hn := n.isLt
  simp (disch := omega) only [sel_lt]
  refine congrArg (· + o (ix2 0 n)) ?_
  by_cases hl : n.val % 128 < 64
  · refine Eq.trans ?_ (dif_pos hl).symm
    split_ifs <;> first
      | (exfalso; omega)
      | (refine congrArg (fun k : Fin 2048 => z (ix2 r k)) (Fin.ext ?_)
         show _ = 1024 + (64 * (n.val / 128) + n.val % 128)
         simp only []
         omega)
  · refine Eq.trans ?_ (dif_neg hl).symm
    split_ifs <;> first
      | rfl
      | (exfalso; omega)

end Cert.ProjIdeal.Hand

end
-- ==== Proof.PSpec.lean ====
/-
  What the projection's values and its scan's inputs are.
-/
module

public import proofs.«01_k».proof.Proof.PVal

@[expose] public section

noncomputable section

namespace Cert.ProjIdeal.Hand

open Cert.ProjIdeal Cert.ProjIdeal.Gen
open Idealize.ShloMosaic Idealize.ShloMosaic.TcCoe Idealize.ShloMosaic.Tactic
open scoped BigOperators

/-- Entry `(t, n)` of the projection: row `t` of the tokens, normed and scaled, times column `n`. -/
def zT (x : Fin 2 → Fin 8192 → Fin 1024 → EReal) (g : Fin 1024 → EReal) (w : Fin 1024 → Fin 4104 → EReal) (t : Fin 16384) (n : Fin 4104) : EReal :=
  colOf (x ⟨t.val / 8192, by omega⟩ ⟨t.val % 8192, by omega⟩) g (fun k => w k n)

/-- The scan's inputs: the projection's last 512 columns. -/
def uT (x : Fin 2 → Fin 8192 → Fin 1024 → EReal) (g : Fin 1024 → EReal) (w : Fin 1024 → Fin 4104 → EReal) (t : Fin 16384) (n : Fin 512) : EReal :=
  zT x g w t ⟨1544 + n.val, by omega⟩

/-- The heads' values: 64 lanes of the projection, a lane of one, and zeros. -/
def vT (x : Fin 2 → Fin 8192 → Fin 1024 → EReal) (g : Fin 1024 → EReal) (w : Fin 1024 → Fin 4104 → EReal) (t : Fin 16384) (n : Fin 1024) : EReal :=
  if h : n.val % 128 < 64 then zT x g w t ⟨1024 + (64 * (n.val / 128) + n.val % 128), by omega⟩
  else if n.val % 128 = 64 then 1 else 0

/-- The two as arrays. -/
def uA (x : Fin 2 → Fin 8192 → Fin 1024 → EReal) (g : Fin 1024 → EReal) (w : Fin 1024 → Fin 4104 → EReal) : FVec Ideal S16384x512 .f32 := fun i => uT x g w (i 0) (i 1)
def vA (x : Fin 2 → Fin 8192 → Fin 1024 → EReal) (g : Fin 1024 → EReal) (w : Fin 1024 → Fin 4104 → EReal) : FVec Ideal S16384x1024 .bf16 := fun i => vT x g w (i 0) (i 1)

end Cert.ProjIdeal.Hand

end
-- ==== Proof.PBlock.lean ====
/-
  What the projection's body leaves of v and u, as payloads of its input blocks.
-/
module

public import proofs.«01_k».proof.Proof.Gen.ProjIdeal.Frame
public import Idealize.ShloMosaic.Lib.Pipeline.Value
public import Idealize.ShloMosaic.Lib.Tactic

@[expose] public section

noncomputable section

namespace Cert.ProjIdeal.Hand

open Cert.ProjIdeal Cert.ProjIdeal.Gen
open Idealize.ShloMosaic Idealize.ShloMosaic.TcCoe Idealize.ShloMosaic.Tactic
open scoped BigOperators

open Idealize.ShloMosaic.Pipeline (Dat)

variable {F : FTy → Type} [FloatOps F]

theorem hz2 : (![0, 0] : Fin 2 → Nat) = fun _ => 0 := funext fun a => by fin_cases a <;> rfl

section
variable (c : Dev nD) (i : grid0.Coords)
  (a1 : Memref sig .tc .vmem S512x1024 .f32) (h1 : a1.IsWhole) (a2 : Memref sig .tc .vmem S1x1024 .f32) (h2 : a2.IsWhole) (a3 : Memref sig .tc .vmem S1024x2048 .bf16) (h3 : a3.IsWhole) (a4 : Memref sig .tc .vmem S1024x128 .bf16) (h4 : a4.IsWhole) (a5 : Memref sig .tc .vmem S1x128 .f32) (h5 : a5.IsWhole) (a6 : Memref sig .tc .vmem S1x512 .f32) (h6 : a6.IsWhole) (a7 : Memref sig .tc .vmem S1x512 .f32) (h7 : a7.IsWhole) (a8 : Memref sig .tc .vmem S512x512 .bf16) (h8 : a8.IsWhole) (a9 : Memref sig .tc .vmem S512x512 .bf16) (h9 : a9.IsWhole) (a10 : Memref sig .tc .vmem S128x2048 .bf16) (h10 : a10.IsWhole) (a11 : Memref sig .tc .vmem S8x1024 .f32) (h11 : a11.IsWhole) (a12 : Memref sig .tc .vmem S1x128 .f32) (h12 : a12.IsWhole) (a13 : Memref sig .tc .vmem S512x1024 .bf16) (h13 : a13.IsWhole) (a14 : Memref sig .tc .vmem S512x1024 .bf16) (h14 : a14.IsWhole) (a15 : Memref sig .tc .vmem S512x1024 .bf16) (h15 : a15.IsWhole) (a16 : Memref sig .tc .vmem S512x512 .f32) (h16 : a16.IsWhole) (a17 : Memref sig .tc .vmem S1x8x128 .f32) (h17 : a17.IsWhole) (a18 : Memref sig .tc .vmem S8x128 .f32) (h18 : a18.IsWhole)
  (x0 : Vec F S512x1024 .f32) (x1 : Vec F S1x1024 .f32) (x2 : Vec F S1024x2048 .bf16) (x3 : Vec F S1024x128 .bf16) (x4 : Vec F S1x128 .f32) (x5 : Vec F S1x512 .f32) (x6 : Vec F S1x512 .f32) (x7 : Vec F S512x512 .bf16) (x8 : Vec F S512x512 .bf16) (x9 : Vec F S128x2048 .bf16) (x10 : Vec F S8x1024 .f32) (x11 : Vec F S1x128 .f32)

theorem outA_15 (hc : cond0_0 i) : out0_A_15 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 = k0_pay11 (k0_pay4 x0 x1 x2) := by
  unfold out0_A_15
  rw [View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11)]
  unfold kernelRun0_A
  dsimp only
  sl_unfold_words
  rw [View.canon_unit_zero hz2]
  simp only [View.readAt_eq_ld, h1.read_unread, h2.read_unread, h3.read_unread, View.ld_unit_zero (S := S512x1024) hz2, View.ld_unit_zero (S := S1x1024) hz2, View.ld_unit_zero (S := S1024x2048) hz2]

theorem outA_14 (hc : cond0_0 i) : out0_A_14 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11
    = k0_pay1 (k0_pay45 (k0_pay4 x0 x1 x2)) (iota .tc S512x128 32 [1] iota_S512x128_d1_w32) (k0_pay47 (k0_pay4 x0 x1 x2)) (k0_pay48 (k0_pay4 x0 x1 x2)) (k0_pay50 (k0_pay4 x0 x1 x2)) (k0_pay51 (k0_pay4 x0 x1 x2)) (k0_pay53 (k0_pay4 x0 x1 x2)) k0_pay54 (k0_pay55 (k0_pay4 x0 x1 x2)) k0_pay56
        (View.ld x10 (Rect.unit ![2, 0] ![1, 1024] inb_S8x1024_S1x1024_2_0)) := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11)]
  unfold kernelRun0_A
  dsimp only
  sl_unfold_words
  rw [View.canon_unit_zero hz2]
  simp only [View.readAt_eq_ld, h1.read_unread, h2.read_unread, h3.read_unread, h11.read_unread, View.ld_unit_zero (S := S512x1024) hz2, View.ld_unit_zero (S := S1x1024) hz2, View.ld_unit_zero (S := S1024x2048) hz2]

theorem outB_15 (hc : ¬cond0_0 i) (xs0 : Vec F S8x128 .f32) : out0_B_15 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 xs0 = k0_pay11 (k0_pay4 x0 x1 x2) := by
  unfold out0_B_15
  rw [View.read_writes_eq_canon _ _ _ (cover0_B_15 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 xs0)]
  unfold kernelRun0_B
  dsimp only
  sl_unfold_words
  rw [View.canon_unit_zero hz2]
  simp only [View.readAt_eq_ld, h1.read_unread, h2.read_unread, h3.read_unread, View.ld_unit_zero (S := S512x1024) hz2, View.ld_unit_zero (S := S1x1024) hz2, View.ld_unit_zero (S := S1024x2048) hz2]

theorem outB_14 (hc : ¬cond0_0 i) (xs0 : Vec F S8x128 .f32) : out0_B_14 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 xs0
    = k0_pay1 (k0_pay45 (k0_pay4 x0 x1 x2)) (iota .tc S512x128 32 [1] iota_S512x128_d1_w32) (k0_pay47 (k0_pay4 x0 x1 x2)) (k0_pay48 (k0_pay4 x0 x1 x2)) (k0_pay50 (k0_pay4 x0 x1 x2)) (k0_pay51 (k0_pay4 x0 x1 x2)) (k0_pay53 (k0_pay4 x0 x1 x2)) k0_pay54 (k0_pay55 (k0_pay4 x0 x1 x2)) k0_pay56
        (View.ld x10 (Rect.unit ![2, 0] ![1, 1024] inb_S8x1024_S1x1024_2_0)) := by
  unfold out0_B_14
  rw [View.read_writes_eq_canon _ _ _ (cover0_B_14 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 xs0)]
  unfold kernelRun0_B
  dsimp only
  sl_unfold_words
  rw [View.canon_unit_zero hz2]
  simp only [View.readAt_eq_ld, h1.read_unread, h2.read_unread, h3.read_unread, h11.read_unread, View.ld_unit_zero (S := S512x1024) hz2, View.ld_unit_zero (S := S1x1024) hz2, View.ld_unit_zero (S := S1024x2048) hz2]

end

end Cert.ProjIdeal.Hand

end
-- ==== Proof.PHost.lean ====
/-
  The arrays that the projection's host lines give its kernel.
-/
module

public import proofs.«01_k».proof.Proof.Gen.ProjIdeal.Frame
public import Idealize.ShloMosaic.Lib.Pipeline.Value
public import Idealize.ShloMosaic.Lib.Tactic
public import Idealize.ShloMosaic.Lib.Pointwise
public import Idealize.ShloMosaic.Lib.StableHlo.Run
public import Idealize.ShloMosaic.Lib.StableHlo.RunRead

@[expose] public section

noncomputable section

namespace Cert.ProjIdeal.Hand

open Cert.ProjIdeal Cert.ProjIdeal.Gen
open Idealize.ShloMosaic Idealize.ShloMosaic.TcCoe Idealize.ShloMosaic.Tactic
open scoped BigOperators

open Idealize.ShloMosaic.StableHlo

variable (m : (ℓ : Loc nD τ sig) → Buf (Elt Ideal) ℓ) (c : Dev nD)

theorem V_x : V m c main_v0 = shapeCast S16384x1024 (m (c, main_arg0)) shapeCasts_S2x8192x1024_S16384x1024 := by
  unfold V; simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]; after_results; rfl

theorem V_w : V m c main_v4 = truncf (F := Ideal) .bf16 (concatenate S1024x2048 1 [⟨S1024x1536, extractStridedSlice S1024x1536 ![0, 0] (m (c, main_arg2)) slices_S1024x4104_S1024x1536_0_0⟩, ⟨S1024x512, extractStridedSlice S1024x512 ![0, 1544] (m (c, main_arg2)) slices_S1024x4104_S1024x512_0_1544⟩] concatenates_S1024x1536_S1024x512_S1024x2048_d1) bitsLt_bf16_f32 := by
  unfold V; simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]; after_results

theorem V_g : V m c main_v95 = broadcastInDim S1x1024 ![1] bcast_S1024_S1x1024_1 (m (c, main_arg1)) := by
  unfold V; simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]; after_results

/-- The lanes' places in their head, as the host computes them. -/
def div128 : IVec S_ 32 := select (cmpi .eq (constantI S_ 32 128#32) (constantI S_ 32 0#32)) (constantI S_ 32 1#32) (constantI S_ 32 128#32)
def rem128 : IVec S1024 32 := Host.remsi (iotaInDim S1024 32 0) (broadcastInDim S1024 ![] bcast_S_S1024 div128)
def laneT : IVec S1024 32 :=
  select (andi (cmpi .ne (cmpi .slt rem128 (broadcastInDim S1024 ![] bcast_S_S1024 (constantI S_ 32 0#32))) (broadcastInDim S1024 ![] bcast_S_S1024 (cmpi .slt div128 (constantI S_ 32 0#32))))
      (cmpi .ne rem128 (broadcastInDim S1024 ![] bcast_S_S1024 (constantI S_ 32 0#32))))
    (addi rem128 (broadcastInDim S1024 ![] bcast_S_S1024 div128)) rem128

/-- The marks of the ones' lanes, as they stand before the host stacks them. -/
theorem marks : (upto (Val := Elt Ideal) [hostOps0, hostOps0_1, hostOps0_2, hostOps0_3, hostOps0_4, hostOps0_5, hostOps0_6, hostOps0_7, hostOps0_8, hostOps0_9, hostOps0_10, hostOps0_11, hostOps0_12, hostOps0_13, hostOps0_14].flatten (fun b => m (c, b)) 113 main_v55 : IVec S1x1024 1) = broadcastInDim S1x1024 ![1] bcast_S1024_S1x1024_1 (cmpi .eq laneT (broadcastInDim S1024 ![] bcast_S_S1024 (constantI S_ 32 64#32))) := by
  after_reads_simp
  simp only [StableHlo.TRef.toBuf, StableHlo.TRef.ofBuf, cast_eq]
  rfl

theorem V_ones : ∃ r0 r1 r3 r4 r5 r6 r7 : IVec S1x1024 1, V m c main_v62 = uitofp (F := Ideal) .f32 (concatenate S8x1024 0 [⟨S1x1024, r0⟩, ⟨S1x1024, r1⟩, ⟨S1x1024, broadcastInDim S1x1024 ![1] bcast_S1024_S1x1024_1 (cmpi .eq laneT (broadcastInDim S1024 ![] bcast_S_S1024 (constantI S_ 32 64#32)))⟩, ⟨S1x1024, r3⟩, ⟨S1x1024, r4⟩, ⟨S1x1024, r5⟩, ⟨S1x1024, r6⟩, ⟨S1x1024, r7⟩] concatenates_S1x1024_S1x1024_S1x1024_S1x1024_S1x1024_S1x1024_S1x1024_S1x1024_S8x1024_d0) := by
  rw [← marks m c]
  unfold V
  simp only [readAfter]
  simp only [unary_result']
  simp only [readUpto]
  simp only [nary_result']
  exact ⟨_, _, _, _, _, _, _, rfl⟩

theorem lane_apply (n : Fin 1024) : laneT (ix1 n) = BitVec.ofNat 32 (n.val % 128) := by
  unfold laneT rem128 div128
  pointwise
  revert n
  decide +kernel

theorem lane_eq : ∀ n : Fin 1024, IntOp.cmpi .eq (BitVec.ofNat 32 (n.val % 128)) 64#32 = if n.val % 128 = 64 then 1#1 else 0#1 := by
  decide +kernel

theorem V_o (n : Fin 1024) : V m c main_v62 (ix2 (n0 := 8) (n1 := 1024) 2 n) = (if n.val % 128 = 64 then 1 else 0 : EReal) := by
  obtain ⟨r0, r1, r3, r4, r5, r6, r7, e⟩ := V_ones m c
  rw [e]
  pointwise
  rw [lane_apply, lane_eq]
  by_cases h : n.val % 128 = 64
  · rw [if_pos h, if_pos h]
    show (((1#1 : BitVec 1).toNat : ℝ) : EReal) = 1
    simp
  · rw [if_neg h, if_neg h]
    show (((0#1 : BitVec 1).toNat : ℝ) : EReal) = 0
    simp

end Cert.ProjIdeal.Hand

end
-- ==== Proof.PRun.lean ====
/-
  The projection's two results after the run.
-/
module

public import proofs.«01_k».proof.Proof.Gen.ProjIdeal.Value
public import proofs.«01_k».proof.Proof.PSpec
public import proofs.«01_k».proof.Proof.PBlock
public import proofs.«01_k».proof.Proof.PHost

@[expose] public section

noncomputable section

namespace Cert.ProjIdeal.Hand

open Cert.ProjIdeal Cert.ProjIdeal.Gen
open Idealize.ShloMosaic Idealize.ShloMosaic.TcCoe Idealize.ShloMosaic.Tactic
open scoped BigOperators

variable (m : (ℓ : Loc nD τ sig) → Buf (Elt Ideal) ℓ) (c : Dev nD)

/-- The tokens, the scales and the columns, as the call takes them. -/
def aX : Fin 2 → Fin 8192 → Fin 1024 → EReal := fun b s d => (m (c, main_arg0) : FVec Ideal S2x8192x1024 .f32) (ix3 b s d)
def aG : Fin 1024 → EReal := fun d => (m (c, main_arg1) : FVec Ideal S1024 .f32) (ix1 d)
def aW : Fin 1024 → Fin 4104 → EReal := fun k n => (m (c, main_arg2) : FVec Ideal S1024x4104 .f32) (ix2 k n)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)

theorem rows_apply (x : FVec Ideal S2x8192x1024 .f32) (q : Fin 16384) (d : Fin 1024) :
    shapeCast S16384x1024 x shapeCasts_S2x8192x1024_S16384x1024 (ix2 q d) = x (ix3 ⟨q.val / 8192, by omega⟩ ⟨q.val % 8192, by omega⟩ d) := by
  pointwise
  all_goals first | rfl | done

theorem blk_x (t : Fin cfg0.N) (r : Fin 512) (d : Fin 1024) (q : Fin 16384) (hq : q.val = 512 * t.val + r.val) :
    (iblk m c 0 t : Vec Ideal S512x1024 .f32) (ix2 r d) = aX m c ⟨q.val / 8192, by omega⟩ ⟨q.val % 8192, by omega⟩ d := by
  obtain ⟨e0, e1⟩ := idx0 t
  have e : ((cfg0.win 0).blk t).view.emb (ix2 r d) = (ix2 q d : S16384x1024.Idx) := by
    funext a; apply Fin.ext
    match a with
    | ⟨0, _⟩ => show win0_0.index t (0 : Fin 2) * 512 + 1 * r.val = q.val; rw [e0]; omega
    | ⟨1, _⟩ => show win0_0.index t (1 : Fin 2) * 1024 + 1 * d.val = d.val; rw [e1]; omega
  show (V m c main_v0) (((cfg0.win 0).blk t).view.emb (ix2 r d)) = _
  rw [e, V_x]
  exact rows_apply _ q d

theorem blk_g (t : Fin cfg0.N) (d : Fin 1024) :
    (iblk m c 1 t : Vec Ideal S1x1024 .f32) (ix2 0 d) = aG m c d := by
  obtain ⟨e0, e1⟩ := idx1 t
  have e : ((cfg0.win 1).blk t).view.emb (ix2 0 d) = (ix2 0 d : S1x1024.Idx) := by
    funext a; apply Fin.ext
    match a with
    | ⟨0, _⟩ => show win0_1.index t (0 : Fin 2) * 1 + 1 * 0 = 0; rw [e0]
    | ⟨1, _⟩ => show win0_1.index t (1 : Fin 2) * 1024 + 1 * d.val = d.val; rw [e1]; omega
  show (V m c main_v95) (((cfg0.win 1).blk t).view.emb (ix2 0 d)) = _
  rw [e, V_g]
  unfold aG
  pointwise

theorem blk_w (t : Fin cfg0.N) (k : Fin 1024) (n : Fin 2048) :
    (iblk m c 2 t : Vec Ideal S1024x2048 .bf16) (ix2 k n) = if h : n.val < 1536 then aW m c k ⟨n.val, by omega⟩ else aW m c k ⟨1544 + (n.val - 1536), by omega⟩ := by
  obtain ⟨e0, e1⟩ := idx2 t
  have e : ((cfg0.win 2).blk t).view.emb (ix2 k n) = (ix2 k n : S1024x2048.Idx) := by
    funext a; apply Fin.ext
    match a with
    | ⟨0, _⟩ => show win0_2.index t (0 : Fin 2) * 1024 + 1 * k.val = k.val; rw [e0]; omega
    | ⟨1, _⟩ => show win0_2.index t (1 : Fin 2) * 2048 + 1 * n.val = n.val; rw [e1]; omega
  show (V m c main_v4) (((cfg0.win 2).blk t).view.emb (ix2 k n)) = _
  rw [e, V_w]
  unfold aW
  pointwise
  all_goals first | rfl | done

theorem blk_o (t : Fin cfg0.N) (n : Fin 1024) :
    View.ld (iblk m c 10 t : Vec Ideal S8x1024 .f32) (Rect.unit ![2, 0] ![1, 1024] inb_S8x1024_S1x1024_2_0) (ix2 0 n) = (if n.val % 128 = 64 then 1 else 0 : EReal) := by
  obtain ⟨e0, e1⟩ := idx10 t
  refine Eq.trans ?_ (V_o m c n)
  refine congrArg (V m c main_v62) ?_
  funext a; apply Fin.ext
  match a with
  | ⟨0, _⟩ => show win0_10.index t (0 : Fin 2) * 8 + 1 * (2 + 1 * 0) = 2; rw [e0]
  | ⟨1, _⟩ => show win0_10.index t (1 : Fin 2) * 1024 + 1 * (0 + 1 * n.val) = n.val; rw [e1]; omega

/-- A block of the kernel's product is the projection's rows of it. -/
theorem blk_z (t : Fin cfg0.N) (r : Fin 512) (n : Fin 2048) (q : Fin 16384) (hq : q.val = 512 * t.val + r.val) (n' : Fin 4104)
    (hn : n'.val = if n.val < 1536 then n.val else 1544 + (n.val - 1536)) :
    k0_pay4 (iblk m c 0 t : Vec Ideal S512x1024 .f32) (iblk m c 1 t : Vec Ideal S1x1024 .f32) (iblk m c 2 t : Vec Ideal S1024x2048 .bf16) (ix2 r n) = zT (aX m c) (aG m c) (aW m c) q n' := by
  rw [pay4_apply]
  unfold zT
  congr 1
  · funext d; exact blk_x m c t r d q hq
  · funext d; exact blk_g m c t d
  · funext k
    refine (blk_w m c t k n).trans ?_
    split_ifs with h
    · rw [if_pos h] at hn; exact congrArg (aW m c k) (Fin.ext hn.symm)
    · rw [if_neg h] at hn; exact congrArg (aW m c k) (Fin.ext hn.symm)

/-- The blocks of the two results. -/
theorem val15 (t : Fin cfg0.N) (r : Fin 512) (n : Fin 512) (q : Fin 16384) (hq : q.val = 512 * t.val + r.val) :
    k0_pay11 (k0_pay4 (iblk m c 0 t : Vec Ideal S512x1024 .f32) (iblk m c 1 t : Vec Ideal S1x1024 .f32) (iblk m c 2 t : Vec Ideal S1024x2048 .bf16)) (ix2 r n) = uT (aX m c) (aG m c) (aW m c) q n := by
  rw [pay11_apply]
  exact blk_z m c t r _ q hq _ (by simp)

theorem val14 (z : FVec Ideal S512x2048 .f32) (t : Fin cfg0.N) (hz : z = k0_pay4 (iblk m c 0 t : Vec Ideal S512x1024 .f32) (iblk m c 1 t : Vec Ideal S1x1024 .f32) (iblk m c 2 t : Vec Ideal S1024x2048 .bf16)) (r : Fin 512) (n : Fin 1024) (q : Fin 16384) (hq : q.val = 512 * t.val + r.val) :
    k0_pay1 (k0_pay45 z) (iota .tc S512x128 32 [1] iota_S512x128_d1_w32) (k0_pay47 z) (k0_pay48 z) (k0_pay50 z) (k0_pay51 z) (k0_pay53 z) k0_pay54 (k0_pay55 z) k0_pay56
        (View.ld (iblk m c 10 t : Vec Ideal S8x1024 .f32) (Rect.unit ![2, 0] ![1, 1024] inb_S8x1024_S1x1024_2_0)) (ix2 r n) = vT (aX m c) (aG m c) (aW m c) q n := by
  rw [pay1_apply, blk_o m c t n]
  unfold vT
  have hn := n.isLt
  by_cases h : n.val % 128 < 64
  · rw [dif_pos h, dif_pos h, if_neg (by omega), add_zero, hz]
    exact blk_z m c t r _ q hq _ (by
      show 1024 + (64 * (n.val / 128) + n.val % 128) = _
      rw [if_pos (by show 1024 + (64 * (n.val / 128) + n.val % 128) < 1536; omega)])
  · rw [dif_neg h, dif_neg h, zero_add]

/-- The two results after the run. -/
theorem arr15 : (dats m 0 c).arrAt 15 cfg0.N = uA (aX m c) (aG m c) (aW m c) := by
  refine (dats m 0 c).arrAt_eq_of_cover 15 _ (fun t hf => ?_) (fun i => (Value.covered_iff15 i).2 (by
    have h0 : (i 0).val < 16384 := (i 0).isLt; have h1 : (i 1).val < 512 := (i 1).isLt; omega))
  obtain ⟨e0, e1, e2⟩ := Value.idx_facts15 t
  funext y
  have hy0 : (y 0).val < 512 := (y 0).isLt
  have hy1 : (y 1).val < 512 := (y 1).isLt
  have hb0 : (((cfg0.win 15).blk t).view.emb y 0).val = win0_15.index t (0 : Fin 2) * 512 + 1 * (y 0).val := rfl
  have hb1 : (((cfg0.win 15).blk t).view.emb y 1).val = win0_15.index t (1 : Fin 2) * 512 + 1 * (y 1).val := rfl
  have hl : (cfg0.win 15).xinj (grid0.coords t) y = (ix2 ⟨(y 0).val, hy0⟩ ⟨(y 1).val, hy1⟩ : S512x512.Idx) := by
    funext a; apply Fin.ext
    match a with
    | ⟨0, _⟩ => rfl
    | ⟨1, _⟩ => rfl
  have key : k0_pay11 (k0_pay4 (iblk m c 0 t : Vec Ideal S512x1024 .f32) (iblk m c 1 t : Vec Ideal S1x1024 .f32) (iblk m c 2 t : Vec Ideal S1024x2048 .bf16)) ((cfg0.win 15).xinj (grid0.coords t) y)
      = uT (aX m c) (aG m c) (aW m c) (((cfg0.win 15).blk t).view.emb y 0) (((cfg0.win 15).blk t).view.emb y 1) := by
    rw [hl]
    refine (val15 m c t _ _ (((cfg0.win 15).blk t).view.emb y 0) ?_).trans ?_
    · rw [hb0]; show _ = 512 * t.val + (y 0).val; omega
    · exact congrArg (uT (aX m c) (aG m c) (aW m c) _) (Fin.ext (by rw [hb1]; show (y 1).val = _; omega))
  by_cases h0 : t.val % 16 = 0
  · rw [Value.flushed15_A m c t h0, outA_15]
    exact key
  · rw [Value.flushed15_B m c t h0, outB_15]
    exact key

theorem arr14 : (dats m 0 c).arrAt 14 cfg0.N = vA (aX m c) (aG m c) (aW m c) := by
  refine (dats m 0 c).arrAt_eq_of_cover 14 _ (fun t hf => ?_) (fun i => (Value.covered_iff14 i).2 (by
    have h0 : (i 0).val < 16384 := (i 0).isLt; have h1 : (i 1).val < 1024 := (i 1).isLt; omega))
  obtain ⟨e0, e1, e2⟩ := Value.idx_facts14 t
  funext y
  have hy0 : (y 0).val < 512 := (y 0).isLt
  have hy1 : (y 1).val < 1024 := (y 1).isLt
  have hb0 : (((cfg0.win 14).blk t).view.emb y 0).val = win0_14.index t (0 : Fin 2) * 512 + 1 * (y 0).val := rfl
  have hb1 : (((cfg0.win 14).blk t).view.emb y 1).val = win0_14.index t (1 : Fin 2) * 1024 + 1 * (y 1).val := rfl
  have hl : (cfg0.win 14).xinj (grid0.coords t) y = (ix2 ⟨(y 0).val, hy0⟩ ⟨(y 1).val, hy1⟩ : S512x1024.Idx) := by
    funext a; apply Fin.ext
    match a with
    | ⟨0, _⟩ => rfl
    | ⟨1, _⟩ => rfl
  have key := val14 m c _ t rfl ⟨(y 0).val, hy0⟩ ⟨(y 1).val, hy1⟩ (((cfg0.win 14).blk t).view.emb y 0) (by rw [hb0]; show _ = 512 * t.val + (y 0).val; omega)
  rw [← hl] at key
  have key' := key.trans (congrArg (vT (aX m c) (aG m c) (aW m c) (((cfg0.win 14).blk t).view.emb y 0)) (Fin.ext (by rw [hb1]; show (y 1).val = _; omega) : _ = (((cfg0.win 14).blk t).view.emb y 1)))
  by_cases h0 : t.val % 16 = 0
  · rw [Value.flushed14_A m c t h0, outA_14]
    exact key'
  · rw [Value.flushed14_B m c t h0, outB_14]
    exact key'

end Cert.ProjIdeal.Hand

end
-- ==== Proof.PRef.lean ====
/-
  The projection's reference, read at an entry.
-/
module

public import proofs.«01_k».proof.Proof.PSpec
public import proofs.«01_k».proof.Proof.Gen.ProjReferenceIdeal.Run

@[expose] public section

noncomputable section

namespace Cert.ProjReferenceIdeal.Hand

open Cert.ProjReferenceIdeal Cert.ProjReferenceIdeal.Gen Cert.ProjIdeal.Hand
open Idealize.ShloMosaic Idealize.ShloMosaic.TcCoe Idealize.ShloMosaic.Tactic
open scoped BigOperators

/-- The reference's normed rows, scaled, times the weights. -/
def zR (x : FVec Ideal S2x8192x1024 .f32) (g : FVec Ideal S1024 .f32) (w : FVec Ideal S1024x4104 .f32) : FVec Ideal S16384x4104 .f32 :=
  (Host.dotGeneral dot_S16384x1024_S1024x4104_S16384x4104_1_0_0_1_n_n none (shapeCast S16384x1024 (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))) shapeCasts_S2x8192x1024_S16384x1024) w)

variable (x : FVec Ideal S2x8192x1024 .f32) (g : FVec Ideal S1024 .f32) (w : FVec Ideal S1024x4104 .f32)

theorem zR_apply (t : Fin 16384) (n : Fin 4104) :
    zR x g w (ix2 t n) = zT (fun b s d => x (ix3 b s d)) (fun d => g (ix1 d)) (fun k n => w (ix2 k n)) t n := by
  unfold zR zT colOf nrm
  pointwise
  all_goals first | rfl | done

theorem u_apply (t : Fin 16384) (n : Fin 512) :
    (extractStridedSlice S16384x512 ![0, 1544] (zR x g w) slices_S16384x4104_S16384x512_0_1544 : FVec Ideal S16384x512 .f32) (ix2 t n) = uT (fun b s d => x (ix3 b s d)) (fun d => g (ix1 d)) (fun k n => w (ix2 k n)) t n := by
  unfold uT
  rw [← zR_apply]
  pointwise

theorem v_apply (t : Fin 16384) (n : Fin 1024) :
    (truncf (F := Ideal) .bf16 (shapeCast S16384x1024 ((concatenate S16384x8x128 2 [⟨S16384x8x64, ((shapeCast S16384x8x64 (extractStridedSlice S16384x512 ![0, 1024] (zR x g w) slices_S16384x4104_S16384x512_0_1024) shapeCasts_S16384x512_S16384x8x64) : (⟨S16384x8x64, .f32⟩ : BufTy).Contents (Elt Ideal))⟩, ⟨S16384x8x1, ((broadcastInDim S16384x8x1 ![] bcast_S_S16384x8x1 (constant (F := Ideal) S_ .f32 0x3F800000#32)) : (⟨S16384x8x1, .f32⟩ : BufTy).Contents (Elt Ideal))⟩, ⟨S16384x8x63, ((broadcastInDim S16384x8x63 ![] bcast_S_S16384x8x63 (constant (F := Ideal) S_ .f32 0x00000000#32)) : (⟨S16384x8x63, .f32⟩ : BufTy).Contents (Elt Ideal))⟩] concatenates_S16384x8x64_S16384x8x1_S16384x8x63_S16384x8x128_d2 : (⟨S16384x8x128, .f32⟩ : BufTy).Contents (Elt Ideal))) shapeCasts_S16384x8x128_S16384x1024) bitsLt_bf16_f32 : FVec Ideal S16384x1024 .bf16) (ix2 t n) = vT (fun b s d => x (ix3 b s d)) (fun d => g (ix1 d)) (fun k n => w (ix2 k n)) t n := by
  unfold vT
  simp only [← zR_apply]
  pointwise
  have hn := n.isLt
  by_cases h : n.val % 128 < 64
  · refine (dif_pos h).trans (Eq.trans ?_ (dif_pos h).symm)
    refine congrArg (fun k : Fin 4104 => zR x g w (ix2 t k)) (Fin.ext ?_)
    show 1024 + (n.val / 128 * 64 + n.val % 128) = 1024 + (64 * (n.val / 128) + n.val % 128)
    omega
  · refine (dif_neg h).trans (Eq.trans ?_ (dif_neg h).symm)
    by_cases h' : n.val % 128 = 64
    · exact (dif_pos (by omega)).trans (if_pos h').symm
    · exact (dif_neg (by omega)).trans (if_neg h').symm

theorem u_eq :
    (extractStridedSlice S16384x512 ![0, 1544] (zR x g w) slices_S16384x4104_S16384x512_0_1544 : FVec Ideal S16384x512 .f32) = uA (fun b s d => x (ix3 b s d)) (fun d => g (ix1 d)) (fun k n => w (ix2 k n)) := by
  funext i
  have hi : i = ix2 (i 0) (i 1) := funext fun a => by fin_cases a <;> rfl
  exact (congrArg _ hi).trans (u_apply x g w (i 0) (i 1))

theorem v_eq :
    (truncf (F := Ideal) .bf16 (shapeCast S16384x1024 ((concatenate S16384x8x128 2 [⟨S16384x8x64, ((shapeCast S16384x8x64 (extractStridedSlice S16384x512 ![0, 1024] (zR x g w) slices_S16384x4104_S16384x512_0_1024) shapeCasts_S16384x512_S16384x8x64) : (⟨S16384x8x64, .f32⟩ : BufTy).Contents (Elt Ideal))⟩, ⟨S16384x8x1, ((broadcastInDim S16384x8x1 ![] bcast_S_S16384x8x1 (constant (F := Ideal) S_ .f32 0x3F800000#32)) : (⟨S16384x8x1, .f32⟩ : BufTy).Contents (Elt Ideal))⟩, ⟨S16384x8x63, ((broadcastInDim S16384x8x63 ![] bcast_S_S16384x8x63 (constant (F := Ideal) S_ .f32 0x00000000#32)) : (⟨S16384x8x63, .f32⟩ : BufTy).Contents (Elt Ideal))⟩] concatenates_S16384x8x64_S16384x8x1_S16384x8x63_S16384x8x128_d2 : (⟨S16384x8x128, .f32⟩ : BufTy).Contents (Elt Ideal))) shapeCasts_S16384x8x128_S16384x1024) bitsLt_bf16_f32 : FVec Ideal S16384x1024 .bf16) = vA (fun b s d => x (ix3 b s d)) (fun d => g (ix1 d)) (fun k n => w (ix2 k n)) := by
  funext i
  have hi : i = ix2 (i 0) (i 1) := funext fun a => by fin_cases a <;> rfl
  exact (congrArg _ hi).trans (v_apply x g w (i 0) (i 1))

end Cert.ProjReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.Reference
public import proofs.«01_k».proof.Proof.Gen.Reference.Skeleton
public import proofs.«01_k».proof.Proof.Gen.Reference.Loops
public import proofs.«01_k».proof.Proof.Gen.Reference.Launch
public import proofs.«01_k».proof.Proof.Gen.Reference.Points
public import proofs.«01_k».proof.Proof.Gen.Reference.Frame
public import proofs.«01_k».proof.Proof.Gen.Pre_tiles_in_order
public import proofs.«01_k».proof.Proof.Gen.Combine
public import proofs.«01_k».proof.Proof.Gen.Combine.Skeleton
public import proofs.«01_k».proof.Proof.Gen.Combine.Launch
public import proofs.«01_k».proof.Proof.Gen.Combine.Loops
public import proofs.«01_k».proof.Proof.Gen.CombineReference
public import proofs.«01_k».proof.Proof.Gen.CombineReference.Run
public import proofs.«01_k».proof.Proof.Gen.Pre_rows_named
public import proofs.«01_k».proof.Proof.Gen.Dispatch
public import proofs.«01_k».proof.Proof.Gen.Dispatch.Skeleton
public import proofs.«01_k».proof.Proof.Gen.Dispatch.Launch
public import proofs.«01_k».proof.Proof.Gen.Dispatch.Loops
public import proofs.«01_k».proof.Proof.Gen.DispatchReference
public import proofs.«01_k».proof.Proof.Gen.DispatchReference.Run
public import proofs.«01_k».proof.Proof.Gen.Pre_slots_apart
public import proofs.«01_k».proof.Proof.KRun
public import proofs.«01_k».proof.Proof.Eqn
public import proofs.«01_k».proof.Proof.CEnd
public import proofs.«01_k».proof.Proof.CIdeal
public import proofs.«01_k».proof.Proof.Gen.CombineIdeal
public import proofs.«01_k».proof.Proof.Gen.CombineReferenceIdeal
public import proofs.«01_k».proof.Proof.Gen.DispatchIdeal
public import proofs.«01_k».proof.Proof.Gen.DispatchReferenceIdeal
public import proofs.«01_k».proof.Proof.DEnd
public import proofs.«01_k».proof.Proof.DIdeal
public import proofs.«01_k».proof.Proof.Gen.Proj
public import proofs.«01_k».proof.Proof.Gen.Proj.Skeleton
public import proofs.«01_k».proof.Proof.Gen.Proj.Launch
public import proofs.«01_k».proof.Proof.Gen.Proj.Frame
public import proofs.«01_k».proof.Proof.Gen.Proj.Points
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjReferenceIdeal
public import proofs.«01_k».proof.Proof.Gen.ProjReferenceIdeal.Run
public import proofs.«01_k».proof.Proof.PRun
public import proofs.«01_k».proof.Proof.PRef
public import Idealize.ShloMosaic.Adequacy
public import Idealize.ShloMosaic.Init

@[expose] public section

noncomputable section

namespace Cert.Proof

open Idealize.ShloMosaic Idealize.SL.Sem Cert.Kernel

/-- The kernel and the reference end with the same words. -/
theorem value [Cert.Pre_tiles_in_order.Facts] : Cert.bitexact_Kernel_Reference := fun m g m' g' hp ha => by
  have G := Cert.Kernel.Hand.good_of_pre m hp
  refine ⟨fun c => Cert.Kernel.Hand.outArr m G c, (θ_run _ _ _).mono (fun _ h c => h.1 c) (Cert.Kernel.Hand.run_full m g G),
    (θ_run _ _ _).mono (fun r h c => ⟨(h c).1.trans ?_, (h c).2⟩) (Cert.Reference.Hand.run_full m' g')⟩
  obtain ⟨a0, a1, a2, a3, a4, a5⟩ := ha c
  refine Eq.trans ?_ (Cert.Kernel.Hand.out_ref m G c (Cert.Kernel.Hand.tabs_of_pre m hp c)).symm
  rw [← a0, ← a1, ← a2, ← a3, ← a4, ← a5]

/-- The combine call and its reference end with the same rows. -/
theorem value_combine [Cert.Pre_rows_named.Facts] : Cert.bitexact_Combine_CombineReference := fun m g m' g' hp ha => by
  have G := Cert.Combine.Hand.good_of_pre m hp
  refine ⟨fun c => Cert.Combine.Hand.outArr m c, (θ_run _ _ _).mono (fun _ h c => h.1 c) (Cert.Combine.Hand.run_full m g G),
    (θ_run _ _ _).mono (fun r h c => ⟨(h c).1.trans ?_, (h c).2⟩) (Cert.CombineReference.Hand.run_full m' g')⟩
  obtain ⟨a0, a1, a2, a3⟩ := ha c
  refine Eq.trans ?_ (Cert.Combine.Hand.out_ref m c (Cert.Combine.Hand.rows_of_pre m hp c)).symm
  rw [← a0, ← a1, ← a2, ← a3]

/-- The dispatch call and its reference end with the same rows. -/
theorem value_dispatch [Cert.Pre_slots_apart.Facts] : Cert.bitexact_Dispatch_DispatchReference := fun m g m' g' hp ha => by
  have G := Cert.Dispatch.Hand.good_of_pre m hp
  refine ⟨fun c => Cert.Dispatch.Hand.st m c 16, (θ_run _ _ _).mono (fun _ h c => h.1 c) (Cert.Dispatch.Hand.run_full m g G),
    (θ_run _ _ _).mono (fun r h c => ⟨(h c).1.trans ?_, (h c).2⟩) (Cert.DispatchReference.Hand.run_full m' g')⟩
  obtain ⟨a0, a1, a2⟩ := ha c
  refine Eq.trans ?_ (Cert.Dispatch.Hand.out_ref m c (Cert.Dispatch.Hand.slots_of_pre m hp c)).symm
  rw [← a0, ← a1, ← a2]

/-- The projection and its reference end with the same values and the same scan inputs, over the extended reals. -/
theorem value_proj : Cert.algebraic_ProjIdeal_ProjReferenceIdeal := fun m g m' g' _ ha => by
  refine ⟨fun c => Cert.ProjIdeal.Hand.vA (Cert.ProjIdeal.Hand.aX m c) (Cert.ProjIdeal.Hand.aG m c) (Cert.ProjIdeal.Hand.aW m c),
    fun c => Cert.ProjIdeal.Hand.uA (Cert.ProjIdeal.Hand.aX m c) (Cert.ProjIdeal.Hand.aG m c) (Cert.ProjIdeal.Hand.aW m c),
    (θ_run _ _ _).mono (fun _ h c => ?_) (Cert.ProjIdeal.Value.run_blocks m g),
    (θ_run _ _ _).mono (fun r h c => ?_) (Cert.ProjReferenceIdeal.Value.run m' g')⟩
  · obtain ⟨-, -, e2, e3, -, ek⟩ := h c
    exact ⟨e2.trans (Cert.ProjIdeal.Hand.arr14 m c), e3.trans (Cert.ProjIdeal.Hand.arr15 m c), ek⟩
  · obtain ⟨a0, a1, a2, -⟩ := ha c
    obtain ⟨e1, e2, ek⟩ := h c
    have hX : Cert.ProjIdeal.Hand.aX m c = fun b s d => m' ((c.tc : Thread Cert.ProjReferenceIdeal.nD Cert.ProjReferenceIdeal.τ).loc Cert.ProjReferenceIdeal.main_arg0) (ix3 b s d) :=
      funext fun b => funext fun s => funext fun d => (congrFun a0 (ix3 b s d)).symm
    have hG : Cert.ProjIdeal.Hand.aG m c = fun d => m' ((c.tc : Thread Cert.ProjReferenceIdeal.nD Cert.ProjReferenceIdeal.τ).loc Cert.ProjReferenceIdeal.main_arg1) (ix1 d) :=
      funext fun d => (congrFun a1 (ix1 d)).symm
    have hW : Cert.ProjIdeal.Hand.aW m c = fun k n => m' ((c.tc : Thread Cert.ProjReferenceIdeal.nD Cert.ProjReferenceIdeal.τ).loc Cert.ProjReferenceIdeal.main_arg2) (ix2 k n) :=
      funext fun k => funext fun n => (congrFun a2 (ix2 k n)).symm
    exact ⟨e1.trans ((Cert.ProjReferenceIdeal.Hand.v_eq _ _ _).trans (congr (congr (congrArg Cert.ProjIdeal.Hand.vA hX) hG) hW).symm), e2.trans ((Cert.ProjReferenceIdeal.Hand.u_eq _ _ _).trans (congr (congr (congrArg Cert.ProjIdeal.Hand.uA hX) hG) hW).symm), ek⟩

theorem claim : Cert.Claim :=
  ⟨Cert.Kernel.Gen.facts, Cert.Reference.Gen.facts,
    Cert.Combine.Gen.facts, Cert.CombineReference.Gen.facts, Cert.CombineIdeal.Gen.facts, Cert.CombineReferenceIdeal.Gen.facts,
    Cert.Dispatch.Gen.facts, Cert.DispatchReference.Gen.facts, Cert.DispatchIdeal.Gen.facts, Cert.DispatchReferenceIdeal.Gen.facts,
    Cert.Proj.Gen.facts, Cert.ProjIdeal.Gen.facts, Cert.ProjReferenceIdeal.Gen.facts,
    Cert.Pre_tiles_in_order.Gen.facts, Cert.Pre_rows_named.Gen.facts, Cert.Pre_slots_apart.Gen.facts,
    fun m g h => Cert.Kernel.Hand.frame_full m g (Cert.Kernel.Hand.good_of_pre m h),
    fun m g _ => Cert.Reference.Gen.frame m g,
    fun m g _ => Cert.Reference.Gen.frame m g,
    fun m g h => Cert.Combine.Hand.frame_full m g (Cert.Combine.Hand.good_of_pre m h),
    fun m g _ => Cert.CombineReference.Hand.frame_full m g,
    fun m g _ => Cert.CombineReference.Hand.frame_full m g,
    Cert.CombineIdeal.Hand.frame,
    Cert.CombineIdeal.Hand.rframe,
    Cert.CombineIdeal.Hand.rframe_pre,
    fun m g h => Cert.Dispatch.Hand.frame_full m g (Cert.Dispatch.Hand.good_of_pre m h),
    fun m g _ => Cert.DispatchReference.Hand.frame_full m g,
    fun m g _ => Cert.DispatchReference.Hand.frame_full m g,
    Cert.DispatchIdeal.Hand.frame,
    Cert.DispatchIdeal.Hand.rframe,
    Cert.DispatchIdeal.Hand.rframe_pre,
    fun m g _ => Cert.Proj.Gen.frame m g,
    fun m g _ => Cert.ProjIdeal.Gen.frame m g,
    fun m g _ => (θ_run _ _ _).mono (fun r h => ⟨fun c => (h c).2.2, Idealize.ShloMosaic.sem_eq_zero_of_no_sems (by decide) r.2⟩) (Cert.ProjReferenceIdeal.Value.run m g),
    value,
    value_combine,
    trivial,
    Cert.CombineIdeal.Hand.value,
    value_dispatch,
    trivial,
    Cert.DispatchIdeal.Hand.value,
    trivial,
    value_proj⟩

end Cert.Proof

end
